-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4)
      ∧ r.2.mem ((c.tc : Thread Cert.Kernel6.nD Cert.Kernel6.τ).loc Cert.Kernel6.main_arg5) = m ((c.tc : Thread Cert.Kernel6.nD Cert.Kernel6.τ).loc Cert.Kernel6.main_arg5)
      ∧ r.2.mem ((c.tc : Thread Cert.Kernel6.nD Cert.Kernel6.τ).loc Cert.Kernel6.main_arg6) = m ((c.tc : Thread Cert.Kernel6.nD Cert.Kernel6.τ).loc Cert.Kernel6.main_arg6))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
      ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5)
      ∧ r.2.mem ((c.tc : Thread Cert.Reference6Ideal.nD Cert.Reference6Ideal.τ).loc Cert.Reference6Ideal.main_arg6) = m ((c.tc : Thread Cert.Reference6Ideal.nD Cert.Reference6Ideal.τ).loc Cert.Reference6Ideal.main_arg6))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v16)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v25) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)) →
    ∃ (v0 : (c : Dev Cert.Kernel2Ideal.nD) → Buf (Elt Ideal) ((c.tc : Thread Cert.Kernel2Ideal.nD Cert.Kernel2Ideal.τ).loc Cert.Kernel2Ideal.main_v6)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v6) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v67) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)) →
    ∃ (v0 : (c : Dev Cert.Kernel3Ideal.nD) → Buf (Elt Ideal) ((c.tc : Thread Cert.Kernel3Ideal.nD Cert.Kernel3Ideal.τ).loc Cert.Kernel3Ideal.main_v12)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v12) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v13) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)) →
    ∃ (v0 : (c : Dev Cert.Kernel4Ideal.nD) → Buf (Elt Ideal) ((c.tc : Thread Cert.Kernel4Ideal.nD Cert.Kernel4Ideal.τ).loc Cert.Kernel4Ideal.main_v3_0)) (v1 : (c : Dev Cert.Kernel4Ideal.nD) → Buf (Elt Ideal) ((c.tc : Thread Cert.Kernel4Ideal.nD Cert.Kernel4Ideal.τ).loc Cert.Kernel4Ideal.main_v3_1)) (v2 : (c : Dev Cert.Kernel4Ideal.nD) → Buf (Elt Ideal) ((c.tc : Thread Cert.Kernel4Ideal.nD Cert.Kernel4Ideal.τ).loc Cert.Kernel4Ideal.main_v3_2)) (v3 : (c : Dev Cert.Kernel4Ideal.nD) → Buf (Elt Ideal) ((c.tc : Thread Cert.Kernel4Ideal.nD Cert.Kernel4Ideal.τ).loc Cert.Kernel4Ideal.main_v3_3)) (v4 : (c : Dev Cert.Kernel4Ideal.nD) → Buf (Elt Ideal) ((c.tc : Thread Cert.Kernel4Ideal.nD Cert.Kernel4Ideal.τ).loc Cert.Kernel4Ideal.main_v3_4)) (v5 : (c : Dev Cert.Kernel4Ideal.nD) → Buf (Elt Ideal) ((c.tc : Thread Cert.Kernel4Ideal.nD Cert.Kernel4Ideal.τ).loc Cert.Kernel4Ideal.main_v3_5)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v3_0) = v0 c
          ∧ r.2.mem ((c.tc : Thread Cert.Kernel4Ideal.nD Cert.Kernel4Ideal.τ).loc Cert.Kernel4Ideal.main_v3_1) = v1 c
          ∧ r.2.mem ((c.tc : Thread Cert.Kernel4Ideal.nD Cert.Kernel4Ideal.τ).loc Cert.Kernel4Ideal.main_v3_2) = v2 c
          ∧ r.2.mem ((c.tc : Thread Cert.Kernel4Ideal.nD Cert.Kernel4Ideal.τ).loc Cert.Kernel4Ideal.main_v3_3) = v3 c
          ∧ r.2.mem ((c.tc : Thread Cert.Kernel4Ideal.nD Cert.Kernel4Ideal.τ).loc Cert.Kernel4Ideal.main_v3_4) = v4 c
          ∧ r.2.mem ((c.tc : Thread Cert.Kernel4Ideal.nD Cert.Kernel4Ideal.τ).loc Cert.Kernel4Ideal.main_v3_5) = v5 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v45) = v0 c
          ∧ r.2.mem ((c.tc : Thread Cert.Reference4Ideal.nD Cert.Reference4Ideal.τ).loc Cert.Reference4Ideal.main_v46) = v1 c
          ∧ r.2.mem ((c.tc : Thread Cert.Reference4Ideal.nD Cert.Reference4Ideal.τ).loc Cert.Reference4Ideal.main_v48) = v2 c
          ∧ r.2.mem ((c.tc : Thread Cert.Reference4Ideal.nD Cert.Reference4Ideal.τ).loc Cert.Reference4Ideal.main_v51) = v3 c
          ∧ r.2.mem ((c.tc : Thread Cert.Reference4Ideal.nD Cert.Reference4Ideal.τ).loc Cert.Reference4Ideal.main_v59) = v4 c
          ∧ r.2.mem ((c.tc : Thread Cert.Reference4Ideal.nD Cert.Reference4Ideal.τ).loc Cert.Reference4Ideal.main_v67) = v5 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)) →
    ∃ (v0 : (c : Dev Cert.Kernel5Ideal.nD) → Buf (Elt Ideal) ((c.tc : Thread Cert.Kernel5Ideal.nD Cert.Kernel5Ideal.τ).loc Cert.Kernel5Ideal.main_v11_0)) (v1 : (c : Dev Cert.Kernel5Ideal.nD) → Buf (Elt Ideal) ((c.tc : Thread Cert.Kernel5Ideal.nD Cert.Kernel5Ideal.τ).loc Cert.Kernel5Ideal.main_v11_1)) (v2 : (c : Dev Cert.Kernel5Ideal.nD) → Buf (Elt Ideal) ((c.tc : Thread Cert.Kernel5Ideal.nD Cert.Kernel5Ideal.τ).loc Cert.Kernel5Ideal.main_v11_2)) (v3 : (c : Dev Cert.Kernel5Ideal.nD) → Buf (Elt Ideal) ((c.tc : Thread Cert.Kernel5Ideal.nD Cert.Kernel5Ideal.τ).loc Cert.Kernel5Ideal.main_v11_3)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v11_0) = v0 c
          ∧ r.2.mem ((c.tc : Thread Cert.Kernel5Ideal.nD Cert.Kernel5Ideal.τ).loc Cert.Kernel5Ideal.main_v11_1) = v1 c
          ∧ r.2.mem ((c.tc : Thread Cert.Kernel5Ideal.nD Cert.Kernel5Ideal.τ).loc Cert.Kernel5Ideal.main_v11_2) = v2 c
          ∧ r.2.mem ((c.tc : Thread Cert.Kernel5Ideal.nD Cert.Kernel5Ideal.τ).loc Cert.Kernel5Ideal.main_v11_3) = v3 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
          ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v48) = v0 c
          ∧ r.2.mem ((c.tc : Thread Cert.Reference5Ideal.nD Cert.Reference5Ideal.τ).loc Cert.Reference5Ideal.main_v65) = v1 c
          ∧ r.2.mem ((c.tc : Thread Cert.Reference5Ideal.nD Cert.Reference5Ideal.τ).loc Cert.Reference5Ideal.main_v67) = v2 c
          ∧ r.2.mem ((c.tc : Thread Cert.Reference5Ideal.nD Cert.Reference5Ideal.τ).loc Cert.Reference5Ideal.main_v69) = v3 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
          ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6))

def preserves_Kernel6_Kernel6Ideal : Prop :=
  IdealRules.named_const.Statement Cert.Kernel6Ideal.κ "scale" .f32 0x3DD53B95#32 ((((Real.sqrt 192) * (Real.log 2))⁻¹ : ℝ) : EReal)

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)
      ∧ m' ((c.tc : Thread Cert.Reference6Ideal.nD Cert.Reference6Ideal.τ).loc Cert.Reference6Ideal.main_arg5) = m ((c.tc : Thread Cert.Kernel6Ideal.nD Cert.Kernel6Ideal.τ).loc Cert.Kernel6Ideal.main_arg5)
      ∧ m' ((c.tc : Thread Cert.Reference6Ideal.nD Cert.Reference6Ideal.τ).loc Cert.Reference6Ideal.main_arg6) = m ((c.tc : Thread Cert.Kernel6Ideal.nD Cert.Kernel6Ideal.τ).loc Cert.Kernel6Ideal.main_arg6)) →
    ∃ (v0 : (c : Dev Cert.Kernel6Ideal.nD) → Buf (Elt Ideal) ((c.tc : Thread Cert.Kernel6Ideal.nD Cert.Kernel6Ideal.τ).loc Cert.Kernel6Ideal.main_v25_0)) (v1 : (c : Dev Cert.Kernel6Ideal.nD) → Buf (Elt Ideal) ((c.tc : Thread Cert.Kernel6Ideal.nD Cert.Kernel6Ideal.τ).loc Cert.Kernel6Ideal.main_v25_1)) (v2 : (c : Dev Cert.Kernel6Ideal.nD) → Buf (Elt Ideal) ((c.tc : Thread Cert.Kernel6Ideal.nD Cert.Kernel6Ideal.τ).loc Cert.Kernel6Ideal.main_v25_2)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v25_0) = v0 c
          ∧ r.2.mem ((c.tc : Thread Cert.Kernel6Ideal.nD Cert.Kernel6Ideal.τ).loc Cert.Kernel6Ideal.main_v25_1) = v1 c
          ∧ r.2.mem ((c.tc : Thread Cert.Kernel6Ideal.nD Cert.Kernel6Ideal.τ).loc Cert.Kernel6Ideal.main_v25_2) = v2 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
          ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
          ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v37) = v0 c
          ∧ r.2.mem ((c.tc : Thread Cert.Reference6Ideal.nD Cert.Reference6Ideal.τ).loc Cert.Reference6Ideal.main_v41) = v1 c
          ∧ r.2.mem ((c.tc : Thread Cert.Reference6Ideal.nD Cert.Reference6Ideal.τ).loc Cert.Reference6Ideal.main_v44) = v2 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4)
          ∧ r.2.mem ((c.tc : Thread Cert.Reference6Ideal.nD Cert.Reference6Ideal.τ).loc Cert.Reference6Ideal.main_arg5) = m' ((c.tc : Thread Cert.Reference6Ideal.nD Cert.Reference6Ideal.τ).loc Cert.Reference6Ideal.main_arg5)
          ∧ r.2.mem ((c.tc : Thread Cert.Reference6Ideal.nD Cert.Reference6Ideal.τ).loc Cert.Reference6Ideal.main_arg6) = m' ((c.tc : Thread Cert.Reference6Ideal.nD Cert.Reference6Ideal.τ).loc Cert.Reference6Ideal.main_arg6))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)) →
    ∃ (v0 : (c : Dev Cert.Kernel7Ideal.nD) → Buf (Elt Ideal) ((c.tc : Thread Cert.Kernel7Ideal.nD Cert.Kernel7Ideal.τ).loc Cert.Kernel7Ideal.main_v18_0)) (v1 : (c : Dev Cert.Kernel7Ideal.nD) → Buf (Elt Ideal) ((c.tc : Thread Cert.Kernel7Ideal.nD Cert.Kernel7Ideal.τ).loc Cert.Kernel7Ideal.main_v18_1)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v18_0) = v0 c
          ∧ r.2.mem ((c.tc : Thread Cert.Kernel7Ideal.nD Cert.Kernel7Ideal.τ).loc Cert.Kernel7Ideal.main_v18_1) = v1 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v20) = v0 c
          ∧ r.2.mem ((c.tc : Thread Cert.Reference7Ideal.nD Cert.Reference7Ideal.τ).loc Cert.Reference7Ideal.main_v24) = v1 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
-- ==== Pre_finite.lean ====
abbrev S1x8192x16x192 : Shape := ⟨4, ![1, 8192, 16, 192]⟩
abbrev S1x8192x16x128 : Shape := ⟨4, ![1, 8192, 16, 128]⟩
abbrev S_ : Shape := ⟨0, ![]⟩

class Facts : Prop where
  bcast_S_S1x8192x16x192 : S_.BroadcastsInDim S1x8192x16x192 (![] : Fin 0 → Fin S1x8192x16x192.rank)

variable [Facts]

def fn {F : FTy → Type} [FloatOps F] (main_arg0 : FVec F S1x8192x16x192 .f32) (main_arg1 : FVec F S1x8192x16x192 .f32) (main_arg2 : FVec F S1x8192x16x128 .f32) : IVec S1x8192x16x192 1 × IVec S1x8192x16x192 1 :=
  let main_v0 : FVec F S1x8192x16x192 .f32 := Host.absf main_arg0
  let main_cst : FVec F S_ .f32 := constant S_ .f32 0x7F800000#32
  let main_v1 : FVec F S1x8192x16x192 .f32 := broadcastInDim S1x8192x16x192 ![] bcast_S_S1x8192x16x192 main_cst
  let main_v2 : IVec S1x8192x16x192 1 := cmpf .olt main_v0 main_v1
  let main_v3 : FVec F S1x8192x16x192 .f32 := Host.absf main_arg1
  let main_cst_0 : FVec F S_ .f32 := constant S_ .f32 0x7F800000#32
  let main_v4 : FVec F S1x8192x16x192 .f32 := broadcastInDim S1x8192x16x192 ![] bcast_S_S1x8192x16x192 main_cst_0
  let main_v5 : IVec S1x8192x16x192 1 := cmpf .olt main_v3 main_v4
  (main_v2, main_v5)
-- ==== Kernel.lean ====
abbrev S1x8192x16x192 : Shape := ⟨4, ![1, 8192, 16, 192]⟩
abbrev S1x8192x16x128 : Shape := ⟨4, ![1, 8192, 16, 128]⟩
abbrev S_ : Shape := ⟨0, ![]⟩
abbrev S8192x16x192 : Shape := ⟨3, ![8192, 16, 192]⟩
abbrev S16x8192x192 : Shape := ⟨3, ![16, 8192, 192]⟩
abbrev S16x8192x256 : Shape := ⟨3, ![16, 8192, 256]⟩
abbrev S8192x16x128 : Shape := ⟨3, ![8192, 16, 128]⟩
abbrev S16x8192x128 : Shape := ⟨3, ![16, 8192, 128]⟩
abbrev S8192x2048 : Shape := ⟨2, ![8192, 2048]⟩
abbrev S2x1024x256 : Shape := ⟨3, ![2, 1024, 256]⟩
abbrev S2x8192x256 : Shape := ⟨3, ![2, 8192, 256]⟩
abbrev S2x8192x128 : Shape := ⟨3, ![2, 8192, 128]⟩
abbrev S1024x256 : Shape := ⟨2, ![1024, 256]⟩
abbrev S2x1024x128 : Shape := ⟨3, ![2, 1024, 128]⟩
abbrev S1x1024x256 : Shape := ⟨3, ![1, 1024, 256]⟩
abbrev S1024x1024 : Shape := ⟨2, ![1024, 1024]⟩
abbrev S512x1024 : Shape := ⟨2, ![512, 1024]⟩
abbrev S1x512x128 : Shape := ⟨3, ![1, 512, 128]⟩
abbrev S512x128 : Shape := ⟨2, ![512, 128]⟩
abbrev S512 : Shape := ⟨1, ![512]⟩
abbrev S512x1 : Shape := ⟨2, ![512, 1]⟩
abbrev S1x1024x128 : Shape := ⟨3, ![1, 1024, 128]⟩
abbrev S1024x128 : Shape := ⟨2, ![1024, 128]⟩
abbrev S1x512x256 : Shape := ⟨3, ![1, 512, 256]⟩
abbrev S512x256 : Shape := ⟨2, ![512, 256]⟩
abbrev S512x512 : Shape := ⟨2, ![512, 512]⟩
abbrev S1024 : Shape := ⟨1, ![1024]⟩
abbrev S1024x1 : Shape := ⟨2, ![1024, 1]⟩

abbrev nBuf : Space → Nat
  | .hbm => 24
  | .vmem => 11
  | .smem => 0
  | _ => 0

abbrev bufTy : (tb : Table) → Fin (tcTables nBuf tb) → BufTy
  | .hbm, ⟨0, _⟩ => ⟨S1x8192x16x192, .f32⟩
  | .hbm, ⟨1, _⟩ => ⟨S1x8192x16x192, .f32⟩
  | .hbm, ⟨2, _⟩ => ⟨S1x8192x16x128, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S8192x16x192, .f32⟩
  | .hbm, ⟨9, _⟩ => ⟨S16x8192x192, .f32⟩
  | .hbm, ⟨10, _⟩ => ⟨S16x8192x192, .f32⟩
  | .hbm, ⟨11, _⟩ => ⟨S16x8192x192, .f32⟩
  | .hbm, ⟨12, _⟩ => ⟨S_, .f32⟩
  | .hbm, ⟨13, _⟩ => ⟨S16x8192x256, .f32⟩
  | .hbm, ⟨14, _⟩ => ⟨S16x8192x256, .bf16⟩
  | .hbm, ⟨15, _⟩ => ⟨S8192x16x192, .f32⟩
  | .hbm, ⟨16, _⟩ => ⟨S16x8192x192, .f32⟩
  | .hbm, ⟨17, _⟩ => ⟨S_, .f32⟩
  | .hbm, ⟨18, _⟩ => ⟨S16x8192x256, .f32⟩
  | .hbm, ⟨19, _⟩ => ⟨S16x8192x256, .bf16⟩
  | .hbm, ⟨20, _⟩ => ⟨S8192x16x128, .f32⟩
  | .hbm, ⟨21, _⟩ => ⟨S16x8192x128, .f32⟩
  | .hbm, ⟨22, _⟩ => ⟨S16x8192x128, .bf16⟩
  | .hbm, ⟨23, _⟩ => ⟨S8192x2048, .bf16⟩
  | .local _ .vmem, ⟨0, _⟩ => ⟨S2x1024x256, .bf16⟩
  | .local _ .vmem, ⟨1, _⟩ => ⟨S2x1024x256, .bf16⟩
  | .local _ .vmem, ⟨2, _⟩ => ⟨S2x8192x256, .bf16⟩
  | .local _ .vmem, ⟨3, _⟩ => ⟨S2x8192x256, .bf16⟩
  | .local _ .vmem, ⟨4, _⟩ => ⟨S2x8192x128, .bf16⟩
  | .local _ .vmem, ⟨5, _⟩ => ⟨S2x8192x128, .bf16⟩
  | .local _ .vmem, ⟨6, _⟩ => ⟨S1024x256, .bf16⟩
  | .local _ .vmem, ⟨7, _⟩ => ⟨S1024x256, .bf16⟩
  | .local _ .vmem, ⟨8, _⟩ => ⟨S2x1024x128, .f32⟩
  | .local _ .vmem, ⟨9, _⟩ => ⟨S2x1024x128, .f32⟩
  | .local _ .vmem, ⟨10, _⟩ => ⟨S2x1024x128, .f32⟩
  | _, _ => ⟨S1x8192x16x192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_2 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 8], ![false, false]⟩

@[reducible] def k0_t1_loop (i : grid0.Coords) : Scf.Loop 32 :=
  let c0_i32_10 : BitVec 32 := 0#32
  let arg1 : BitVec 32 := BitVec.ofNat 32 (i 1).val
  let v12 : BitVec 32 := Scalar.subi arg1 c0_i32_10
  let c1_i32 : BitVec 32 := 1#32
  let v14 : BitVec 32 := Scalar.divsi v12 c1_i32
  let v15 : BitVec 32 := Scalar.muli v14 c1_i32
  let v16 : BitVec 32 := Scalar.addi c0_i32_10 v15
  let c1_i32_11 : BitVec 32 := 1#32
  ⟨c0_i32_10, v16, c1_i32_11⟩
def k0_mult1 (i : grid0.Coords) (k0_t1 : Fin (k0_t1_loop i).trips) : BitVec 32 :=
  let c0_i32_10 : BitVec 32 := 0#32
  let c1_i32_11 : BitVec 32 := 1#32
  let arg9 : BitVec 32 := Scf.iv c0_i32_10 c1_i32_11 k0_t1
  let c1024_i32_150 : BitVec 32 := 1024#32
  let v317 : BitVec 32 := Scalar.muli arg9 c1024_i32_150
  v317
def k0_off1 (i : grid0.Coords) (k0_t1 : Fin (k0_t1_loop i).trips) : Fin 3 → Nat :=
  let c0_154 : Index := 0#32
  let c0_i32_10 : BitVec 32 := 0#32
  let c1_i32_11 : BitVec 32 := 1#32
  let arg9 : BitVec 32 := Scf.iv c0_i32_10 c1_i32_11 k0_t1
  let c1024_i32_150 : BitVec 32 := 1024#32
  let v317 : BitVec 32 := Scalar.muli arg9 c1024_i32_150
  let v318 : BitVec 32 := v317
  let v321 : Index := Scalar.indexCast v318
  let c0_155 : Index := 0#32
  ![0, v321.toNat, 0]
def k0_off2 (i : grid0.Coords) (k0_t1 : Fin (k0_t1_loop i).trips) : Fin 3 → Nat :=
  let c1_160 : Index := 1#32
  let c0_i32_10 : BitVec 32 := 0#32
  let c1_i32_11 : BitVec 32 := 1#32
  let arg9 : BitVec 32 := Scf.iv c0_i32_10 c1_i32_11 k0_t1
  let c1024_i32_150 : BitVec 32 := 1024#32
  let v317 : BitVec 32 := Scalar.muli arg9 c1024_i32_150
  let v318 : BitVec 32 := v317
  let v327 : Index := Scalar.indexCast v318
  let c0_161 : Index := 0#32
  ![1, v327.toNat, 0]
def k0_mult2 (i : grid0.Coords) (k0_t1 : Fin (k0_t1_loop i).trips) : BitVec 32 :=
  let c0_i32_10 : BitVec 32 := 0#32
  let c1_i32_11 : BitVec 32 := 1#32
  let arg9 : BitVec 32 := Scf.iv c0_i32_10 c1_i32_11 k0_t1
  let c1024_i32_163 : BitVec 32 := 1024#32
  let v331 : BitVec 32 := Scalar.muli arg9 c1024_i32_163
  v331
def k0_mult3 (i : grid0.Coords) (k0_t1 : Fin (k0_t1_loop i).trips) : BitVec 32 :=
  let c0_i32_10 : BitVec 32 := 0#32
  let c1_i32_11 : BitVec 32 := 1#32
  let arg9 : BitVec 32 := Scf.iv c0_i32_10 c1_i32_11 k0_t1
  let c1024_i32_164 : BitVec 32 := 1024#32
  let v334 : BitVec 32 := Scalar.muli arg9 c1024_i32_164
  v334
def k0_mult4 (i : grid0.Coords) (k0_t1 : Fin (k0_t1_loop i).trips) : BitVec 32 :=
  let c0_i32_10 : BitVec 32 := 0#32
  let c1_i32_11 : BitVec 32 := 1#32
  let arg9 : BitVec 32 := Scf.iv c0_i32_10 c1_i32_11 k0_t1
  let c1024_i32_165 : BitVec 32 := 1024#32
  let v337 : BitVec 32 := Scalar.muli arg9 c1024_i32_165
  v337
def k0_mult5 (i : grid0.Coords) (k0_t1 : Fin (k0_t1_loop i).trips) : BitVec 32 :=
  let c0_i32_10 : BitVec 32 := 0#32
  let c1_i32_11 : BitVec 32 := 1#32
  let arg9 : BitVec 32 := Scf.iv c0_i32_10 c1_i32_11 k0_t1
  let c1024_i32_166 : BitVec 32 := 1024#32
  let v340 : BitVec 32 := Scalar.muli arg9 c1024_i32_166
  v340
def k0_off3 (i : grid0.Coords) (k0_t1 : Fin (k0_t1_loop i).trips) : Fin 3 → Nat :=
  let c0_177 : Index := 0#32
  let c0_i32_10 : BitVec 32 := 0#32
  let c1_i32_11 : BitVec 32 := 1#32
  let arg9 : BitVec 32 := Scf.iv c0_i32_10 c1_i32_11 k0_t1
  let c1024_i32_163 : BitVec 32 := 1024#32
  let v331 : BitVec 32 := Scalar.muli arg9 c1024_i32_163
  let v332 : BitVec 32 := v331
  let v391 : Index := Scalar.indexCast v332
  let c0_178 : Index := 0#32
  ![0, v391.toNat, 0]
def k0_off4 (i : grid0.Coords) (k0_t1 : Fin (k0_t1_loop i).trips) : Fin 3 → Nat :=
  let c1_221 : Index := 1#32
  let c0_i32_10 : BitVec 32 := 0#32
  let c1_i32_11 : BitVec 32 := 1#32
  let arg9 : BitVec 32 := Scf.iv c0_i32_10 c1_i32_11 k0_t1
  let c1024_i32_165 : BitVec 32 := 1024#32
  let v337 : BitVec 32 := Scalar.muli arg9 c1024_i32_165
  let v338 : BitVec 32 := v337
  let v517 : Index := Scalar.indexCast v338
  let c0_222 : Index := 0#32
  ![1, v517.toNat, 0]
@[reducible] def k0_t2_loop (i : grid0.Coords) : Scf.Loop 32 :=
  let c0_i32_10 : BitVec 32 := 0#32
  let arg1 : BitVec 32 := BitVec.ofNat 32 (i 1).val
  let v12 : BitVec 32 := Scalar.subi arg1 c0_i32_10
  let c1_i32 : BitVec 32 := 1#32
  let v14 : BitVec 32 := Scalar.divsi v12 c1_i32
  let v15 : BitVec 32 := Scalar.muli v14 c1_i32
  let v16 : BitVec 32 := Scalar.addi c0_i32_10 v15
  let v13 : BitVec 32 := Scalar.addi c0_i32_10 v12
  let c1_i32_12 : BitVec 32 := 1#32
  ⟨v16, v13, c1_i32_12⟩
def k0_mult6 (i : grid0.Coords) (k0_t2 : Fin (k0_t2_loop i).trips) : BitVec 32 :=
  let c0_i32_10 : BitVec 32 := 0#32
  let arg1 : BitVec 32 := BitVec.ofNat 32 (i 1).val
  let v12 : BitVec 32 := Scalar.subi arg1 c0_i32_10
  let c1_i32 : BitVec 32 := 1#32
  let v14 : BitVec 32 := Scalar.divsi v12 c1_i32
  let v15 : BitVec 32 := Scalar.muli v14 c1_i32
  let v16 : BitVec 32 := Scalar.addi c0_i32_10 v15
  let c1_i32_12 : BitVec 32 := 1#32
  let arg9 : BitVec 32 := Scf.iv v16 c1_i32_12 k0_t2
  let c1024_i32_150 : BitVec 32 := 1024#32
  let v317 : BitVec 32 := Scalar.muli arg9 c1024_i32_150
  v317
def k0_off5 (i : grid0.Coords) (k0_t2 : Fin (k0_t2_loop i).trips) : Fin 3 → Nat :=
  let c0_154 : Index := 0#32
  let c0_i32_10 : BitVec 32 := 0#32
  let arg1 : BitVec 32 := BitVec.ofNat 32 (i 1).val
  let v12 : BitVec 32 := Scalar.subi arg1 c0_i32_10
  let c1_i32 : BitVec 32 := 1#32
  let v14 : BitVec 32 := Scalar.divsi v12 c1_i32
  let v15 : BitVec 32 := Scalar.muli v14 c1_i32
  let v16 : BitVec 32 := Scalar.addi c0_i32_10 v15
  let c1_i32_12 : BitVec 32 := 1#32
  let arg9 : BitVec 32 := Scf.iv v16 c1_i32_12 k0_t2
  let c1024_i32_150 : BitVec 32 := 1024#32
  let v317 : BitVec 32 := Scalar.muli arg9 c1024_i32_150
  let v318 : BitVec 32 := v317
  let v321 : Index := Scalar.indexCast v318
  let c0_155 : Index := 0#32
  ![0, v321.toNat, 0]
def k0_off6 (i : grid0.Coords) (k0_t2 : Fin (k0_t2_loop i).trips) : Fin 3 → Nat :=
  let c1_160 : Index := 1#32
  let c0_i32_10 : BitVec 32 := 0#32
  let arg1 : BitVec 32 := BitVec.ofNat 32 (i 1).val
  let v12 : BitVec 32 := Scalar.subi arg1 c0_i32_10
  let c1_i32 : BitVec 32 := 1#32
  let v14 : BitVec 32 := Scalar.divsi v12 c1_i32
  let v15 : BitVec 32 := Scalar.muli v14 c1_i32
  let v16 : BitVec 32 := Scalar.addi c0_i32_10 v15
  let c1_i32_12 : BitVec 32 := 1#32
  let arg9 : BitVec 32 := Scf.iv v16 c1_i32_12 k0_t2
  let c1024_i32_150 : BitVec 32 := 1024#32
  let v317 : BitVec 32 := Scalar.muli arg9 c1024_i32_150
  let v318 : BitVec 32 := v317
  let v327 : Index := Scalar.indexCast v318
  let c0_161 : Index := 0#32
  ![1, v327.toNat, 0]
def k0_mult7 (i : grid0.Coords) (k0_t2 : Fin (k0_t2_loop i).trips) : BitVec 32 :=
  let c0_i32_10 : BitVec 32 := 0#32
  let arg1 : BitVec 32 := BitVec.ofNat 32 (i 1).val
  let v12 : BitVec 32 := Scalar.subi arg1 c0_i32_10
  let c1_i32 : BitVec 32 := 1#32
  let v14 : BitVec 32 := Scalar.divsi v12 c1_i32
  let v15 : BitVec 32 := Scalar.muli v14 c1_i32
  let v16 : BitVec 32 := Scalar.addi c0_i32_10 v15
  let c1_i32_12 : BitVec 32 := 1#32
  let arg9 : BitVec 32 := Scf.iv v16 c1_i32_12 k0_t2
  let c1024_i32_163 : BitVec 32 := 1024#32
  let v331 : BitVec 32 := Scalar.muli arg9 c1024_i32_163
  v331
def k0_mult8 (i : grid0.Coords) (k0_t2 : Fin (k0_t2_loop i).trips) : BitVec 32 :=
  let c0_i32_10 : BitVec 32 := 0#32
  let arg1 : BitVec 32 := BitVec.ofNat 32 (i 1).val
  let v12 : BitVec 32 := Scalar.subi arg1 c0_i32_10
  let c1_i32 : BitVec 32 := 1#32
  let v14 : BitVec 32 := Scalar.divsi v12 c1_i32
  let v15 : BitVec 32 := Scalar.muli v14 c1_i32
  let v16 : BitVec 32 := Scalar.addi c0_i32_10 v15
  let c1_i32_12 : BitVec 32 := 1#32
  let arg9 : BitVec 32 := Scf.iv v16 c1_i32_12 k0_t2
  let c1024_i32_164 : BitVec 32 := 1024#32
  let v334 : BitVec 32 := Scalar.muli arg9 c1024_i32_164
  v334
def k0_mult9 (i : grid0.Coords) (k0_t2 : Fin (k0_t2_loop i).trips) : BitVec 32 :=
  let c0_i32_10 : BitVec 32 := 0#32
  let arg1 : BitVec 32 := BitVec.ofNat 32 (i 1).val
  let v12 : BitVec 32 := Scalar.subi arg1 c0_i32_10
  let c1_i32 : BitVec 32 := 1#32
  let v14 : BitVec 32 := Scalar.divsi v12 c1_i32
  let v15 : BitVec 32 := Scalar.muli v14 c1_i32
  let v16 : BitVec 32 := Scalar.addi c0_i32_10 v15
  let c1_i32_12 : BitVec 32 := 1#32
  let arg9 : BitVec 32 := Scf.iv v16 c1_i32_12 k0_t2
  let c1024_i32_165 : BitVec 32 := 1024#32
  let v337 : BitVec 32 := Scalar.muli arg9 c1024_i32_165
  v337
def k0_mult10 (i : grid0.Coords) (k0_t2 : Fin (k0_t2_loop i).trips) : BitVec 32 :=
  let c0_i32_10 : BitVec 32 := 0#32
  let arg1 : BitVec 32 := BitVec.ofNat 32 (i 1).val
  let v12 : BitVec 32 := Scalar.subi arg1 c0_i32_10
  let c1_i32 : BitVec 32 := 1#32
  let v14 : BitVec 32 := Scalar.divsi v12 c1_i32
  let v15 : BitVec 32 := Scalar.muli v14 c1_i32
  let v16 : BitVec 32 := Scalar.addi c0_i32_10 v15
  let c1_i32_12 : BitVec 32 := 1#32
  let arg9 : BitVec 32 := Scf.iv v16 c1_i32_12 k0_t2
  let c1024_i32_166 : BitVec 32 := 1024#32
  let v340 : BitVec 32 := Scalar.muli arg9 c1024_i32_166
  v340
def k0_off7 (i : grid0.Coords) (k0_t2 : Fin (k0_t2_loop i).trips) : Fin 3 → Nat :=
  let c0_177 : Index := 0#32
  let c0_i32_10 : BitVec 32 := 0#32
  let arg1 : BitVec 32 := BitVec.ofNat 32 (i 1).val
  let v12 : BitVec 32 := Scalar.subi arg1 c0_i32_10
  let c1_i32 : BitVec 32 := 1#32
  let v14 : BitVec 32 := Scalar.divsi v12 c1_i32
  let v15 : BitVec 32 := Scalar.muli v14 c1_i32
  let v16 : BitVec 32 := Scalar.addi c0_i32_10 v15
  let c1_i32_12 : BitVec 32 := 1#32
  let arg9 : BitVec 32 := Scf.iv v16 c1_i32_12 k0_t2
  let c1024_i32_163 : BitVec 32 := 1024#32
  let v331 : BitVec 32 := Scalar.muli arg9 c1024_i32_163
  let v332 : BitVec 32 := v331
  let v391 : Index := Scalar.indexCast v332
  let c0_178 : Index := 0#32
  ![0, v391.toNat, 0]
def k0_off8 (i : grid0.Coords) (k0_t2 : Fin (k0_t2_loop i).trips) : Fin 3 → Nat :=
  let c1_221 : Index := 1#32
  let c0_i32_10 : BitVec 32 := 0#32
  let arg1 : BitVec 32 := BitVec.ofNat 32 (i 1).val
  let v12 : BitVec 32 := Scalar.subi arg1 c0_i32_10
  let c1_i32 : BitVec 32 := 1#32
  let v14 : BitVec 32 := Scalar.divsi v12 c1_i32
  let v15 : BitVec 32 := Scalar.muli v14 c1_i32
  let v16 : BitVec 32 := Scalar.addi c0_i32_10 v15
  let c1_i32_12 : BitVec 32 := 1#32
  let arg9 : BitVec 32 := Scf.iv v16 c1_i32_12 k0_t2
  let c1024_i32_165 : BitVec 32 := 1024#32
  let v337 : BitVec 32 := Scalar.muli arg9 c1024_i32_165
  let v338 : BitVec 32 := v337
  let v517 : Index := Scalar.indexCast v338
  let c0_222 : Index := 0#32
  ![1, v517.toNat, 0]
def k0_mult11 (i : grid0.Coords) : BitVec 32 :=
  let arg1 : BitVec 32 := BitVec.ofNat 32 (i 1).val
  let c1024_i32 : BitVec 32 := 1024#32
  let v17 : BitVec 32 := Scalar.muli arg1 c1024_i32
  v17
def k0_off9 (i : grid0.Coords) : Fin 3 → Nat :=
  let c0_13 : Index := 0#32
  let arg1 : BitVec 32 := BitVec.ofNat 32 (i 1).val
  let c1024_i32 : BitVec 32 := 1024#32
  let v17 : BitVec 32 := Scalar.muli arg1 c1024_i32
  let v18 : BitVec 32 := v17
  let v19 : Index := Scalar.indexCast v18
  let c0_14 : Index := 0#32
  ![0, v19.toNat, 0]
def k0_mult12 (i : grid0.Coords) : BitVec 32 :=
  let arg1 : BitVec 32 := BitVec.ofNat 32 (i 1).val
  let c1024_i32_19 : BitVec 32 := 1024#32
  let v25 : BitVec 32 := Scalar.muli arg1 c1024_i32_19
  v25
def k0_off10 (i : grid0.Coords) : Fin 3 → Nat :=
  let c0_20 : Index := 0#32
  let arg1 : BitVec 32 := BitVec.ofNat 32 (i 1).val
  let c1024_i32_19 : BitVec 32 := 1024#32
  let v25 : BitVec 32 := Scalar.muli arg1 c1024_i32_19
  let v26 : BitVec 32 := v25
  let v27 : Index := Scalar.indexCast v26
  let c0_21 : Index := 0#32
  ![0, v27.toNat, 0]
def k0_mult13 (i : grid0.Coords) : BitVec 32 :=
  let arg1 : BitVec 32 := BitVec.ofNat 32 (i 1).val
  let c1024_i32_25 : BitVec 32 := 1024#32
  let v33 : BitVec 32 := Scalar.muli arg1 c1024_i32_25
  v33
def k0_off11 (i : grid0.Coords) : Fin 3 → Nat :=
  let c1 : Index := 1#32
  let arg1 : BitVec 32 := BitVec.ofNat 32 (i 1).val
  let c1024_i32_25 : BitVec 32 := 1024#32
  let v33 : BitVec 32 := Scalar.muli arg1 c1024_i32_25
  let v34 : BitVec 32 := v33
  let v35 : Index := Scalar.indexCast v34
  let c0_26 : Index := 0#32
  ![1, v35.toNat, 0]
def k0_mult14 (i : grid0.Coords) : BitVec 32 :=
  let arg1 : BitVec 32 := BitVec.ofNat 32 (i 1).val
  let c1024_i32_31 : BitVec 32 := 1024#32
  let v41 : BitVec 32 := Scalar.muli arg1 c1024_i32_31
  v41
def k0_off12 (i : grid0.Coords) : Fin 3 → Nat :=
  let c1_32 : Index := 1#32
  let arg1 : BitVec 32 := BitVec.ofNat 32 (i 1).val
  let c1024_i32_31 : BitVec 32 := 1024#32
  let v41 : BitVec 32 := Scalar.muli arg1 c1024_i32_31
  let v42 : BitVec 32 := v41
  let v43 : Index := Scalar.indexCast v42
  let c0_33 : Index := 0#32
  ![1, v43.toNat, 0]
def k0_off13 (i : grid0.Coords) : Fin 3 → Nat :=
  let c0_50 : Index := 0#32
  let arg1 : BitVec 32 := BitVec.ofNat 32 (i 1).val
  let c1024_i32 : BitVec 32 := 1024#32
  let v17 : BitVec 32 := Scalar.muli arg1 c1024_i32
  let v18 : BitVec 32 := v17
  let v88 : Index := Scalar.indexCast v18
  let c0_51 : Index := 0#32
  ![0, v88.toNat, 0]
def k0_off14 (i : grid0.Coords) : Fin 3 → Nat :=
  let c0_73 : Index := 0#32
  let arg1 : BitVec 32 := BitVec.ofNat 32 (i 1).val
  let c1024_i32_19 : BitVec 32 := 1024#32
  let v25 : BitVec 32 := Scalar.muli arg1 c1024_i32_19
  let v26 : BitVec 32 := v25
  let v158 : Index := Scalar.indexCast v26
  let c0_74 : Index := 0#32
  ![0, v158.toNat, 0]
def k0_off15 (i : grid0.Coords) : Fin 3 → Nat :=
  let c1_97 : Index := 1#32
  let arg1 : BitVec 32 := BitVec.ofNat 32 (i 1).val
  let c1024_i32_25 : BitVec 32 := 1024#32
  let v33 : BitVec 32 := Scalar.muli arg1 c1024_i32_25
  let v34 : BitVec 32 := v33
  let v212 : Index := Scalar.indexCast v34
  let c0_98 : Index := 0#32
  ![1, v212.toNat, 0]
def k0_off16 (i : grid0.Coords) : Fin 3 → Nat :=
  let c1_121 : Index := 1#32
  let arg1 : BitVec 32 := BitVec.ofNat 32 (i 1).val
  let c1024_i32_31 : BitVec 32 := 1024#32
  let v41 : BitVec 32 := Scalar.muli arg1 c1024_i32_31
  let v42 : BitVec 32 := v41
  let v282 : Index := Scalar.indexCast v42
  let c0_122 : Index := 0#32
  ![1, v282.toNat, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S2x1024x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2x8192x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2x8192x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== KernelIdeal.lean ====
variable {F : FTy → Type} [FloatOps F] [Named F]
def κ : String → Option EReal := fun
  | "mask" => some ⊥
  | _ => none
-- ==== ReferenceIdeal.lean ====
abbrev S1x8192x16x192 : Shape := ⟨4, ![1, 8192, 16, 192]⟩
abbrev S1x8192x16x128 : Shape := ⟨4, ![1, 8192, 16, 128]⟩
abbrev S8192 : Shape := ⟨1, ![8192]⟩
abbrev S1x16x8192x8192 : Shape := ⟨4, ![1, 16, 8192, 8192]⟩
abbrev S_ : Shape := ⟨0, ![]⟩
abbrev S1x8192 : Shape := ⟨2, ![1, 8192]⟩
abbrev S8192x1 : Shape := ⟨2, ![8192, 1]⟩
abbrev S8192x8192 : Shape := ⟨2, ![8192, 8192]⟩
abbrev S1x16x8192 : Shape := ⟨3, ![1, 16, 8192]⟩
abbrev S1x16x8192x1 : Shape := ⟨4, ![1, 16, 8192, 1]⟩
abbrev S1x16x128x8192 : Shape := ⟨4, ![1, 16, 128, 8192]⟩
abbrev S8192x2048 : Shape := ⟨2, ![8192, 2048]⟩

abbrev nBuf : Space → Nat
  | .hbm => 37
  | .vmem => 0
  | .smem => 0
  | _ => 0

abbrev bufTy : (tb : Table) → Fin (tcTables nBuf tb) → BufTy
  | .hbm, ⟨0, _⟩ => ⟨S1x8192x16x192, .f32⟩
  | .hbm, ⟨1, _⟩ => ⟨S1x8192x16x192, .f32⟩
  | .hbm, ⟨2, _⟩ => ⟨S1x8192x16x128, .f32⟩
  | .hbm, ⟨3, _⟩ => ⟨S8192, .i32⟩
  | .hbm, ⟨4, _⟩ => ⟨S1x16x8192x8192, .f32⟩
  | .hbm, ⟨5, _⟩ => ⟨S_, .f32⟩
  | .hbm, ⟨6, _⟩ => ⟨S_, .f32⟩
  | .hbm, ⟨7, _⟩ => ⟨S1x16x8192x8192, .f32⟩
  | .hbm, ⟨8, _⟩ => ⟨S1x16x8192x8192, .f32⟩
  | .hbm, ⟨9, _⟩ => ⟨S1x8192, .i32⟩
  | .hbm, ⟨10, _⟩ => ⟨S8192x1, .i32⟩
  | .hbm, ⟨11, _⟩ => ⟨S8192x8192, .i32⟩
  | .hbm, ⟨12, _⟩ => ⟨S8192x8192, .i32⟩
  | .hbm, ⟨13, _⟩ => ⟨S8192x8192, .i1⟩
  | .hbm, ⟨14, _⟩ => ⟨S_, .f32⟩
  | .hbm, ⟨15, _⟩ => ⟨S_, .f32⟩
  | .hbm, ⟨16, _⟩ => ⟨S1x16x8192x8192, .i1⟩
  | .hbm, ⟨17, _⟩ => ⟨S1x16x8192x8192, .f32⟩
  | .hbm, ⟨18, _⟩ => ⟨S1x16x8192x8192, .f32⟩
  | .hbm, ⟨19, _⟩ => ⟨S_, .f32⟩
  | .hbm, ⟨20, _⟩ => ⟨S1x16x8192, .f32⟩
  | .hbm, ⟨21, _⟩ => ⟨S_, .f32⟩
  | .hbm, ⟨22, _⟩ => ⟨S1x16x8192, .f32⟩
  | .hbm, ⟨23, _⟩ => ⟨S1x16x8192, .f32⟩
  | .hbm, ⟨24, _⟩ => ⟨S1x16x8192x1, .f32⟩
  | .hbm, ⟨25, _⟩ => ⟨S1x16x8192x8192, .f32⟩
  | .hbm, ⟨26, _⟩ => ⟨S1x16x8192x8192, .f32⟩
  | .hbm, ⟨27, _⟩ => ⟨S1x16x8192x8192, .f32⟩
  | .hbm, ⟨28, _⟩ => ⟨S_, .f32⟩
  | .hbm, ⟨29, _⟩ => ⟨S1x16x8192, .f32⟩
  | .hbm, ⟨30, _⟩ => ⟨S1x16x8192x1, .f32⟩
  | .hbm, ⟨31, _⟩ => ⟨S1x16x8192x8192, .f32⟩
  | .hbm, ⟨32, _⟩ => ⟨S1x16x8192x8192, .f32⟩
  | .hbm, ⟨33, _⟩ => ⟨S1x16x128x8192, .f32⟩
  | .hbm, ⟨34, _⟩ => ⟨S1x8192x16x128, .f32⟩
  | .hbm, ⟨35, _⟩ => ⟨S8192x2048, .f32⟩
  | .hbm, ⟨36, _⟩ => ⟨S8192x2048, .bf16⟩
  | _, _ => ⟨S1x8192x16x192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_0 : Ref sig .tc := ⟨.hbm, 14, rfl⟩
abbrev main_call0_v0 : Ref sig .tc := ⟨.hbm, 15, rfl⟩
abbrev main_call0_v1 : Ref sig .tc := ⟨.hbm, 16, rfl⟩
abbrev main_call0_v2 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_cst_2 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_3 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩

abbrev nD : Nat := 1
abbrev τ : Topo := Topo.v7x

variable {F : FTy → Type} [FloatOps F]
-- ==== Kernel2.lean ====
abbrev S1x8192x2048 : Shape := ⟨3, ![1, 8192, 2048]⟩
abbrev S4x2048 : Shape := ⟨2, ![4, 2048]⟩
abbrev S4x2048x11264 : Shape := ⟨3, ![4, 2048, 11264]⟩
abbrev S4x3x11264 : Shape := ⟨3, ![4, 3, 11264]⟩
abbrev S4x11264 : Shape := ⟨2, ![4, 11264]⟩
abbrev S4x5632x2048 : Shape := ⟨3, ![4, 5632, 2048]⟩
abbrev S2048 : Shape := ⟨1, ![2048]⟩
abbrev S8192x2048 : Shape := ⟨2, ![8192, 2048]⟩
abbrev S4x1x2048 : Shape := ⟨3, ![4, 1, 2048]⟩
abbrev S4x1x11264 : Shape := ⟨3, ![4, 1, 11264]⟩
abbrev S1x2048 : Shape := ⟨2, ![1, 2048]⟩
abbrev S1024x2048 : Shape := ⟨2, ![1024, 2048]⟩
abbrev S16x2048 : Shape := ⟨2, ![16, 2048]⟩
abbrev S1x1x2048 : Shape := ⟨3, ![1, 1, 2048]⟩
abbrev S1x2048x512 : Shape := ⟨3, ![1, 2048, 512]⟩
abbrev S1x3x512 : Shape := ⟨3, ![1, 3, 512]⟩
abbrev S1x1x512 : Shape := ⟨3, ![1, 1, 512]⟩
abbrev S1x512x2048 : Shape := ⟨3, ![1, 512, 2048]⟩
abbrev S1040x2048 : Shape := ⟨2, ![1040, 2048]⟩
abbrev S1040x512 : Shape := ⟨2, ![1040, 512]⟩
abbrev S1024 : Shape := ⟨1, ![1024]⟩
abbrev S1024x1 : Shape := ⟨2, ![1024, 1]⟩
abbrev S16 : Shape := ⟨1, ![16]⟩
abbrev S16x1 : Shape := ⟨2, ![16, 1]⟩
abbrev S2048x512 : Shape := ⟨2, ![2048, 512]⟩
abbrev S1x512 : Shape := ⟨2, ![1, 512]⟩
abbrev S1024x512 : Shape := ⟨2, ![1024, 512]⟩
abbrev S512x2048 : Shape := ⟨2, ![512, 2048]⟩

abbrev nBuf : Space → Nat
  | .hbm => 14
  | .vmem => 24
  | .smem => 0
  | _ => 0

abbrev bufTy : (tb : Table) → Fin (tcTables nBuf tb) → BufTy
  | .hbm, ⟨0, _⟩ => ⟨S1x8192x2048, .f32⟩
  | .hbm, ⟨1, _⟩ => ⟨S4x2048, .f32⟩
  | .hbm, ⟨2, _⟩ => ⟨S4x2048x11264, .f32⟩
  | .hbm, ⟨3, _⟩ => ⟨S4x3x11264, .f32⟩
  | .hbm, ⟨4, _⟩ => ⟨S4x11264, .f32⟩
  | .hbm, ⟨5, _⟩ => ⟨S4x5632x2048, .f32⟩
  | .hbm, ⟨6, _⟩ => ⟨S2048, .f32⟩
  | .hbm, ⟨7, _⟩ => ⟨S8192x2048, .f32⟩
  | .hbm, ⟨8, _⟩ => ⟨S4x1x2048, .f32⟩
  | .hbm, ⟨9, _⟩ => ⟨S4x2048x11264, .bf16⟩
  | .hbm, ⟨10, _⟩ => ⟨S4x1x11264, .f32⟩
  | .hbm, ⟨11, _⟩ => ⟨S4x5632x2048, .bf16⟩
  | .hbm, ⟨12, _⟩ => ⟨S1x2048, .f32⟩
  | .hbm, ⟨13, _⟩ => ⟨S8192x2048, .f32⟩
  | .local _ .vmem, ⟨0, _⟩ => ⟨S1024x2048, .f32⟩
  | .local _ .vmem, ⟨1, _⟩ => ⟨S1024x2048, .f32⟩
  | .local _ .vmem, ⟨2, _⟩ => ⟨S16x2048, .f32⟩
  | .local _ .vmem, ⟨3, _⟩ => ⟨S16x2048, .f32⟩
  | .local _ .vmem, ⟨4, _⟩ => ⟨S1x1x2048, .f32⟩
  | .local _ .vmem, ⟨5, _⟩ => ⟨S1x2048x512, .bf16⟩
  | .local _ .vmem, ⟨6, _⟩ => ⟨S1x2048x512, .bf16⟩
  | .local _ .vmem, ⟨7, _⟩ => ⟨S1x2048x512, .bf16⟩
  | .local _ .vmem, ⟨8, _⟩ => ⟨S1x2048x512, .bf16⟩
  | .local _ .vmem, ⟨9, _⟩ => ⟨S1x3x512, .f32⟩
  | .local _ .vmem, ⟨10, _⟩ => ⟨S1x3x512, .f32⟩
  | .local _ .vmem, ⟨11, _⟩ => ⟨S1x3x512, .f32⟩
  | .local _ .vmem, ⟨12, _⟩ => ⟨S1x3x512, .f32⟩
  | .local _ .vmem, ⟨13, _⟩ => ⟨S1x1x512, .f32⟩
  | .local _ .vmem, ⟨14, _⟩ => ⟨S1x1x512, .f32⟩
  | .local _ .vmem, ⟨15, _⟩ => ⟨S1x1x512, .f32⟩
  | .local _ .vmem, ⟨16, _⟩ => ⟨S1x1x512, .f32⟩
  | .local _ .vmem, ⟨17, _⟩ => ⟨S1x512x2048, .bf16⟩
  | .local _ .vmem, ⟨18, _⟩ => ⟨S1x512x2048, .bf16⟩
  | .local _ .vmem, ⟨19, _⟩ => ⟨S1x2048, .f32⟩
  | .local _ .vmem, ⟨20, _⟩ => ⟨S1024x2048, .f32⟩
  | .local _ .vmem, ⟨21, _⟩ => ⟨S1040x2048, .bf16⟩
  | .local _ .vmem, ⟨22, _⟩ => ⟨S1040x512, .f32⟩
  | .local _ .vmem, ⟨23, _⟩ => ⟨S1040x512, .f32⟩
  | _, _ => ⟨S1x8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg11_0 : Ref sig .tc := ⟨.vmem, 20, rfl⟩
abbrev cc0_scratch0 : Ref sig .tc := ⟨.vmem, 21, rfl⟩
abbrev cc0_scratch1 : Ref sig .tc := ⟨.vmem, 22, rfl⟩
abbrev cc0_scratch2 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem11_0 : DmaSem sig := 20

abbrev nD : Nat := 1
abbrev τ : Topo := Topo.v7x

variable {F : FTy → Type} [FloatOps F]

abbrev grid0 : Pipeline.Grid := ⟨2, ![8, 11], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_2 (i : grid0.Coords) : Fin 3 → Nat :=
  let arg0 : BitVec 32 := BitVec.ofNat 32 (i 0).val
  let arg1 : BitVec 32 := BitVec.ofNat 32 (i 1).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c3_i32 : BitVec 32 := 3#32
  let c0_i32 : BitVec 32 := 0#32
  let c0_i32_0 : BitVec 32 := 0#32
  ![c3_i32.toNat, c0_i32.toNat, arg1.toNat]

def cc0_transform_4 (i : grid0.Coords) : Fin 3 → Nat :=
  let arg0 : BitVec 32 := BitVec.ofNat 32 (i 0).val
  let arg1 : BitVec 32 := BitVec.ofNat 32 (i 1).val
  let c11_i32 : BitVec 32 := 11#32
  let v0 : BitVec 32 := Scalar.addi c11_i32 arg1
  let c3_i32 : BitVec 32 := 3#32
  let c0_i32 : BitVec 32 := 0#32
  let c0_i32_0 : BitVec 32 := 0#32
  ![c3_i32.toNat, c0_i32.toNat, v0.toNat]

def cc0_transform_5 (i : grid0.Coords) : Fin 3 → Nat :=
  let arg0 : BitVec 32 := BitVec.ofNat 32 (i 0).val
  let arg1 : BitVec 32 := BitVec.ofNat 32 (i 1).val
  let c3_i32 : BitVec 32 := 3#32
  let c0_i32 : BitVec 32 := 0#32
  let c0_i32_0 : BitVec 32 := 0#32
  ![c3_i32.toNat, c0_i32.toNat, arg1.toNat]

def cc0_transform_6 (i : grid0.Coords) : Fin 3 → Nat :=
  let arg0 : BitVec 32 := BitVec.ofNat 32 (i 0).val
  let arg1 : BitVec 32 := BitVec.ofNat 32 (i 1).val
  let c11_i32 : BitVec 32 := 11#32
  let v0 : BitVec 32 := Scalar.addi c11_i32 arg1
  let c3_i32 : BitVec 32 := 3#32
  let c0_i32 : BitVec 32 := 0#32
  let c0_i32_0 : BitVec 32 := 0#32
  ![c3_i32.toNat, c0_i32.toNat, v0.toNat]

def cc0_transform_7 (i : grid0.Coords) : Fin 3 → Nat :=
  let arg0 : BitVec 32 := BitVec.ofNat 32 (i 0).val
  let arg1 : BitVec 32 := BitVec.ofNat 32 (i 1).val
  let c3_i32 : BitVec 32 := 3#32
  let c0_i32 : BitVec 32 := 0#32
  let c0_i32_0 : BitVec 32 := 0#32
  ![c3_i32.toNat, c0_i32.toNat, arg1.toNat]

def cc0_transform_8 (i : grid0.Coords) : Fin 3 → Nat :=
  let arg0 : BitVec 32 := BitVec.ofNat 32 (i 0).val
  let arg1 : BitVec 32 := BitVec.ofNat 32 (i 1).val
  let c11_i32 : BitVec 32 := 11#32
  let v0 : BitVec 32 := Scalar.addi c11_i32 arg1
  let c3_i32 : BitVec 32 := 3#32
  let c0_i32 : BitVec 32 := 0#32
  let c0_i32_0 : BitVec 32 := 0#32
  ![c3_i32.toNat, c0_i32.toNat, v0.toNat]

def cc0_transform_9 (i : grid0.Coords) : Fin 3 → Nat :=
  let arg0 : BitVec 32 := BitVec.ofNat 32 (i 0).val
  let arg1 : BitVec 32 := BitVec.ofNat 32 (i 1).val
  let c3_i32 : BitVec 32 := 3#32
  let c0_i32 : BitVec 32 := 0#32
  let c0_i32_0 : BitVec 32 := 0#32
  ![c3_i32.toNat, arg1.toNat, c0_i32.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S16x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1x1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x2048x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x3x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1x3x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S1x1x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S1x1x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true]

abbrev stage0_9 : Fin 2 → Memref sig .tc .vmem S1x512x2048 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![false, true]

abbrev stage0_10 : Fin 1 → Memref sig .tc .vmem S1x2048 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1024x2048 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![true, false]
-- ==== Reference2Ideal.lean ====
abbrev S1x8192x2048 : Shape := ⟨3, ![1, 8192, 2048]⟩
abbrev S4x2048 : Shape := ⟨2, ![4, 2048]⟩
abbrev S4x2048x11264 : Shape := ⟨3, ![4, 2048, 11264]⟩
abbrev S4x3x11264 : Shape := ⟨3, ![4, 3, 11264]⟩
abbrev S4x11264 : Shape := ⟨2, ![4, 11264]⟩
abbrev S4x5632x2048 : Shape := ⟨3, ![4, 5632, 2048]⟩
abbrev S2048 : Shape := ⟨1, ![2048]⟩
abbrev S1x2048 : Shape := ⟨2, ![1, 2048]⟩
abbrev S_ : Shape := ⟨0, ![]⟩
abbrev S1x8192 : Shape := ⟨2, ![1, 8192]⟩
abbrev S1x8192x1 : Shape := ⟨3, ![1, 8192, 1]⟩
abbrev S1x1x2048 : Shape := ⟨3, ![1, 1, 2048]⟩
abbrev S1x2048x11264 : Shape := ⟨3, ![1, 2048, 11264]⟩
abbrev S2048x11264 : Shape := ⟨2, ![2048, 11264]⟩
abbrev S1x8192x11264 : Shape := ⟨3, ![1, 8192, 11264]⟩
abbrev S1x3x11264 : Shape := ⟨3, ![1, 3, 11264]⟩
abbrev S3x11264 : Shape := ⟨2, ![3, 11264]⟩
abbrev S1x11264 : Shape := ⟨2, ![1, 11264]⟩
abbrev S11264 : Shape := ⟨1, ![11264]⟩
abbrev S1x8194x11264 : Shape := ⟨3, ![1, 8194, 11264]⟩
abbrev S1x1x11264 : Shape := ⟨3, ![1, 1, 11264]⟩
abbrev S1x8192x5632 : Shape := ⟨3, ![1, 8192, 5632]⟩
abbrev S1x5632x2048 : Shape := ⟨3, ![1, 5632, 2048]⟩
abbrev S5632x2048 : Shape := ⟨2, ![5632, 2048]⟩
abbrev S8192x2048 : Shape := ⟨2, ![8192, 2048]⟩

abbrev nBuf : Space → Nat
  | .hbm => 91
  | .vmem => 0
  | .smem => 0
  | _ => 0

abbrev bufTy : (tb : Table) → Fin (tcTables nBuf tb) → BufTy
  | .hbm, ⟨0, _⟩ => ⟨S1x8192x2048, .f32⟩
  | .hbm, ⟨1, _⟩ => ⟨S4x2048, .f32⟩
  | .hbm, ⟨2, _⟩ => ⟨S4x2048x11264, .f32⟩
  | .hbm, ⟨3, _⟩ => ⟨S4x3x11264, .f32⟩
  | .hbm, ⟨4, _⟩ => ⟨S4x11264, .f32⟩
  | .hbm, ⟨5, _⟩ => ⟨S4x5632x2048, .f32⟩
  | .hbm, ⟨6, _⟩ => ⟨S2048, .f32⟩
  | .hbm, ⟨7, _⟩ => ⟨S1x2048, .f32⟩
  | .hbm, ⟨8, _⟩ => ⟨S2048, .f32⟩
  | .hbm, ⟨9, _⟩ => ⟨S1x8192x2048, .f32⟩
  | .hbm, ⟨10, _⟩ => ⟨S_, .f32⟩
  | .hbm, ⟨11, _⟩ => ⟨S1x8192, .f32⟩
  | .hbm, ⟨12, _⟩ => ⟨S1x8192x1, .f32⟩
  | .hbm, ⟨13, _⟩ => ⟨S_, .f32⟩
  | .hbm, ⟨14, _⟩ => ⟨S1x8192x1, .f32⟩
  | .hbm, ⟨15, _⟩ => ⟨S1x8192x1, .f32⟩
  | .hbm, ⟨16, _⟩ => ⟨S_, .f32⟩
  | .hbm, ⟨17, _⟩ => ⟨S1x8192x1, .f32⟩
  | .hbm, ⟨18, _⟩ => ⟨S1x8192x1, .f32⟩
  | .hbm, ⟨19, _⟩ => ⟨S1x8192x1, .f32⟩
  | .hbm, ⟨20, _⟩ => ⟨S1x8192x2048, .f32⟩
  | .hbm, ⟨21, _⟩ => ⟨S1x8192x2048, .f32⟩
  | .hbm, ⟨22, _⟩ => ⟨S1x1x2048, .f32⟩
  | .hbm, ⟨23, _⟩ => ⟨S1x8192x2048, .f32⟩
  | .hbm, ⟨24, _⟩ => ⟨S1x8192x2048, .f32⟩
  | .hbm, ⟨25, _⟩ => ⟨S1x2048x11264, .f32⟩
  | .hbm, ⟨26, _⟩ => ⟨S2048x11264, .f32⟩
  | .hbm, ⟨27, _⟩ => ⟨S1x8192x11264, .f32⟩
  | .hbm, ⟨28, _⟩ => ⟨S1x3x11264, .f32⟩
  | .hbm, ⟨29, _⟩ => ⟨S3x11264, .f32⟩
  | .hbm, ⟨30, _⟩ => ⟨S1x11264, .f32⟩
  | .hbm, ⟨31, _⟩ => ⟨S11264, .f32⟩
  | .hbm, ⟨32, _⟩ => ⟨S_, .i32⟩
  | .hbm, ⟨33, _⟩ => ⟨S_, .f32⟩
  | .hbm, ⟨34, _⟩ => ⟨S1x8194x11264, .f32⟩
  | .hbm, ⟨35, _⟩ => ⟨S1x11264, .f32⟩
  | .hbm, ⟨36, _⟩ => ⟨S11264, .f32⟩
  | .hbm, ⟨37, _⟩ => ⟨S1x8192x11264, .f32⟩
  | .hbm, ⟨38, _⟩ => ⟨S1x1x11264, .f32⟩
  | .hbm, ⟨39, _⟩ => ⟨S1x8192x11264, .f32⟩
  | .hbm, ⟨40, _⟩ => ⟨S1x8192x11264, .f32⟩
  | .hbm, ⟨41, _⟩ => ⟨S1x1x11264, .f32⟩
  | .hbm, ⟨42, _⟩ => ⟨S1x8192x11264, .f32⟩
  | .hbm, ⟨43, _⟩ => ⟨S1x8192x11264, .f32⟩
  | .hbm, ⟨44, _⟩ => ⟨S1x11264, .f32⟩
  | .hbm, ⟨45, _⟩ => ⟨S11264, .f32⟩
  | .hbm, ⟨46, _⟩ => ⟨S1x8192x11264, .f32⟩
  | .hbm, ⟨47, _⟩ => ⟨S1x1x11264, .f32⟩
  | .hbm, ⟨48, _⟩ => ⟨S1x8192x11264, .f32⟩
  | .hbm, ⟨49, _⟩ => ⟨S1x8192x11264, .f32⟩
  | .hbm, ⟨50, _⟩ => ⟨S1x8192x11264, .f32⟩
  | .hbm, ⟨51, _⟩ => ⟨S1x11264, .f32⟩
  | .hbm, ⟨52, _⟩ => ⟨S11264, .f32⟩
  | .hbm, ⟨53, _⟩ => ⟨S1x8192x11264, .f32⟩
  | .hbm, ⟨54, _⟩ => ⟨S1x1x11264, .f32⟩
  | .hbm, ⟨55, _⟩ => ⟨S1x8192x11264, .f32⟩
  | .hbm, ⟨56, _⟩ => ⟨S1x8192x11264, .f32⟩
  | .hbm, ⟨57, _⟩ => ⟨S1x8192x11264, .f32⟩
  | .hbm, ⟨58, _⟩ => ⟨S1x8192x5632, .f32⟩
  | .hbm, ⟨59, _⟩ => ⟨S1x8192x5632, .f32⟩
  | .hbm, ⟨60, _⟩ => ⟨S1x8192x5632, .f32⟩
  | .hbm, ⟨61, _⟩ => ⟨S1x8192x5632, .f32⟩
  | .hbm, ⟨62, _⟩ => ⟨S_, .f32⟩
  | .hbm, ⟨63, _⟩ => ⟨S1x8192x5632, .f32⟩
  | .hbm, ⟨64, _⟩ => ⟨S1x8192x5632, .f32⟩
  | .hbm, ⟨65, _⟩ => ⟨S_, .f32⟩
  | .hbm, ⟨66, _⟩ => ⟨S1x8192x5632, .f32⟩
  | .hbm, ⟨67, _⟩ => ⟨S1x8192x5632, .f32⟩
  | .hbm, ⟨68, _⟩ => ⟨S1x8192x5632, .f32⟩
  | .hbm, ⟨69, _⟩ => ⟨S1x8192x5632, .f32⟩
  | .hbm, ⟨70, _⟩ => ⟨S1x5632x2048, .f32⟩
  | .hbm, ⟨71, _⟩ => ⟨S5632x2048, .f32⟩
  | .hbm, ⟨72, _⟩ => ⟨S1x8192x2048, .f32⟩
  | .hbm, ⟨73, _⟩ => ⟨S1x8192x2048, .f32⟩
  | .hbm, ⟨74, _⟩ => ⟨S1x8192x2048, .f32⟩
  | .hbm, ⟨75, _⟩ => ⟨S_, .f32⟩
  | .hbm, ⟨76, _⟩ => ⟨S1x8192, .f32⟩
  | .hbm, ⟨77, _⟩ => ⟨S1x8192x1, .f32⟩
  | .hbm, ⟨78, _⟩ => ⟨S_, .f32⟩
  | .hbm, ⟨79, _⟩ => ⟨S1x8192x1, .f32⟩
  | .hbm, ⟨80, _⟩ => ⟨S1x8192x1, .f32⟩
  | .hbm, ⟨81, _⟩ => ⟨S_, .f32⟩
  | .hbm, ⟨82, _⟩ => ⟨S1x8192x1, .f32⟩
  | .hbm, ⟨83, _⟩ => ⟨S1x8192x1, .f32⟩
  | .hbm, ⟨84, _⟩ => ⟨S1x8192x1, .f32⟩
  | .hbm, ⟨85, _⟩ => ⟨S1x8192x2048, .f32⟩
  | .hbm, ⟨86, _⟩ => ⟨S1x8192x2048, .f32⟩
  | .hbm, ⟨87, _⟩ => ⟨S1x1x2048, .f32⟩
  | .hbm, ⟨88, _⟩ => ⟨S1x8192x2048, .f32⟩
  | .hbm, ⟨89, _⟩ => ⟨S1x8192x2048, .f32⟩
  | .hbm, ⟨90, _⟩ => ⟨S8192x2048, .f32⟩
  | _, _ => ⟨S1x8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_cst : Ref sig .tc := ⟨.hbm, 10, rfl⟩
abbrev main_v3 : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_v6 : Ref sig .tc := ⟨.hbm, 15, rfl⟩
abbrev main_cst_1 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_c : Ref sig .tc := ⟨.hbm, 32, rfl⟩
abbrev main_call0_v0 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_call1_v0 : Ref sig .tc := ⟨.hbm, 60, rfl⟩
abbrev main_call1_v1 : Ref sig .tc := ⟨.hbm, 61, rfl⟩
abbrev main_call1_cst : Ref sig .tc := ⟨.hbm, 62, rfl⟩
abbrev main_call1_v2 : Ref sig .tc := ⟨.hbm, 63, rfl⟩
abbrev main_call1_v3 : Ref sig .tc := ⟨.hbm, 64, rfl⟩
abbrev main_call1_cst_0 : Ref sig .tc := ⟨.hbm, 65, rfl⟩
abbrev main_call1_v4 : Ref sig .tc := ⟨.hbm, 66, rfl⟩
abbrev main_call1_v5 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_cst_2 : Ref sig .tc := ⟨.hbm, 75, rfl⟩
abbrev main_v55 : Ref sig .tc := ⟨.hbm, 76, rfl⟩
abbrev main_v56 : Ref sig .tc := ⟨.hbm, 77, rfl⟩
abbrev main_cst_3 : Ref sig .tc := ⟨.hbm, 78, rfl⟩
abbrev main_v57 : Ref sig .tc := ⟨.hbm, 79, rfl⟩
abbrev main_v58 : Ref sig .tc := ⟨.hbm, 80, rfl⟩
abbrev main_cst_4 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩

abbrev nD : Nat := 1
abbrev τ : Topo := Topo.v7x

variable {F : FTy → Type} [FloatOps F]
-- ==== Kernel3.lean ====
abbrev S1x8192x2048 : Shape := ⟨3, ![1, 8192, 2048]⟩
abbrev S4x2048x2048 : Shape := ⟨3, ![4, 2048, 2048]⟩
abbrev S8192x2048 : Shape := ⟨2, ![8192, 2048]⟩
abbrev S512x2048 : Shape := ⟨2, ![512, 2048]⟩
abbrev S512x512 : Shape := ⟨2, ![512, 512]⟩
abbrev S1x2048x512 : Shape := ⟨3, ![1, 2048, 512]⟩
abbrev S1x512x2048 : Shape := ⟨3, ![1, 512, 2048]⟩
abbrev S2048x512 : Shape := ⟨2, ![2048, 512]⟩

abbrev nBuf : Space → Nat
  | .hbm => 21
  | .vmem => 18
  | .smem => 0
  | _ => 0

abbrev bufTy : (tb : Table) → Fin (tcTables nBuf tb) → BufTy
  | .hbm, ⟨0, _⟩ => ⟨S1x8192x2048, .f32⟩
  | .hbm, ⟨1, _⟩ => ⟨S1x8192x2048, .f32⟩
  | .hbm, ⟨2, _⟩ => ⟨S1x8192x2048, .f32⟩
  | .hbm, ⟨3, _⟩ => ⟨S1x8192x2048, .f32⟩
  | .hbm, ⟨4, _⟩ => ⟨S4x2048x2048, .f32⟩
  | .hbm, ⟨5, _⟩ => ⟨S4x2048x2048, .f32⟩
  | .hbm, ⟨6, _⟩ => ⟨S4x2048x2048, .f32⟩
  | .hbm, ⟨7, _⟩ => ⟨S1x8192x2048, .f32⟩
  | .hbm, ⟨8, _⟩ => ⟨S8192x2048, .f32⟩
  | .hbm, ⟨9, _⟩ => ⟨S8192x2048, .bf16⟩
  | .hbm, ⟨10, _⟩ => ⟨S8192x2048, .f32⟩
  | .hbm, ⟨11, _⟩ => ⟨S8192x2048, .bf16⟩
  | .hbm, ⟨12, _⟩ => ⟨S8192x2048, .f32⟩
  | .hbm, ⟨13, _⟩ => ⟨S8192x2048, .bf16⟩
  | .hbm, ⟨14, _⟩ => ⟨S8192x2048, .f32⟩
  | .hbm, ⟨15, _⟩ => ⟨S8192x2048, .bf16⟩
  | .hbm, ⟨16, _⟩ => ⟨S4x2048x2048, .bf16⟩
  | .hbm, ⟨17, _⟩ => ⟨S4x2048x2048, .bf16⟩
  | .hbm, ⟨18, _⟩ => ⟨S4x2048x2048, .bf16⟩
  | .hbm, ⟨19, _⟩ => ⟨S8192x2048, .f32⟩
  | .hbm, ⟨20, _⟩ => ⟨S8192x2048, .f32⟩
  | .local _ .vmem, ⟨0, _⟩ => ⟨S512x2048, .bf16⟩
  | .local _ .vmem, ⟨1, _⟩ => ⟨S512x2048, .bf16⟩
  | .local _ .vmem, ⟨2, _⟩ => ⟨S512x2048, .bf16⟩
  | .local _ .vmem, ⟨3, _⟩ => ⟨S512x2048, .bf16⟩
  | .local _ .vmem, ⟨4, _⟩ => ⟨S512x512, .bf16⟩
  | .local _ .vmem, ⟨5, _⟩ => ⟨S512x512, .bf16⟩
  | .local _ .vmem, ⟨6, _⟩ => ⟨S512x512, .bf16⟩
  | .local _ .vmem, ⟨7, _⟩ => ⟨S512x512, .bf16⟩
  | .local _ .vmem, ⟨8, _⟩ => ⟨S1x2048x512, .bf16⟩
  | .local _ .vmem, ⟨9, _⟩ => ⟨S1x2048x512, .bf16⟩
  | .local _ .vmem, ⟨10, _⟩ => ⟨S1x2048x512, .bf16⟩
  | .local _ .vmem, ⟨11, _⟩ => ⟨S1x2048x512, .bf16⟩
  | .local _ .vmem, ⟨12, _⟩ => ⟨S1x512x2048, .bf16⟩
  | .local _ .vmem, ⟨13, _⟩ => ⟨S1x512x2048, .bf16⟩
  | .local _ .vmem, ⟨14, _⟩ => ⟨S512x2048, .f32⟩
  | .local _ .vmem, ⟨15, _⟩ => ⟨S512x2048, .f32⟩
  | .local _ .vmem, ⟨16, _⟩ => ⟨S512x2048, .f32⟩
  | .local _ .vmem, ⟨17, _⟩ => ⟨S512x2048, .f32⟩
  | _, _ => ⟨S1x8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![16, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 3 → Nat :=
  let arg0 : BitVec 32 := BitVec.ofNat 32 (i 0).val
  let arg1 : BitVec 32 := BitVec.ofNat 32 (i 1).val
  let c3_i32 : BitVec 32 := 3#32
  let c0_i32 : BitVec 32 := 0#32
  let c0_i32_0 : BitVec 32 := 0#32
  ![c3_i32.toNat, c0_i32.toNat, arg1.toNat]

def cc0_transform_5 (i : grid0.Coords) : Fin 3 → Nat :=
  let arg0 : BitVec 32 := BitVec.ofNat 32 (i 0).val
  let arg1 : BitVec 32 := BitVec.ofNat 32 (i 1).val
  let c3_i32 : BitVec 32 := 3#32
  let c0_i32 : BitVec 32 := 0#32
  let c0_i32_0 : BitVec 32 := 0#32
  ![c3_i32.toNat, c0_i32.toNat, arg1.toNat]

def cc0_transform_6 (i : grid0.Coords) : Fin 3 → Nat :=
  let arg0 : BitVec 32 := BitVec.ofNat 32 (i 0).val
  let arg1 : BitVec 32 := BitVec.ofNat 32 (i 1).val
  let c3_i32 : BitVec 32 := 3#32
  let c0_i32 : BitVec 32 := 0#32
  let c0_i32_0 : BitVec 32 := 0#32
  ![c3_i32.toNat, arg1.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x2048x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x2048x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1x512x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S512x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S512x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]
-- ==== Reference3Ideal.lean ====
abbrev S1x8192x2048 : Shape := ⟨3, ![1, 8192, 2048]⟩
abbrev S4x2048x2048 : Shape := ⟨3, ![4, 2048, 2048]⟩
abbrev S1x2048x2048 : Shape := ⟨3, ![1, 2048, 2048]⟩
abbrev S2048x2048 : Shape := ⟨2, ![2048, 2048]⟩
abbrev S8192x2048 : Shape := ⟨2, ![8192, 2048]⟩

abbrev nBuf : Space → Nat
  | .hbm => 22
  | .vmem => 0
  | .smem => 0
  | _ => 0

abbrev bufTy : (tb : Table) → Fin (tcTables nBuf tb) → BufTy
  | .hbm, ⟨0, _⟩ => ⟨S1x8192x2048, .f32⟩
  | .hbm, ⟨1, _⟩ => ⟨S1x8192x2048, .f32⟩
  | .hbm, ⟨2, _⟩ => ⟨S1x8192x2048, .f32⟩
  | .hbm, ⟨3, _⟩ => ⟨S1x8192x2048, .f32⟩
  | .hbm, ⟨4, _⟩ => ⟨S4x2048x2048, .f32⟩
  | .hbm, ⟨5, _⟩ => ⟨S4x2048x2048, .f32⟩
  | .hbm, ⟨6, _⟩ => ⟨S4x2048x2048, .f32⟩
  | .hbm, ⟨7, _⟩ => ⟨S1x8192x2048, .f32⟩
  | .hbm, ⟨8, _⟩ => ⟨S1x2048x2048, .f32⟩
  | .hbm, ⟨9, _⟩ => ⟨S2048x2048, .f32⟩
  | .hbm, ⟨10, _⟩ => ⟨S1x8192x2048, .f32⟩
  | .hbm, ⟨11, _⟩ => ⟨S1x8192x2048, .f32⟩
  | .hbm, ⟨12, _⟩ => ⟨S1x2048x2048, .f32⟩
  | .hbm, ⟨13, _⟩ => ⟨S2048x2048, .f32⟩
  | .hbm, ⟨14, _⟩ => ⟨S1x8192x2048, .f32⟩
  | .hbm, ⟨15, _⟩ => ⟨S1x8192x2048, .f32⟩
  | .hbm, ⟨16, _⟩ => ⟨S1x8192x2048, .f32⟩
  | .hbm, ⟨17, _⟩ => ⟨S1x2048x2048, .f32⟩
  | .hbm, ⟨18, _⟩ => ⟨S2048x2048, .f32⟩
  | .hbm, ⟨19, _⟩ => ⟨S1x8192x2048, .f32⟩
  | .hbm, ⟨20, _⟩ => ⟨S1x8192x2048, .f32⟩
  | .hbm, ⟨21, _⟩ => ⟨S8192x2048, .f32⟩
  | _, _ => ⟨S1x8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩

abbrev nD : Nat := 1
abbrev τ : Topo := Topo.v7x

variable {F : FTy → Type} [FloatOps F]
-- ==== Kernel4.lean ====
abbrev S1x8192x2048 : Shape := ⟨3, ![1, 8192, 2048]⟩
abbrev S4x2048x13376 : Shape := ⟨3, ![4, 2048, 13376]⟩
abbrev S4x2048 : Shape := ⟨2, ![4, 2048]⟩
abbrev S8192x2048 : Shape := ⟨2, ![8192, 2048]⟩
abbrev S4x13376x2048 : Shape := ⟨3, ![4, 13376, 2048]⟩
abbrev S1024x2048 : Shape := ⟨2, ![1024, 2048]⟩
abbrev S1x256x2048 : Shape := ⟨3, ![1, 256, 2048]⟩
abbrev S4x256 : Shape := ⟨2, ![4, 256]⟩
abbrev S1024x256 : Shape := ⟨2, ![1024, 256]⟩
abbrev S6x256x2048 : Shape := ⟨3, ![6, 256, 2048]⟩
abbrev S256x2048 : Shape := ⟨2, ![256, 2048]⟩
abbrev S256 : Shape := ⟨1, ![256]⟩
abbrev S1x256 : Shape := ⟨2, ![1, 256]⟩

abbrev nBuf : Space → Nat
  | .hbm => 12
  | .vmem => 29
  | .smem => 0
  | _ => 0

abbrev bufTy : (tb : Table) → Fin (tcTables nBuf tb) → BufTy
  | .hbm, ⟨0, _⟩ => ⟨S1x8192x2048, .f32⟩
  | .hbm, ⟨1, _⟩ => ⟨S4x2048x13376, .f32⟩
  | .hbm, ⟨2, _⟩ => ⟨S4x2048, .f32⟩
  | .hbm, ⟨3, _⟩ => ⟨S8192x2048, .f32⟩
  | .hbm, ⟨4, _⟩ => ⟨S8192x2048, .bf16⟩
  | .hbm, ⟨5, _⟩ => ⟨S4x13376x2048, .f32⟩
  | .hbm, ⟨6, _⟩ => ⟨S8192x2048, .bf16⟩
  | .hbm, ⟨7, _⟩ => ⟨S8192x2048, .f32⟩
  | .hbm, ⟨8, _⟩ => ⟨S8192x2048, .bf16⟩
  | .hbm, ⟨9, _⟩ => ⟨S8192x2048, .bf16⟩
  | .hbm, ⟨10, _⟩ => ⟨S8192x2048, .bf16⟩
  | .hbm, ⟨11, _⟩ => ⟨S8192x2048, .bf16⟩
  | .local _ .vmem, ⟨0, _⟩ => ⟨S1024x2048, .bf16⟩
  | .local _ .vmem, ⟨1, _⟩ => ⟨S1024x2048, .bf16⟩
  | .local _ .vmem, ⟨2, _⟩ => ⟨S1x256x2048, .f32⟩
  | .local _ .vmem, ⟨3, _⟩ => ⟨S1x256x2048, .f32⟩
  | .local _ .vmem, ⟨4, _⟩ => ⟨S1x256x2048, .f32⟩
  | .local _ .vmem, ⟨5, _⟩ => ⟨S1x256x2048, .f32⟩
  | .local _ .vmem, ⟨6, _⟩ => ⟨S1x256x2048, .f32⟩
  | .local _ .vmem, ⟨7, _⟩ => ⟨S1x256x2048, .f32⟩
  | .local _ .vmem, ⟨8, _⟩ => ⟨S1x256x2048, .f32⟩
  | .local _ .vmem, ⟨9, _⟩ => ⟨S1x256x2048, .f32⟩
  | .local _ .vmem, ⟨10, _⟩ => ⟨S1x256x2048, .f32⟩
  | .local _ .vmem, ⟨11, _⟩ => ⟨S1x256x2048, .f32⟩
  | .local _ .vmem, ⟨12, _⟩ => ⟨S1x256x2048, .f32⟩
  | .local _ .vmem, ⟨13, _⟩ => ⟨S1x256x2048, .f32⟩
  | .local _ .vmem, ⟨14, _⟩ => ⟨S4x256, .f32⟩
  | .local _ .vmem, ⟨15, _⟩ => ⟨S4x256, .f32⟩
  | .local _ .vmem, ⟨16, _⟩ => ⟨S1024x256, .bf16⟩
  | .local _ .vmem, ⟨17, _⟩ => ⟨S1024x256, .bf16⟩
  | .local _ .vmem, ⟨18, _⟩ => ⟨S1024x256, .f32⟩
  | .local _ .vmem, ⟨19, _⟩ => ⟨S1024x256, .f32⟩
  | .local _ .vmem, ⟨20, _⟩ => ⟨S1024x256, .bf16⟩
  | .local _ .vmem, ⟨21, _⟩ => ⟨S1024x256, .bf16⟩
  | .local _ .vmem, ⟨22, _⟩ => ⟨S1024x256, .bf16⟩
  | .local _ .vmem, ⟨23, _⟩ => ⟨S1024x256, .bf16⟩
  | .local _ .vmem, ⟨24, _⟩ => ⟨S1024x256, .bf16⟩
  | .local _ .vmem, ⟨25, _⟩ => ⟨S1024x256, .bf16⟩
  | .local _ .vmem, ⟨26, _⟩ => ⟨S1024x256, .bf16⟩
  | .local _ .vmem, ⟨27, _⟩ => ⟨S1024x256, .bf16⟩
  | .local _ .vmem, ⟨28, _⟩ => ⟨S6x256x2048, .bf16⟩
  | _, _ => ⟨S1x8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3_0 : Ref sig .tc := ⟨.hbm, 6, rfl⟩
abbrev main_v3_1 : Ref sig .tc := ⟨.hbm, 7, rfl⟩
abbrev main_v3_2 : Ref sig .tc := ⟨.hbm, 8, rfl⟩
abbrev main_v3_3 : Ref sig .tc := ⟨.hbm, 9, rfl⟩
abbrev main_v3_4 : Ref sig .tc := ⟨.hbm, 10, rfl⟩
abbrev main_v3_5 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_scratch0 : Ref sig .tc := ⟨.vmem, 28, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27

abbrev nD : Nat := 1
abbrev τ : Topo := Topo.v7x

variable {F : FTy → Type} [FloatOps F]

abbrev grid0 : Pipeline.Grid := ⟨2, ![8, 8], ![false, false]⟩

def k0_mult1 (i : grid0.Coords) : BitVec 32 :=
  let c1088_i32 : BitVec 32 := 1088#32
  let c0_i32 : BitVec 32 := 0#32
  let arg0 : BitVec 32 := BitVec.ofNat 32 (i 0).val
  let v0 : BitVec 32 := Scalar.addi c0_i32 arg0
  let c256_i32 : BitVec 32 := 256#32
  let v1 : BitVec 32 := Scalar.muli v0 c256_i32
  let v2 : BitVec 32 := Scalar.addi c1088_i32 v1
  v2
def k0_mult2 (i : grid0.Coords) : BitVec 32 :=
  let c1088_i32 : BitVec 32 := 1088#32
  let c8_i32 : BitVec 32 := 8#32
  let arg0 : BitVec 32 := BitVec.ofNat 32 (i 0).val
  let v0 : BitVec 32 := Scalar.addi c8_i32 arg0
  let c256_i32 : BitVec 32 := 256#32
  let v1 : BitVec 32 := Scalar.muli v0 c256_i32
  let v2 : BitVec 32 := Scalar.addi c1088_i32 v1
  v2
def k0_mult3 (i : grid0.Coords) : BitVec 32 :=
  let c1088_i32 : BitVec 32 := 1088#32
  let c16_i32 : BitVec 32 := 16#32
  let arg0 : BitVec 32 := BitVec.ofNat 32 (i 0).val
  let v0 : BitVec 32 := Scalar.addi c16_i32 arg0
  let c256_i32 : BitVec 32 := 256#32
  let v1 : BitVec 32 := Scalar.muli v0 c256_i32
  let v2 : BitVec 32 := Scalar.addi c1088_i32 v1
  v2
def k0_mult4 (i : grid0.Coords) : BitVec 32 :=
  let c1088_i32 : BitVec 32 := 1088#32
  let c24_i32 : BitVec 32 := 24#32
  let arg0 : BitVec 32 := BitVec.ofNat 32 (i 0).val
  let v0 : BitVec 32 := Scalar.addi c24_i32 arg0
  let c256_i32 : BitVec 32 := 256#32
  let v1 : BitVec 32 := Scalar.muli v0 c256_i32
  let v2 : BitVec 32 := Scalar.addi c1088_i32 v1
  v2
def k0_mult5 (i : grid0.Coords) : BitVec 32 :=
  let c1088_i32 : BitVec 32 := 1088#32
  let c32_i32 : BitVec 32 := 32#32
  let arg0 : BitVec 32 := BitVec.ofNat 32 (i 0).val
  let v0 : BitVec 32 := Scalar.addi c32_i32 arg0
  let c256_i32 : BitVec 32 := 256#32
  let v1 : BitVec 32 := Scalar.muli v0 c256_i32
  let v2 : BitVec 32 := Scalar.addi c1088_i32 v1
  v2
def k0_mult6 (i : grid0.Coords) : BitVec 32 :=
  let c1088_i32 : BitVec 32 := 1088#32
  let c40_i32 : BitVec 32 := 40#32
  let arg0 : BitVec 32 := BitVec.ofNat 32 (i 0).val
  let v0 : BitVec 32 := Scalar.addi c40_i32 arg0
  let c256_i32 : BitVec 32 := 256#32
  let v1 : BitVec 32 := Scalar.muli v0 c256_i32
  let v2 : BitVec 32 := Scalar.addi c1088_i32 v1
  v2
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c256_i32 : BitVec 32 := 256#32
  let v1 : BitVec 32 := Scalar.muli v0 c256_i32
  let c1088_i32 : BitVec 32 := 1088#32
  let v2 : BitVec 32 := Scalar.addi c1088_i32 v1
  let v3 : BitVec 32 := v2
  let c3_i32 : BitVec 32 := 3#32
  let c0_i32_0 : BitVec 32 := 0#32
  let c0_i32_1 : BitVec 32 := 0#32
  ![c3_i32.toNat, v3.toNat, c0_i32_0.toNat]

def cc0_transform_2 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg0
  let c256_i32 : BitVec 32 := 256#32
  let v1 : BitVec 32 := Scalar.muli v0 c256_i32
  let c1088_i32 : BitVec 32 := 1088#32
  let v2 : BitVec 32 := Scalar.addi c1088_i32 v1
  let v3 : BitVec 32 := v2
  let c3_i32 : BitVec 32 := 3#32
  let c0_i32 : BitVec 32 := 0#32
  let c0_i32_0 : BitVec 32 := 0#32
  ![c3_i32.toNat, v3.toNat, c0_i32.toNat]

def cc0_transform_3 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg0
  let c256_i32 : BitVec 32 := 256#32
  let v1 : BitVec 32 := Scalar.muli v0 c256_i32
  let c1088_i32 : BitVec 32 := 1088#32
  let v2 : BitVec 32 := Scalar.addi c1088_i32 v1
  let v3 : BitVec 32 := v2
  let c3_i32 : BitVec 32 := 3#32
  let c0_i32 : BitVec 32 := 0#32
  let c0_i32_0 : BitVec 32 := 0#32
  ![c3_i32.toNat, v3.toNat, c0_i32.toNat]

def cc0_transform_4 (i : grid0.Coords) : Fin 3 → Nat :=
  let arg0 : BitVec 32 := BitVec.ofNat 32 (i 0).val
  let arg1 : BitVec 32 := BitVec.ofNat 32 (i 1).val
  let c24_i32 : BitVec 32 := 24#32
  let v0 : BitVec 32 := Scalar.addi c24_i32 arg0
  let c256_i32 : BitVec 32 := 256#32
  let v1 : BitVec 32 := Scalar.muli v0 c256_i32
  let c1088_i32 : BitVec 32 := 1088#32
  let v2 : BitVec 32 := Scalar.addi c1088_i32 v1
  let v3 : BitVec 32 := v2
  let c3_i32 : BitVec 32 := 3#32
  let c0_i32 : BitVec 32 := 0#32
  let c0_i32_0 : BitVec 32 := 0#32
  ![c3_i32.toNat, v3.toNat, c0_i32.toNat]

def cc0_transform_5 (i : grid0.Coords) : Fin 3 → Nat :=
  let arg0 : BitVec 32 := BitVec.ofNat 32 (i 0).val
  let arg1 : BitVec 32 := BitVec.ofNat 32 (i 1).val
  let c32_i32 : BitVec 32 := 32#32
  let v0 : BitVec 32 := Scalar.addi c32_i32 arg0
  let c256_i32 : BitVec 32 := 256#32
  let v1 : BitVec 32 := Scalar.muli v0 c256_i32
  let c1088_i32 : BitVec 32 := 1088#32
  let v2 : BitVec 32 := Scalar.addi c1088_i32 v1
  let v3 : BitVec 32 := v2
  let c3_i32 : BitVec 32 := 3#32
  let c0_i32 : BitVec 32 := 0#32
  let c0_i32_0 : BitVec 32 := 0#32
  ![c3_i32.toNat, v3.toNat, c0_i32.toNat]

def cc0_transform_6 (i : grid0.Coords) : Fin 3 → Nat :=
  let arg0 : BitVec 32 := BitVec.ofNat 32 (i 0).val
  let arg1 : BitVec 32 := BitVec.ofNat 32 (i 1).val
  let c40_i32 : BitVec 32 := 40#32
  let v0 : BitVec 32 := Scalar.addi c40_i32 arg0
  let c256_i32 : BitVec 32 := 256#32
  let v1 : BitVec 32 := Scalar.muli v0 c256_i32
  let c1088_i32 : BitVec 32 := 1088#32
  let v2 : BitVec 32 := Scalar.addi c1088_i32 v1
  let v3 : BitVec 32 := v2
  let c3_i32 : BitVec 32 := 3#32
  let c0_i32 : BitVec 32 := 0#32
  let c0_i32_0 : BitVec 32 := 0#32
  ![c3_i32.toNat, v3.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x256x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S4x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1024x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1024x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1024x256 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1024x256 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1024x256 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1024x256 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]
-- ==== Reference4Ideal.lean ====
abbrev S1x8192x2048 : Shape := ⟨3, ![1, 8192, 2048]⟩
abbrev S4x2048x13376 : Shape := ⟨3, ![4, 2048, 13376]⟩
abbrev S4x2048 : Shape := ⟨2, ![4, 2048]⟩
abbrev S_ : Shape := ⟨0, ![]⟩
abbrev S2048 : Shape := ⟨1, ![2048]⟩
abbrev S1x2048 : Shape := ⟨2, ![1, 2048]⟩
abbrev S1x2048x13376 : Shape := ⟨3, ![1, 2048, 13376]⟩
abbrev S2048x13376 : Shape := ⟨2, ![2048, 13376]⟩
abbrev S1x8192x13376 : Shape := ⟨3, ![1, 8192, 13376]⟩
abbrev S1x8192x12288 : Shape := ⟨3, ![1, 8192, 12288]⟩
abbrev S1x1x2048 : Shape := ⟨3, ![1, 1, 2048]⟩
abbrev S8192x2048 : Shape := ⟨2, ![8192, 2048]⟩

abbrev nBuf : Space → Nat
  | .hbm => 99
  | .vmem => 0
  | .smem => 0
  | _ => 0

abbrev bufTy : (tb : Table) → Fin (tcTables nBuf tb) → BufTy
  | .hbm, ⟨0, _⟩ => ⟨S1x8192x2048, .f32⟩
  | .hbm, ⟨1, _⟩ => ⟨S4x2048x13376, .f32⟩
  | .hbm, ⟨2, _⟩ => ⟨S4x2048, .f32⟩
  | .hbm, ⟨3, _⟩ => ⟨S_, .f32⟩
  | .hbm, ⟨4, _⟩ => ⟨S2048, .f32⟩
  | .hbm, ⟨5, _⟩ => ⟨S_, .f32⟩
  | .hbm, ⟨6, _⟩ => ⟨S2048, .f32⟩
  | .hbm, ⟨7, _⟩ => ⟨S2048, .f32⟩
  | .hbm, ⟨8, _⟩ => ⟨S1x2048, .f32⟩
  | .hbm, ⟨9, _⟩ => ⟨S4x2048, .f32⟩
  | .hbm, ⟨10, _⟩ => ⟨S4x2048, .f32⟩
  | .hbm, ⟨11, _⟩ => ⟨S4x2048, .f32⟩
  | .hbm, ⟨12, _⟩ => ⟨S_, .f32⟩
  | .hbm, ⟨13, _⟩ => ⟨S2048, .f32⟩
  | .hbm, ⟨14, _⟩ => ⟨S1x2048, .f32⟩
  | .hbm, ⟨15, _⟩ => ⟨S4x2048, .f32⟩
  | .hbm, ⟨16, _⟩ => ⟨S4x2048, .f32⟩
  | .hbm, ⟨17, _⟩ => ⟨S_, .f32⟩
  | .hbm, ⟨18, _⟩ => ⟨S_, .f32⟩
  | .hbm, ⟨19, _⟩ => ⟨S4x2048, .f32⟩
  | .hbm, ⟨20, _⟩ => ⟨S1x2048, .f32⟩
  | .hbm, ⟨21, _⟩ => ⟨S2048, .f32⟩
  | .hbm, ⟨22, _⟩ => ⟨S1x2048, .f32⟩
  | .hbm, ⟨23, _⟩ => ⟨S4x2048, .f32⟩
  | .hbm, ⟨24, _⟩ => ⟨S4x2048, .f32⟩
  | .hbm, ⟨25, _⟩ => ⟨S1x2048, .f32⟩
  | .hbm, ⟨26, _⟩ => ⟨S2048, .f32⟩
  | .hbm, ⟨27, _⟩ => ⟨S1x2048x13376, .f32⟩
  | .hbm, ⟨28, _⟩ => ⟨S2048x13376, .f32⟩
  | .hbm, ⟨29, _⟩ => ⟨S1x8192x13376, .f32⟩
  | .hbm, ⟨30, _⟩ => ⟨S1x8192x12288, .f32⟩
  | .hbm, ⟨31, _⟩ => ⟨S1x8192x2048, .f32⟩
  | .hbm, ⟨32, _⟩ => ⟨S1x8192x2048, .f32⟩
  | .hbm, ⟨33, _⟩ => ⟨S1x8192x2048, .f32⟩
  | .hbm, ⟨34, _⟩ => ⟨S1x8192x2048, .f32⟩
  | .hbm, ⟨35, _⟩ => ⟨S1x8192x2048, .f32⟩
  | .hbm, ⟨36, _⟩ => ⟨S1x8192x2048, .f32⟩
  | .hbm, ⟨37, _⟩ => ⟨S_, .f32⟩
  | .hbm, ⟨38, _⟩ => ⟨S2048, .f32⟩
  | .hbm, ⟨39, _⟩ => ⟨S2048, .f32⟩
  | .hbm, ⟨40, _⟩ => ⟨S1x8192x2048, .f32⟩
  | .hbm, ⟨41, _⟩ => ⟨S1x8192x2048, .f32⟩
  | .hbm, ⟨42, _⟩ => ⟨S_, .f32⟩
  | .hbm, ⟨43, _⟩ => ⟨S1x8192x2048, .f32⟩
  | .hbm, ⟨44, _⟩ => ⟨S1x8192x2048, .f32⟩
  | .hbm, ⟨45, _⟩ => ⟨S_, .f32⟩
  | .hbm, ⟨46, _⟩ => ⟨S1x8192x2048, .f32⟩
  | .hbm, ⟨47, _⟩ => ⟨S1x8192x2048, .f32⟩
  | .hbm, ⟨48, _⟩ => ⟨S1x1x2048, .f32⟩
  | .hbm, ⟨49, _⟩ => ⟨S1x8192x2048, .f32⟩
  | .hbm, ⟨50, _⟩ => ⟨S1x8192x2048, .f32⟩
  | .hbm, ⟨51, _⟩ => ⟨S1x1x2048, .f32⟩
  | .hbm, ⟨52, _⟩ => ⟨S1x8192x2048, .f32⟩
  | .hbm, ⟨53, _⟩ => ⟨S1x8192x2048, .f32⟩
  | .hbm, ⟨54, _⟩ => ⟨S1x8192x2048, .f32⟩
  | .hbm, ⟨55, _⟩ => ⟨S1x8192x2048, .f32⟩
  | .hbm, ⟨56, _⟩ => ⟨S_, .f32⟩
  | .hbm, ⟨57, _⟩ => ⟨S1x8192x2048, .f32⟩
  | .hbm, ⟨58, _⟩ => ⟨S1x8192x2048, .f32⟩
  | .hbm, ⟨59, _⟩ => ⟨S_, .f32⟩
  | .hbm, ⟨60, _⟩ => ⟨S1x8192x2048, .f32⟩
  | .hbm, ⟨61, _⟩ => ⟨S1x8192x2048, .f32⟩
  | .hbm, ⟨62, _⟩ => ⟨S1x8192x2048, .f32⟩
  | .hbm, ⟨63, _⟩ => ⟨S8192x2048, .f32⟩
  | .hbm, ⟨64, _⟩ => ⟨S8192x2048, .bf16⟩
  | .hbm, ⟨65, _⟩ => ⟨S8192x2048, .f32⟩
  | .hbm, ⟨66, _⟩ => ⟨S8192x2048, .f32⟩
  | .hbm, ⟨67, _⟩ => ⟨S8192x2048, .bf16⟩
  | .hbm, ⟨68, _⟩ => ⟨S1x8192x2048, .f32⟩
  | .hbm, ⟨69, _⟩ => ⟨S1x8192x2048, .f32⟩
  | .hbm, ⟨70, _⟩ => ⟨S_, .f32⟩
  | .hbm, ⟨71, _⟩ => ⟨S1x8192x2048, .f32⟩
  | .hbm, ⟨72, _⟩ => ⟨S1x8192x2048, .f32⟩
  | .hbm, ⟨73, _⟩ => ⟨S_, .f32⟩
  | .hbm, ⟨74, _⟩ => ⟨S1x8192x2048, .f32⟩
  | .hbm, ⟨75, _⟩ => ⟨S1x8192x2048, .f32⟩
  | .hbm, ⟨76, _⟩ => ⟨S1x8192x2048, .f32⟩
  | .hbm, ⟨77, _⟩ => ⟨S8192x2048, .f32⟩
  | .hbm, ⟨78, _⟩ => ⟨S8192x2048, .bf16⟩
  | .hbm, ⟨79, _⟩ => ⟨S1x8192x2048, .f32⟩
  | .hbm, ⟨80, _⟩ => ⟨S1x8192x2048, .f32⟩
  | .hbm, ⟨81, _⟩ => ⟨S_, .f32⟩
  | .hbm, ⟨82, _⟩ => ⟨S1x8192x2048, .f32⟩
  | .hbm, ⟨83, _⟩ => ⟨S1x8192x2048, .f32⟩
  | .hbm, ⟨84, _⟩ => ⟨S_, .f32⟩
  | .hbm, ⟨85, _⟩ => ⟨S1x8192x2048, .f32⟩
  | .hbm, ⟨86, _⟩ => ⟨S1x8192x2048, .f32⟩
  | .hbm, ⟨87, _⟩ => ⟨S8192x2048, .f32⟩
  | .hbm, ⟨88, _⟩ => ⟨S8192x2048, .bf16⟩
  | .hbm, ⟨89, _⟩ => ⟨S1x8192x2048, .f32⟩
  | .hbm, ⟨90, _⟩ => ⟨S1x8192x2048, .f32⟩
  | .hbm, ⟨91, _⟩ => ⟨S_, .f32⟩
  | .hbm, ⟨92, _⟩ => ⟨S1x8192x2048, .f32⟩
  | .hbm, ⟨93, _⟩ => ⟨S1x8192x2048, .f32⟩
  | .hbm, ⟨94, _⟩ => ⟨S_, .f32⟩
  | .hbm, ⟨95, _⟩ => ⟨S1x8192x2048, .f32⟩
  | .hbm, ⟨96, _⟩ => ⟨S1x8192x2048, .f32⟩
  | .hbm, ⟨97, _⟩ => ⟨S8192x2048, .f32⟩
  | .hbm, ⟨98, _⟩ => ⟨S8192x2048, .bf16⟩
  | _, _ => ⟨S1x8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_call0_call0_cst : Ref sig .tc := ⟨.hbm, 17, rfl⟩
abbrev main_call0_call0_v0 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_cst_2 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_cst_3 : Ref sig .tc := ⟨.hbm, 42, rfl⟩
abbrev main_v33 : Ref sig .tc := ⟨.hbm, 43, rfl⟩
abbrev main_v34 : Ref sig .tc := ⟨.hbm, 44, rfl⟩
abbrev main_cst_4 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_call1_v0 : Ref sig .tc := ⟨.hbm, 54, rfl⟩
abbrev main_call1_v1 : Ref sig .tc := ⟨.hbm, 55, rfl⟩
abbrev main_call1_cst : Ref sig .tc := ⟨.hbm, 56, rfl⟩
abbrev main_call1_v2 : Ref sig .tc := ⟨.hbm, 57, rfl⟩
abbrev main_call1_v3 : Ref sig .tc := ⟨.hbm, 58, rfl⟩
abbrev main_call1_cst_0 : Ref sig .tc := ⟨.hbm, 59, rfl⟩
abbrev main_call1_v4 : Ref sig .tc := ⟨.hbm, 60, rfl⟩
abbrev main_call1_v5 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_call2_v0 : Ref sig .tc := ⟨.hbm, 68, rfl⟩
abbrev main_call2_v1 : Ref sig .tc := ⟨.hbm, 69, rfl⟩
abbrev main_call2_cst : Ref sig .tc := ⟨.hbm, 70, rfl⟩
abbrev main_call2_v2 : Ref sig .tc := ⟨.hbm, 71, rfl⟩
abbrev main_call2_v3 : Ref sig .tc := ⟨.hbm, 72, rfl⟩
abbrev main_call2_cst_0 : Ref sig .tc := ⟨.hbm, 73, rfl⟩
abbrev main_call2_v4 : Ref sig .tc := ⟨.hbm, 74, rfl⟩
abbrev main_call2_v5 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_cst_5 : Ref sig .tc := ⟨.hbm, 81, rfl⟩
abbrev main_v54 : Ref sig .tc := ⟨.hbm, 82, rfl⟩
abbrev main_v55 : Ref sig .tc := ⟨.hbm, 83, rfl⟩
abbrev main_cst_6 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_cst_7 : Ref sig .tc := ⟨.hbm, 91, rfl⟩
abbrev main_v62 : Ref sig .tc := ⟨.hbm, 92, rfl⟩
abbrev main_v63 : Ref sig .tc := ⟨.hbm, 93, rfl⟩
abbrev main_cst_8 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩

abbrev nD : Nat := 1
abbrev τ : Topo := Topo.v7x

variable {F : FTy → Type} [FloatOps F]
-- ==== Kernel5.lean ====
abbrev S1x8192x2048 : Shape := ⟨3, ![1, 8192, 2048]⟩
abbrev S4x2048 : Shape := ⟨2, ![4, 2048]⟩
abbrev S4x2048x13376 : Shape := ⟨3, ![4, 2048, 13376]⟩
abbrev S4x512 : Shape := ⟨2, ![4, 512]⟩
abbrev S1x8192x1x32 : Shape := ⟨4, ![1, 8192, 1, 32]⟩
abbrev S8192x32 : Shape := ⟨2, ![8192, 32]⟩
abbrev S_ : Shape := ⟨0, ![]⟩
abbrev S8192x64 : Shape := ⟨2, ![8192, 64]⟩
abbrev S8192x2048 : Shape := ⟨2, ![8192, 2048]⟩
abbrev S4x1x2048 : Shape := ⟨3, ![4, 1, 2048]⟩
abbrev S4x13376x2048 : Shape := ⟨3, ![4, 13376, 2048]⟩
abbrev S4x1x512 : Shape := ⟨3, ![4, 1, 512]⟩
abbrev S8192x128 : Shape := ⟨2, ![8192, 128]⟩
abbrev S8192x512 : Shape := ⟨2, ![8192, 512]⟩
abbrev S512x2048 : Shape := ⟨2, ![512, 2048]⟩
abbrev S1x1x2048 : Shape := ⟨3, ![1, 1, 2048]⟩
abbrev S1x1024x2048 : Shape := ⟨3, ![1, 1024, 2048]⟩
abbrev S1x64x2048 : Shape := ⟨3, ![1, 64, 2048]⟩
abbrev S1x1x512 : Shape := ⟨3, ![1, 1, 512]⟩
abbrev S512x128 : Shape := ⟨2, ![512, 128]⟩
abbrev S512x512 : Shape := ⟨2, ![512, 512]⟩
abbrev S1280x2048 : Shape := ⟨2, ![1280, 2048]⟩
abbrev S1024x2048 : Shape := ⟨2, ![1024, 2048]⟩
abbrev S64x2048 : Shape := ⟨2, ![64, 2048]⟩
abbrev S32x2048 : Shape := ⟨2, ![32, 2048]⟩
abbrev S256x2048 : Shape := ⟨2, ![256, 2048]⟩
abbrev S1x2048 : Shape := ⟨2, ![1, 2048]⟩
abbrev S512 : Shape := ⟨1, ![512]⟩
abbrev S512x1 : Shape := ⟨2, ![512, 1]⟩
abbrev S512x1280 : Shape := ⟨2, ![512, 1280]⟩
abbrev S1x512 : Shape := ⟨2, ![1, 512]⟩

abbrev nBuf : Space → Nat
  | .hbm => 23
  | .vmem => 20
  | .smem => 0
  | _ => 0

abbrev bufTy : (tb : Table) → Fin (tcTables nBuf tb) → BufTy
  | .hbm, ⟨0, _⟩ => ⟨S1x8192x2048, .f32⟩
  | .hbm, ⟨1, _⟩ => ⟨S4x2048, .f32⟩
  | .hbm, ⟨2, _⟩ => ⟨S4x2048x13376, .f32⟩
  | .hbm, ⟨3, _⟩ => ⟨S4x512, .f32⟩
  | .hbm, ⟨4, _⟩ => ⟨S4x512, .f32⟩
  | .hbm, ⟨5, _⟩ => ⟨S1x8192x1x32, .f32⟩
  | .hbm, ⟨6, _⟩ => ⟨S1x8192x1x32, .f32⟩
  | .hbm, ⟨7, _⟩ => ⟨S8192x32, .f32⟩
  | .hbm, ⟨8, _⟩ => ⟨S8192x32, .f32⟩
  | .hbm, ⟨9, _⟩ => ⟨S_, .f32⟩
  | .hbm, ⟨10, _⟩ => ⟨S8192x64, .f32⟩
  | .hbm, ⟨11, _⟩ => ⟨S8192x2048, .f32⟩
  | .hbm, ⟨12, _⟩ => ⟨S4x1x2048, .f32⟩
  | .hbm, ⟨13, _⟩ => ⟨S4x13376x2048, .f32⟩
  | .hbm, ⟨14, _⟩ => ⟨S4x1x512, .f32⟩
  | .hbm, ⟨15, _⟩ => ⟨S4x1x512, .f32⟩
  | .hbm, ⟨16, _⟩ => ⟨S8192x128, .f32⟩
  | .hbm, ⟨17, _⟩ => ⟨S8192x32, .f32⟩
  | .hbm, ⟨18, _⟩ => ⟨S8192x128, .f32⟩
  | .hbm, ⟨19, _⟩ => ⟨S8192x512, .bf16⟩
  | .hbm, ⟨20, _⟩ => ⟨S8192x512, .bf16⟩
  | .hbm, ⟨21, _⟩ => ⟨S8192x128, .bf16⟩
  | .hbm, ⟨22, _⟩ => ⟨S8192x2048, .bf16⟩
  | .local _ .vmem, ⟨0, _⟩ => ⟨S512x2048, .f32⟩
  | .local _ .vmem, ⟨1, _⟩ => ⟨S512x2048, .f32⟩
  | .local _ .vmem, ⟨2, _⟩ => ⟨S1x1x2048, .f32⟩
  | .local _ .vmem, ⟨3, _⟩ => ⟨S1x1024x2048, .f32⟩
  | .local _ .vmem, ⟨4, _⟩ => ⟨S1x64x2048, .f32⟩
  | .local _ .vmem, ⟨5, _⟩ => ⟨S1x1x512, .f32⟩
  | .local _ .vmem, ⟨6, _⟩ => ⟨S1x1x512, .f32⟩
  | .local _ .vmem, ⟨7, _⟩ => ⟨S512x128, .f32⟩
  | .local _ .vmem, ⟨8, _⟩ => ⟨S512x128, .f32⟩
  | .local _ .vmem, ⟨9, _⟩ => ⟨S512x128, .f32⟩
  | .local _ .vmem, ⟨10, _⟩ => ⟨S512x128, .f32⟩
  | .local _ .vmem, ⟨11, _⟩ => ⟨S512x512, .bf16⟩
  | .local _ .vmem, ⟨12, _⟩ => ⟨S512x512, .bf16⟩
  | .local _ .vmem, ⟨13, _⟩ => ⟨S512x512, .bf16⟩
  | .local _ .vmem, ⟨14, _⟩ => ⟨S512x512, .bf16⟩
  | .local _ .vmem, ⟨15, _⟩ => ⟨S512x128, .bf16⟩
  | .local _ .vmem, ⟨16, _⟩ => ⟨S512x128, .bf16⟩
  | .local _ .vmem, ⟨17, _⟩ => ⟨S512x2048, .bf16⟩
  | .local _ .vmem, ⟨18, _⟩ => ⟨S512x2048, .bf16⟩
  | .local _ .vmem, ⟨19, _⟩ => ⟨S1280x2048, .bf16⟩
  | _, _ => ⟨S1x8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11_0 : Ref sig .tc := ⟨.hbm, 19, rfl⟩
abbrev main_v11_1 : Ref sig .tc := ⟨.hbm, 20, rfl⟩
abbrev main_v11_2 : Ref sig .tc := ⟨.hbm, 21, rfl⟩
abbrev main_v11_3 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_scratch0 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem11_1 : DmaSem sig := 18

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_2 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_3 (i : grid0.Coords) : Fin 3 → Nat :=
  let arg0 : BitVec 32 := BitVec.ofNat 32 (i 0).val
  let c3_i32 : BitVec 32 := 3#32
  let c1024_i32 : BitVec 32 := 1024#32
  let c0_i32 : BitVec 32 := 0#32
  let c0_i32_0 : BitVec 32 := 0#32
  ![c3_i32.toNat, c1024_i32.toNat, c0_i32.toNat]

def cc0_transform_4 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_5 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x64x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x128 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x2048 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== Reference5Ideal.lean ====
abbrev S1x8192x2048 : Shape := ⟨3, ![1, 8192, 2048]⟩
abbrev S4x2048 : Shape := ⟨2, ![4, 2048]⟩
abbrev S4x2048x13376 : Shape := ⟨3, ![4, 2048, 13376]⟩
abbrev S4x512 : Shape := ⟨2, ![4, 512]⟩
abbrev S1x8192x1x32 : Shape := ⟨4, ![1, 8192, 1, 32]⟩
abbrev S1x2048 : Shape := ⟨2, ![1, 2048]⟩
abbrev S2048 : Shape := ⟨1, ![2048]⟩
abbrev S_ : Shape := ⟨0, ![]⟩
abbrev S1x8192 : Shape := ⟨2, ![1, 8192]⟩
abbrev S1x8192x1 : Shape := ⟨3, ![1, 8192, 1]⟩
abbrev S1x1x2048 : Shape := ⟨3, ![1, 1, 2048]⟩
abbrev S1x2048x13376 : Shape := ⟨3, ![1, 2048, 13376]⟩
abbrev S2048x13376 : Shape := ⟨2, ![2048, 13376]⟩
abbrev S1x8192x13376 : Shape := ⟨3, ![1, 8192, 13376]⟩
abbrev S1x8192x512 : Shape := ⟨3, ![1, 8192, 512]⟩
abbrev S1x8192x64 : Shape := ⟨3, ![1, 8192, 64]⟩
abbrev S1x8192x1x64 : Shape := ⟨4, ![1, 8192, 1, 64]⟩
abbrev S1x8192x1x128 : Shape := ⟨4, ![1, 8192, 1, 128]⟩
abbrev S1x512 : Shape := ⟨2, ![1, 512]⟩
abbrev S512 : Shape := ⟨1, ![512]⟩
abbrev S1x1x512 : Shape := ⟨3, ![1, 1, 512]⟩
abbrev S8192x512 : Shape := ⟨2, ![8192, 512]⟩
abbrev S8192x128 : Shape := ⟨2, ![8192, 128]⟩
abbrev S8192x2048 : Shape := ⟨2, ![8192, 2048]⟩

abbrev nBuf : Space → Nat
  | .hbm => 88
  | .vmem => 0
  | .smem => 0
  | _ => 0

abbrev bufTy : (tb : Table) → Fin (tcTables nBuf tb) → BufTy
  | .hbm, ⟨0, _⟩ => ⟨S1x8192x2048, .f32⟩
  | .hbm, ⟨1, _⟩ => ⟨S4x2048, .f32⟩
  | .hbm, ⟨2, _⟩ => ⟨S4x2048x13376, .f32⟩
  | .hbm, ⟨3, _⟩ => ⟨S4x512, .f32⟩
  | .hbm, ⟨4, _⟩ => ⟨S4x512, .f32⟩
  | .hbm, ⟨5, _⟩ => ⟨S1x8192x1x32, .f32⟩
  | .hbm, ⟨6, _⟩ => ⟨S1x8192x1x32, .f32⟩
  | .hbm, ⟨7, _⟩ => ⟨S1x2048, .f32⟩
  | .hbm, ⟨8, _⟩ => ⟨S2048, .f32⟩
  | .hbm, ⟨9, _⟩ => ⟨S1x8192x2048, .f32⟩
  | .hbm, ⟨10, _⟩ => ⟨S_, .f32⟩
  | .hbm, ⟨11, _⟩ => ⟨S1x8192, .f32⟩
  | .hbm, ⟨12, _⟩ => ⟨S1x8192x1, .f32⟩
  | .hbm, ⟨13, _⟩ => ⟨S_, .f32⟩
  | .hbm, ⟨14, _⟩ => ⟨S1x8192x1, .f32⟩
  | .hbm, ⟨15, _⟩ => ⟨S1x8192x1, .f32⟩
  | .hbm, ⟨16, _⟩ => ⟨S_, .f32⟩
  | .hbm, ⟨17, _⟩ => ⟨S1x8192x1, .f32⟩
  | .hbm, ⟨18, _⟩ => ⟨S1x8192x1, .f32⟩
  | .hbm, ⟨19, _⟩ => ⟨S1x8192x1, .f32⟩
  | .hbm, ⟨20, _⟩ => ⟨S1x8192x2048, .f32⟩
  | .hbm, ⟨21, _⟩ => ⟨S1x8192x2048, .f32⟩
  | .hbm, ⟨22, _⟩ => ⟨S1x1x2048, .f32⟩
  | .hbm, ⟨23, _⟩ => ⟨S1x8192x2048, .f32⟩
  | .hbm, ⟨24, _⟩ => ⟨S1x8192x2048, .f32⟩
  | .hbm, ⟨25, _⟩ => ⟨S1x2048x13376, .f32⟩
  | .hbm, ⟨26, _⟩ => ⟨S2048x13376, .f32⟩
  | .hbm, ⟨27, _⟩ => ⟨S1x8192x13376, .f32⟩
  | .hbm, ⟨28, _⟩ => ⟨S1x8192x512, .f32⟩
  | .hbm, ⟨29, _⟩ => ⟨S1x8192x512, .f32⟩
  | .hbm, ⟨30, _⟩ => ⟨S1x8192x64, .f32⟩
  | .hbm, ⟨31, _⟩ => ⟨S1x8192x1x64, .f32⟩
  | .hbm, ⟨32, _⟩ => ⟨S1x8192x1x32, .f32⟩
  | .hbm, ⟨33, _⟩ => ⟨S1x8192x1x32, .f32⟩
  | .hbm, ⟨34, _⟩ => ⟨S1x8192x1x32, .f32⟩
  | .hbm, ⟨35, _⟩ => ⟨S1x8192x1x32, .f32⟩
  | .hbm, ⟨36, _⟩ => ⟨S1x8192x1x32, .f32⟩
  | .hbm, ⟨37, _⟩ => ⟨S1x8192x1x32, .f32⟩
  | .hbm, ⟨38, _⟩ => ⟨S1x8192x1x32, .f32⟩
  | .hbm, ⟨39, _⟩ => ⟨S1x8192x1x32, .f32⟩
  | .hbm, ⟨40, _⟩ => ⟨S1x8192x1x64, .f32⟩
  | .hbm, ⟨41, _⟩ => ⟨S_, .i32⟩
  | .hbm, ⟨42, _⟩ => ⟨S_, .f32⟩
  | .hbm, ⟨43, _⟩ => ⟨S1x8192x1x128, .f32⟩
  | .hbm, ⟨44, _⟩ => ⟨S1x512, .f32⟩
  | .hbm, ⟨45, _⟩ => ⟨S512, .f32⟩
  | .hbm, ⟨46, _⟩ => ⟨S1x8192x512, .f32⟩
  | .hbm, ⟨47, _⟩ => ⟨S_, .f32⟩
  | .hbm, ⟨48, _⟩ => ⟨S1x8192, .f32⟩
  | .hbm, ⟨49, _⟩ => ⟨S1x8192x1, .f32⟩
  | .hbm, ⟨50, _⟩ => ⟨S_, .f32⟩
  | .hbm, ⟨51, _⟩ => ⟨S1x8192x1, .f32⟩
  | .hbm, ⟨52, _⟩ => ⟨S1x8192x1, .f32⟩
  | .hbm, ⟨53, _⟩ => ⟨S_, .f32⟩
  | .hbm, ⟨54, _⟩ => ⟨S1x8192x1, .f32⟩
  | .hbm, ⟨55, _⟩ => ⟨S1x8192x1, .f32⟩
  | .hbm, ⟨56, _⟩ => ⟨S1x8192x1, .f32⟩
  | .hbm, ⟨57, _⟩ => ⟨S1x8192x512, .f32⟩
  | .hbm, ⟨58, _⟩ => ⟨S1x8192x512, .f32⟩
  | .hbm, ⟨59, _⟩ => ⟨S1x1x512, .f32⟩
  | .hbm, ⟨60, _⟩ => ⟨S1x8192x512, .f32⟩
  | .hbm, ⟨61, _⟩ => ⟨S1x8192x512, .f32⟩
  | .hbm, ⟨62, _⟩ => ⟨S8192x512, .f32⟩
  | .hbm, ⟨63, _⟩ => ⟨S8192x512, .bf16⟩
  | .hbm, ⟨64, _⟩ => ⟨S1x512, .f32⟩
  | .hbm, ⟨65, _⟩ => ⟨S512, .f32⟩
  | .hbm, ⟨66, _⟩ => ⟨S1x8192x512, .f32⟩
  | .hbm, ⟨67, _⟩ => ⟨S_, .f32⟩
  | .hbm, ⟨68, _⟩ => ⟨S1x8192, .f32⟩
  | .hbm, ⟨69, _⟩ => ⟨S1x8192x1, .f32⟩
  | .hbm, ⟨70, _⟩ => ⟨S_, .f32⟩
  | .hbm, ⟨71, _⟩ => ⟨S1x8192x1, .f32⟩
  | .hbm, ⟨72, _⟩ => ⟨S1x8192x1, .f32⟩
  | .hbm, ⟨73, _⟩ => ⟨S_, .f32⟩
  | .hbm, ⟨74, _⟩ => ⟨S1x8192x1, .f32⟩
  | .hbm, ⟨75, _⟩ => ⟨S1x8192x1, .f32⟩
  | .hbm, ⟨76, _⟩ => ⟨S1x8192x1, .f32⟩
  | .hbm, ⟨77, _⟩ => ⟨S1x8192x512, .f32⟩
  | .hbm, ⟨78, _⟩ => ⟨S1x8192x512, .f32⟩
  | .hbm, ⟨79, _⟩ => ⟨S1x1x512, .f32⟩
  | .hbm, ⟨80, _⟩ => ⟨S1x8192x512, .f32⟩
  | .hbm, ⟨81, _⟩ => ⟨S1x8192x512, .f32⟩
  | .hbm, ⟨82, _⟩ => ⟨S8192x512, .f32⟩
  | .hbm, ⟨83, _⟩ => ⟨S8192x512, .bf16⟩
  | .hbm, ⟨84, _⟩ => ⟨S8192x128, .f32⟩
  | .hbm, ⟨85, _⟩ => ⟨S8192x128, .bf16⟩
  | .hbm, ⟨86, _⟩ => ⟨S8192x2048, .f32⟩
  | .hbm, ⟨87, _⟩ => ⟨S8192x2048, .bf16⟩
  | _, _ => ⟨S1x8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_cst : Ref sig .tc := ⟨.hbm, 10, rfl⟩
abbrev main_v3 : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_v6 : Ref sig .tc := ⟨.hbm, 15, rfl⟩
abbrev main_cst_1 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_c : Ref sig .tc := ⟨.hbm, 41, rfl⟩
abbrev main_call0_v0 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_cst_2 : Ref sig .tc := ⟨.hbm, 47, rfl⟩
abbrev main_v35 : Ref sig .tc := ⟨.hbm, 48, rfl⟩
abbrev main_v36 : Ref sig .tc := ⟨.hbm, 49, rfl⟩
abbrev main_cst_3 : Ref sig .tc := ⟨.hbm, 50, rfl⟩
abbrev main_v37 : Ref sig .tc := ⟨.hbm, 51, rfl⟩
abbrev main_v38 : Ref sig .tc := ⟨.hbm, 52, rfl⟩
abbrev main_cst_4 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_cst_5 : Ref sig .tc := ⟨.hbm, 67, rfl⟩
abbrev main_v52 : Ref sig .tc := ⟨.hbm, 68, rfl⟩
abbrev main_v53 : Ref sig .tc := ⟨.hbm, 69, rfl⟩
abbrev main_cst_6 : Ref sig .tc := ⟨.hbm, 70, rfl⟩
abbrev main_v54 : Ref sig .tc := ⟨.hbm, 71, rfl⟩
abbrev main_v55 : Ref sig .tc := ⟨.hbm, 72, rfl⟩
abbrev main_cst_7 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩

abbrev nD : Nat := 1
abbrev τ : Topo := Topo.v7x

variable {F : FTy → Type} [FloatOps F]
-- ==== Kernel6.lean ====
abbrev S1x8192x512 : Shape := ⟨3, ![1, 8192, 512]⟩
abbrev S1x8192x64 : Shape := ⟨3, ![1, 8192, 64]⟩
abbrev S1x8192x1x32 : Shape := ⟨4, ![1, 8192, 1, 32]⟩
abbrev S4x512x3072 : Shape := ⟨3, ![4, 512, 3072]⟩
abbrev S4x512x4096 : Shape := ⟨3, ![4, 512, 4096]⟩
abbrev S8192x32 : Shape := ⟨2, ![8192, 32]⟩
abbrev S_ : Shape := ⟨0, ![]⟩
abbrev S8192x64 : Shape := ⟨2, ![8192, 64]⟩
abbrev S8192x128 : Shape := ⟨2, ![8192, 128]⟩
abbrev S4x512x16x192 : Shape := ⟨4, ![4, 512, 16, 192]⟩
abbrev S4x512x16x64 : Shape := ⟨4, ![4, 512, 16, 64]⟩
abbrev S4x512x16x32 : Shape := ⟨4, ![4, 512, 16, 32]⟩
abbrev S4x512x16x128 : Shape := ⟨4, ![4, 512, 16, 128]⟩
abbrev S4x512x16x384 : Shape := ⟨4, ![4, 512, 16, 384]⟩
abbrev S4x512x6144 : Shape := ⟨3, ![4, 512, 6144]⟩
abbrev S8192x512 : Shape := ⟨2, ![8192, 512]⟩
abbrev S16x8192x256 : Shape := ⟨3, ![16, 8192, 256]⟩
abbrev S16x8192x128 : Shape := ⟨3, ![16, 8192, 128]⟩
abbrev S512x512 : Shape := ⟨2, ![512, 512]⟩
abbrev S512x128 : Shape := ⟨2, ![512, 128]⟩
abbrev S1x512x6144 : Shape := ⟨3, ![1, 512, 6144]⟩
abbrev S1x512x4096 : Shape := ⟨3, ![1, 512, 4096]⟩
abbrev S16x512x256 : Shape := ⟨3, ![16, 512, 256]⟩
abbrev S16x512x128 : Shape := ⟨3, ![16, 512, 128]⟩
abbrev S1x512x1536 : Shape := ⟨3, ![1, 512, 1536]⟩
abbrev S512x1536 : Shape := ⟨2, ![512, 1536]⟩
abbrev S1x512x1024 : Shape := ⟨3, ![1, 512, 1024]⟩
abbrev S512x1024 : Shape := ⟨2, ![512, 1024]⟩
abbrev S512x384 : Shape := ⟨2, ![512, 384]⟩
abbrev S1x512x128 : Shape := ⟨3, ![1, 512, 128]⟩
abbrev S512x256 : Shape := ⟨2, ![512, 256]⟩

abbrev nBuf : Space → Nat
  | .hbm => 37
  | .vmem => 18
  | .smem => 0
  | _ => 0

abbrev bufTy : (tb : Table) → Fin (tcTables nBuf tb) → BufTy
  | .hbm, ⟨0, _⟩ => ⟨S1x8192x512, .f32⟩
  | .hbm, ⟨1, _⟩ => ⟨S1x8192x512, .f32⟩
  | .hbm, ⟨2, _⟩ => ⟨S1x8192x64, .f32⟩
  | .hbm, ⟨3, _⟩ => ⟨S1x8192x1x32, .f32⟩
  | .hbm, ⟨4, _⟩ => ⟨S1x8192x1x32, .f32⟩
  | .hbm, ⟨5, _⟩ => ⟨S4x512x3072, .f32⟩
  | .hbm, ⟨6, _⟩ => ⟨S4x512x4096, .f32⟩
  | .hbm, ⟨7, _⟩ => ⟨S8192x32, .f32⟩
  | .hbm, ⟨8, _⟩ => ⟨S8192x32, .f32⟩
  | .hbm, ⟨9, _⟩ => ⟨S_, .f32⟩
  | .hbm, ⟨10, _⟩ => ⟨S8192x64, .f32⟩
  | .hbm, ⟨11, _⟩ => ⟨S8192x64, .f32⟩
  | .hbm, ⟨12, _⟩ => ⟨S8192x128, .f32⟩
  | .hbm, ⟨13, _⟩ => ⟨S8192x128, .bf16⟩
  | .hbm, ⟨14, _⟩ => ⟨S4x512x16x192, .f32⟩
  | .hbm, ⟨15, _⟩ => ⟨S4x512x16x64, .f32⟩
  | .hbm, ⟨16, _⟩ => ⟨S4x512x16x32, .f32⟩
  | .hbm, ⟨17, _⟩ => ⟨S4x512x16x32, .f32⟩
  | .hbm, ⟨18, _⟩ => ⟨S_, .f32⟩
  | .hbm, ⟨19, _⟩ => ⟨S4x512x16x64, .f32⟩
  | .hbm, ⟨20, _⟩ => ⟨S4x512x16x128, .f32⟩
  | .hbm, ⟨21, _⟩ => ⟨S4x512x16x128, .f32⟩
  | .hbm, ⟨22, _⟩ => ⟨S4x512x16x128, .f32⟩
  | .hbm, ⟨23, _⟩ => ⟨S4x512x16x384, .f32⟩
  | .hbm, ⟨24, _⟩ => ⟨S4x512x6144, .f32⟩
  | .hbm, ⟨25, _⟩ => ⟨S4x512x6144, .bf16⟩
  | .hbm, ⟨26, _⟩ => ⟨S8192x512, .f32⟩
  | .hbm, ⟨27, _⟩ => ⟨S8192x512, .bf16⟩
  | .hbm, ⟨28, _⟩ => ⟨S8192x512, .f32⟩
  | .hbm, ⟨29, _⟩ => ⟨S8192x512, .bf16⟩
  | .hbm, ⟨30, _⟩ => ⟨S8192x128, .f32⟩
  | .hbm, ⟨31, _⟩ => ⟨S8192x32, .f32⟩
  | .hbm, ⟨32, _⟩ => ⟨S8192x128, .f32⟩
  | .hbm, ⟨33, _⟩ => ⟨S4x512x4096, .bf16⟩
  | .hbm, ⟨34, _⟩ => ⟨S16x8192x256, .bf16⟩
  | .hbm, ⟨35, _⟩ => ⟨S16x8192x256, .bf16⟩
  | .hbm, ⟨36, _⟩ => ⟨S16x8192x128, .bf16⟩
  | .local _ .vmem, ⟨0, _⟩ => ⟨S512x512, .bf16⟩
  | .local _ .vmem, ⟨1, _⟩ => ⟨S512x512, .bf16⟩
  | .local _ .vmem, ⟨2, _⟩ => ⟨S512x512, .bf16⟩
  | .local _ .vmem, ⟨3, _⟩ => ⟨S512x512, .bf16⟩
  | .local _ .vmem, ⟨4, _⟩ => ⟨S512x128, .bf16⟩
  | .local _ .vmem, ⟨5, _⟩ => ⟨S512x128, .bf16⟩
  | .local _ .vmem, ⟨6, _⟩ => ⟨S512x128, .f32⟩
  | .local _ .vmem, ⟨7, _⟩ => ⟨S512x128, .f32⟩
  | .local _ .vmem, ⟨8, _⟩ => ⟨S512x128, .f32⟩
  | .local _ .vmem, ⟨9, _⟩ => ⟨S512x128, .f32⟩
  | .local _ .vmem, ⟨10, _⟩ => ⟨S1x512x6144, .bf16⟩
  | .local _ .vmem, ⟨11, _⟩ => ⟨S1x512x4096, .bf16⟩
  | .local _ .vmem, ⟨12, _⟩ => ⟨S16x512x256, .bf16⟩
  | .local _ .vmem, ⟨13, _⟩ => ⟨S16x512x256, .bf16⟩
  | .local _ .vmem, ⟨14, _⟩ => ⟨S16x512x256, .bf16⟩
  | .local _ .vmem, ⟨15, _⟩ => ⟨S16x512x256, .bf16⟩
  | .local _ .vmem, ⟨16, _⟩ => ⟨S16x512x128, .bf16⟩
  | .local _ .vmem, ⟨17, _⟩ => ⟨S16x512x128, .bf16⟩
  | _, _ => ⟨S1x8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_0 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25_0 : Ref sig .tc := ⟨.hbm, 34, rfl⟩
abbrev main_v25_1 : Ref sig .tc := ⟨.hbm, 35, rfl⟩
abbrev main_v25_2 : Ref sig .tc := ⟨.hbm, 36, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_6 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x512x6144 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x512x4096 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S16x512x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S16x512x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S16x512x128 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== Kernel6Ideal.lean ====
variable {F : FTy → Type} [FloatOps F] [Named F]
def κ : String → Option EReal := fun
  | "scale" => some ((((Real.sqrt 192) * (Real.log 2))⁻¹ : ℝ) : EReal)
  | _ => none
-- ==== Reference6Ideal.lean ====
abbrev S1x8192x512 : Shape := ⟨3, ![1, 8192, 512]⟩
abbrev S1x8192x64 : Shape := ⟨3, ![1, 8192, 64]⟩
abbrev S1x8192x1x32 : Shape := ⟨4, ![1, 8192, 1, 32]⟩
abbrev S4x512x3072 : Shape := ⟨3, ![4, 512, 3072]⟩
abbrev S4x512x4096 : Shape := ⟨3, ![4, 512, 4096]⟩
abbrev S1x512x3072 : Shape := ⟨3, ![1, 512, 3072]⟩
abbrev S512x3072 : Shape := ⟨2, ![512, 3072]⟩
abbrev S1x8192x3072 : Shape := ⟨3, ![1, 8192, 3072]⟩
abbrev S1x8192x16x192 : Shape := ⟨4, ![1, 8192, 16, 192]⟩
abbrev S1x512x4096 : Shape := ⟨3, ![1, 512, 4096]⟩
abbrev S512x4096 : Shape := ⟨2, ![512, 4096]⟩
abbrev S1x8192x4096 : Shape := ⟨3, ![1, 8192, 4096]⟩
abbrev S1x8192x16x256 : Shape := ⟨4, ![1, 8192, 16, 256]⟩
abbrev S1x8192x16x128 : Shape := ⟨4, ![1, 8192, 16, 128]⟩
abbrev S1x8192x16x64 : Shape := ⟨4, ![1, 8192, 16, 64]⟩
abbrev S1x8192x16x32 : Shape := ⟨4, ![1, 8192, 16, 32]⟩
abbrev S1x8192x1x64 : Shape := ⟨4, ![1, 8192, 1, 64]⟩
abbrev S_ : Shape := ⟨0, ![]⟩
abbrev S8192x16x256 : Shape := ⟨3, ![8192, 16, 256]⟩
abbrev S16x8192x256 : Shape := ⟨3, ![16, 8192, 256]⟩
abbrev S8192x16x128 : Shape := ⟨3, ![8192, 16, 128]⟩
abbrev S16x8192x128 : Shape := ⟨3, ![16, 8192, 128]⟩

abbrev nBuf : Space → Nat
  | .hbm => 58
  | .vmem => 0
  | .smem => 0
  | _ => 0

abbrev bufTy : (tb : Table) → Fin (tcTables nBuf tb) → BufTy
  | .hbm, ⟨0, _⟩ => ⟨S1x8192x512, .f32⟩
  | .hbm, ⟨1, _⟩ => ⟨S1x8192x512, .f32⟩
  | .hbm, ⟨2, _⟩ => ⟨S1x8192x64, .f32⟩
  | .hbm, ⟨3, _⟩ => ⟨S1x8192x1x32, .f32⟩
  | .hbm, ⟨4, _⟩ => ⟨S1x8192x1x32, .f32⟩
  | .hbm, ⟨5, _⟩ => ⟨S4x512x3072, .f32⟩
  | .hbm, ⟨6, _⟩ => ⟨S4x512x4096, .f32⟩
  | .hbm, ⟨7, _⟩ => ⟨S1x512x3072, .f32⟩
  | .hbm, ⟨8, _⟩ => ⟨S512x3072, .f32⟩
  | .hbm, ⟨9, _⟩ => ⟨S1x8192x3072, .f32⟩
  | .hbm, ⟨10, _⟩ => ⟨S1x8192x16x192, .f32⟩
  | .hbm, ⟨11, _⟩ => ⟨S1x512x4096, .f32⟩
  | .hbm, ⟨12, _⟩ => ⟨S512x4096, .f32⟩
  | .hbm, ⟨13, _⟩ => ⟨S1x8192x4096, .f32⟩
  | .hbm, ⟨14, _⟩ => ⟨S1x8192x16x256, .f32⟩
  | .hbm, ⟨15, _⟩ => ⟨S1x8192x16x128, .f32⟩
  | .hbm, ⟨16, _⟩ => ⟨S1x8192x16x64, .f32⟩
  | .hbm, ⟨17, _⟩ => ⟨S1x8192x16x128, .f32⟩
  | .hbm, ⟨18, _⟩ => ⟨S1x8192x16x128, .f32⟩
  | .hbm, ⟨19, _⟩ => ⟨S1x8192x16x32, .f32⟩
  | .hbm, ⟨20, _⟩ => ⟨S1x8192x16x32, .f32⟩
  | .hbm, ⟨21, _⟩ => ⟨S1x8192x16x32, .f32⟩
  | .hbm, ⟨22, _⟩ => ⟨S1x8192x16x32, .f32⟩
  | .hbm, ⟨23, _⟩ => ⟨S1x8192x16x32, .f32⟩
  | .hbm, ⟨24, _⟩ => ⟨S1x8192x16x32, .f32⟩
  | .hbm, ⟨25, _⟩ => ⟨S1x8192x16x32, .f32⟩
  | .hbm, ⟨26, _⟩ => ⟨S1x8192x16x32, .f32⟩
  | .hbm, ⟨27, _⟩ => ⟨S1x8192x16x32, .f32⟩
  | .hbm, ⟨28, _⟩ => ⟨S1x8192x16x32, .f32⟩
  | .hbm, ⟨29, _⟩ => ⟨S1x8192x16x32, .f32⟩
  | .hbm, ⟨30, _⟩ => ⟨S1x8192x16x32, .f32⟩
  | .hbm, ⟨31, _⟩ => ⟨S1x8192x16x64, .f32⟩
  | .hbm, ⟨32, _⟩ => ⟨S1x8192x1x64, .f32⟩
  | .hbm, ⟨33, _⟩ => ⟨S1x8192x16x64, .f32⟩
  | .hbm, ⟨34, _⟩ => ⟨S1x8192x16x192, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S1x8192x16x192, .f32⟩
  | .hbm, ⟨41, _⟩ => ⟨S1x8192x16x192, .f32⟩
  | .hbm, ⟨42, _⟩ => ⟨S1x8192x16x192, .f32⟩
  | .hbm, ⟨43, _⟩ => ⟨S_, .i32⟩
  | .hbm, ⟨44, _⟩ => ⟨S_, .f32⟩
  | .hbm, ⟨45, _⟩ => ⟨S1x8192x16x256, .f32⟩
  | .hbm, ⟨46, _⟩ => ⟨S8192x16x256, .f32⟩
  | .hbm, ⟨47, _⟩ => ⟨S16x8192x256, .f32⟩
  | .hbm, ⟨48, _⟩ => ⟨S16x8192x256, .bf16⟩
  | .hbm, ⟨49, _⟩ => ⟨S_, .i32⟩
  | .hbm, ⟨50, _⟩ => ⟨S_, .f32⟩
  | .hbm, ⟨51, _⟩ => ⟨S1x8192x16x256, .f32⟩
  | .hbm, ⟨52, _⟩ => ⟨S8192x16x256, .f32⟩
  | .hbm, ⟨53, _⟩ => ⟨S16x8192x256, .f32⟩
  | .hbm, ⟨54, _⟩ => ⟨S16x8192x256, .bf16⟩
  | .hbm, ⟨55, _⟩ => ⟨S8192x16x128, .f32⟩
  | .hbm, ⟨56, _⟩ => ⟨S16x8192x128, .f32⟩
  | .hbm, ⟨57, _⟩ => ⟨S16x8192x128, .bf16⟩
  | _, _ => ⟨S1x8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_cst : Ref sig .tc := ⟨.hbm, 35, rfl⟩
abbrev main_v28 : Ref sig .tc := ⟨.hbm, 36, rfl⟩
abbrev main_cst_0 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_c : Ref sig .tc := ⟨.hbm, 43, rfl⟩
abbrev main_call0_v0 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_c_1 : Ref sig .tc := ⟨.hbm, 49, rfl⟩
abbrev main_call1_v0 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩

abbrev nD : Nat := 1
abbrev τ : Topo := Topo.v7x

variable {F : FTy → Type} [FloatOps F]
-- ==== Kernel7.lean ====
abbrev S1x8192 : Shape := ⟨2, ![1, 8192]⟩
abbrev S32 : Shape := ⟨1, ![32]⟩
abbrev S_ : Shape := ⟨0, ![]⟩
abbrev S64 : Shape := ⟨1, ![64]⟩
abbrev S128 : Shape := ⟨1, ![128]⟩
abbrev S1x128 : Shape := ⟨2, ![1, 128]⟩
abbrev S8192x1 : Shape := ⟨2, ![8192, 1]⟩
abbrev S8192x128 : Shape := ⟨2, ![8192, 128]⟩
abbrev S1024x1 : Shape := ⟨2, ![1024, 1]⟩
abbrev S1024x128 : Shape := ⟨2, ![1024, 128]⟩

abbrev nBuf : Space → Nat
  | .hbm => 27
  | .vmem => 8
  | .smem => 0
  | _ => 0

abbrev bufTy : (tb : Table) → Fin (tcTables nBuf tb) → BufTy
  | .hbm, ⟨0, _⟩ => ⟨S1x8192, .i32⟩
  | .hbm, ⟨1, _⟩ => ⟨S32, .f32⟩
  | .hbm, ⟨2, _⟩ => ⟨S_, .f32⟩
  | .hbm, ⟨3, _⟩ => ⟨S32, .f32⟩
  | .hbm, ⟨4, _⟩ => ⟨S32, .f32⟩
  | .hbm, ⟨5, _⟩ => ⟨S_, .f32⟩
  | .hbm, ⟨6, _⟩ => ⟨S32, .f32⟩
  | .hbm, ⟨7, _⟩ => ⟨S32, .f32⟩
  | .hbm, ⟨8, _⟩ => ⟨S32, .f32⟩
  | .hbm, ⟨9, _⟩ => ⟨S_, .f32⟩
  | .hbm, ⟨10, _⟩ => ⟨S32, .f32⟩
  | .hbm, ⟨11, _⟩ => ⟨S32, .f32⟩
  | .hbm, ⟨12, _⟩ => ⟨S_, .f32⟩
  | .hbm, ⟨13, _⟩ => ⟨S32, .f32⟩
  | .hbm, ⟨14, _⟩ => ⟨S32, .f32⟩
  | .hbm, ⟨15, _⟩ => ⟨S_, .f32⟩
  | .hbm, ⟨16, _⟩ => ⟨S64, .f32⟩
  | .hbm, ⟨17, _⟩ => ⟨S128, .f32⟩
  | .hbm, ⟨18, _⟩ => ⟨S1x128, .f32⟩
  | .hbm, ⟨19, _⟩ => ⟨S_, .f32⟩
  | .hbm, ⟨20, _⟩ => ⟨S32, .f32⟩
  | .hbm, ⟨21, _⟩ => ⟨S32, .f32⟩
  | .hbm, ⟨22, _⟩ => ⟨S128, .f32⟩
  | .hbm, ⟨23, _⟩ => ⟨S1x128, .f32⟩
  | .hbm, ⟨24, _⟩ => ⟨S8192x1, .i32⟩
  | .hbm, ⟨25, _⟩ => ⟨S8192x128, .f32⟩
  | .hbm, ⟨26, _⟩ => ⟨S8192x128, .f32⟩
  | .local _ .vmem, ⟨0, _⟩ => ⟨S1024x1, .i32⟩
  | .local _ .vmem, ⟨1, _⟩ => ⟨S1024x1, .i32⟩
  | .local _ .vmem, ⟨2, _⟩ => ⟨S1x128, .f32⟩
  | .local _ .vmem, ⟨3, _⟩ => ⟨S1x128, .f32⟩
  | .local _ .vmem, ⟨4, _⟩ => ⟨S1024x128, .f32⟩
  | .local _ .vmem, ⟨5, _⟩ => ⟨S1024x128, .f32⟩
  | .local _ .vmem, ⟨6, _⟩ => ⟨S1024x128, .f32⟩
  | .local _ .vmem, ⟨7, _⟩ => ⟨S1024x128, .f32⟩
  | _, _ => ⟨S1x8192, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩
abbrev main_v2 : Ref sig .tc := ⟨.hbm, 4, rfl⟩
abbrev main_cst_0 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst_1 : Ref sig .tc := ⟨.hbm, 9, rfl⟩
abbrev main_v6 : Ref sig .tc := ⟨.hbm, 10, rfl⟩
abbrev main_v7 : Ref sig .tc := ⟨.hbm, 11, rfl⟩
abbrev main_cst_2 : Ref sig .tc := ⟨.hbm, 12, rfl⟩
abbrev main_v8 : Ref sig .tc := ⟨.hbm, 13, rfl⟩
abbrev main_v9 : Ref sig .tc := ⟨.hbm, 14, rfl⟩
abbrev main_cst_3 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst_4 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18_0 : Ref sig .tc := ⟨.hbm, 25, rfl⟩
abbrev main_v18_1 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference7Ideal.lean ====
abbrev S1x8192 : Shape := ⟨2, ![1, 8192]⟩
abbrev S32 : Shape := ⟨1, ![32]⟩
abbrev S_ : Shape := ⟨0, ![]⟩
abbrev S1x8192x1 : Shape := ⟨3, ![1, 8192, 1]⟩
abbrev S1x1x32 : Shape := ⟨3, ![1, 1, 32]⟩
abbrev S1x8192x32 : Shape := ⟨3, ![1, 8192, 32]⟩
abbrev S1x8192x64 : Shape := ⟨3, ![1, 8192, 64]⟩
abbrev S1x8192x128 : Shape := ⟨3, ![1, 8192, 128]⟩
abbrev S8192x128 : Shape := ⟨2, ![8192, 128]⟩

abbrev nBuf : Space → Nat
  | .hbm => 34
  | .vmem => 0
  | .smem => 0
  | _ => 0

abbrev bufTy : (tb : Table) → Fin (tcTables nBuf tb) → BufTy
  | .hbm, ⟨0, _⟩ => ⟨S1x8192, .i32⟩
  | .hbm, ⟨1, _⟩ => ⟨S32, .f32⟩
  | .hbm, ⟨2, _⟩ => ⟨S_, .f32⟩
  | .hbm, ⟨3, _⟩ => ⟨S32, .f32⟩
  | .hbm, ⟨4, _⟩ => ⟨S32, .f32⟩
  | .hbm, ⟨5, _⟩ => ⟨S_, .f32⟩
  | .hbm, ⟨6, _⟩ => ⟨S32, .f32⟩
  | .hbm, ⟨7, _⟩ => ⟨S32, .f32⟩
  | .hbm, ⟨8, _⟩ => ⟨S32, .f32⟩
  | .hbm, ⟨9, _⟩ => ⟨S_, .f32⟩
  | .hbm, ⟨10, _⟩ => ⟨S32, .f32⟩
  | .hbm, ⟨11, _⟩ => ⟨S32, .f32⟩
  | .hbm, ⟨12, _⟩ => ⟨S_, .f32⟩
  | .hbm, ⟨13, _⟩ => ⟨S32, .f32⟩
  | .hbm, ⟨14, _⟩ => ⟨S32, .f32⟩
  | .hbm, ⟨15, _⟩ => ⟨S1x8192, .f32⟩
  | .hbm, ⟨16, _⟩ => ⟨S1x8192x1, .f32⟩
  | .hbm, ⟨17, _⟩ => ⟨S1x1x32, .f32⟩
  | .hbm, ⟨18, _⟩ => ⟨S1x8192x32, .f32⟩
  | .hbm, ⟨19, _⟩ => ⟨S1x8192x32, .f32⟩
  | .hbm, ⟨20, _⟩ => ⟨S1x8192x32, .f32⟩
  | .hbm, ⟨21, _⟩ => ⟨S1x8192x32, .f32⟩
  | .hbm, ⟨22, _⟩ => ⟨S1x8192x32, .f32⟩
  | .hbm, ⟨23, _⟩ => ⟨S1x8192x64, .f32⟩
  | .hbm, ⟨24, _⟩ => ⟨S_, .i32⟩
  | .hbm, ⟨25, _⟩ => ⟨S_, .f32⟩
  | .hbm, ⟨26, _⟩ => ⟨S1x8192x128, .f32⟩
  | .hbm, ⟨27, _⟩ => ⟨S8192x128, .f32⟩
  | .hbm, ⟨28, _⟩ => ⟨S1x8192x32, .f32⟩
  | .hbm, ⟨29, _⟩ => ⟨S1x8192x64, .f32⟩
  | .hbm, ⟨30, _⟩ => ⟨S_, .i32⟩
  | .hbm, ⟨31, _⟩ => ⟨S_, .f32⟩
  | .hbm, ⟨32, _⟩ => ⟨S1x8192x128, .f32⟩
  | .hbm, ⟨33, _⟩ => ⟨S8192x128, .f32⟩
  | _, _ => ⟨S1x8192, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩
abbrev main_v2 : Ref sig .tc := ⟨.hbm, 4, rfl⟩
abbrev main_cst_0 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst_1 : Ref sig .tc := ⟨.hbm, 9, rfl⟩
abbrev main_v6 : Ref sig .tc := ⟨.hbm, 10, rfl⟩
abbrev main_v7 : Ref sig .tc := ⟨.hbm, 11, rfl⟩
abbrev main_cst_2 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_c : Ref sig .tc := ⟨.hbm, 24, rfl⟩
abbrev main_call0_v0 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_c_3 : Ref sig .tc := ⟨.hbm, 30, rfl⟩
abbrev main_call1_v0 : Ref sig .tc := ⟨.hbm, 31, rfl⟩
abbrev main_v23 : Ref sig .tc := ⟨.hbm, 32, rfl⟩
abbrev main_v24 : Ref sig .tc := ⟨.hbm, 33, rfl⟩

abbrev nD : Nat := 1
abbrev τ : Topo := Topo.v7x

variable {F : FTy → Type} [FloatOps F]
-- ==== Proof.In1Ref.lean ====
module

public import Idealize.ShloMosaic.PureOps.Ideal
public import proofs.«01_k».proof.Proof.Gen.Reference5Ideal.Run
public import Idealize.ShloMosaic.Lib.Pointwise

/-! The reference of the first input projection, written out: what each of its four results holds at a row and a column. -/

@[expose] public section
noncomputable section
namespace Cert.Reference5Ideal.In1
open Cert.Reference5Ideal Cert.Reference5Ideal.Gen Cert.Reference5Ideal.Facts Cert.Reference5Ideal.Value Idealize.ShloMosaic Idealize.ShloMosaic.TcCoe Idealize.SL.Sem

/-- A row over the root of its mean square, scaled; `w` is the row's length. -/
def rms {n : ℕ} (w : BitVec 32) (x g : Fin n → EReal) (d : Fin n) : EReal :=
  x d * Ideal.rsqrt (Ideal.div (∑ k, x k * x k) (Ideal.ofBits .f32 w) + Ideal.ofBits .f32 0x358637BD#32) * g d

section spec
variable (a0 : FVec Ideal S1x8192x2048 .f32) (a1 : FVec Ideal S4x2048 .f32) (a2 : FVec Ideal S4x2048x13376 .f32)

/-- The normalized row. -/
def hid (t : Fin 8192) : Fin 2048 → EReal := rms 0x45000000#32 (fun d => a0 (ix3 (0 : Fin 1) t d)) (fun d => a1 (ix2 (3 : Fin 4) d))

/-- Row `t`, column `k` of the projection. -/
def proj (t : Fin 8192) (k : Fin 13376) : EReal := ∑ d : Fin 2048, hid a0 a1 t d * a2 (ix3 (3 : Fin 4) d k)

/-- A low-rank row: 512 columns of the projection from column `o` on, normalized. -/
def low (g : FVec Ideal S4x512 .f32) (o : Fin 2) (t : Fin 8192) : Fin 512 → EReal :=
  rms 0x44000000#32 (fun n => proj a0 a1 a2 t (⟨512 * o.val + n.val, by omega⟩ : Fin 13376)) (fun n => g (ix2 (3 : Fin 4) n))

variable (a5 a6 : FVec Ideal S1x8192x1x32 .f32)

/-- The rotated key of a row, followed by zeros. -/
def rot (t : Fin 8192) (n : Fin 128) : EReal :=
  if h : n.val < 32 then proj a0 a1 a2 t (⟨1024 + n.val, by omega⟩ : Fin 13376) * a5 (ix4 (0 : Fin 1) t (0 : Fin 1) (⟨n.val, h⟩ : Fin 32)) - proj a0 a1 a2 t (⟨1056 + n.val, by omega⟩ : Fin 13376) * a6 (ix4 (0 : Fin 1) t (0 : Fin 1) (⟨n.val, h⟩ : Fin 32))
  else if h : n.val < 64 then proj a0 a1 a2 t (⟨1024 + n.val, by omega⟩ : Fin 13376) * a5 (ix4 (0 : Fin 1) t (0 : Fin 1) (⟨n.val - 32, by omega⟩ : Fin 32)) + proj a0 a1 a2 t (⟨1024 + (n.val - 32), by omega⟩ : Fin 13376) * a6 (ix4 (0 : Fin 1) t (0 : Fin 1) (⟨n.val - 32, by omega⟩ : Fin 32))
  else 0

end spec

def normArr (x g : FVec Ideal S1x8192x2048 .f32) : FVec Ideal S1x8192x2048 .f32 :=
  mulf (mulf x (broadcastInDim S1x8192x2048 ![0, 1, 2] bcast_S1x8192x1_S1x8192x2048_0_1_2 (Host.rsqrt (addf (Host.divf (broadcastInDim S1x8192x1 ![0, 1] bcast_S1x8192_S1x8192x1_0_1 (Host.reduceAdd (mulf x x) (constant S_ .f32 0x00000000#32) reducesTo_S1x8192x2048_S1x8192_d2 h_S_)) (broadcastInDim S1x8192x1 ![] bcast_S_S1x8192x1 (constant S_ .f32 0x45000000#32))) (broadcastInDim S1x8192x1 ![] bcast_S_S1x8192x1 (constant S_ .f32 0x358637BD#32)))))) g

def scale (a1 : FVec Ideal S4x2048 .f32) : FVec Ideal S1x8192x2048 .f32 :=
  broadcastInDim S1x8192x2048 ![0, 1, 2] bcast_S1x1x2048_S1x8192x2048_0_1_2 (broadcastInDim S1x1x2048 ![2] bcast_S2048_S1x1x2048_2 (shapeCast _ (extractStridedSlice S1x2048 ![3, 0] a1 slices_S4x2048_S1x2048_3_0) shapeCasts_S1x2048_S2048))

def prodArr (h : FVec Ideal S1x8192x2048 .f32) (a2 : FVec Ideal S4x2048x13376 .f32) : FVec Ideal S1x8192x13376 .f32 :=
  Host.dotGeneral dot_S1x8192x2048_S2048x13376_S1x8192x13376_2_0_01_1_n_n none h (shapeCast _ (extractStridedSlice S1x2048x13376 ![3, 0, 0] a2 slices_S4x2048x13376_S1x2048x13376_3_0_0) shapeCasts_S1x2048x13376_S2048x13376)

def lowArr (x : FVec Ideal S1x8192x512 .f32) (g : FVec Ideal S4x512 .f32) : FVec Ideal S8192x512 .bf16 :=
  truncf .bf16 (shapeCast _ (mulf (mulf x (broadcastInDim S1x8192x512 ![0, 1, 2] bcast_S1x8192x1_S1x8192x512_0_1_2 (Host.rsqrt (addf (Host.divf (broadcastInDim S1x8192x1 ![0, 1] bcast_S1x8192_S1x8192x1_0_1 (Host.reduceAdd (mulf x x) (constant S_ .f32 0x00000000#32) reducesTo_S1x8192x512_S1x8192_d2 h_S_)) (broadcastInDim S1x8192x1 ![] bcast_S_S1x8192x1 (constant S_ .f32 0x44000000#32))) (broadcastInDim S1x8192x1 ![] bcast_S_S1x8192x1 (constant S_ .f32 0x358637BD#32)))))) (broadcastInDim S1x8192x512 ![0, 1, 2] bcast_S1x1x512_S1x8192x512_0_1_2 (broadcastInDim S1x1x512 ![2] bcast_S512_S1x1x512_2 (shapeCast _ (extractStridedSlice S1x512 ![3, 0] g slices_S4x512_S1x512_3_0) shapeCasts_S1x512_S512)))) shapeCasts_S1x8192x512_S8192x512) bitsLt_bf16_f32

/-- The rotary columns with a unit axis in front. -/
def ropeArr (p : FVec Ideal S1x8192x13376 .f32) : FVec Ideal S1x8192x1x64 .f32 :=
  broadcastInDim S1x8192x1x64 ![0, 1, 3] bcast_S1x8192x64_S1x8192x1x64_0_1_3 (extractStridedSlice S1x8192x64 ![0, 0, 1024] p slices_S1x8192x13376_S1x8192x64_0_0_1024)

def rotArr (y : FVec Ideal S1x8192x1x64 .f32) (a5 a6 : FVec Ideal S1x8192x1x32 .f32) : FVec Ideal S8192x128 .bf16 :=
  truncf .bf16 (shapeCast _ (pad S1x8192x1x128 ![0, 0, 0, 0] ![0, 0, 0, 64] ![0, 0, 0, 0] (concatenate S1x8192x1x64 3 [⟨S1x8192x1x32, (subf (mulf (extractStridedSlice S1x8192x1x32 ![0, 0, 0, 0] y slices_S1x8192x1x64_S1x8192x1x32_0_0_0_0) a5) (mulf (extractStridedSlice S1x8192x1x32 ![0, 0, 0, 32] y slices_S1x8192x1x64_S1x8192x1x32_0_0_0_32) a6))⟩, ⟨S1x8192x1x32, (addf (mulf (extractStridedSlice S1x8192x1x32 ![0, 0, 0, 32] y slices_S1x8192x1x64_S1x8192x1x32_0_0_0_32) a5) (mulf (extractStridedSlice S1x8192x1x32 ![0, 0, 0, 0] y slices_S1x8192x1x64_S1x8192x1x32_0_0_0_0) a6))⟩] concatenates_S1x8192x1x32_S1x8192x1x32_S1x8192x1x64_d3) (sitofp .f32 (constantI S_ 32 0#32)) pads_S1x8192x1x64_S1x8192x1x128_000_000_000_0640 h_S_) shapeCasts_S1x8192x1x128_S8192x128) bitsLt_bf16_f32

def hidArr (x : FVec Ideal S1x8192x2048 .f32) : FVec Ideal S8192x2048 .bf16 := truncf .bf16 (shapeCast _ x shapeCasts_S1x8192x2048_S8192x2048) bitsLt_bf16_f32

variable (a0 : FVec Ideal S1x8192x2048 .f32) (a1 : FVec Ideal S4x2048 .f32) (a2 : FVec Ideal S4x2048x13376 .f32)

theorem norm_apply (t : Fin 8192) (d : Fin 2048) : normArr a0 (scale a1) (ix3 (0 : Fin 1) t d) = hid a0 a1 t d := by
  unfold normArr hid rms scale
  pointwise

theorem hid_apply (t : Fin 8192) (d : Fin 2048) : hidArr (normArr a0 (scale a1)) (ix2 t d) = hid a0 a1 t d := by
  rw [← norm_apply]
  generalize normArr a0 (scale a1) = x
  unfold hidArr
  pointwise

theorem proj_apply (t : Fin 8192) (k : Fin 13376) : prodArr (normArr a0 (scale a1)) a2 (ix3 (0 : Fin 1) t k) = proj a0 a1 a2 t k := by
  unfold proj
  simp only [← norm_apply]
  generalize normArr a0 (scale a1) = x
  unfold prodArr
  pointwise

theorem lowArr_apply (x : FVec Ideal S1x8192x512 .f32) (g : FVec Ideal S4x512 .f32) (t : Fin 8192) (n : Fin 512) :
    lowArr x g (ix2 t n) = rms 0x44000000#32 (fun n => x (ix3 (0 : Fin 1) t n)) (fun n => g (ix2 (3 : Fin 4) n)) n := by
  unfold lowArr rms
  pointwise

theorem low_apply (g : FVec Ideal S4x512 .f32) (o : Fin 2) (hs : S1x8192x13376.Slices ![0, 0, 512 * o.val] S1x8192x512) (t : Fin 8192) (n : Fin 512) :
    lowArr (extractStridedSlice S1x8192x512 ![0, 0, 512 * o.val] (prodArr (normArr a0 (scale a1)) a2) hs) g (ix2 t n) = low a0 a1 a2 g o t n := by
  rw [lowArr_apply]
  unfold low
  simp only [← proj_apply]
  generalize prodArr (normArr a0 (scale a1)) a2 = x
  congr 1
  funext n
  pointwise

theorem rope_apply (t : Fin 8192) (n : Fin 64) : ropeArr (prodArr (normArr a0 (scale a1)) a2) (ix4 (0 : Fin 1) t (0 : Fin 1) n) = proj a0 a1 a2 t (⟨1024 + n.val, by omega⟩ : Fin 13376) := by
  rw [← proj_apply]
  generalize prodArr (normArr a0 (scale a1)) a2 = x
  unfold ropeArr
  pointwise

theorem rotArr_apply (y : FVec Ideal S1x8192x1x64 .f32) (a5 a6 : FVec Ideal S1x8192x1x32 .f32) (t : Fin 8192) (n : Fin 128) :
    rotArr y a5 a6 (ix2 t n) = if h : n.val < 32 then y (ix4 (0 : Fin 1) t (0 : Fin 1) (⟨n.val, by omega⟩ : Fin 64)) * a5 (ix4 (0 : Fin 1) t (0 : Fin 1) (⟨n.val, h⟩ : Fin 32)) - y (ix4 (0 : Fin 1) t (0 : Fin 1) (⟨32 + n.val, by omega⟩ : Fin 64)) * a6 (ix4 (0 : Fin 1) t (0 : Fin 1) (⟨n.val, h⟩ : Fin 32))
      else if h : n.val < 64 then y (ix4 (0 : Fin 1) t (0 : Fin 1) (⟨n.val, h⟩ : Fin 64)) * a5 (ix4 (0 : Fin 1) t (0 : Fin 1) (⟨n.val - 32, by omega⟩ : Fin 32)) + y (ix4 (0 : Fin 1) t (0 : Fin 1) (⟨n.val - 32, by omega⟩ : Fin 64)) * a6 (ix4 (0 : Fin 1) t (0 : Fin 1) (⟨n.val - 32, by omega⟩ : Fin 32))
      else 0 := by
  unfold rotArr
  pointwise
  have z : FloatOps.sitofp (F := Ideal) FTy.f32 0#32 = 0 := by
    show ((((0#32 : BitVec 32).toInt : ℝ)) : EReal) = 0
    simp
  by_cases h : n.val < 32
  · rw [dif_pos (show n.val < 64 by omega), dif_pos h, dif_pos h]
  · rw [dif_neg h]
    by_cases h' : n.val < 64
    · have e : 32 + (n.val - 32) = n.val := by omega
      rw [dif_pos h', dif_pos h', dif_neg h]
      simp only [e]
    · rw [dif_neg h', dif_neg h', z]

variable (a3 a4 : FVec Ideal S4x512 .f32) (a5 a6 : FVec Ideal S1x8192x1x32 .f32)

theorem rot_apply (t : Fin 8192) (n : Fin 128) : rotArr (ropeArr (prodArr (normArr a0 (scale a1)) a2)) a5 a6 (ix2 t n) = rot a0 a1 a2 a5 a6 t n := by
  rw [rotArr_apply]
  unfold rot
  simp only [rope_apply]
  have e : ∀ k : ℕ, 1024 + (32 + k) = 1056 + k := fun k => by omega
  simp only [e]

theorem res0_eq (m : (ℓ : Loc nD τ sig) → Buf (Elt Ideal) ℓ) (c : Dev nD) : res_main_v48 (F := Ideal) m c = lowArr (extractStridedSlice S1x8192x512 ![0, 0, 512 * (0 : Fin 2).val] (prodArr (normArr (m ((c.tc : Thread nD τ).loc main_arg0)) (scale (m ((c.tc : Thread nD τ).loc main_arg1)))) (m ((c.tc : Thread nD τ).loc main_arg2))) slices_S1x8192x13376_S1x8192x512_0_0_0) (m ((c.tc : Thread nD τ).loc main_arg3)) := rfl

theorem res1_eq (m : (ℓ : Loc nD τ sig) → Buf (Elt Ideal) ℓ) (c : Dev nD) : res_main_v65 (F := Ideal) m c = lowArr (extractStridedSlice S1x8192x512 ![0, 0, 512 * (1 : Fin 2).val] (prodArr (normArr (m ((c.tc : Thread nD τ).loc main_arg0)) (scale (m ((c.tc : Thread nD τ).loc main_arg1)))) (m ((c.tc : Thread nD τ).loc main_arg2))) slices_S1x8192x13376_S1x8192x512_0_0_512) (m ((c.tc : Thread nD τ).loc main_arg4)) := rfl

theorem res2_eq (m : (ℓ : Loc nD τ sig) → Buf (Elt Ideal) ℓ) (c : Dev nD) : res_main_v67 (F := Ideal) m c = rotArr (ropeArr (prodArr (normArr (m ((c.tc : Thread nD τ).loc main_arg0)) (scale (m ((c.tc : Thread nD τ).loc main_arg1)))) (m ((c.tc : Thread nD τ).loc main_arg2)))) (m ((c.tc : Thread nD τ).loc main_arg5)) (m ((c.tc : Thread nD τ).loc main_arg6)) := rfl

end Cert.Reference5Ideal.In1
-- ==== Proof.In1.lean ====
module

public import proofs.«01_k».proof.Proof.Gen.Kernel5Ideal.Value
public import proofs.«01_k».proof.Proof.In1Ref
public import Idealize.ShloMosaic.Lib.Pipeline.ValueKit
public import Idealize.ShloMosaic.Lib.Pointwise

/-! The first input projection: what one grid point computes. -/

@[expose] public section
noncomputable section
namespace Cert.Kernel5Ideal.In1
open Cert.Kernel5Ideal Cert.Kernel5Ideal.Gen Idealize.ShloMosaic Idealize.ShloMosaic.TcCoe Idealize.SL.Sem

theorem hz2 : (![0, 0] : Fin 2 → Nat) = fun _ => 0 := funext fun a => by fin_cases a <;> rfl
theorem hz3 : (![0, 0, 0] : Fin 3 → Nat) = fun _ => 0 := funext fun a => by fin_cases a <;> rfl

theorem readCov_ld {Val : EltTy → Type} [∀ e, Nonempty (Val e)] {κ : Kind} {sp : Space} {s : Shape} {e : EltTy} (v : View sig κ sp s e) (L : List (View.Piece Val s e)) (r : Rect s) :
    v.readCov L r.toLoadRect = View.ld (View.canon L) r := by
  rw [View.readCov_eq_canon']

/-- The weight rows as the first grid point keeps them: the low-rank ones, then the rotary ones in the order the rotation reads. -/
def kept (x2 : Vec Ideal S1x1024x2048 .f32) (x3 : Vec Ideal S1x64x2048 .f32) : Vec Ideal S1280x2048 .bf16 :=
  View.canon (Val := Elt Ideal) (e := .bf16) [⟨Rect.unit (s := S1280x2048) ![1024, 0] S256x2048.size inb_S1280x2048_S256x2048_1024_0, k0_pay5 (F := Ideal) x3⟩,
    ⟨Rect.unit (s := S1280x2048) ![0, 0] S1024x2048.size inb_S1280x2048_S1024x2048_0_0, k0_pay4 (F := Ideal) x2⟩]

section point
variable (c : Dev nD) (i : grid0.Coords) (arg1 : Memref sig .tc .vmem S512x2048 .f32) (harg1 : arg1.IsWhole) (arg2 : Memref sig .tc .vmem S1x1x2048 .f32) (harg2 : arg2.IsWhole) (arg3 : Memref sig .tc .vmem S1x1024x2048 .f32) (harg3 : arg3.IsWhole) (arg4 : Memref sig .tc .vmem S1x64x2048 .f32) (harg4 : arg4.IsWhole) (arg5 : Memref sig .tc .vmem S1x1x512 .f32) (harg5 : arg5.IsWhole) (arg6 : Memref sig .tc .vmem S1x1x512 .f32) (harg6 : arg6.IsWhole) (arg7 : Memref sig .tc .vmem S512x128 .f32) (harg7 : arg7.IsWhole) (arg8 : Memref sig .tc .vmem S512x128 .f32) (harg8 : arg8.IsWhole) (arg9 : Memref sig .tc .vmem S512x512 .bf16) (harg9 : arg9.IsWhole) (arg10 : Memref sig .tc .vmem S512x512 .bf16) (harg10 : arg10.IsWhole) (arg11 : Memref sig .tc .vmem S512x128 .bf16) (harg11 : arg11.IsWhole) (arg12 : Memref sig .tc .vmem S512x2048 .bf16) (harg12 : arg12.IsWhole) (arg13 : Memref sig .tc .vmem S1280x2048 .bf16) (harg13 : arg13.IsWhole)
  (x0 : Vec Ideal S512x2048 .f32) (x1 : Vec Ideal S1x1x2048 .f32) (x2 : Vec Ideal S1x1024x2048 .f32) (x3 : Vec Ideal S1x64x2048 .f32) (x4 : Vec Ideal S1x1x512 .f32) (x5 : Vec Ideal S1x1x512 .f32) (x6 : Vec Ideal S512x128 .f32) (x7 : Vec Ideal S512x128 .f32) (xs0 : Vec Ideal S1280x2048 .bf16)

theorem outs_B (hc0 : ¬cond0_0 i) :
    out0_B_8 (F := Ideal) c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6 x7 xs0 = k0_pay1 (F := Ideal) (k0_pay8 x4) (k0_pay9 x0 x1 xs0)
    ∧ out0_B_9 (F := Ideal) c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6 x7 xs0 = k0_pay2 (F := Ideal) (k0_pay7 x0 x1 xs0) x5
    ∧ out0_B_10 (F := Ideal) c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6 x7 xs0 = k0_pay3 (F := Ideal) (k0_pay7 x0 x1 xs0) x6 x7
    ∧ out0_B_11 (F := Ideal) c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6 x7 xs0 = k0_pay6 (F := Ideal) x0 x1 := by
  refine ⟨?_, ?_, ?_, ?_⟩ <;>
  · first | unfold out0_B_8 | unfold out0_B_9 | unfold out0_B_10 | unfold out0_B_11
    rw [View.read_writes_junk_eq_canon]
    unfold kernelRun0_B
    dsimp only
    sl_unfold_words
    rw [View.canon_unit_zero hz2]
    simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, View.ld_unit_zero (S := S512x2048) hz2, View.ld_unit_zero (S := S1x1x2048) hz3, View.ld_unit_zero (S := S1x1024x2048) hz3, View.ld_unit_zero (S := S1x64x2048) hz3, View.ld_unit_zero (S := S1x1x512) hz3, View.ld_unit_zero (S := S512x128) hz2, View.ld_unit_zero (S := S1280x2048) hz2]

theorem sout_A (hc0 : cond0_0 i) : sout0_A_0 (F := Ideal) c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6 x7 = kept x2 x3 := by
  unfold sout0_A_0
  rw [View.read_writes_junk_eq_canon]
  unfold kernelRun0_A
  dsimp only
  sl_unfold_words
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, View.ld_unit_zero (S := S512x2048) hz2, View.ld_unit_zero (S := S1x1x2048) hz3, View.ld_unit_zero (S := S1x1024x2048) hz3, View.ld_unit_zero (S := S1x64x2048) hz3, View.ld_unit_zero (S := S1x1x512) hz3, View.ld_unit_zero (S := S512x128) hz2, View.ld_unit_zero (S := S1280x2048) hz2]
  rfl

theorem outs_A (hc0 : cond0_0 i) :
    out0_A_8 (F := Ideal) c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6 x7 = k0_pay1 (F := Ideal) (k0_pay8 x4) (k0_pay9 x0 x1 (kept x2 x3))
    ∧ out0_A_9 (F := Ideal) c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6 x7 = k0_pay2 (F := Ideal) (k0_pay7 x0 x1 (kept x2 x3)) x5
    ∧ out0_A_10 (F := Ideal) c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6 x7 = k0_pay3 (F := Ideal) (k0_pay7 x0 x1 (kept x2 x3)) x6 x7
    ∧ out0_A_11 (F := Ideal) c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6 x7 = k0_pay6 (F := Ideal) x0 x1 := by
  refine ⟨?_, ?_, ?_, ?_⟩ <;>
  · first | unfold out0_A_8 | unfold out0_A_9 | unfold out0_A_10 | unfold out0_A_11
    rw [View.read_writes_junk_eq_canon]
    unfold kernelRun0_A
    dsimp only
    sl_unfold_words
    rw [View.canon_unit_zero hz2]
    simp only [readCov_ld, View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, View.ld_unit_zero (S := S512x2048) hz2, View.ld_unit_zero (S := S1x1x2048) hz3, View.ld_unit_zero (S := S1x1024x2048) hz3, View.ld_unit_zero (S := S1x64x2048) hz3, View.ld_unit_zero (S := S1x1x512) hz3, View.ld_unit_zero (S := S512x128) hz2, View.ld_unit_zero (S := S1280x2048) hz2]
    all_goals
      unfold kept
      with_reducible rfl

end point
end Cert.Kernel5Ideal.In1
-- ==== Proof.In1Host.lean ====
module

public import proofs.«01_k».proof.Proof.In1

/-! The first input projection: the rotary tables its caller builds. -/

@[expose] public section
noncomputable section
namespace Cert.Kernel5Ideal.In1
open Cert.Kernel5Ideal Cert.Kernel5Ideal.Gen Idealize.ShloMosaic Idealize.ShloMosaic.TcCoe Idealize.SL.Sem

/-- Two 32-column arrays side by side, followed by zeros. -/
def table (a b : FVec Ideal S8192x32 .f32) : FVec Ideal S8192x128 .f32 :=
  concatenate S8192x128 1 [⟨S8192x32, a⟩, ⟨S8192x32, b⟩, ⟨S8192x64, broadcastInDim S8192x64 ![] bcast_S_S8192x64 (constant (F := Ideal) S_ .f32 0x00000000#32)⟩] concatenates_S8192x32_S8192x32_S8192x64_S8192x128_d1

theorem table_apply (a b : FVec Ideal S8192x32 .f32) (t : Fin 8192) (n : Fin 128) : table a b (ix2 t n) = if h : n.val < 32 then a (ix2 t (⟨n.val, h⟩ : Fin 32))
    else if h : n.val < 64 then b (ix2 t (⟨n.val - 32, by omega⟩ : Fin 32)) else 0 := by
  unfold table
  pointwise
  split_ifs <;> first | omega | rfl | (rw [dif_pos (by omega)]) | (rw [dif_neg (by omega)]; show ((((0#32 : BitVec 32).toInt : ℝ)) : EReal) = 0; simp)

def flat (a : FVec Ideal S1x8192x1x32 .f32) : FVec Ideal S8192x32 .f32 := shapeCast S8192x32 a shapeCasts_S1x8192x1x32_S8192x32

theorem flat_apply (a : FVec Ideal S1x8192x1x32 .f32) (t : Fin 8192) (n : Fin 32) : flat a (ix2 t n) = a (ix4 (0 : Fin 1) t (0 : Fin 1) n) := by
  unfold flat
  pointwise

variable (m : (ℓ : Loc nD τ sig) → Buf (Elt Ideal) ℓ) (c : Dev nD)

theorem V8_eq : V m c main_v8 = table (flat (m ((c.tc : Thread nD τ).loc main_arg5))) (flat (m ((c.tc : Thread nD τ).loc main_arg5))) := by
  unfold table flat
  show StableHlo.after hostOps0 _ _ = _
  after_results
  rfl

theorem V10_eq : V m c main_v10 = table (Host.negf (flat (m ((c.tc : Thread nD τ).loc main_arg6)))) (flat (m ((c.tc : Thread nD τ).loc main_arg6))) := by
  unfold table flat
  show StableHlo.after hostOps0 _ _ = _
  after_results
  rfl

end Cert.Kernel5Ideal.In1
-- ==== Proof.In1Arr.lean ====
module

public import proofs.«01_k».proof.Proof.In1Host

/-! The first input projection: what its buffers hold after each grid point, and the four output arrays. -/

@[expose] public section
noncomputable section
namespace Cert.Kernel5Ideal.In1
open Cert.Kernel5Ideal Cert.Kernel5Ideal.Gen Idealize.ShloMosaic Idealize.ShloMosaic.TcCoe Idealize.SL.Sem
open Cert.Reference5Ideal.In1 (rms hid proj low rot)

section pay
variable (x : FVec Ideal S512x2048 .f32) (g : FVec Ideal S1x1x2048 .f32) (W : FVec Ideal S1280x2048 .bf16) (r : Fin 512)

theorem pay6_apply (d : Fin 2048) : k0_pay6 (F := Ideal) x g (ix2 r d) = rms 0x45000000#32 (fun d => x (ix2 r d)) (fun d => g (ix3 (0 : Fin 1) (0 : Fin 1) d)) d := by
  unfold rms
  pointwise [k0_pay6]

/-- A normalized row against a kept weight row. -/
def dotp (k : Fin 1280) : EReal := ∑ d : Fin 2048, rms 0x45000000#32 (fun d => x (ix2 r d)) (fun d => g (ix3 (0 : Fin 1) (0 : Fin 1) d)) d * W (ix2 k d)

theorem pay7_apply (k : Fin 1280) : k0_pay7 (F := Ideal) x g W (ix2 r k) = dotp x g W r k := by
  unfold dotp
  simp only [← pay6_apply]
  unfold k0_pay7
  generalize k0_pay6 (F := Ideal) x g = h
  pointwise

theorem pay1_apply (q : FVec Ideal S1x1x512 .f32) (n : Fin 512) :
    k0_pay1 (F := Ideal) (k0_pay8 q) (k0_pay9 x g W) (ix2 r n) = rms 0x44000000#32 (fun n : Fin 512 => dotp x g W r ⟨n.val, by omega⟩) (fun n => q (ix3 (0 : Fin 1) (0 : Fin 1) n)) n := by
  simp only [← pay7_apply]
  unfold k0_pay9
  generalize k0_pay7 (F := Ideal) x g W = y
  unfold rms
  pointwise [k0_pay1, k0_pay8]

theorem pay2_apply (q : FVec Ideal S1x1x512 .f32) (n : Fin 512) :
    k0_pay2 (F := Ideal) (k0_pay7 x g W) q (ix2 r n) = rms 0x44000000#32 (fun n : Fin 512 => dotp x g W r ⟨512 + n.val, by omega⟩) (fun n => q (ix3 (0 : Fin 1) (0 : Fin 1) n)) n := by
  simp only [← pay7_apply]
  generalize k0_pay7 (F := Ideal) x g W = y
  unfold rms
  pointwise [k0_pay2]

theorem pay3_apply (u v : FVec Ideal S512x128 .f32) (n : Fin 128) :
    k0_pay3 (F := Ideal) (k0_pay7 x g W) u v (ix2 r n) = dotp x g W r ⟨1024 + n.val, by omega⟩ * u (ix2 r n) + dotp x g W r ⟨1152 + n.val, by omega⟩ * v (ix2 r n) := by
  simp only [← pay7_apply]
  generalize k0_pay7 (F := Ideal) x g W = y
  pointwise [k0_pay3]

end pay

section keep
variable (x2 : FVec Ideal S1x1024x2048 .f32) (x3 : FVec Ideal S1x64x2048 .f32) (d : Fin 2048)

theorem pay4_apply (k : Fin 1024) : k0_pay4 (F := Ideal) x2 (ix2 k d) = x2 (ix3 (0 : Fin 1) k d) := by
  pointwise [k0_pay4]

theorem pay5_apply (k : Fin 256) : k0_pay5 (F := Ideal) x3 (ix2 k d) = if h : k.val < 64 then x3 (ix3 (0 : Fin 1) (⟨k.val, h⟩ : Fin 64) d) else if h : 128 ≤ k.val ∧ k.val < 160 then x3 (ix3 (0 : Fin 1) (⟨k.val - 96, by omega⟩ : Fin 64) d)
    else if h : 160 ≤ k.val ∧ k.val < 192 then x3 (ix3 (0 : Fin 1) (⟨k.val - 160, by omega⟩ : Fin 64) d) else 0 := by
  pointwise [k0_pay5]
  have key : ∀ (i j : ℕ) (hi : i < 64) (hj : j < 64), i = j → x3 (ix3 (0 : Fin 1) (⟨i, hi⟩ : Fin 64) d) = x3 (ix3 (0 : Fin 1) (⟨j, hj⟩ : Fin 64) d) := fun i j hi hj h => congrArg (fun j => x3 (ix3 (0 : Fin 1) j d)) (Fin.ext h)
  split_ifs <;> first
    | omega
    | rfl
    | (rw [dif_pos (by omega)]; done)
    | (rw [dif_pos (by omega)]; exact key _ _ _ _ (by omega))
    | (rw [dif_neg (by omega), dif_pos (by omega)]; exact key _ _ _ _ (by omega))
    | (rw [dif_neg (by omega), dif_neg (by omega), dif_pos (by omega)]; exact key _ _ _ _ (by omega))

theorem kept_lo (k : Fin 1280) (h : k.val < 1024) : kept x2 x3 (ix2 k d) = x2 (ix3 (0 : Fin 1) (⟨k.val, h⟩ : Fin 1024) d) := by
  unfold kept
  refine (View.canon_cons_of_not_mem _ _ fun hm => ?_).trans ?_
  · have h0 := Rect.mem_set_unit (s := S1280x2048) (off := ![1024, 0]) (size := S256x2048.size) (inb := inb_S1280x2048_S256x2048_1024_0).mp hm 0
    have h1 : 1024 ≤ k.val := h0.1
    omega
  · have he : (ix2 k d : S1280x2048.Idx) = (Rect.unit (s := S1280x2048) ![0, 0] S1024x2048.size inb_S1280x2048_S1024x2048_0_0).emb (ix2 (⟨k.val, h⟩ : Fin 1024) d) := by
      funext a
      match a with
      | ⟨0, _⟩ => exact Fin.ext (by show k.val = 0 + 1 * k.val; omega)
      | ⟨1, _⟩ => exact Fin.ext (by show d.val = 0 + 1 * d.val; omega)
    exact ((congrArg _ he).trans (View.canon_cons_emb (Val := Elt Ideal) (e := .bf16) _ _ _ _)).trans (pay4_apply x2 d ⟨k.val, h⟩)

theorem kept_hi (k : Fin 256) : kept x2 x3 (ix2 (⟨1024 + k.val, by omega⟩ : Fin 1280) d) = k0_pay5 (F := Ideal) x3 (ix2 k d) := by
  unfold kept
  have he : (ix2 (⟨1024 + k.val, by omega⟩ : Fin 1280) d : S1280x2048.Idx) = (Rect.unit (s := S1280x2048) ![1024, 0] S256x2048.size inb_S1280x2048_S256x2048_1024_0).emb (ix2 k d) := by
    funext a
    match a with
    | ⟨0, _⟩ => exact Fin.ext (by show 1024 + k.val = 1024 + 1 * k.val; omega)
    | ⟨1, _⟩ => exact Fin.ext (by show d.val = 0 + 1 * d.val; omega)
  exact (congrArg _ he).trans (View.canon_cons_emb (Val := Elt Ideal) (e := .bf16) _ _ _ _)

end keep

variable (m : (ℓ : Loc nD τ sig) → Buf (Elt Ideal) ℓ) (c : Dev nD)

theorem idx (t : Fin cfg0.N) : (win0_0.index t 0 = t.val ∧ win0_0.index t 1 = 0) ∧ (win0_1.index t 0 = 3 ∧ win0_1.index t 1 = 0 ∧ win0_1.index t 2 = 0)
    ∧ (win0_4.index t 0 = 3 ∧ win0_4.index t 1 = 0 ∧ win0_4.index t 2 = 0) ∧ (win0_5.index t 0 = 3 ∧ win0_5.index t 1 = 0 ∧ win0_5.index t 2 = 0)
    ∧ (win0_6.index t 0 = t.val ∧ win0_6.index t 1 = 0) ∧ (win0_7.index t 0 = t.val ∧ win0_7.index t 1 = 0)
    ∧ (win0_8.index t 0 = t.val ∧ win0_8.index t 1 = 0) ∧ (win0_9.index t 0 = t.val ∧ win0_9.index t 1 = 0)
    ∧ (win0_10.index t 0 = t.val ∧ win0_10.index t 1 = 0) ∧ (win0_11.index t 0 = t.val ∧ win0_11.index t 1 = 0) := by
  revert t
  decide +kernel

theorem elem (t : Fin cfg0.N) : (win0_2.index t 0 = 3 ∧ win0_2.index t 1 = 0 ∧ win0_2.index t 2 = 0)
    ∧ (win0_3.index t 0 = 3 ∧ win0_3.index t 1 = 1024 ∧ win0_3.index t 2 = 0) := by
  revert t
  decide +kernel

theorem blk0 (t : Fin cfg0.N) (r : Fin 512) (d : Fin 2048) (h) : iblk m c 0 t (ix2 r d) = m ((c.tc : Thread nD τ).loc main_arg0) (ix3 (0 : Fin 1) (⟨512 * t.val + r.val, h⟩ : Fin 8192) d) := by
  blk_ext! [iblk, idx t]

theorem blk1 (t : Fin cfg0.N) (d : Fin 2048) : iblk m c 1 t (ix3 (0 : Fin 1) (0 : Fin 1) d) = m ((c.tc : Thread nD τ).loc main_arg1) (ix2 (3 : Fin 4) d) := by
  blk_ext! [iblk, idx t]

theorem blk2 (t : Fin cfg0.N) (k : Fin 1024) (d : Fin 2048) : iblk m c 2 t (ix3 (0 : Fin 1) k d) = m ((c.tc : Thread nD τ).loc main_arg2) (ix3 (3 : Fin 4) d (⟨k.val, by omega⟩ : Fin 13376)) := by
  obtain ⟨h0, h1, h2⟩ := (elem t).1
  blk_ext! [iblk]
  · show win0_2.index t 0 + 1 * 0 = 3
    omega
  · show win0_2.index t 2 + 1 * d.val = d.val
    omega
  · show win0_2.index t 1 + 1 * k.val = k.val
    omega

theorem blk3 (t : Fin cfg0.N) (k : Fin 64) (d : Fin 2048) : iblk m c 3 t (ix3 (0 : Fin 1) k d) = m ((c.tc : Thread nD τ).loc main_arg2) (ix3 (3 : Fin 4) d (⟨1024 + k.val, by omega⟩ : Fin 13376)) := by
  obtain ⟨h0, h1, h2⟩ := (elem t).2
  blk_ext! [iblk]
  · show win0_3.index t 0 + 1 * 0 = 3
    omega
  · show win0_3.index t 2 + 1 * d.val = d.val
    omega
  · show win0_3.index t 1 + 1 * k.val = 1024 + k.val
    omega

theorem blk4 (t : Fin cfg0.N) (n : Fin 512) : iblk m c 4 t (ix3 (0 : Fin 1) (0 : Fin 1) n) = m ((c.tc : Thread nD τ).loc main_arg3) (ix2 (3 : Fin 4) n) := by
  blk_ext! [iblk, idx t]

theorem blk5 (t : Fin cfg0.N) (n : Fin 512) : iblk m c 5 t (ix3 (0 : Fin 1) (0 : Fin 1) n) = m ((c.tc : Thread nD τ).loc main_arg4) (ix2 (3 : Fin 4) n) := by
  blk_ext! [iblk, idx t]

theorem blk6 (t : Fin cfg0.N) (r : Fin 512) (n : Fin 128) (h) : iblk m c 6 t (ix2 r n) = V m c main_v8 (ix2 (⟨512 * t.val + r.val, h⟩ : Fin 8192) n) := by
  blk_ext! [iblk, idx t]

theorem blk7 (t : Fin cfg0.N) (r : Fin 512) (n : Fin 128) (h) : iblk m c 7 t (ix2 r n) = V m c main_v10 (ix2 (⟨512 * t.val + r.val, h⟩ : Fin 8192) n) := by
  blk_ext! [iblk, idx t]

/-- Every grid point computes its four blocks from its rows and the weight rows that are kept after it. -/
theorem comps (t : Fin cfg0.N) : (outsAt0 m c t.val t.isLt).1 = k0_pay1 (F := Ideal) (k0_pay8 (iblk m c 4 t)) (k0_pay9 (iblk m c 0 t) (iblk m c 1 t) ((outsAt0 m c t.val t.isLt).2.2.2.2))
    ∧ (outsAt0 m c t.val t.isLt).2.1 = k0_pay2 (F := Ideal) (k0_pay7 (iblk m c 0 t) (iblk m c 1 t) ((outsAt0 m c t.val t.isLt).2.2.2.2)) (iblk m c 5 t)
    ∧ (outsAt0 m c t.val t.isLt).2.2.1 = k0_pay3 (F := Ideal) (k0_pay7 (iblk m c 0 t) (iblk m c 1 t) ((outsAt0 m c t.val t.isLt).2.2.2.2)) (iblk m c 6 t) (iblk m c 7 t)
    ∧ (outsAt0 m c t.val t.isLt).2.2.2.1 = k0_pay6 (F := Ideal) (iblk m c 0 t) (iblk m c 1 t) := by
  by_cases h0 : t.val % 16 = 0
  · rw [outsAt0_A m c t h0]
    dsimp only
    rw [sout_A]
    exact outs_A (hc0 := (hcond0_0 t).mpr h0) ..
  · rw [outsAt0_B m c t h0]
    dsimp only
    exact outs_B (hc0 := fun h => h0 ((hcond0_0 t).mp h)) ..

/-- The weight rows kept after every grid point are those of the first. -/
theorem state : ∀ (n : ℕ) (hn : n < cfg0.N), (outsAt0 m c n hn).2.2.2.2 = kept (iblk m c 2 ⟨0, by decide⟩) (iblk m c 3 ⟨0, by decide⟩) := by
  intro n
  induction n with
  | zero =>
    intro hn
    rw [show outsAt0 m c 0 hn = _ from outsAt0_A m c ⟨0, hn⟩ rfl]
    dsimp only
    rw [sout_A]
  | succ n ih =>
    intro hn
    have hN : n + 1 < 16 := hn
    rw [show outsAt0 m c (n + 1) hn = _ from outsAt0_B m c ⟨n + 1, hn⟩ (by show ¬(n + 1) % 16 = 0; omega)]
    dsimp only
    exact ih (by omega)

theorem row_hi (t : Fin cfg0.N) (k : Fin 1280) (j : Fin 256) (hk : k.val = 1024 + j.val) (d : Fin 2048) : (outsAt0 m c t.val t.isLt).2.2.2.2 (ix2 k d) = k0_pay5 (F := Ideal) (iblk m c 3 ⟨0, by decide⟩) (ix2 j d) := by
  have e : k = ⟨1024 + j.val, by omega⟩ := Fin.ext hk
  rw [e, state]
  exact kept_hi _ _ d j

/-- The first 1088 kept rows are the first columns of the weights in order. -/
theorem row_lo (t : Fin cfg0.N) (k : Fin 1280) (k' : Fin 13376) (hk : k'.val = k.val) (h : k.val < 1088) (d : Fin 2048) :
    (outsAt0 m c t.val t.isLt).2.2.2.2 (ix2 k d) = m ((c.tc : Thread nD τ).loc main_arg2) (ix3 (3 : Fin 4) d k') := by
  by_cases h1 : k.val < 1024
  · rw [state]
    refine (kept_lo _ _ d k h1).trans ((blk2 m c _ _ d).trans ?_)
    exact congrArg (fun k => m ((c.tc : Thread nD τ).loc main_arg2) (ix3 (3 : Fin 4) d k)) (Fin.ext hk.symm)
  · refine (row_hi m c t k ⟨k.val - 1024, by omega⟩ (by show k.val = 1024 + (k.val - 1024); omega) d).trans ?_
    refine (pay5_apply _ d _).trans ((dif_pos (show k.val - 1024 < 64 by omega)).trans ((blk3 m c _ _ d).trans ?_))
    exact congrArg (fun k => m ((c.tc : Thread nD τ).loc main_arg2) (ix3 (3 : Fin 4) d k)) (Fin.ext (by show 1024 + (k.val - 1024) = k'.val; omega))

/-- Then, among others, the second half of the rotary columns … -/
theorem row_a (t : Fin cfg0.N) (j : ℕ) (h : j < 32) (d : Fin 2048) :
    (outsAt0 m c t.val t.isLt).2.2.2.2 (ix2 (⟨1152 + j, by omega⟩ : Fin 1280) d) = m ((c.tc : Thread nD τ).loc main_arg2) (ix3 (3 : Fin 4) d (⟨1056 + j, by omega⟩ : Fin 13376)) := by
  refine (row_hi m c t _ ⟨128 + j, by omega⟩ (by show 1152 + j = 1024 + (128 + j); omega) d).trans ?_
  refine (pay5_apply _ d _).trans ((dif_neg (show ¬128 + j < 64 by omega)).trans ((dif_pos (show 128 ≤ 128 + j ∧ 128 + j < 160 by omega)).trans ((blk3 m c _ _ d).trans ?_)))
  exact congrArg (fun k => m ((c.tc : Thread nD τ).loc main_arg2) (ix3 (3 : Fin 4) d k)) (Fin.ext (by show 1024 + (128 + j - 96) = 1056 + j; omega))

/-- … and the first half once more. -/
theorem row_b (t : Fin cfg0.N) (j : ℕ) (h : j < 32) (d : Fin 2048) :
    (outsAt0 m c t.val t.isLt).2.2.2.2 (ix2 (⟨1184 + j, by omega⟩ : Fin 1280) d) = m ((c.tc : Thread nD τ).loc main_arg2) (ix3 (3 : Fin 4) d (⟨1024 + j, by omega⟩ : Fin 13376)) := by
  refine (row_hi m c t _ ⟨160 + j, by omega⟩ (by show 1184 + j = 1024 + (160 + j); omega) d).trans ?_
  refine (pay5_apply _ d _).trans ((dif_neg (show ¬160 + j < 64 by omega)).trans ((dif_neg (show ¬(128 ≤ 160 + j ∧ 160 + j < 160) by omega)).trans ((dif_pos (show 160 ≤ 160 + j ∧ 160 + j < 192 by omega)).trans ((blk3 m c _ _ d).trans ?_))))
  exact congrArg (fun k => m ((c.tc : Thread nD τ).loc main_arg2) (ix3 (3 : Fin 4) d k)) (Fin.ext (by show 1024 + (160 + j - 160) = 1024 + j; omega))

/-- A normalized row is the reference's. -/
theorem hid_eq (t : Fin cfg0.N) (r : Fin 512) (d : Fin 2048) (hr : 512 * t.val + r.val < 8192) :
    rms 0x45000000#32 (fun d => iblk m c 0 t (ix2 r d)) (fun d => iblk m c 1 t (ix3 (0 : Fin 1) (0 : Fin 1) d)) d = hid (m ((c.tc : Thread nD τ).loc main_arg0)) (m ((c.tc : Thread nD τ).loc main_arg1)) ⟨512 * t.val + r.val, hr⟩ d := by
  unfold hid
  exact congrArg₂ (fun x g => rms 0x45000000#32 x g d) (funext fun d => blk0 m c t r d hr) (funext fun d => blk1 m c t d)

/-- Its product with a kept row is the projection's entry at the column that row holds. -/
theorem dot_eq (t : Fin cfg0.N) (r : Fin 512) (hr : 512 * t.val + r.val < 8192) (W : FVec Ideal S1280x2048 .bf16) (k : Fin 1280) (k' : Fin 13376) (hW : ∀ d, W (ix2 k d) = m ((c.tc : Thread nD τ).loc main_arg2) (ix3 (3 : Fin 4) d k')) :
    dotp (iblk m c 0 t) (iblk m c 1 t) W r k = proj (m ((c.tc : Thread nD τ).loc main_arg0)) (m ((c.tc : Thread nD τ).loc main_arg1)) (m ((c.tc : Thread nD τ).loc main_arg2)) ⟨512 * t.val + r.val, hr⟩ k' := by
  unfold dotp proj
  exact Finset.sum_congr rfl fun d _ => congrArg₂ (· * ·) (hid_eq m c t r d hr) (hW d)

theorem arr8_eq (G : FVec Ideal S8192x512 .bf16) (hG : ∀ (t : Fin 8192) (n : Fin 512), G (ix2 t n) = low (m ((c.tc : Thread nD τ).loc main_arg0)) (m ((c.tc : Thread nD τ).loc main_arg1)) (m ((c.tc : Thread nD τ).loc main_arg2)) (m ((c.tc : Thread nD τ).loc main_arg3)) 0 t n) :
    (dats m 0 c).arrAt 8 cfg0.N = G := by
  refine (dats m 0 c).arrAt_eq_of_covers 8 G (by decide +kernel) fun t hf y => ?_
  have hN : t.val < 16 := t.isLt
  obtain ⟨i, n, rfl⟩ : ∃ (i : Fin 512) (n : Fin 512), y = ix2 i n := ⟨y 0, y 1, by funext a; fin_cases a <;> rfl⟩
  have hi : 512 * t.val + i.val < 8192 := by omega
  blk_simp
  rw [after0_8, (comps m c t).1]
  have e : ((cfg0.win 8).blk t).view.emb (ix2 i n) = ix2 (⟨512 * t.val + i.val, hi⟩ : Fin 8192) n := by
    blk_ext [idx t]
  rw [e, hG]
  refine (pay1_apply _ _ _ i _ n).trans ?_
  unfold low
  exact congrArg₂ (fun x g => rms 0x44000000#32 x g n) (funext fun n => dot_eq m c t i hi _ _ _ fun d => row_lo m c t _ _ (by show 512 * 0 + n.val = n.val; omega) (by show n.val < 1088; omega) d) (funext fun n => blk4 m c t n)

theorem arr9_eq (G : FVec Ideal S8192x512 .bf16) (hG : ∀ (t : Fin 8192) (n : Fin 512), G (ix2 t n) = low (m ((c.tc : Thread nD τ).loc main_arg0)) (m ((c.tc : Thread nD τ).loc main_arg1)) (m ((c.tc : Thread nD τ).loc main_arg2)) (m ((c.tc : Thread nD τ).loc main_arg4)) 1 t n) :
    (dats m 0 c).arrAt 9 cfg0.N = G := by
  refine (dats m 0 c).arrAt_eq_of_covers 9 G (by decide +kernel) fun t hf y => ?_
  have hN : t.val < 16 := t.isLt
  obtain ⟨i, n, rfl⟩ : ∃ (i : Fin 512) (n : Fin 512), y = ix2 i n := ⟨y 0, y 1, by funext a; fin_cases a <;> rfl⟩
  have hi : 512 * t.val + i.val < 8192 := by omega
  blk_simp
  rw [after0_9, (comps m c t).2.1]
  have e : ((cfg0.win 9).blk t).view.emb (ix2 i n) = ix2 (⟨512 * t.val + i.val, hi⟩ : Fin 8192) n := by
    blk_ext [idx t]
  rw [e, hG]
  refine (pay2_apply _ _ _ i _ n).trans ?_
  unfold low
  exact congrArg₂ (fun x g => rms 0x44000000#32 x g n) (funext fun n => dot_eq m c t i hi _ _ _ fun d => row_lo m c t _ _ (by show 512 * 1 + n.val = 512 + n.val; omega) (by show 512 + n.val < 1088; omega) d) (funext fun n => blk5 m c t n)

theorem arr10_eq (G : FVec Ideal S8192x128 .bf16) (hG : ∀ (t : Fin 8192) (n : Fin 128), G (ix2 t n) = rot (m ((c.tc : Thread nD τ).loc main_arg0)) (m ((c.tc : Thread nD τ).loc main_arg1)) (m ((c.tc : Thread nD τ).loc main_arg2)) (m ((c.tc : Thread nD τ).loc main_arg5)) (m ((c.tc : Thread nD τ).loc main_arg6)) t n) :
    (dats m 0 c).arrAt 10 cfg0.N = G := by
  refine (dats m 0 c).arrAt_eq_of_covers 10 G (by decide +kernel) fun t hf y => ?_
  have hN : t.val < 16 := t.isLt
  obtain ⟨i, n, rfl⟩ : ∃ (i : Fin 512) (n : Fin 128), y = ix2 i n := ⟨y 0, y 1, by funext a; fin_cases a <;> rfl⟩
  have hi : 512 * t.val + i.val < 8192 := by omega
  blk_simp
  rw [after0_10, (comps m c t).2.2.1]
  have e : ((cfg0.win 10).blk t).view.emb (ix2 i n) = ix2 (⟨512 * t.val + i.val, hi⟩ : Fin 8192) n := by
    blk_ext [idx t]
  rw [e, hG]
  refine (pay3_apply _ _ _ i _ _ n).trans ?_
  rw [blk6 m c t i n hi, blk7 m c t i n hi, V8_eq, V10_eq, table_apply, table_apply]
  unfold rot
  by_cases h : n.val < 32
  · simp only [dif_pos h]
    rw [flat_apply, show Host.negf (flat (m ((c.tc : Thread nD τ).loc main_arg6))) (ix2 (⟨512 * t.val + i.val, hi⟩ : Fin 8192) (⟨n.val, h⟩ : Fin 32)) = -(flat (m ((c.tc : Thread nD τ).loc main_arg6)) (ix2 (⟨512 * t.val + i.val, hi⟩ : Fin 8192) (⟨n.val, h⟩ : Fin 32)) : EReal) from rfl, flat_apply, mul_neg, ← sub_eq_add_neg]
    exact congrArg₂ (· - ·) (congrArg (· * _) (dot_eq m c t i hi _ _ _ fun d => row_lo m c t _ _ rfl (by show 1024 + n.val < 1088; omega) d)) (congrArg (· * _) (dot_eq m c t i hi _ _ _ fun d => row_a m c t n.val h d))
  · simp only [dif_neg h]
    by_cases h' : n.val < 64
    · simp only [dif_pos h']
      rw [flat_apply, flat_apply]
      have hb : (⟨1152 + n.val, by omega⟩ : Fin 1280) = ⟨1184 + (n.val - 32), by omega⟩ := Fin.ext (by show 1152 + n.val = 1184 + (n.val - 32); omega)
      rw [hb]
      exact congrArg₂ (· + ·) (congrArg (· * _) (dot_eq m c t i hi _ _ _ fun d => row_lo m c t _ _ rfl (by show 1024 + n.val < 1088; omega) d)) (congrArg (· * _) (dot_eq m c t i hi _ _ _ fun d => row_b m c t (n.val - 32) (by omega) d))
    · simp only [dif_neg h', mul_zero, add_zero]

theorem arr11_eq (G : FVec Ideal S8192x2048 .bf16) (hG : ∀ (t : Fin 8192) (d : Fin 2048), G (ix2 t d) = hid (m ((c.tc : Thread nD τ).loc main_arg0)) (m ((c.tc : Thread nD τ).loc main_arg1)) t d) :
    (dats m 0 c).arrAt 11 cfg0.N = G := by
  refine (dats m 0 c).arrAt_eq_of_covers 11 G (by decide +kernel) fun t hf y => ?_
  have hN : t.val < 16 := t.isLt
  obtain ⟨i, n, rfl⟩ : ∃ (i : Fin 512) (n : Fin 2048), y = ix2 i n := ⟨y 0, y 1, by funext a; fin_cases a <;> rfl⟩
  have hi : 512 * t.val + i.val < 8192 := by omega
  blk_simp
  rw [after0_11, (comps m c t).2.2.2]
  have e : ((cfg0.win 11).blk t).view.emb (ix2 i n) = ix2 (⟨512 * t.val + i.val, hi⟩ : Fin 8192) n := by
    blk_ext [idx t]
  rw [e, hG]
  exact (pay6_apply _ _ i n).trans (hid_eq m c t i n hi)

end Cert.Kernel5Ideal.In1
-- ==== Proof.Steps.lean ====
module

public import proofs.«01_k».proof.Proof.Gen.KernelIdeal.Value

/-! One step of the kernel's running softmax, as functions of whole vectors: 512 rows of queries meet `1024` columns
(`8` groups of 128 lanes) or `512` columns (`4` groups). The running maximum and the running row sum are kept one per lane. -/

@[expose] public section
noncomputable section
namespace Cert.KernelIdeal.Att
open Cert.KernelIdeal Cert.KernelIdeal.Gen Idealize.ShloMosaic Idealize.ShloMosaic.TcCoe Idealize.SL.Sem

variable {F : FTy → Type} [FloatOps F] [Named F]

/-- A row's maximum over its lanes, repeated on every lane. -/
def laneMax (x : FVec F S512x128 .f32) : FVec F S512x128 .f32 :=
  broadcastTo S512x128 (shapeCast S512x1 (multiReduction .maximumf [1] S512 x 0xFF800000#32 reduces_S512x128_S512 (.inl rfl) rfl) shapeCasts_S512_S512x1) broadcasts_S512x1_S512x128

/-- The new running maximum: the old one against the row's greatest of the 1024 scores. -/
def mx8 (s : FVec F S512x1024 .f32) (m : FVec F S512x128 .f32) : FVec F S512x128 .f32 :=
  maximumf m (laneMax (maximumf (maximumf (maximumf (maximumf (maximumf (maximumf (maximumf (extractStridedSlice S512x128 ![0, 0] s slices_S512x1024_o0_0_S512x128) (extractStridedSlice S512x128 ![0, 128] s slices_S512x1024_o0_128_S512x128)) (extractStridedSlice S512x128 ![0, 256] s slices_S512x1024_o0_256_S512x128)) (extractStridedSlice S512x128 ![0, 384] s slices_S512x1024_o0_384_S512x128)) (extractStridedSlice S512x128 ![0, 512] s slices_S512x1024_o0_512_S512x128)) (extractStridedSlice S512x128 ![0, 640] s slices_S512x1024_o0_640_S512x128)) (extractStridedSlice S512x128 ![0, 768] s slices_S512x1024_o0_768_S512x128)) (extractStridedSlice S512x128 ![0, 896] s slices_S512x1024_o0_896_S512x128)))

/-- The factor the old sums are rescaled by. -/
def al8 (s : FVec F S512x1024 .f32) (m : FVec F S512x128 .f32) : FVec F S512x128 .f32 := exp2 (subf m (mx8 s m))

/-- The 1024 new weights, relative to the new maximum. -/
def pr8 (s : FVec F S512x1024 .f32) (m : FVec F S512x128 .f32) : FVec F S512x1024 .f32 :=
  exp2 (subf s (concatenate S512x1024 1 [⟨S512x128, mx8 s m⟩, ⟨S512x128, mx8 s m⟩, ⟨S512x128, mx8 s m⟩, ⟨S512x128, mx8 s m⟩, ⟨S512x128, mx8 s m⟩, ⟨S512x128, mx8 s m⟩, ⟨S512x128, mx8 s m⟩, ⟨S512x128, mx8 s m⟩] concatenates_S512x128_S512x128_S512x128_S512x128_S512x128_S512x128_S512x128_S512x128_S512x1024_d1))

/-- The new running row sum, lane by lane. -/
def ls8 (s : FVec F S512x1024 .f32) (m l : FVec F S512x128 .f32) : FVec F S512x128 .f32 :=
  addf (mulf (al8 s m) l) (addf (addf (addf (addf (addf (addf (addf (extractStridedSlice S512x128 ![0, 0] (pr8 s m) slices_S512x1024_o0_0_S512x128) (extractStridedSlice S512x128 ![0, 128] (pr8 s m) slices_S512x1024_o0_128_S512x128)) (extractStridedSlice S512x128 ![0, 256] (pr8 s m) slices_S512x1024_o0_256_S512x128)) (extractStridedSlice S512x128 ![0, 384] (pr8 s m) slices_S512x1024_o0_384_S512x128)) (extractStridedSlice S512x128 ![0, 512] (pr8 s m) slices_S512x1024_o0_512_S512x128)) (extractStridedSlice S512x128 ![0, 640] (pr8 s m) slices_S512x1024_o0_640_S512x128)) (extractStridedSlice S512x128 ![0, 768] (pr8 s m) slices_S512x1024_o0_768_S512x128)) (extractStridedSlice S512x128 ![0, 896] (pr8 s m) slices_S512x1024_o0_896_S512x128))

/-- The new running weighted sum of the values. -/
def ac8 (s : FVec F S512x1024 .f32) (m : FVec F S512x128 .f32) (v : FVec F S1024x128 .bf16) (a : FVec F S512x128 .f32) : FVec F S512x128 .f32 :=
  addf (mulf (al8 s m) a) (matmul dot_S512x1024_S1024x128_S512x128_1_0_0_1_n_n none (truncf .bf16 (pr8 s m) bitsLt_bf16_f32) v (constant S512x128 .f32 0x00000000#32))

/-- The new running maximum: the old one against the row's greatest of the 512 scores. -/
def mx4 (s : FVec F S512x512 .f32) (m : FVec F S512x128 .f32) : FVec F S512x128 .f32 :=
  maximumf m (laneMax (maximumf (maximumf (maximumf (extractStridedSlice S512x128 ![0, 0] s slices_S512x512_o0_0_S512x128) (extractStridedSlice S512x128 ![0, 128] s slices_S512x512_o0_128_S512x128)) (extractStridedSlice S512x128 ![0, 256] s slices_S512x512_o0_256_S512x128)) (extractStridedSlice S512x128 ![0, 384] s slices_S512x512_o0_384_S512x128)))

/-- The factor the old sums are rescaled by. -/
def al4 (s : FVec F S512x512 .f32) (m : FVec F S512x128 .f32) : FVec F S512x128 .f32 := exp2 (subf m (mx4 s m))

/-- The 512 new weights, relative to the new maximum. -/
def pr4 (s : FVec F S512x512 .f32) (m : FVec F S512x128 .f32) : FVec F S512x512 .f32 :=
  exp2 (subf s (concatenate S512x512 1 [⟨S512x128, mx4 s m⟩, ⟨S512x128, mx4 s m⟩, ⟨S512x128, mx4 s m⟩, ⟨S512x128, mx4 s m⟩] concatenates_S512x128_S512x128_S512x128_S512x128_S512x512_d1))

/-- The new running row sum, lane by lane. -/
def ls4 (s : FVec F S512x512 .f32) (m l : FVec F S512x128 .f32) : FVec F S512x128 .f32 :=
  addf (mulf (al4 s m) l) (addf (addf (addf (extractStridedSlice S512x128 ![0, 0] (pr4 s m) slices_S512x512_o0_0_S512x128) (extractStridedSlice S512x128 ![0, 128] (pr4 s m) slices_S512x512_o0_128_S512x128)) (extractStridedSlice S512x128 ![0, 256] (pr4 s m) slices_S512x512_o0_256_S512x128)) (extractStridedSlice S512x128 ![0, 384] (pr4 s m) slices_S512x512_o0_384_S512x128))

/-- The new running weighted sum of the values. -/
def ac4 (s : FVec F S512x512 .f32) (m : FVec F S512x128 .f32) (v : FVec F S512x128 .bf16) (a : FVec F S512x128 .f32) : FVec F S512x128 .f32 :=
  addf (mulf (al4 s m) a) (matmul dot_S512x512_S512x128_S512x128_1_0_0_1_n_n none (truncf .bf16 (pr4 s m) bitsLt_bf16_f32) v (constant S512x128 .f32 0x00000000#32))

/-! ### The blocks a trip of the loop loads -/
variable (i : grid0.Coords) (k : Fin (k0_t1_loop i).trips)

/-- Head 0 of the pair: the 1024 by 1024 scores of a trip. -/
def blk0 (arg2 : Memref sig .tc .vmem S2x1024x256 .bf16) (arg3 : Memref sig .tc .vmem S2x8192x256 .bf16) (X_arg2 : BufTy.Contents (Elt F) arg2.view.ty) (X_arg3 : BufTy.Contents (Elt F) arg3.view.ty) : FVec F S1024x1024 .f32 :=
  matmul dot_S1024x256_S1024x256_S1024x1024_1_1_0_0_n_n none
    (shapeCast S1024x256 (View.readAt (Elt F) arg2.view (Rect.unit (s := S2x1024x256) ![0, 0, 0] S1x1024x256.size inb_S2x1024x256_S1x1024x256_0_0_0).toLoadRect X_arg2) shapeCasts_S1x1024x256_S1024x256)
    (shapeCast S1024x256 (View.readAt (Elt F) arg3.view (Rect.unit (s := S2x8192x256) (k0_off1 i k) S1x1024x256.size (k0_off1_inb i k)).toLoadRect X_arg3) shapeCasts_S1x1024x256_S1024x256)
    (constant S1024x1024 .f32 0x00000000#32)

/-- Head 0 of the pair: the values of a trip. -/
def val0 (arg4 : Memref sig .tc .vmem S2x8192x128 .bf16) (X_arg4 : BufTy.Contents (Elt F) arg4.view.ty) : FVec F S1024x128 .bf16 :=
  shapeCast S1024x128 (View.readAt (Elt F) arg4.view (Rect.unit (s := S2x8192x128) (k0_off3 i k) S1x1024x128.size (k0_off3_inb i k)).toLoadRect X_arg4) shapeCasts_S1x1024x128_S1024x128

/-- Rows 0 to 511 of head 0 of the pair, read out of a running buffer. -/
def at00 (a : Memref sig .tc .vmem S2x1024x128 .f32) (f : BufTy.Contents (Elt F) a.view.ty) : FVec F S512x128 .f32 :=
  shapeCast S512x128 (View.readAt (Elt F) a.view (Rect.unit (s := S2x1024x128) ![0, 0, 0] S1x512x128.size inb_S2x1024x128_S1x512x128_0_0_0).toLoadRect f) shapeCasts_S1x512x128_S512x128

/-- The scores of those rows. -/
def sc00 (arg2 : Memref sig .tc .vmem S2x1024x256 .bf16) (arg3 : Memref sig .tc .vmem S2x8192x256 .bf16) (X_arg2 : BufTy.Contents (Elt F) arg2.view.ty) (X_arg3 : BufTy.Contents (Elt F) arg3.view.ty) : FVec F S512x1024 .f32 :=
  extractStridedSlice S512x1024 ![0, 0] (blk0 i k arg2 arg3 X_arg2 X_arg3) slices_S1024x1024_o0_0_S512x1024

/-- Rows 512 to 1023 of head 0 of the pair, read out of a running buffer. -/
def at01 (a : Memref sig .tc .vmem S2x1024x128 .f32) (f : BufTy.Contents (Elt F) a.view.ty) : FVec F S512x128 .f32 :=
  shapeCast S512x128 (View.readAt (Elt F) a.view (Rect.unit (s := S2x1024x128) ![0, 512, 0] S1x512x128.size inb_S2x1024x128_S1x512x128_0_512_0).toLoadRect f) shapeCasts_S1x512x128_S512x128

/-- The scores of those rows. -/
def sc01 (arg2 : Memref sig .tc .vmem S2x1024x256 .bf16) (arg3 : Memref sig .tc .vmem S2x8192x256 .bf16) (X_arg2 : BufTy.Contents (Elt F) arg2.view.ty) (X_arg3 : BufTy.Contents (Elt F) arg3.view.ty) : FVec F S512x1024 .f32 :=
  extractStridedSlice S512x1024 ![512, 0] (blk0 i k arg2 arg3 X_arg2 X_arg3) slices_S1024x1024_o512_0_S512x1024

/-- Head 1 of the pair: the 1024 by 1024 scores of a trip. -/
def blk1 (arg2 : Memref sig .tc .vmem S2x1024x256 .bf16) (arg3 : Memref sig .tc .vmem S2x8192x256 .bf16) (X_arg2 : BufTy.Contents (Elt F) arg2.view.ty) (X_arg3 : BufTy.Contents (Elt F) arg3.view.ty) : FVec F S1024x1024 .f32 :=
  matmul dot_S1024x256_S1024x256_S1024x1024_1_1_0_0_n_n none
    (shapeCast S1024x256 (View.readAt (Elt F) arg2.view (Rect.unit (s := S2x1024x256) ![1, 0, 0] S1x1024x256.size inb_S2x1024x256_S1x1024x256_1_0_0).toLoadRect X_arg2) shapeCasts_S1x1024x256_S1024x256)
    (shapeCast S1024x256 (View.readAt (Elt F) arg3.view (Rect.unit (s := S2x8192x256) (k0_off2 i k) S1x1024x256.size (k0_off2_inb i k)).toLoadRect X_arg3) shapeCasts_S1x1024x256_S1024x256)
    (constant S1024x1024 .f32 0x00000000#32)

/-- Head 1 of the pair: the values of a trip. -/
def val1 (arg4 : Memref sig .tc .vmem S2x8192x128 .bf16) (X_arg4 : BufTy.Contents (Elt F) arg4.view.ty) : FVec F S1024x128 .bf16 :=
  shapeCast S1024x128 (View.readAt (Elt F) arg4.view (Rect.unit (s := S2x8192x128) (k0_off4 i k) S1x1024x128.size (k0_off4_inb i k)).toLoadRect X_arg4) shapeCasts_S1x1024x128_S1024x128

/-- Rows 0 to 511 of head 1 of the pair, read out of a running buffer. -/
def at10 (a : Memref sig .tc .vmem S2x1024x128 .f32) (f : BufTy.Contents (Elt F) a.view.ty) : FVec F S512x128 .f32 :=
  shapeCast S512x128 (View.readAt (Elt F) a.view (Rect.unit (s := S2x1024x128) ![1, 0, 0] S1x512x128.size inb_S2x1024x128_S1x512x128_1_0_0).toLoadRect f) shapeCasts_S1x512x128_S512x128

/-- The scores of those rows. -/
def sc10 (arg2 : Memref sig .tc .vmem S2x1024x256 .bf16) (arg3 : Memref sig .tc .vmem S2x8192x256 .bf16) (X_arg2 : BufTy.Contents (Elt F) arg2.view.ty) (X_arg3 : BufTy.Contents (Elt F) arg3.view.ty) : FVec F S512x1024 .f32 :=
  extractStridedSlice S512x1024 ![0, 0] (blk1 i k arg2 arg3 X_arg2 X_arg3) slices_S1024x1024_o0_0_S512x1024

/-- Rows 512 to 1023 of head 1 of the pair, read out of a running buffer. -/
def at11 (a : Memref sig .tc .vmem S2x1024x128 .f32) (f : BufTy.Contents (Elt F) a.view.ty) : FVec F S512x128 .f32 :=
  shapeCast S512x128 (View.readAt (Elt F) a.view (Rect.unit (s := S2x1024x128) ![1, 512, 0] S1x512x128.size inb_S2x1024x128_S1x512x128_1_512_0).toLoadRect f) shapeCasts_S1x512x128_S512x128

/-- The scores of those rows. -/
def sc11 (arg2 : Memref sig .tc .vmem S2x1024x256 .bf16) (arg3 : Memref sig .tc .vmem S2x8192x256 .bf16) (X_arg2 : BufTy.Contents (Elt F) arg2.view.ty) (X_arg3 : BufTy.Contents (Elt F) arg3.view.ty) : FVec F S512x1024 .f32 :=
  extractStridedSlice S512x1024 ![512, 0] (blk1 i k arg2 arg3 X_arg2 X_arg3) slices_S1024x1024_o512_0_S512x1024

/-- A block of 512 rows as it is stored into a running buffer. -/
def up (x : FVec F S512x128 .f32) : Vec F S1x512x128 .f32 := shapeCast S1x512x128 x shapeCasts_S512x128_S1x512x128

set_option maxHeartbeats 4000000 in
/-- What one trip stores into the running maximum's buffer. -/
theorem trip6 (𝒱 : Variants) (c : Dev nD) (bd : Option 𝒱.V) (arg2 : Memref sig .tc .vmem S2x1024x256 .bf16) (harg2 : arg2.IsWhole) (arg3 : Memref sig .tc .vmem S2x8192x256 .bf16) (harg3 : arg3.IsWhole) (arg4 : Memref sig .tc .vmem S2x8192x128 .bf16) (harg4 : arg4.IsWhole) (arg5 : Memref sig .tc .vmem S1024x256 .bf16) (harg5 : arg5.IsWhole) (arg6 : Memref sig .tc .vmem S2x1024x128 .f32) (harg6 : arg6.IsWhole) (arg7 : Memref sig .tc .vmem S2x1024x128 .f32) (harg7 : arg7.IsWhole) (arg8 : Memref sig .tc .vmem S2x1024x128 .f32) (harg8 : arg8.IsWhole) (X_arg2 : BufTy.Contents (Elt F) arg2.view.ty) (X_arg3 : BufTy.Contents (Elt F) arg3.view.ty) (X_arg4 : BufTy.Contents (Elt F) arg4.view.ty) (f6 : BufTy.Contents (Elt F) arg6.view.ty) (f7 : BufTy.Contents (Elt F) arg7.view.ty) (f8 : BufTy.Contents (Elt F) arg8.view.ty) :
    (trip_k0_t1 (F := F) 𝒱 c bd i arg2 harg2 arg3 harg3 arg4 harg4 arg5 harg5 arg6 harg6 arg7 harg7 arg8 harg8 X_arg2 X_arg3 X_arg4 k).1 f6 f7 f8 =
     [⟨Rect.unit ![1, 512, 0] S1x512x128.size inb_S2x1024x128_S1x512x128_1_512_0, up (mx8 (sc11 i k arg2 arg3 X_arg2 X_arg3) (at11 arg6 f6))⟩,
      ⟨Rect.unit ![1, 0, 0] S1x512x128.size inb_S2x1024x128_S1x512x128_1_0_0, up (mx8 (sc10 i k arg2 arg3 X_arg2 X_arg3) (at10 arg6 f6))⟩,
      ⟨Rect.unit ![0, 512, 0] S1x512x128.size inb_S2x1024x128_S1x512x128_0_512_0, up (mx8 (sc01 i k arg2 arg3 X_arg2 X_arg3) (at01 arg6 f6))⟩,
      ⟨Rect.unit ![0, 0, 0] S1x512x128.size inb_S2x1024x128_S1x512x128_0_0_0, up (mx8 (sc00 i k arg2 arg3 X_arg2 X_arg3) (at00 arg6 f6))⟩] := by
  unfold trip_k0_t1
  rfl

set_option maxHeartbeats 4000000 in
/-- What one trip stores into the running row sum's buffer. -/
theorem trip7 (𝒱 : Variants) (c : Dev nD) (bd : Option 𝒱.V) (arg2 : Memref sig .tc .vmem S2x1024x256 .bf16) (harg2 : arg2.IsWhole) (arg3 : Memref sig .tc .vmem S2x8192x256 .bf16) (harg3 : arg3.IsWhole) (arg4 : Memref sig .tc .vmem S2x8192x128 .bf16) (harg4 : arg4.IsWhole) (arg5 : Memref sig .tc .vmem S1024x256 .bf16) (harg5 : arg5.IsWhole) (arg6 : Memref sig .tc .vmem S2x1024x128 .f32) (harg6 : arg6.IsWhole) (arg7 : Memref sig .tc .vmem S2x1024x128 .f32) (harg7 : arg7.IsWhole) (arg8 : Memref sig .tc .vmem S2x1024x128 .f32) (harg8 : arg8.IsWhole) (X_arg2 : BufTy.Contents (Elt F) arg2.view.ty) (X_arg3 : BufTy.Contents (Elt F) arg3.view.ty) (X_arg4 : BufTy.Contents (Elt F) arg4.view.ty) (f6 : BufTy.Contents (Elt F) arg6.view.ty) (f7 : BufTy.Contents (Elt F) arg7.view.ty) (f8 : BufTy.Contents (Elt F) arg8.view.ty) :
    (trip_k0_t1 (F := F) 𝒱 c bd i arg2 harg2 arg3 harg3 arg4 harg4 arg5 harg5 arg6 harg6 arg7 harg7 arg8 harg8 X_arg2 X_arg3 X_arg4 k).2.1 f6 f7 f8 =
     [⟨Rect.unit ![1, 512, 0] S1x512x128.size inb_S2x1024x128_S1x512x128_1_512_0, up (ls8 (sc11 i k arg2 arg3 X_arg2 X_arg3) (at11 arg6 f6) (at11 arg7 f7))⟩,
      ⟨Rect.unit ![1, 0, 0] S1x512x128.size inb_S2x1024x128_S1x512x128_1_0_0, up (ls8 (sc10 i k arg2 arg3 X_arg2 X_arg3) (at10 arg6 f6) (at10 arg7 f7))⟩,
      ⟨Rect.unit ![0, 512, 0] S1x512x128.size inb_S2x1024x128_S1x512x128_0_512_0, up (ls8 (sc01 i k arg2 arg3 X_arg2 X_arg3) (at01 arg6 f6) (at01 arg7 f7))⟩,
      ⟨Rect.unit ![0, 0, 0] S1x512x128.size inb_S2x1024x128_S1x512x128_0_0_0, up (ls8 (sc00 i k arg2 arg3 X_arg2 X_arg3) (at00 arg6 f6) (at00 arg7 f7))⟩] := by
  unfold trip_k0_t1
  rfl

set_option maxHeartbeats 4000000 in
/-- What one trip stores into the running weighted sum's buffer. -/
theorem trip8 (𝒱 : Variants) (c : Dev nD) (bd : Option 𝒱.V) (arg2 : Memref sig .tc .vmem S2x1024x256 .bf16) (harg2 : arg2.IsWhole) (arg3 : Memref sig .tc .vmem S2x8192x256 .bf16) (harg3 : arg3.IsWhole) (arg4 : Memref sig .tc .vmem S2x8192x128 .bf16) (harg4 : arg4.IsWhole) (arg5 : Memref sig .tc .vmem S1024x256 .bf16) (harg5 : arg5.IsWhole) (arg6 : Memref sig .tc .vmem S2x1024x128 .f32) (harg6 : arg6.IsWhole) (arg7 : Memref sig .tc .vmem S2x1024x128 .f32) (harg7 : arg7.IsWhole) (arg8 : Memref sig .tc .vmem S2x1024x128 .f32) (harg8 : arg8.IsWhole) (X_arg2 : BufTy.Contents (Elt F) arg2.view.ty) (X_arg3 : BufTy.Contents (Elt F) arg3.view.ty) (X_arg4 : BufTy.Contents (Elt F) arg4.view.ty) (f6 : BufTy.Contents (Elt F) arg6.view.ty) (f7 : BufTy.Contents (Elt F) arg7.view.ty) (f8 : BufTy.Contents (Elt F) arg8.view.ty) :
    (trip_k0_t1 (F := F) 𝒱 c bd i arg2 harg2 arg3 harg3 arg4 harg4 arg5 harg5 arg6 harg6 arg7 harg7 arg8 harg8 X_arg2 X_arg3 X_arg4 k).2.2.1 f6 f7 f8 =
     [⟨Rect.unit ![1, 512, 0] S1x512x128.size inb_S2x1024x128_S1x512x128_1_512_0, up (ac8 (sc11 i k arg2 arg3 X_arg2 X_arg3) (at11 arg6 f6) (val1 i k arg4 X_arg4) (at11 arg8 f8))⟩,
      ⟨Rect.unit ![1, 0, 0] S1x512x128.size inb_S2x1024x128_S1x512x128_1_0_0, up (ac8 (sc10 i k arg2 arg3 X_arg2 X_arg3) (at10 arg6 f6) (val1 i k arg4 X_arg4) (at10 arg8 f8))⟩,
      ⟨Rect.unit ![0, 512, 0] S1x512x128.size inb_S2x1024x128_S1x512x128_0_512_0, up (ac8 (sc01 i k arg2 arg3 X_arg2 X_arg3) (at01 arg6 f6) (val0 i k arg4 X_arg4) (at01 arg8 f8))⟩,
      ⟨Rect.unit ![0, 0, 0] S1x512x128.size inb_S2x1024x128_S1x512x128_0_0_0, up (ac8 (sc00 i k arg2 arg3 X_arg2 X_arg3) (at00 arg6 f6) (val0 i k arg4 X_arg4) (at00 arg8 f8))⟩] := by
  unfold trip_k0_t1
  rfl

end Cert.KernelIdeal.Att
-- ==== Proof.Vec.lean ====
module

public import proofs.«01_k».proof.Proof.Steps
public import Idealize.ShloMosaic.Lib.Pointwise

/-! The steps of `Steps.lean` at the ideal numbers, read at one row and one lane. -/

@[expose] public section
noncomputable section
namespace Cert.KernelIdeal.Att
open Cert.KernelIdeal Cert.KernelIdeal.Gen Idealize.ShloMosaic Idealize.ShloMosaic.TcCoe Idealize.SL.Sem

/-- Folding `max` from the word of −∞ takes the supremum. -/
theorem fold_max_bot {α : Type} (S : Finset α) (f : α → EReal) :
    Finset.fold max (Ideal.ofBits FTy.f32 4286578688#32) f S = S.sup f := by
  rw [show Ideal.ofBits FTy.f32 4286578688#32 = ⊥ by simp [Ideal.ofBits]; decide]
  rfl

theorem laneMax_apply (x : FVec Ideal S512x128 .f32) (r : Fin 512) (d : Fin 128) :
    laneMax x (ix2 r d) = Finset.univ.sup fun k : Fin 128 => x (ix2 r k) := by
  unfold laneMax
  pointwise
  exact fold_max_bot _ _

/-- The lane a column falls on. -/
def lane (c : ℕ) : Fin 128 := ⟨c % 128, Nat.mod_lt _ (by norm_num)⟩

theorem mx8_apply (s : FVec Ideal S512x1024 .f32) (m : FVec Ideal S512x128 .f32) (r : Fin 512) (d : Fin 128) :
    mx8 s m (ix2 r d) = max (m (ix2 r d)) (Finset.univ.sup fun c : Fin 1024 => s (ix2 r c)) := by
  unfold mx8
  rw [ValueIdx.maximumf_apply, laneMax_apply]
  pointwise
  congr 1
  apply le_antisymm
  · refine Finset.sup_le fun k _ => ?_
    have key : ∀ c : Fin 1024, s (ix2 r c) ≤ Finset.univ.sup fun c : Fin 1024 => s (ix2 r c) :=
      fun c => Finset.le_sup (f := fun c : Fin 1024 => s (ix2 r c)) (Finset.mem_univ c)
    simp only [max_le_iff]
    refine ⟨⟨⟨⟨⟨⟨⟨?_, ?_⟩, ?_⟩, ?_⟩, ?_⟩, ?_⟩, ?_⟩, ?_⟩ <;> exact key _
  · refine Finset.sup_le fun c _ => ?_
    refine le_trans ?_ (Finset.le_sup (Finset.mem_univ (lane c.val)))
    have hc := c.isLt
    have hd : c.val / 128 < 8 := by omega
    simp only [lane, le_max_iff]
    have e : c.val = 128 * (c.val / 128) + c.val % 128 := by omega
    generalize c.val / 128 = g at hd e
    interval_cases g <;> simp only [Nat.mul_zero, Nat.mul_one, Nat.reduceMul, Nat.zero_add] at e
    · exact (Or.inl (Or.inl (Or.inl (Or.inl (Or.inl (Or.inl (Or.inl (le_of_eq (congrArg (fun z => s (ix2 r z)) (Fin.ext (by simp only; omega)))))))))))
    · exact (Or.inl (Or.inl (Or.inl (Or.inl (Or.inl (Or.inl (Or.inr (le_of_eq (congrArg (fun z => s (ix2 r z)) (Fin.ext (by simp only; omega)))))))))))
    · exact (Or.inl (Or.inl (Or.inl (Or.inl (Or.inl (Or.inr (le_of_eq (congrArg (fun z => s (ix2 r z)) (Fin.ext (by simp only; omega))))))))))
    · exact (Or.inl (Or.inl (Or.inl (Or.inl (Or.inr (le_of_eq (congrArg (fun z => s (ix2 r z)) (Fin.ext (by simp only; omega)))))))))
    · exact (Or.inl (Or.inl (Or.inl (Or.inr (le_of_eq (congrArg (fun z => s (ix2 r z)) (Fin.ext (by simp only; omega))))))))
    · exact (Or.inl (Or.inl (Or.inr (le_of_eq (congrArg (fun z => s (ix2 r z)) (Fin.ext (by simp only; omega)))))))
    · exact (Or.inl (Or.inr (le_of_eq (congrArg (fun z => s (ix2 r z)) (Fin.ext (by simp only; omega))))))
    · exact (Or.inr (le_of_eq (congrArg (fun z => s (ix2 r z)) (Fin.ext (by simp only; omega)))))

theorem pr8_apply (s : FVec Ideal S512x1024 .f32) (m : FVec Ideal S512x128 .f32) (r : Fin 512) (c : Fin 1024) :
    pr8 s m (ix2 r c) = Ideal.exp2 (s (ix2 r c) - mx8 s m (ix2 r (lane c.val))) := by
  unfold pr8
  pointwise
  have hc := c.isLt
  refine congrArg (fun z => Ideal.exp2 (s (ix2 r c) - z)) ?_
  split_ifs <;> exact congrArg (fun z => mx8 s m (ix2 r z)) (Fin.ext (by simp only [lane]; omega))

theorem al8_apply (s : FVec Ideal S512x1024 .f32) (m : FVec Ideal S512x128 .f32) (r : Fin 512) (d : Fin 128) :
    al8 s m (ix2 r d) = Ideal.exp2 (m (ix2 r d) - mx8 s m (ix2 r d)) := rfl

theorem ls8_apply (s : FVec Ideal S512x1024 .f32) (m l : FVec Ideal S512x128 .f32) (r : Fin 512) (d : Fin 128) :
    ls8 s m l (ix2 r d) = al8 s m (ix2 r d) * l (ix2 r d)
      + ∑ c : Fin 1024, pr8 s m (ix2 r c) * (if c.val % 128 = d.val then 1 else 0) := by
  unfold ls8
  pointwise
  refine congrArg (fun z => al8 s m (ix2 r d) * l (ix2 r d) + z) ?_
  have hd := d.isLt
  have e : (∑ c : Fin 1024, pr8 s m (ix2 r c) * (if c.val % 128 = d.val then 1 else 0) : EReal)
      = ∑ g : Fin 8, pr8 s m (ix2 r ⟨128 * g.val + d.val, by omega⟩) := by
    simp only [mul_ite, mul_one, mul_zero]
    rw [← Finset.sum_filter]
    symm
    refine Finset.sum_bij (fun g _ => (⟨128 * g.val + d.val, by omega⟩ : Fin 1024)) ?_ ?_ ?_ ?_
    · intro g _; simp only [Finset.mem_filter, Finset.mem_univ, true_and]; omega
    · intro a _ b _ h; have := congrArg Fin.val h; simp only at this; exact Fin.ext (by omega)
    · intro c hc
      have hc := (Finset.mem_filter.mp hc).2
      exact ⟨⟨c.val / 128, by have := c.isLt; omega⟩, Finset.mem_univ _, Fin.ext (by simp only; omega)⟩
    · intro g _; rfl
  rw [e, Fin.sum_univ_eight]
  simp only [Fin.isValue, show ((0 : Fin 8) : ℕ) = 0 from rfl, Nat.mul_zero, Nat.zero_add]
  rfl

theorem ac8_apply (s : FVec Ideal S512x1024 .f32) (m a : FVec Ideal S512x128 .f32) (v : FVec Ideal S1024x128 .bf16)
    (r : Fin 512) (d : Fin 128) :
    ac8 s m v a (ix2 r d) = al8 s m (ix2 r d) * a (ix2 r d) + ∑ c : Fin 1024, pr8 s m (ix2 r c) * v (ix2 c d) := by
  unfold ac8
  pointwise

theorem mx4_apply (s : FVec Ideal S512x512 .f32) (m : FVec Ideal S512x128 .f32) (r : Fin 512) (d : Fin 128) :
    mx4 s m (ix2 r d) = max (m (ix2 r d)) (Finset.univ.sup fun c : Fin 512 => s (ix2 r c)) := by
  unfold mx4
  rw [ValueIdx.maximumf_apply, laneMax_apply]
  pointwise
  congr 1
  apply le_antisymm
  · refine Finset.sup_le fun k _ => ?_
    have key : ∀ c : Fin 512, s (ix2 r c) ≤ Finset.univ.sup fun c : Fin 512 => s (ix2 r c) :=
      fun c => Finset.le_sup (f := fun c : Fin 512 => s (ix2 r c)) (Finset.mem_univ c)
    simp only [max_le_iff]
    refine ⟨⟨⟨?_, ?_⟩, ?_⟩, ?_⟩ <;> exact key _
  · refine Finset.sup_le fun c _ => ?_
    refine le_trans ?_ (Finset.le_sup (Finset.mem_univ (lane c.val)))
    have hc := c.isLt
    have hd : c.val / 128 < 4 := by omega
    simp only [lane, le_max_iff]
    have e : c.val = 128 * (c.val / 128) + c.val % 128 := by omega
    generalize c.val / 128 = g at hd e
    interval_cases g <;> simp only [Nat.mul_zero, Nat.mul_one, Nat.reduceMul, Nat.zero_add] at e
    · exact (Or.inl (Or.inl (Or.inl (le_of_eq (congrArg (fun z => s (ix2 r z)) (Fin.ext (by simp only; omega)))))))
    · exact (Or.inl (Or.inl (Or.inr (le_of_eq (congrArg (fun z => s (ix2 r z)) (Fin.ext (by simp only; omega)))))))
    · exact (Or.inl (Or.inr (le_of_eq (congrArg (fun z => s (ix2 r z)) (Fin.ext (by simp only; omega))))))
    · exact (Or.inr (le_of_eq (congrArg (fun z => s (ix2 r z)) (Fin.ext (by simp only; omega)))))

theorem pr4_apply (s : FVec Ideal S512x512 .f32) (m : FVec Ideal S512x128 .f32) (r : Fin 512) (c : Fin 512) :
    pr4 s m (ix2 r c) = Ideal.exp2 (s (ix2 r c) - mx4 s m (ix2 r (lane c.val))) := by
  unfold pr4
  pointwise
  have hc := c.isLt
  refine congrArg (fun z => Ideal.exp2 (s (ix2 r c) - z)) ?_
  split_ifs <;> exact congrArg (fun z => mx4 s m (ix2 r z)) (Fin.ext (by simp only [lane]; omega))

theorem al4_apply (s : FVec Ideal S512x512 .f32) (m : FVec Ideal S512x128 .f32) (r : Fin 512) (d : Fin 128) :
    al4 s m (ix2 r d) = Ideal.exp2 (m (ix2 r d) - mx4 s m (ix2 r d)) := rfl

theorem ls4_apply (s : FVec Ideal S512x512 .f32) (m l : FVec Ideal S512x128 .f32) (r : Fin 512) (d : Fin 128) :
    ls4 s m l (ix2 r d) = al4 s m (ix2 r d) * l (ix2 r d)
      + ∑ c : Fin 512, pr4 s m (ix2 r c) * (if c.val % 128 = d.val then 1 else 0) := by
  unfold ls4
  pointwise
  refine congrArg (fun z => al4 s m (ix2 r d) * l (ix2 r d) + z) ?_
  have hd := d.isLt
  have e : (∑ c : Fin 512, pr4 s m (ix2 r c) * (if c.val % 128 = d.val then 1 else 0) : EReal)
      = ∑ g : Fin 4, pr4 s m (ix2 r ⟨128 * g.val + d.val, by omega⟩) := by
    simp only [mul_ite, mul_one, mul_zero]
    rw [← Finset.sum_filter]
    symm
    refine Finset.sum_bij (fun g _ => (⟨128 * g.val + d.val, by omega⟩ : Fin 512)) ?_ ?_ ?_ ?_
    · intro g _; simp only [Finset.mem_filter, Finset.mem_univ, true_and]; omega
    · intro a _ b _ h; have := congrArg Fin.val h; simp only at this; exact Fin.ext (by omega)
    · intro c hc
      have hc := (Finset.mem_filter.mp hc).2
      exact ⟨⟨c.val / 128, by have := c.isLt; omega⟩, Finset.mem_univ _, Fin.ext (by simp only; omega)⟩
    · intro g _; rfl
  rw [e, Fin.sum_univ_four]
  simp only [Fin.isValue, show ((0 : Fin 4) : ℕ) = 0 from rfl, Nat.mul_zero, Nat.zero_add]
  rfl

theorem ac4_apply (s : FVec Ideal S512x512 .f32) (m a : FVec Ideal S512x128 .f32) (v : FVec Ideal S512x128 .bf16)
    (r : Fin 512) (d : Fin 128) :
    ac4 s m v a (ix2 r d) = al4 s m (ix2 r d) * a (ix2 r d) + ∑ c : Fin 512, pr4 s m (ix2 r c) * v (ix2 c d) := by
  unfold ac4
  pointwise

end Cert.KernelIdeal.Att
-- ==== Proof.Soft.lean ====
module

public import Idealize.ShloMosaic.Lib.Pointwise

/-! The running softmax over a row of scores, as mathematics: `M t n` is the greatest of the first `n` scores and `A t w n` the sum of the first
`n` weights `w`, each multiplied by 2 to the power of its score less the greatest. `M_add`, `A_add`: how both go on when `b` more scores come.
`soft_eq`: their quotient is the softmax of the scores to the base e, whose scores are `log 2` times as large. -/

@[expose] public section
noncomputable section
namespace Soft
open Idealize.ShloMosaic

/-- The greatest of the first `n` scores. -/
def M (t : ℕ → EReal) (n : ℕ) : EReal := (Finset.range n).sup t

/-- The weighted sum over the first `n` scores, relative to their greatest. -/
def A (t w : ℕ → EReal) (n : ℕ) : EReal := ∑ c ∈ Finset.range n, Ideal.exp2 (t c - M t n) * w c

theorem exp2_nonneg (x : EReal) : 0 ≤ Ideal.exp2 x := by
  induction x using EReal.rec with
  | bot => exact le_refl _
  | top => exact le_top
  | coe r => exact EReal.coe_nonneg.mpr (Real.rpow_nonneg (x := 2) (by norm_num) r)

theorem mul_sum_coe {α : Type} (a : ℝ) (ha : 0 ≤ a) (S : Finset α) (f : α → EReal) :
    (a : EReal) * ∑ c ∈ S, f c = ∑ c ∈ S, (a : EReal) * f c := by
  classical
  induction S using Finset.induction_on with
  | empty => simp
  | insert x S hx ih =>
    rw [Finset.sum_insert hx, Finset.sum_insert hx, ← ih]
    exact EReal.left_distrib_of_nonneg_of_ne_top (by exact_mod_cast ha) (EReal.coe_ne_top a) _ _

theorem M_add (t : ℕ → EReal) (n b : ℕ) :
    M t (n + b) = max (M t n) (Finset.univ.sup fun c : Fin b => t (n + c)) := by
  apply le_antisymm
  · refine Finset.sup_le fun c hc => ?_
    rw [Finset.mem_range] at hc
    by_cases h : c < n
    · exact le_max_of_le_left (Finset.le_sup (f := t) (Finset.mem_range.mpr h))
    · refine le_max_of_le_right ?_
      have := Finset.le_sup (f := fun c : Fin b => t (n + c)) (Finset.mem_univ (⟨c - n, by omega⟩ : Fin b))
      simpa [show n + (c - n) = c by omega] using this
  · refine max_le (Finset.sup_mono (Finset.range_mono (by omega))) (Finset.sup_le fun c _ => ?_)
    exact Finset.le_sup (f := t) (Finset.mem_range.mpr (by omega))

theorem M_ne_top (t : ℕ → EReal) (ht : ∀ c, t c ≠ ⊤) (n : ℕ) : M t n ≠ ⊤ := by
  have : M t n < ⊤ := (Finset.sup_lt_iff (by exact bot_lt_top)).mpr fun c _ => lt_top_iff_ne_top.mpr (ht c)
  exact this.ne

theorem A_add (t w : ℕ → EReal) (ht : ∀ c, t c ≠ ⊤) (n b : ℕ) :
    A t w (n + b) = Ideal.exp2 (M t n - M t (n + b)) * A t w n
      + ∑ c : Fin b, Ideal.exp2 (t (n + c) - M t (n + b)) * w (n + c) := by
  unfold A
  rw [Finset.sum_range_add, Finset.sum_range (fun x => Ideal.exp2 (t (n + x) - M t (n + b)) * w (n + x))]
  congr 1
  have hle : M t n ≤ M t (n + b) := by rw [M_add]; exact le_max_left _ _
  have hM := M_ne_top t ht n
  have hM' := M_ne_top t ht (n + b)
  generalize hμ : M t (n + b) = μ' at *
  by_cases hb : M t n = ⊥
  · rw [hb, EReal.bot_sub, Ideal.exp2_bot, zero_mul]
    refine Finset.sum_eq_zero fun c hc => ?_
    have : t c = ⊥ := le_bot_iff.mp (hb ▸ Finset.le_sup (f := t) hc)
    rw [this, EReal.bot_sub, Ideal.exp2_bot, zero_mul]
  · obtain ⟨μ, e⟩ : ∃ μ : ℝ, M t n = μ := ⟨_, (EReal.coe_toReal hM hb).symm⟩
    rw [e] at hle ⊢
    obtain ⟨ν, rfl⟩ : ∃ ν : ℝ, μ' = ν :=
      ⟨_, (EReal.coe_toReal hM' (fun h => by rw [h] at hle; exact EReal.coe_ne_bot _ (le_bot_iff.mp hle))).symm⟩
    rw [← EReal.coe_sub, Ideal.exp2_coe, mul_sum_coe (Real.rpow 2 (μ - ν)) (Real.rpow_nonneg (x := 2) (by norm_num) _)]
    refine Finset.sum_congr rfl fun c _ => ?_
    rw [← mul_assoc]
    congr 1
    have h := ht c
    generalize t c = x at h
    induction x using EReal.rec with
    | bot => rw [EReal.bot_sub, EReal.bot_sub, Ideal.exp2_bot, mul_zero]
    | top => exact absurd rfl h
    | coe r =>
      rw [← EReal.coe_sub, ← EReal.coe_sub, Ideal.exp2_coe, Ideal.exp2_coe, ← EReal.coe_mul]
      congr 1
      show (2 : ℝ) ^ (r - ν) = 2 ^ (μ - ν) * 2 ^ (r - μ)
      rw [← Real.rpow_add (by norm_num)]; congr 1; ring

theorem exp2_div_log (x : ℝ) : Real.rpow 2 (x / Real.log 2) = Real.exp x := by
  show (2 : ℝ) ^ (x / Real.log 2) = _
  rw [Real.rpow_def_of_pos (by norm_num), mul_div_cancel₀]
  exact (Real.log_pos (by norm_num)).ne'

/-- The scores with the columns past `r` masked. -/
def masked (τ : ℕ → ℝ) (r : ℕ) (c : ℕ) : EReal := if c ≤ r then (τ c : EReal) else ⊥

theorem masked_ne_top (τ : ℕ → ℝ) (r c : ℕ) : masked τ r c ≠ ⊤ := by
  unfold masked; split_ifs
  · exact EReal.coe_ne_top _
  · exact bot_ne_top

/-- The greatest of the unmasked scores. -/
def top (τ : ℕ → ℝ) (r : ℕ) : ℝ := (Finset.range (r + 1)).sup' ⟨0, by simp⟩ τ

theorem M_masked (τ : ℕ → ℝ) (r n : ℕ) (h : r < n) : M (masked τ r) n = (top τ r : ℝ) := by
  apply le_antisymm
  · refine Finset.sup_le fun c _ => ?_
    unfold masked
    split_ifs with hc
    · exact_mod_cast Finset.le_sup' τ (Finset.mem_range.mpr (by omega))
    · exact bot_le
  · obtain ⟨c, hc, e⟩ := Finset.exists_mem_eq_sup' (⟨0, by simp⟩ : (Finset.range (r + 1)).Nonempty) τ
    have hc' := Finset.mem_range.mp hc
    have h1 := Finset.le_sup (f := masked τ r) (Finset.mem_range.mpr (show c < n by omega))
    rw [show top τ r = τ c from e]
    refine le_trans (le_of_eq ?_) h1
    unfold masked; rw [if_pos (by omega)]

theorem top_div (τ : ℕ → ℝ) (r : ℕ) : top (fun c => τ c / Real.log 2) r = top τ r / Real.log 2 := by
  have hl : 0 < Real.log 2 := Real.log_pos (by norm_num)
  apply le_antisymm
  · refine Finset.sup'_le _ _ fun c hc => ?_
    exact (div_le_div_iff_of_pos_right hl).mpr (Finset.le_sup' τ hc)
  · obtain ⟨c, hc, e⟩ := Finset.exists_mem_eq_sup' (⟨0, by simp⟩ : (Finset.range (r + 1)).Nonempty) τ
    rw [show top τ r = τ c from e]
    exact Finset.le_sup' (fun c => τ c / Real.log 2) hc

/-- One weight of the softmax before it is divided: zero past `r`. -/
def wt (τ : ℕ → ℝ) (r c : ℕ) : ℝ := if c ≤ r then Real.exp (τ c - top τ r) else 0

theorem wt_nonneg (τ : ℕ → ℝ) (r c : ℕ) : 0 ≤ wt τ r c := by
  unfold wt; split_ifs
  · exact (Real.exp_pos _).le
  · exact le_refl _

theorem exp2_masked (τ : ℕ → ℝ) (r n c : ℕ) (h : r < n) :
    Ideal.exp2 (masked (fun c => τ c / Real.log 2) r c - M (masked (fun c => τ c / Real.log 2) r) n) = (wt τ r c : ℝ) := by
  rw [M_masked _ _ _ h, top_div]
  unfold masked wt
  split_ifs
  · rw [← EReal.coe_sub, ← sub_div, Ideal.exp2_coe, exp2_div_log]
  · rw [EReal.bot_sub, Ideal.exp2_bot, EReal.coe_zero]

theorem exp_masked (τ : ℕ → ℝ) (r n c : ℕ) (h : r < n) :
    Ideal.exp (masked τ r c - M (masked τ r) n) = (wt τ r c : ℝ) := by
  rw [M_masked _ _ _ h]
  unfold masked wt
  split_ifs
  · rw [← EReal.coe_sub, Ideal.exp_coe]
  · rw [EReal.bot_sub, Ideal.exp_bot, EReal.coe_zero]

theorem sum_coe {α : Type} (S : Finset α) (f : α → ℝ) : (∑ c ∈ S, (f c : EReal)) = ((∑ c ∈ S, f c : ℝ) : EReal) := by
  classical
  induction S using Finset.induction_on with
  | empty => simp
  | insert x S hx ih => rw [Finset.sum_insert hx, Finset.sum_insert hx, ih, EReal.coe_add]

theorem sum_wt (τ : ℕ → ℝ) (r n : ℕ) (h : r < n) :
    (∑ c ∈ Finset.range n, wt τ r c) = ∑ c ∈ Finset.range (r + 1), wt τ r c := by
  symm
  refine Finset.sum_subset (Finset.range_mono (by omega)) fun c _ hc => ?_
  unfold wt; rw [if_neg (by simpa using hc)]

theorem sum_wt_pos (τ : ℕ → ℝ) (r : ℕ) : 0 < ∑ c ∈ Finset.range (r + 1), wt τ r c := by
  refine Finset.sum_pos (fun c hc => ?_) ⟨0, by simp⟩
  unfold wt; rw [if_pos (by simpa [Nat.lt_succ_iff] using hc)]
  exact Real.exp_pos _

/-- The running sums' quotient, the row sum kept lane by lane, is the softmax's average of `v`. -/
theorem soft_eq (τ : ℕ → ℝ) (v : ℕ → EReal) (r n N : ℕ) (h : r < n) (hN : n ≤ N) :
    Ideal.div (A (masked (fun c => τ c / Real.log 2) r) v n)
        (∑ d : Fin 128, A (masked (fun c => τ c / Real.log 2) r) (fun c => if c % 128 = d.val then 1 else 0) n)
      = ∑ c ∈ Finset.range N, v c * Ideal.div (Ideal.exp (masked τ r c - M (masked τ r) N))
          (∑ c ∈ Finset.range N, Ideal.exp (masked τ r c - M (masked τ r) N)) := by
  unfold A
  simp only [exp2_masked _ _ _ _ h, exp_masked _ _ _ _ (lt_of_lt_of_le h hN)]
  rw [Finset.sum_comm]
  have e : ∀ c ∈ Finset.range n, (∑ d : Fin 128, (wt τ r c : EReal) * (if c % 128 = d.val then 1 else 0)) = (wt τ r c : EReal) := by
    intro c _
    rw [Finset.sum_eq_single (⟨c % 128, Nat.mod_lt _ (by norm_num)⟩ : Fin 128)]
    · rw [if_pos rfl, mul_one]
    · intro d _ hd
      rw [if_neg (fun h => hd (Fin.ext h.symm)), mul_zero]
    · intro hd; exact absurd (Finset.mem_univ _) hd
  rw [Finset.sum_congr rfl e, sum_coe, sum_coe, sum_wt _ _ _ h, sum_wt _ _ _ (lt_of_lt_of_le h hN)]
  have hp := sum_wt_pos τ r
  generalize (∑ c ∈ Finset.range (r + 1), wt τ r c) = Z at hp
  simp only [Ideal.div_coe hp.ne']
  rw [mul_comm, mul_sum_coe _ (by positivity)]
  have e2 : ∀ c, v c * ((wt τ r c : EReal) * ((1 / Z : ℝ) : EReal)) = ((1 / Z : ℝ) : EReal) * ((wt τ r c : EReal) * v c) := by
    intro c; rw [mul_comm (v c), mul_comm (wt τ r c : EReal), mul_assoc]
  simp only [e2]
  refine Finset.sum_subset (Finset.range_mono hN) fun c _ hc => ?_
  have hc : ¬ c ≤ r := by have : n ≤ c := by simpa using hc
                          omega
  unfold wt; rw [if_neg hc, EReal.coe_zero, zero_mul, mul_zero]

end Soft
-- ==== Proof.Row.lean ====
module

public import proofs.«01_k».proof.Proof.Vec
public import proofs.«01_k».proof.Proof.Soft
public import Idealize.ShloMosaic.Lib.Pipeline.CanonAppend

/-! One step of the running softmax carries a row from the first `n` columns to the first `n + 1024` (or `n + 512`). -/

@[expose] public section
noncomputable section
namespace Cert.KernelIdeal.Att
open Cert.KernelIdeal Cert.KernelIdeal.Gen Idealize.ShloMosaic Idealize.ShloMosaic.TcCoe Idealize.SL.Sem

/-- One on the columns that fall on lane `d`, zero elsewhere. -/
def ind (d c : ℕ) : EReal := if c % 128 = d then 1 else 0

section
variable {t : ℕ → EReal} {n : ℕ} {s : FVec Ideal S512x1024 .f32} {m : FVec Ideal S512x128 .f32} {r : Fin 512}
  (hs : ∀ c : Fin 1024, s (ix2 r c) = t (n + c)) (hm : ∀ d, m (ix2 r d) = Soft.M t n)
include hs hm

theorem row_m8 (d : Fin 128) : mx8 s m (ix2 r d) = Soft.M t (n + 1024) := by
  rw [mx8_apply, hm, Soft.M_add]; simp only [hs]

theorem row_p8 (c : Fin 1024) : pr8 s m (ix2 r c) = Ideal.exp2 (t (n + c) - Soft.M t (n + 1024)) := by
  rw [pr8_apply, hs, row_m8 hs hm]

theorem row_f8 (d : Fin 128) : al8 s m (ix2 r d) = Ideal.exp2 (Soft.M t n - Soft.M t (n + 1024)) := by
  rw [al8_apply, hm, row_m8 hs hm]

theorem row_l8 (ht : ∀ c, t c ≠ ⊤) (hn : 128 ∣ n) {l : FVec Ideal S512x128 .f32} (d : Fin 128)
    (hl : l (ix2 r d) = Soft.A t (ind d.val) n) : ls8 s m l (ix2 r d) = Soft.A t (ind d.val) (n + 1024) := by
  rw [ls8_apply, hl, Soft.A_add t _ ht, row_f8 hs hm]
  refine congrArg _ (Finset.sum_congr rfl fun c _ => ?_)
  rw [row_p8 hs hm]
  unfold ind
  rw [show (n + c.val) % 128 = c.val % 128 by omega]

theorem row_a8 (ht : ∀ c, t c ≠ ⊤) {v : FVec Ideal S1024x128 .bf16} {a : FVec Ideal S512x128 .f32} (d : Fin 128) {w : ℕ → EReal}
    (hv : ∀ c : Fin 1024, v (ix2 c d) = w (n + c)) (ha : a (ix2 r d) = Soft.A t w n) :
    ac8 s m v a (ix2 r d) = Soft.A t w (n + 1024) := by
  rw [ac8_apply, ha, Soft.A_add t _ ht, row_f8 hs hm]
  refine congrArg _ (Finset.sum_congr rfl fun c _ => ?_)
  rw [row_p8 hs hm, hv]
end

section
variable {t : ℕ → EReal} {n : ℕ} {s : FVec Ideal S512x512 .f32} {m : FVec Ideal S512x128 .f32} {r : Fin 512}
  (hs : ∀ c : Fin 512, s (ix2 r c) = t (n + c)) (hm : ∀ d, m (ix2 r d) = Soft.M t n)
include hs hm

theorem row_m4 (d : Fin 128) : mx4 s m (ix2 r d) = Soft.M t (n + 512) := by
  rw [mx4_apply, hm, Soft.M_add]; simp only [hs]

theorem row_p4 (c : Fin 512) : pr4 s m (ix2 r c) = Ideal.exp2 (t (n + c) - Soft.M t (n + 512)) := by
  rw [pr4_apply, hs, row_m4 hs hm]

theorem row_f4 (d : Fin 128) : al4 s m (ix2 r d) = Ideal.exp2 (Soft.M t n - Soft.M t (n + 512)) := by
  rw [al4_apply, hm, row_m4 hs hm]

theorem row_l4 (ht : ∀ c, t c ≠ ⊤) (hn : 128 ∣ n) {l : FVec Ideal S512x128 .f32} (d : Fin 128)
    (hl : l (ix2 r d) = Soft.A t (ind d.val) n) : ls4 s m l (ix2 r d) = Soft.A t (ind d.val) (n + 512) := by
  rw [ls4_apply, hl, Soft.A_add t _ ht, row_f4 hs hm]
  refine congrArg _ (Finset.sum_congr rfl fun c _ => ?_)
  rw [row_p4 hs hm]
  unfold ind
  rw [show (n + c.val) % 128 = c.val % 128 by omega]

theorem row_a4 (ht : ∀ c, t c ≠ ⊤) {v : FVec Ideal S512x128 .bf16} {a : FVec Ideal S512x128 .f32} (d : Fin 128) {w : ℕ → EReal}
    (hv : ∀ c : Fin 512, v (ix2 c d) = w (n + c)) (ha : a (ix2 r d) = Soft.A t w n) :
    ac4 s m v a (ix2 r d) = Soft.A t w (n + 512) := by
  rw [ac4_apply, ha, Soft.A_add t _ ht, row_f4 hs hm]
  refine congrArg _ (Finset.sum_congr rfl fun c _ => ?_)
  rw [row_p4 hs hm, hv]
end

/-! ### Rows of a running buffer -/

theorem eq_row (x : S1x512x128.Idx) : x = (ix3 (0 : Fin 1) (x 1) (x 2) : S1x512x128.Idx) := by
  funext a
  match a with
  | ⟨0, _⟩ => exact Subsingleton.elim (α := Fin 1) _ _
  | ⟨1, _⟩ => rfl
  | ⟨2, _⟩ => rfl

theorem emb_half (h o : ℕ) (inb) (x : S1x512x128.Idx) :
    (Rect.unit (s := S2x1024x128) ![h, o, 0] S1x512x128.size inb).emb x
      = (ix3 (⟨h, inb 0⟩ : Fin 2) (⟨o + (x 1).val, lt_of_lt_of_le (Nat.add_lt_add_left (x 1).isLt o) (inb 1)⟩ : Fin 1024) (x 2) : S2x1024x128.Idx) := by
  funext a
  match a with
  | ⟨0, _⟩ => exact Fin.ext (by show h + 1 * (x 0).val = h; have : (x 0).val < 1 := (x 0).isLt; omega)
  | ⟨1, _⟩ => exact Fin.ext (by show o + 1 * (x 1).val = o + (x 1).val; omega)
  | ⟨2, _⟩ => exact Fin.ext (by show 0 + 1 * (x 2).val = (x 2).val; omega)

/-- Stores into the two halves of both heads' rows leave a function `G` wherever each of them stores it. -/
theorem canon_quads (G : S2x1024x128.Idx → EReal) (w11 w10 w01 w00 : S1x512x128.Idx → EReal)
    (L : List (View.Piece (Elt Ideal) S2x1024x128 .f32))
    (h00 : ∀ (r : Fin 512) (d : Fin 128), w00 (ix3 0 r d) = G (ix3 0 ⟨r.val, by omega⟩ d))
    (h01 : ∀ (r : Fin 512) (d : Fin 128), w01 (ix3 0 r d) = G (ix3 0 ⟨512 + r.val, by omega⟩ d))
    (h10 : ∀ (r : Fin 512) (d : Fin 128), w10 (ix3 0 r d) = G (ix3 1 ⟨r.val, by omega⟩ d))
    (h11 : ∀ (r : Fin 512) (d : Fin 128), w11 (ix3 0 r d) = G (ix3 1 ⟨512 + r.val, by omega⟩ d)) :
    View.canon (Val := Elt Ideal) (s := S2x1024x128) (e := .f32) ([⟨Rect.unit (s := S2x1024x128) ![1, 512, 0] S1x512x128.size inb_S2x1024x128_S1x512x128_1_512_0, w11⟩,
      ⟨Rect.unit (s := S2x1024x128) ![1, 0, 0] S1x512x128.size inb_S2x1024x128_S1x512x128_1_0_0, w10⟩,
      ⟨Rect.unit (s := S2x1024x128) ![0, 512, 0] S1x512x128.size inb_S2x1024x128_S1x512x128_0_512_0, w01⟩,
      ⟨Rect.unit (s := S2x1024x128) ![0, 0, 0] S1x512x128.size inb_S2x1024x128_S1x512x128_0_0_0, w00⟩] ++ L) = G := by
  funext y
  refine View.canon_append_of_pieces G L _ ?_ y ?_
  · intro p hp x
    fin_cases hp
    · rw [emb_half 1 512]; exact (congrArg w11 (eq_row x)).trans (h11 (x 1) (x 2))
    · rw [emb_half 1 0]; refine (congrArg w10 (eq_row x)).trans ((h10 (x 1) (x 2)).trans ?_)
      exact congrArg (fun z => G (ix3 1 z (x 2))) (Fin.ext (Nat.zero_add _).symm)
    · rw [emb_half 0 512]; exact (congrArg w01 (eq_row x)).trans (h01 (x 1) (x 2))
    · rw [emb_half 0 0]; refine (congrArg w00 (eq_row x)).trans ((h00 (x 1) (x 2)).trans ?_)
      exact congrArg (fun z => G (ix3 0 z (x 2))) (Fin.ext (Nat.zero_add _).symm)
  · have h0 : (y 0).val < 2 := (y 0).isLt
    have h1 : (y 1).val < 1024 := (y 1).isLt
    have h2 : (y 2).val < 128 := (y 2).isLt
    have mem : ∀ h o inb, (y 0).val = h → o ≤ (y 1).val → (y 1).val < o + 512 →
        y ∈ (Rect.unit (s := S2x1024x128) ![h, o, 0] S1x512x128.size inb).set := by
      intro h o inb e0 e1 e2
      rw [Rect.mem_set_unit]
      intro a
      match a with
      | ⟨0, _⟩ => exact ⟨e0.ge, by show (y 0).val < h + 1; omega⟩
      | ⟨1, _⟩ => exact ⟨e1, e2⟩
      | ⟨2, _⟩ => exact ⟨Nat.zero_le _, by show (y 2).val < 0 + 128; omega⟩
    by_cases e0 : (y 0).val = 0 <;> by_cases e1 : (y 1).val < 512
    · exact ⟨_, .tail _ (.tail _ (.tail _ (.head _))), mem 0 0 inb_S2x1024x128_S1x512x128_0_0_0 e0 (by omega) (by omega)⟩
    · exact ⟨_, .tail _ (.tail _ (.head _)), mem 0 512 inb_S2x1024x128_S1x512x128_0_512_0 e0 (by omega) (by omega)⟩
    · exact ⟨_, .tail _ (.head _), mem 1 0 inb_S2x1024x128_S1x512x128_1_0_0 (by omega) (by omega) (by omega)⟩
    · exact ⟨_, .head _, mem 1 512 inb_S2x1024x128_S1x512x128_1_512_0 (by omega) (by omega) (by omega)⟩

end Cert.KernelIdeal.Att
-- ==== Proof.Loop.lean ====
module

public import proofs.«01_k».proof.Proof.Row

/-! The loop over whole blocks of 1024 columns: after `n` trips the running buffers hold, for every row of both heads, the greatest of the first
`1024 n` scores, the row sum lane by lane, and the weighted sum of the values. -/

@[expose] public section
noncomputable section
namespace Cert.KernelIdeal.Att
open Cert.KernelIdeal Cert.KernelIdeal.Gen Idealize.ShloMosaic Idealize.ShloMosaic.TcCoe Idealize.SL.Sem

/-! ### What the running buffers hold -/
section
variable (b : ℕ) (x0 : S2x1024x256.Idx → EReal) (x1 : S2x8192x256.Idx → EReal) (x2 : S2x8192x128.Idx → EReal)

/-- The product of query row `r` with key `c`. -/
def raw (h : Fin 2) (r : Fin 1024) (c : ℕ) : EReal :=
  if hc : c < 8192 then ∑ d : Fin 256, x0 (ix3 h r d) * x1 (ix3 h ⟨c, hc⟩ d) else 0

/-- The score: rows start at `b`, and a key past the row is masked. -/
def sco (h : Fin 2) (r : Fin 1024) (c : ℕ) : EReal := if c ≤ b + r.val then raw x0 x1 h r c else ⊥

/-- One column of the values. -/
def vcol (h : Fin 2) (d : Fin 128) (c : ℕ) : EReal := if hc : c < 8192 then x2 (ix3 h ⟨c, hc⟩ d) else 0

/-- The running maxima after `n` columns. -/
def G6 (n : ℕ) : S2x1024x128.Idx → EReal := fun y => Soft.M (sco b x0 x1 (y 0) (y 1)) n
/-- The running row sums after `n` columns. -/
def G7 (n : ℕ) : S2x1024x128.Idx → EReal := fun y => Soft.A (sco b x0 x1 (y 0) (y 1)) (ind (y 2).val) n
/-- The running weighted sums after `n` columns. -/
def G8 (n : ℕ) : S2x1024x128.Idx → EReal := fun y => Soft.A (sco b x0 x1 (y 0) (y 1)) (vcol x2 (y 0) (y 2)) n

theorem sco_ne_top (hr : ∀ h r c, raw x0 x1 h r c ≠ ⊤) (h : Fin 2) (r : Fin 1024) (c : ℕ) : sco b x0 x1 h r c ≠ ⊤ := by
  unfold sco; split_ifs
  · exact hr h r c
  · exact bot_ne_top
end

/-! ### Loads and products at one place -/

theorem dot_apply (q k : FVec Ideal S1x1024x256 .bf16) (r c : Fin 1024) :
    matmul dot_S1024x256_S1024x256_S1024x1024_1_1_0_0_n_n none (shapeCast S1024x256 q shapeCasts_S1x1024x256_S1024x256)
      (shapeCast S1024x256 k shapeCasts_S1x1024x256_S1024x256) (constant (F := Ideal) S1024x1024 .f32 0x00000000#32) (ix2 r c)
      = ∑ d : Fin 256, q (ix3 0 r d) * k (ix3 0 c d) := by
  pointwise

theorem load_q (h : Fin 2) (inb) (arg2 : Memref sig .tc .vmem S2x1024x256 .bf16) (X2 : BufTy.Contents (Elt Ideal) arg2.view.ty) (r : Fin 1024) (d : Fin 256) :
    View.readAt (Elt Ideal) arg2.view (Rect.unit (s := S2x1024x256) ![h.val, 0, 0] S1x1024x256.size inb).toLoadRect X2 (ix3 (0 : Fin 1) r d)
     = arg2.view.read (Elt Ideal) X2 (ix3 h r d) := by
  rw [View.readAt_apply]
  congr 1
  funext a
  match a with
  | ⟨0, _⟩ => exact Fin.ext (by show h.val + 1 * 0 = h.val; omega)
  | ⟨1, _⟩ => exact Fin.ext (by show 0 + 1 * r.val = r.val; omega)
  | ⟨2, _⟩ => exact Fin.ext (by show 0 + 1 * d.val = d.val; omega)

theorem load_k (h : Fin 2) (o : ℕ) (off) (e : off = ![h.val, o, 0]) (inb) (arg3 : Memref sig .tc .vmem S2x8192x256 .bf16) (X3 : BufTy.Contents (Elt Ideal) arg3.view.ty) (c : Fin 1024) (d : Fin 256) (hc : o + c.val < 8192) :
    View.readAt (Elt Ideal) arg3.view (Rect.unit (s := S2x8192x256) off S1x1024x256.size inb).toLoadRect X3 (ix3 (0 : Fin 1) c d)
     = arg3.view.read (Elt Ideal) X3 (ix3 h ⟨o + c.val, hc⟩ d) := by
  subst e
  rw [View.readAt_apply]
  congr 1
  funext a
  match a with
  | ⟨0, _⟩ => exact Fin.ext (by show h.val + 1 * 0 = h.val; omega)
  | ⟨1, _⟩ => exact Fin.ext (by show o + 1 * c.val = o + c.val; omega)
  | ⟨2, _⟩ => exact Fin.ext (by show 0 + 1 * d.val = d.val; omega)

theorem load_v (h : Fin 2) (o : ℕ) (off) (e : off = ![h.val, o, 0]) (inb) (arg4 : Memref sig .tc .vmem S2x8192x128 .bf16) (X4 : BufTy.Contents (Elt Ideal) arg4.view.ty) (c : Fin 1024) (d : Fin 128) (hc : o + c.val < 8192) :
    View.readAt (Elt Ideal) arg4.view (Rect.unit (s := S2x8192x128) off S1x1024x128.size inb).toLoadRect X4 (ix3 (0 : Fin 1) c d)
     = arg4.view.read (Elt Ideal) X4 (ix3 h ⟨o + c.val, hc⟩ d) := by
  subst e
  rw [View.readAt_apply]
  congr 1
  funext a
  match a with
  | ⟨0, _⟩ => exact Fin.ext (by show h.val + 1 * 0 = h.val; omega)
  | ⟨1, _⟩ => exact Fin.ext (by show o + 1 * c.val = o + c.val; omega)
  | ⟨2, _⟩ => exact Fin.ext (by show 0 + 1 * d.val = d.val; omega)

theorem cast_v (b : FVec Ideal S1x1024x128 .bf16) (c : Fin 1024) (d : Fin 128) :
    shapeCast S1024x128 b shapeCasts_S1x1024x128_S1024x128 (ix2 c d) = b (ix3 0 c d) := by
  pointwise

theorem up_apply (x : FVec Ideal S512x128 .f32) (r : Fin 512) (d : Fin 128) : up x (ix3 0 r d) = x (ix2 r d) := by
  unfold up
  pointwise

theorem trips_eq : ∀ i : grid0.Coords, (k0_t1_loop i).trips = (i 1).val := by decide +kernel

theorem coord_lt (i : grid0.Coords) : (i 1).val < 8 := (i 1).isLt

section
variable (i : grid0.Coords) (k : Fin (k0_t1_loop i).trips) (arg2 : Memref sig .tc .vmem S2x1024x256 .bf16) (arg3 : Memref sig .tc .vmem S2x8192x256 .bf16) (arg4 : Memref sig .tc .vmem S2x8192x128 .bf16) (X2 : BufTy.Contents (Elt Ideal) arg2.view.ty) (X3 : BufTy.Contents (Elt Ideal) arg3.view.ty) (X4 : BufTy.Contents (Elt Ideal) arg4.view.ty)

theorem at00_apply (a : Memref sig .tc .vmem S2x1024x128 .f32) (f : BufTy.Contents (Elt Ideal) a.view.ty) (r : Fin 512) (d : Fin 128) :
    at00 a f (ix2 r d) = a.view.read (Elt Ideal) f (ix3 0 ⟨r.val, by omega⟩ d) := by
  unfold at00
  rw [View.readAt_eq_ld]
  pointwise

theorem sc00_apply (r : Fin 512) (c : Fin 1024) :
    sc00 i k arg2 arg3 X2 X3 (ix2 r c)
      = sco (1024 * (i 1).val) (arg2.view.read (Elt Ideal) X2) (arg3.view.read (Elt Ideal) X3) 0 ⟨r.val, by omega⟩ (1024 * k.val + c.val) := by
  have e : sc00 i k arg2 arg3 X2 X3 (ix2 r c) = blk0 i k arg2 arg3 X2 X3 (ix2 ⟨r.val, by omega⟩ c) := by
    unfold sc00
    generalize blk0 i k arg2 arg3 X2 X3 = b
    pointwise
  have hk : k.val < (i 1).val := lt_of_lt_of_eq k.isLt (trips_eq i)
  have hi := coord_lt i
  have hc := c.isLt
  have h : 1024 * k.val + c.val < 8192 := by omega
  rw [e]
  unfold sco raw
  rw [if_pos (by show _ ≤ _ + (r.val); omega), dif_pos h]
  unfold blk0
  rw [dot_apply]
  refine Finset.sum_congr rfl fun d _ => ?_
  rw [load_k 0 (1024 * k.val) _ (k0_off1_eq i k) _ arg3 X3 c d h]
  exact congrArg (· * _) (load_q 0 _ arg2 X2 _ d)

theorem at01_apply (a : Memref sig .tc .vmem S2x1024x128 .f32) (f : BufTy.Contents (Elt Ideal) a.view.ty) (r : Fin 512) (d : Fin 128) :
    at01 a f (ix2 r d) = a.view.read (Elt Ideal) f (ix3 0 ⟨512 + r.val, by omega⟩ d) := by
  unfold at01
  rw [View.readAt_eq_ld]
  pointwise

theorem sc01_apply (r : Fin 512) (c : Fin 1024) :
    sc01 i k arg2 arg3 X2 X3 (ix2 r c)
      = sco (1024 * (i 1).val) (arg2.view.read (Elt Ideal) X2) (arg3.view.read (Elt Ideal) X3) 0 ⟨512 + r.val, by omega⟩ (1024 * k.val + c.val) := by
  have e : sc01 i k arg2 arg3 X2 X3 (ix2 r c) = blk0 i k arg2 arg3 X2 X3 (ix2 ⟨512 + r.val, by omega⟩ c) := by
    unfold sc01
    generalize blk0 i k arg2 arg3 X2 X3 = b
    pointwise
  have hk : k.val < (i 1).val := lt_of_lt_of_eq k.isLt (trips_eq i)
  have hi := coord_lt i
  have hc := c.isLt
  have h : 1024 * k.val + c.val < 8192 := by omega
  rw [e]
  unfold sco raw
  rw [if_pos (by show _ ≤ _ + (512 + r.val); omega), dif_pos h]
  unfold blk0
  rw [dot_apply]
  refine Finset.sum_congr rfl fun d _ => ?_
  rw [load_k 0 (1024 * k.val) _ (k0_off1_eq i k) _ arg3 X3 c d h]
  exact congrArg (· * _) (load_q 0 _ arg2 X2 _ d)

theorem val0_apply (c : Fin 1024) (d : Fin 128) :
    val0 i k arg4 X4 (ix2 c d) = vcol (arg4.view.read (Elt Ideal) X4) 0 d (1024 * k.val + c.val) := by
  have hk : k.val < (i 1).val := lt_of_lt_of_eq k.isLt (trips_eq i)
  have hi := coord_lt i
  have hc := c.isLt
  have h : 1024 * k.val + c.val < 8192 := by omega
  unfold vcol
  rw [dif_pos h]
  exact (cast_v _ c d).trans (load_v 0 (1024 * k.val) _ (k0_off3_eq i k) (k0_off3_inb i k) arg4 X4 c d h)

theorem at10_apply (a : Memref sig .tc .vmem S2x1024x128 .f32) (f : BufTy.Contents (Elt Ideal) a.view.ty) (r : Fin 512) (d : Fin 128) :
    at10 a f (ix2 r d) = a.view.read (Elt Ideal) f (ix3 1 ⟨r.val, by omega⟩ d) := by
  unfold at10
  rw [View.readAt_eq_ld]
  pointwise

theorem sc10_apply (r : Fin 512) (c : Fin 1024) :
    sc10 i k arg2 arg3 X2 X3 (ix2 r c)
      = sco (1024 * (i 1).val) (arg2.view.read (Elt Ideal) X2) (arg3.view.read (Elt Ideal) X3) 1 ⟨r.val, by omega⟩ (1024 * k.val + c.val) := by
  have e : sc10 i k arg2 arg3 X2 X3 (ix2 r c) = blk1 i k arg2 arg3 X2 X3 (ix2 ⟨r.val, by omega⟩ c) := by
    unfold sc10
    generalize blk1 i k arg2 arg3 X2 X3 = b
    pointwise
  have hk : k.val < (i 1).val := lt_of_lt_of_eq k.isLt (trips_eq i)
  have hi := coord_lt i
  have hc := c.isLt
  have h : 1024 * k.val + c.val < 8192 := by omega
  rw [e]
  unfold sco raw
  rw [if_pos (by show _ ≤ _ + (r.val); omega), dif_pos h]
  unfold blk1
  rw [dot_apply]
  refine Finset.sum_congr rfl fun d _ => ?_
  rw [load_k 1 (1024 * k.val) _ (k0_off2_eq i k) _ arg3 X3 c d h]
  exact congrArg (· * _) (load_q 1 _ arg2 X2 _ d)

theorem at11_apply (a : Memref sig .tc .vmem S2x1024x128 .f32) (f : BufTy.Contents (Elt Ideal) a.view.ty) (r : Fin 512) (d : Fin 128) :
    at11 a f (ix2 r d) = a.view.read (Elt Ideal) f (ix3 1 ⟨512 + r.val, by omega⟩ d) := by
  unfold at11
  rw [View.readAt_eq_ld]
  pointwise

theorem sc11_apply (r : Fin 512) (c : Fin 1024) :
    sc11 i k arg2 arg3 X2 X3 (ix2 r c)
      = sco (1024 * (i 1).val) (arg2.view.read (Elt Ideal) X2) (arg3.view.read (Elt Ideal) X3) 1 ⟨512 + r.val, by omega⟩ (1024 * k.val + c.val) := by
  have e : sc11 i k arg2 arg3 X2 X3 (ix2 r c) = blk1 i k arg2 arg3 X2 X3 (ix2 ⟨512 + r.val, by omega⟩ c) := by
    unfold sc11
    generalize blk1 i k arg2 arg3 X2 X3 = b
    pointwise
  have hk : k.val < (i 1).val := lt_of_lt_of_eq k.isLt (trips_eq i)
  have hi := coord_lt i
  have hc := c.isLt
  have h : 1024 * k.val + c.val < 8192 := by omega
  rw [e]
  unfold sco raw
  rw [if_pos (by show _ ≤ _ + (512 + r.val); omega), dif_pos h]
  unfold blk1
  rw [dot_apply]
  refine Finset.sum_congr rfl fun d _ => ?_
  rw [load_k 1 (1024 * k.val) _ (k0_off2_eq i k) _ arg3 X3 c d h]
  exact congrArg (· * _) (load_q 1 _ arg2 X2 _ d)

theorem val1_apply (c : Fin 1024) (d : Fin 128) :
    val1 i k arg4 X4 (ix2 c d) = vcol (arg4.view.read (Elt Ideal) X4) 1 d (1024 * k.val + c.val) := by
  have hk : k.val < (i 1).val := lt_of_lt_of_eq k.isLt (trips_eq i)
  have hi := coord_lt i
  have hc := c.isLt
  have h : 1024 * k.val + c.val < 8192 := by omega
  unfold vcol
  rw [dif_pos h]
  exact (cast_v _ c d).trans (load_v 1 (1024 * k.val) _ (k0_off4_eq i k) (k0_off4_inb i k) arg4 X4 c d h)
end

/-! ### One trip -/

theorem step6 (i : grid0.Coords) (k : Fin (k0_t1_loop i).trips) (𝒱 : Variants) (c : Dev nD) (bd : Option 𝒱.V) (arg2 : Memref sig .tc .vmem S2x1024x256 .bf16) (harg2 : arg2.IsWhole) (arg3 : Memref sig .tc .vmem S2x8192x256 .bf16) (harg3 : arg3.IsWhole) (arg4 : Memref sig .tc .vmem S2x8192x128 .bf16) (harg4 : arg4.IsWhole) (arg5 : Memref sig .tc .vmem S1024x256 .bf16) (harg5 : arg5.IsWhole) (arg6 : Memref sig .tc .vmem S2x1024x128 .f32) (harg6 : arg6.IsWhole) (arg7 : Memref sig .tc .vmem S2x1024x128 .f32) (harg7 : arg7.IsWhole) (arg8 : Memref sig .tc .vmem S2x1024x128 .f32) (harg8 : arg8.IsWhole) (X_arg2 : BufTy.Contents (Elt Ideal) arg2.view.ty) (X_arg3 : BufTy.Contents (Elt Ideal) arg3.view.ty) (X_arg4 : BufTy.Contents (Elt Ideal) arg4.view.ty) (f6 : BufTy.Contents (Elt Ideal) arg6.view.ty) (f7 : BufTy.Contents (Elt Ideal) arg7.view.ty) (f8 : BufTy.Contents (Elt Ideal) arg8.view.ty)

    (h6 : arg6.view.read (Elt Ideal) f6 = G6 (1024 * (i 1).val) (arg2.view.read (Elt Ideal) X_arg2) (arg3.view.read (Elt Ideal) X_arg3) (1024 * k.val)) (L : List (View.Piece (Elt Ideal) S2x1024x128 .f32)) :
    View.canon ((trip_k0_t1 (F := Ideal) 𝒱 c bd i arg2 harg2 arg3 harg3 arg4 harg4 arg5 harg5 arg6 harg6 arg7 harg7 arg8 harg8 X_arg2 X_arg3 X_arg4 k).1 f6 f7 f8 ++ L) = G6 (1024 * (i 1).val) (arg2.view.read (Elt Ideal) X_arg2) (arg3.view.read (Elt Ideal) X_arg3) (1024 * (k.val + 1)) := by
  rw [trip6, show 1024 * (k.val + 1) = 1024 * k.val + 1024 by ring]
  refine canon_quads _ _ _ _ _ _ ?_ ?_ ?_ ?_
  · intro r d
    rw [up_apply]
    exact row_m8 (fun c => sc00_apply i k arg2 arg3 X_arg2 X_arg3 r c) (fun d => (at00_apply arg6 f6 r d).trans (congrFun h6 _)) d
  · intro r d
    rw [up_apply]
    exact row_m8 (fun c => sc01_apply i k arg2 arg3 X_arg2 X_arg3 r c) (fun d => (at01_apply arg6 f6 r d).trans (congrFun h6 _)) d
  · intro r d
    rw [up_apply]
    exact row_m8 (fun c => sc10_apply i k arg2 arg3 X_arg2 X_arg3 r c) (fun d => (at10_apply arg6 f6 r d).trans (congrFun h6 _)) d
  · intro r d
    rw [up_apply]
    exact row_m8 (fun c => sc11_apply i k arg2 arg3 X_arg2 X_arg3 r c) (fun d => (at11_apply arg6 f6 r d).trans (congrFun h6 _)) d

theorem step7 (i : grid0.Coords) (k : Fin (k0_t1_loop i).trips) (𝒱 : Variants) (c : Dev nD) (bd : Option 𝒱.V) (arg2 : Memref sig .tc .vmem S2x1024x256 .bf16) (harg2 : arg2.IsWhole) (arg3 : Memref sig .tc .vmem S2x8192x256 .bf16) (harg3 : arg3.IsWhole) (arg4 : Memref sig .tc .vmem S2x8192x128 .bf16) (harg4 : arg4.IsWhole) (arg5 : Memref sig .tc .vmem S1024x256 .bf16) (harg5 : arg5.IsWhole) (arg6 : Memref sig .tc .vmem S2x1024x128 .f32) (harg6 : arg6.IsWhole) (arg7 : Memref sig .tc .vmem S2x1024x128 .f32) (harg7 : arg7.IsWhole) (arg8 : Memref sig .tc .vmem S2x1024x128 .f32) (harg8 : arg8.IsWhole) (X_arg2 : BufTy.Contents (Elt Ideal) arg2.view.ty) (X_arg3 : BufTy.Contents (Elt Ideal) arg3.view.ty) (X_arg4 : BufTy.Contents (Elt Ideal) arg4.view.ty) (f6 : BufTy.Contents (Elt Ideal) arg6.view.ty) (f7 : BufTy.Contents (Elt Ideal) arg7.view.ty) (f8 : BufTy.Contents (Elt Ideal) arg8.view.ty)
    (hr : ∀ h r c, raw (arg2.view.read (Elt Ideal) X_arg2) (arg3.view.read (Elt Ideal) X_arg3) h r c ≠ ⊤)
    (h6 : arg6.view.read (Elt Ideal) f6 = G6 (1024 * (i 1).val) (arg2.view.read (Elt Ideal) X_arg2) (arg3.view.read (Elt Ideal) X_arg3) (1024 * k.val)) (h7 : arg7.view.read (Elt Ideal) f7 = G7 (1024 * (i 1).val) (arg2.view.read (Elt Ideal) X_arg2) (arg3.view.read (Elt Ideal) X_arg3) (1024 * k.val)) (L : List (View.Piece (Elt Ideal) S2x1024x128 .f32)) :
    View.canon ((trip_k0_t1 (F := Ideal) 𝒱 c bd i arg2 harg2 arg3 harg3 arg4 harg4 arg5 harg5 arg6 harg6 arg7 harg7 arg8 harg8 X_arg2 X_arg3 X_arg4 k).2.1 f6 f7 f8 ++ L) = G7 (1024 * (i 1).val) (arg2.view.read (Elt Ideal) X_arg2) (arg3.view.read (Elt Ideal) X_arg3) (1024 * (k.val + 1)) := by
  rw [trip7, show 1024 * (k.val + 1) = 1024 * k.val + 1024 by ring]
  refine canon_quads _ _ _ _ _ _ ?_ ?_ ?_ ?_
  · intro r d
    rw [up_apply]
    exact row_l8 (fun c => sc00_apply i k arg2 arg3 X_arg2 X_arg3 r c) (fun d => (at00_apply arg6 f6 r d).trans (congrFun h6 _)) (sco_ne_top _ _ _ hr 0 ⟨r.val, by omega⟩) (Dvd.intro _ (by ring : 128 * (8 * k.val) = 1024 * k.val)) d ((at00_apply arg7 f7 r d).trans (congrFun h7 _))
  · intro r d
    rw [up_apply]
    exact row_l8 (fun c => sc01_apply i k arg2 arg3 X_arg2 X_arg3 r c) (fun d => (at01_apply arg6 f6 r d).trans (congrFun h6 _)) (sco_ne_top _ _ _ hr 0 ⟨512 + r.val, by omega⟩) (Dvd.intro _ (by ring : 128 * (8 * k.val) = 1024 * k.val)) d ((at01_apply arg7 f7 r d).trans (congrFun h7 _))
  · intro r d
    rw [up_apply]
    exact row_l8 (fun c => sc10_apply i k arg2 arg3 X_arg2 X_arg3 r c) (fun d => (at10_apply arg6 f6 r d).trans (congrFun h6 _)) (sco_ne_top _ _ _ hr 1 ⟨r.val, by omega⟩) (Dvd.intro _ (by ring : 128 * (8 * k.val) = 1024 * k.val)) d ((at10_apply arg7 f7 r d).trans (congrFun h7 _))
  · intro r d
    rw [up_apply]
    exact row_l8 (fun c => sc11_apply i k arg2 arg3 X_arg2 X_arg3 r c) (fun d => (at11_apply arg6 f6 r d).trans (congrFun h6 _)) (sco_ne_top _ _ _ hr 1 ⟨512 + r.val, by omega⟩) (Dvd.intro _ (by ring : 128 * (8 * k.val) = 1024 * k.val)) d ((at11_apply arg7 f7 r d).trans (congrFun h7 _))

theorem step8 (i : grid0.Coords) (k : Fin (k0_t1_loop i).trips) (𝒱 : Variants) (c : Dev nD) (bd : Option 𝒱.V) (arg2 : Memref sig .tc .vmem S2x1024x256 .bf16) (harg2 : arg2.IsWhole) (arg3 : Memref sig .tc .vmem S2x8192x256 .bf16) (harg3 : arg3.IsWhole) (arg4 : Memref sig .tc .vmem S2x8192x128 .bf16) (harg4 : arg4.IsWhole) (arg5 : Memref sig .tc .vmem S1024x256 .bf16) (harg5 : arg5.IsWhole) (arg6 : Memref sig .tc .vmem S2x1024x128 .f32) (harg6 : arg6.IsWhole) (arg7 : Memref sig .tc .vmem S2x1024x128 .f32) (harg7 : arg7.IsWhole) (arg8 : Memref sig .tc .vmem S2x1024x128 .f32) (harg8 : arg8.IsWhole) (X_arg2 : BufTy.Contents (Elt Ideal) arg2.view.ty) (X_arg3 : BufTy.Contents (Elt Ideal) arg3.view.ty) (X_arg4 : BufTy.Contents (Elt Ideal) arg4.view.ty) (f6 : BufTy.Contents (Elt Ideal) arg6.view.ty) (f7 : BufTy.Contents (Elt Ideal) arg7.view.ty) (f8 : BufTy.Contents (Elt Ideal) arg8.view.ty)
    (hr : ∀ h r c, raw (arg2.view.read (Elt Ideal) X_arg2) (arg3.view.read (Elt Ideal) X_arg3) h r c ≠ ⊤)
    (h6 : arg6.view.read (Elt Ideal) f6 = G6 (1024 * (i 1).val) (arg2.view.read (Elt Ideal) X_arg2) (arg3.view.read (Elt Ideal) X_arg3) (1024 * k.val)) (h8 : arg8.view.read (Elt Ideal) f8 = G8 (1024 * (i 1).val) (arg2.view.read (Elt Ideal) X_arg2) (arg3.view.read (Elt Ideal) X_arg3) (arg4.view.read (Elt Ideal) X_arg4) (1024 * k.val)) (L : List (View.Piece (Elt Ideal) S2x1024x128 .f32)) :
    View.canon ((trip_k0_t1 (F := Ideal) 𝒱 c bd i arg2 harg2 arg3 harg3 arg4 harg4 arg5 harg5 arg6 harg6 arg7 harg7 arg8 harg8 X_arg2 X_arg3 X_arg4 k).2.2.1 f6 f7 f8 ++ L) = G8 (1024 * (i 1).val) (arg2.view.read (Elt Ideal) X_arg2) (arg3.view.read (Elt Ideal) X_arg3) (arg4.view.read (Elt Ideal) X_arg4) (1024 * (k.val + 1)) := by
  rw [trip8, show 1024 * (k.val + 1) = 1024 * k.val + 1024 by ring]
  refine canon_quads _ _ _ _ _ _ ?_ ?_ ?_ ?_
  · intro r d
    rw [up_apply]
    exact row_a8 (fun c => sc00_apply i k arg2 arg3 X_arg2 X_arg3 r c) (fun d => (at00_apply arg6 f6 r d).trans (congrFun h6 _)) (sco_ne_top _ _ _ hr 0 ⟨r.val, by omega⟩) d (fun c => val0_apply i k arg4 X_arg4 c d) ((at00_apply arg8 f8 r d).trans (congrFun h8 _))
  · intro r d
    rw [up_apply]
    exact row_a8 (fun c => sc01_apply i k arg2 arg3 X_arg2 X_arg3 r c) (fun d => (at01_apply arg6 f6 r d).trans (congrFun h6 _)) (sco_ne_top _ _ _ hr 0 ⟨512 + r.val, by omega⟩) d (fun c => val0_apply i k arg4 X_arg4 c d) ((at01_apply arg8 f8 r d).trans (congrFun h8 _))
  · intro r d
    rw [up_apply]
    exact row_a8 (fun c => sc10_apply i k arg2 arg3 X_arg2 X_arg3 r c) (fun d => (at10_apply arg6 f6 r d).trans (congrFun h6 _)) (sco_ne_top _ _ _ hr 1 ⟨r.val, by omega⟩) d (fun c => val1_apply i k arg4 X_arg4 c d) ((at10_apply arg8 f8 r d).trans (congrFun h8 _))
  · intro r d
    rw [up_apply]
    exact row_a8 (fun c => sc11_apply i k arg2 arg3 X_arg2 X_arg3 r c) (fun d => (at11_apply arg6 f6 r d).trans (congrFun h6 _)) (sco_ne_top _ _ _ hr 1 ⟨512 + r.val, by omega⟩) d (fun c => val1_apply i k arg4 X_arg4 c d) ((at11_apply arg8 f8 r d).trans (congrFun h8 _))

/-! ### The whole loop -/

theorem loop_state (i : grid0.Coords) (𝒱 : Variants) (c : Dev nD) (bd : Option 𝒱.V) (arg2 : Memref sig .tc .vmem S2x1024x256 .bf16) (harg2 : arg2.IsWhole) (arg3 : Memref sig .tc .vmem S2x8192x256 .bf16) (harg3 : arg3.IsWhole) (arg4 : Memref sig .tc .vmem S2x8192x128 .bf16) (harg4 : arg4.IsWhole) (arg5 : Memref sig .tc .vmem S1024x256 .bf16) (harg5 : arg5.IsWhole) (arg6 : Memref sig .tc .vmem S2x1024x128 .f32) (harg6 : arg6.IsWhole) (arg7 : Memref sig .tc .vmem S2x1024x128 .f32) (harg7 : arg7.IsWhole) (arg8 : Memref sig .tc .vmem S2x1024x128 .f32) (harg8 : arg8.IsWhole) (X_arg2 : BufTy.Contents (Elt Ideal) arg2.view.ty) (X_arg3 : BufTy.Contents (Elt Ideal) arg3.view.ty) (X_arg4 : BufTy.Contents (Elt Ideal) arg4.view.ty)
    (hr : ∀ h r c, raw (arg2.view.read (Elt Ideal) X_arg2) (arg3.view.read (Elt Ideal) X_arg3) h r c ≠ ⊤)
    (L6 L7 L8 : List (View.Piece (Elt Ideal) S2x1024x128 .f32))
    (h6 : View.canon L6 = G6 (1024 * (i 1).val) (arg2.view.read (Elt Ideal) X_arg2) (arg3.view.read (Elt Ideal) X_arg3) (0)) (h7 : View.canon L7 = G7 (1024 * (i 1).val) (arg2.view.read (Elt Ideal) X_arg2) (arg3.view.read (Elt Ideal) X_arg3) (0)) (h8 : View.canon L8 = G8 (1024 * (i 1).val) (arg2.view.read (Elt Ideal) X_arg2) (arg3.view.read (Elt Ideal) X_arg3) (arg4.view.read (Elt Ideal) X_arg4) (0)) :
    ∀ n ≤ (k0_t1_loop i).trips,
      View.canon ((pb_k0_t1 (F := Ideal) 𝒱 c bd i arg2 harg2 arg3 harg3 arg4 harg4 arg5 harg5 arg6 harg6 arg7 harg7 arg8 harg8 X_arg2 X_arg3 X_arg4 (arg6.view.writes (Elt Ideal) arg6.view.junk L6) (arg7.view.writes (Elt Ideal) arg7.view.junk L7) (arg8.view.writes (Elt Ideal) arg8.view.junk L8) n).1 ++ L6) = G6 (1024 * (i 1).val) (arg2.view.read (Elt Ideal) X_arg2) (arg3.view.read (Elt Ideal) X_arg3) (1024 * n)
      ∧ View.canon ((pb_k0_t1 (F := Ideal) 𝒱 c bd i arg2 harg2 arg3 harg3 arg4 harg4 arg5 harg5 arg6 harg6 arg7 harg7 arg8 harg8 X_arg2 X_arg3 X_arg4 (arg6.view.writes (Elt Ideal) arg6.view.junk L6) (arg7.view.writes (Elt Ideal) arg7.view.junk L7) (arg8.view.writes (Elt Ideal) arg8.view.junk L8) n).2.1 ++ L7) = G7 (1024 * (i 1).val) (arg2.view.read (Elt Ideal) X_arg2) (arg3.view.read (Elt Ideal) X_arg3) (1024 * n)
      ∧ View.canon ((pb_k0_t1 (F := Ideal) 𝒱 c bd i arg2 harg2 arg3 harg3 arg4 harg4 arg5 harg5 arg6 harg6 arg7 harg7 arg8 harg8 X_arg2 X_arg3 X_arg4 (arg6.view.writes (Elt Ideal) arg6.view.junk L6) (arg7.view.writes (Elt Ideal) arg7.view.junk L7) (arg8.view.writes (Elt Ideal) arg8.view.junk L8) n).2.2 ++ L8) = G8 (1024 * (i 1).val) (arg2.view.read (Elt Ideal) X_arg2) (arg3.view.read (Elt Ideal) X_arg3) (arg4.view.read (Elt Ideal) X_arg4) (1024 * n) := by
  intro n
  induction n with
  | zero => intro _; exact ⟨h6, h7, h8⟩
  | succ n ih =>
    intro hn
    obtain ⟨e6, e7, e8⟩ := ih (by omega)
    have s := pb_k0_t1_succ (F := Ideal) 𝒱 c bd i arg2 harg2 arg3 harg3 arg4 harg4 arg5 harg5 arg6 harg6 arg7 harg7 arg8 harg8 X_arg2 X_arg3 X_arg4 (arg6.view.writes (Elt Ideal) arg6.view.junk L6) (arg7.view.writes (Elt Ideal) arg7.view.junk L7) (arg8.view.writes (Elt Ideal) arg8.view.junk L8) ⟨n, hn⟩
    simp only at s
    rw [s]
    have r6 := View.read_writes_junk_eq_canon (Val := Elt Ideal) arg6.view ((pb_k0_t1 (F := Ideal) 𝒱 c bd i arg2 harg2 arg3 harg3 arg4 harg4 arg5 harg5 arg6 harg6 arg7 harg7 arg8 harg8 X_arg2 X_arg3 X_arg4 (arg6.view.writes (Elt Ideal) arg6.view.junk L6) (arg7.view.writes (Elt Ideal) arg7.view.junk L7) (arg8.view.writes (Elt Ideal) arg8.view.junk L8) n).1 ++ L6)
    have r7 := View.read_writes_junk_eq_canon (Val := Elt Ideal) arg7.view ((pb_k0_t1 (F := Ideal) 𝒱 c bd i arg2 harg2 arg3 harg3 arg4 harg4 arg5 harg5 arg6 harg6 arg7 harg7 arg8 harg8 X_arg2 X_arg3 X_arg4 (arg6.view.writes (Elt Ideal) arg6.view.junk L6) (arg7.view.writes (Elt Ideal) arg7.view.junk L7) (arg8.view.writes (Elt Ideal) arg8.view.junk L8) n).2.1 ++ L7)
    have r8 := View.read_writes_junk_eq_canon (Val := Elt Ideal) arg8.view ((pb_k0_t1 (F := Ideal) 𝒱 c bd i arg2 harg2 arg3 harg3 arg4 harg4 arg5 harg5 arg6 harg6 arg7 harg7 arg8 harg8 X_arg2 X_arg3 X_arg4 (arg6.view.writes (Elt Ideal) arg6.view.junk L6) (arg7.view.writes (Elt Ideal) arg7.view.junk L7) (arg8.view.writes (Elt Ideal) arg8.view.junk L8) n).2.2 ++ L8)
    rw [View.writes_append] at r6 r7 r8
    rw [e6] at r6; rw [e7] at r7; rw [e8] at r8
    refine ⟨?_, ?_, ?_⟩
    · dsimp only
      rw [List.append_assoc]
      exact step6 i ⟨n, hn⟩ 𝒱 c bd arg2 harg2 arg3 harg3 arg4 harg4 arg5 harg5 arg6 harg6 arg7 harg7 arg8 harg8 X_arg2 X_arg3 X_arg4 _ _ _ r6 _
    · dsimp only
      rw [List.append_assoc]
      exact step7 i ⟨n, hn⟩ 𝒱 c bd arg2 harg2 arg3 harg3 arg4 harg4 arg5 harg5 arg6 harg6 arg7 harg7 arg8 harg8 X_arg2 X_arg3 X_arg4 _ _ _ hr r6 r7 _
    · dsimp only
      rw [List.append_assoc]
      exact step8 i ⟨n, hn⟩ 𝒱 c bd arg2 harg2 arg3 harg3 arg4 harg4 arg5 harg5 arg6 harg6 arg7 harg7 arg8 harg8 X_arg2 X_arg3 X_arg4 _ _ _ hr r6 r8 _

end Cert.KernelIdeal.Att
-- ==== Proof.Pay.lean ====
module

public import proofs.«01_k».proof.Proof.Loop

/-! The diagonal blocks: their payloads are the same steps on masked scores. -/

@[expose] public section
noncomputable section
namespace Cert.KernelIdeal.Att
open Cert.KernelIdeal Cert.KernelIdeal.Gen Idealize.ShloMosaic Idealize.ShloMosaic.TcCoe Idealize.SL.Sem

section
variable {F : FTy → Type} [FloatOps F] [Named F]

/-- Rows of a buffer as a matrix. -/
def dn (x : FVec F S1x512x128 .f32) : FVec F S512x128 .f32 := shapeCast S512x128 x shapeCasts_S1x512x128_S512x128
def vn4 (x : FVec F S1x512x128 .bf16) : FVec F S512x128 .bf16 := shapeCast S512x128 x shapeCasts_S1x512x128_S512x128
def vn8 (x : FVec F S1x1024x128 .bf16) : FVec F S1024x128 .bf16 := shapeCast S1024x128 x shapeCasts_S1x1024x128_S1024x128

variable (s : FVec F S512x512 .f32) (s' : FVec F S512x1024 .f32) (m l a : FVec F S1x512x128 .f32) (v : FVec F S1x512x128 .bf16) (v' : FVec F S1x1024x128 .bf16)

theorem pay_m00 : k0_pay113 (k0_pay108 (k0_pay104 m) (k0_pay105 s) (k0_pay106 s) (k0_pay107 s)) = up (mx4 (k0_pay103 s) (dn m)) := rfl
theorem pay_l00 : k0_pay111 (k0_pay103 s) (k0_pay104 m) (k0_pay105 s) (k0_pay106 s) (k0_pay107 s) l = up (ls4 (k0_pay103 s) (dn m) (dn l)) := rfl
theorem pay_a00 : k0_pay112 (k0_pay103 s) (k0_pay104 m) (k0_pay105 s) (k0_pay106 s) (k0_pay107 s) v a = up (ac4 (k0_pay103 s) (dn m) (vn4 v) (dn a)) := rfl
theorem pay_m01 : k0_pay125 (k0_pay116 s' m) = up (mx8 (k0_pay114 s') (dn m)) := rfl
theorem pay_l01 : k0_pay123 (k0_pay119 s' m l) (k0_pay120 s' m) (k0_pay121 s' m) (k0_pay122 s' m) = up (ls8 (k0_pay114 s') (dn m) (dn l)) := rfl
theorem pay_a01 : k0_pay124 (k0_pay117 s' m) (k0_pay118 s' m) v' a = up (ac8 (k0_pay114 s') (dn m) (vn8 v') (dn a)) := rfl
theorem pay_m10 : k0_pay134 (k0_pay127 m) (k0_pay128 s) = up (mx4 (k0_pay126 s) (dn m)) := rfl
theorem pay_l10 : k0_pay132 (k0_pay126 s) (k0_pay127 m) (k0_pay128 s) l = up (ls4 (k0_pay126 s) (dn m) (dn l)) := rfl
theorem pay_a10 : k0_pay133 (k0_pay126 s) (k0_pay127 m) (k0_pay128 s) v a = up (ac4 (k0_pay126 s) (dn m) (vn4 v) (dn a)) := rfl
theorem pay_l11 : k0_pay142 (k0_pay140 s' m l) (k0_pay141 s' m) = up (ls8 (k0_pay135 s') (dn m) (dn l)) := rfl
theorem pay_a11 : k0_pay143 (k0_pay138 s' m) (k0_pay139 s' m) v' a = up (ac8 (k0_pay135 s') (dn m) (vn8 v') (dn a)) := rfl
theorem pay135 : k0_pay135 s' = k0_pay114 s' := rfl
theorem pay126 : k0_pay126 s = k0_pay103 s := rfl
end

theorem sel_le {α : Type} (a b k : ℕ) (ha : a < 4096) (hb : b < 4096) (hk : k < 4096) (x y : α) :
    Scalar.select (IntOp.cmpi .sle (BitVec.ofNat 32 a) (IntOp.addi (BitVec.ofNat 32 b) (BitVec.ofNat 32 k))) x y = if a ≤ k + b then x else y := by
  have e : (BitVec.ofNat 32 a).sle (BitVec.ofNat 32 b + BitVec.ofNat 32 k) = decide (a ≤ k + b) := by
    have h1 : (BitVec.ofNat 32 a).toInt = a := by
      rw [BitVec.toInt_eq_toNat_of_lt] <;> simp only [BitVec.toNat_ofNat] <;> omega
    have h2 : (BitVec.ofNat 32 b + BitVec.ofNat 32 k).toInt = ((k + b : ℕ) : ℤ) := by
      rw [BitVec.toInt_eq_toNat_of_lt] <;> simp only [BitVec.toNat_add, BitVec.toNat_ofNat] <;> omega
    rw [BitVec.sle, h1, h2]
    exact decide_eq_decide.mpr (by omega)
  unfold Scalar.select IntOp.cmpi IntOp.addi
  simp only [e]
  by_cases h : a ≤ k + b <;> simp [h]

theorem mask4_apply (s : FVec Ideal S512x512 .f32) (r c : Fin 512) :
    k0_pay103 s (ix2 r c) = if c.val ≤ r.val then s (ix2 r c) else ⊥ := by
  unfold k0_pay103
  dsimp only
  rw [IdealRules.named_const.ideal_named_scalar _ _ _ _ rfl]
  pointwise
  exact (sel_le _ _ 0 (by omega) (by omega) (by omega) _ _).trans (by rw [Nat.zero_add])
theorem mask8_apply (s : FVec Ideal S512x1024 .f32) (r : Fin 512) (c : Fin 1024) :
    k0_pay114 s (ix2 r c) = if c.val ≤ 512 + r.val then s (ix2 r c) else ⊥ := by
  unfold k0_pay114
  dsimp only
  rw [IdealRules.named_const.ideal_named_scalar _ _ _ _ rfl]
  pointwise
  exact sel_le _ _ 512 (by omega) (by omega) (by omega) _ _
theorem dn_apply (x : FVec Ideal S1x512x128 .f32) (r : Fin 512) (d : Fin 128) : dn x (ix2 r d) = x (ix3 0 r d) := by
  unfold dn
  pointwise
theorem vn4_apply (x : FVec Ideal S1x512x128 .bf16) (r : Fin 512) (d : Fin 128) : vn4 x (ix2 r d) = x (ix3 0 r d) := by
  unfold vn4
  pointwise
theorem vn8_apply (x : FVec Ideal S1x1024x128 .bf16) (r : Fin 1024) (d : Fin 128) : vn8 x (ix2 r d) = x (ix3 0 r d) := by
  unfold vn8
  pointwise
theorem dot4_apply (q k : FVec Ideal S1x512x256 .bf16) (r c : Fin 512) :
    k0_pay99 (F := Ideal) k q (ix2 r c) = ∑ d : Fin 256, q (ix3 0 r d) * k (ix3 0 c d) := by
  unfold k0_pay99
  pointwise
theorem dot4'_apply (q k : FVec Ideal S1x512x256 .bf16) (r c : Fin 512) :
    k0_pay101 (F := Ideal) k q (ix2 r c) = ∑ d : Fin 256, q (ix3 0 r d) * k (ix3 0 c d) := dot4_apply q k r c
theorem dot8_apply (q : FVec Ideal S1x512x256 .bf16) (k : FVec Ideal S1x1024x256 .bf16) (r : Fin 512) (c : Fin 1024) :
    k0_pay100 (F := Ideal) k q (ix2 r c) = ∑ d : Fin 256, q (ix3 0 r d) * k (ix3 0 c d) := by
  unfold k0_pay100
  pointwise
theorem dot8'_apply (q : FVec Ideal S1x512x256 .bf16) (k : FVec Ideal S1x1024x256 .bf16) (r : Fin 512) (c : Fin 1024) :
    k0_pay102 (F := Ideal) k q (ix2 r c) = ∑ d : Fin 256, q (ix3 0 r d) * k (ix3 0 c d) := dot8_apply q k r c
theorem fin_apply (l a : FVec Ideal S1x1024x128 .f32) (r : Fin 1024) (d : Fin 128) :
    k0_pay1 (F := Ideal) l a (ix2 r d) = Ideal.div (a (ix3 0 r d)) (∑ e : Fin 128, l (ix3 0 r e)) := by
  unfold k0_pay1
  pointwise
theorem fin'_apply (l a : FVec Ideal S1x1024x128 .f32) (r : Fin 1024) (d : Fin 128) :
    k0_pay145 (F := Ideal) l a (ix2 r d) = Ideal.div (a (ix3 0 r d)) (∑ e : Fin 128, l (ix3 0 r e)) := fin_apply l a r d
end Cert.KernelIdeal.Att
-- ==== Proof.Chain.lean ====
module

public import proofs.«01_k».proof.Proof.Pay

/-! The diagonal blocks follow the loop: each of the four parts (a head, a half of its rows) takes its rows from the columns before the block to the
columns its rows may see. -/

@[expose] public section
noncomputable section
namespace Cert.KernelIdeal.Att
open Cert.KernelIdeal Cert.KernelIdeal.Gen Idealize.ShloMosaic Idealize.ShloMosaic.TcCoe Idealize.SL.Sem

/-- The columns done, once `n` are for the 512 rows of head `h` from `o` on. -/
def put (N : Fin 2 → ℕ → ℕ) (h : Fin 2) (o n : ℕ) : Fin 2 → ℕ → ℕ := fun h' r => if h' = h ∧ o ≤ r ∧ r < o + 512 then n else N h' r

theorem canon_put (f : Fin 2 → Fin 1024 → Fin 128 → ℕ → EReal) (L : List (View.Piece (Elt Ideal) S2x1024x128 .f32)) (N : Fin 2 → ℕ → ℕ)
    (hL : ∀ y : S2x1024x128.Idx, View.canon L y = f (y 0) (y 1) (y 2) (N (y 0) (y 1).val)) (h : Fin 2) (o n : ℕ) (inb)
    (w : S1x512x128.Idx → EReal)
    (hw : ∀ (r : Fin 512) (d : Fin 128) (hr : o + r.val < 1024), w (ix3 0 r d) = f h ⟨o + r.val, hr⟩ d n) (y : S2x1024x128.Idx) :
    View.canon (Val := Elt Ideal) (s := S2x1024x128) (e := .f32) (⟨Rect.unit (s := S2x1024x128) ![h.val, o, 0] S1x512x128.size inb, w⟩ :: L) y
      = f (y 0) (y 1) (y 2) (put N h o n (y 0) (y 1).val) := by
  by_cases hm : y ∈ (Rect.unit (s := S2x1024x128) ![h.val, o, 0] S1x512x128.size inb).set
  · have hb0 : h.val ≤ (y 0).val ∧ (y 0).val < h.val + 1 := Rect.mem_set_unit.mp hm 0
    have hb1 : o ≤ (y 1).val ∧ (y 1).val < o + 512 := Rect.mem_set_unit.mp hm 1
    obtain ⟨x, rfl⟩ : ∃ x, (Rect.unit (s := S2x1024x128) ![h.val, o, 0] S1x512x128.size inb).emb x = y := by
      refine ⟨ix3 (0 : Fin 1) (⟨(y 1).val - o, by omega⟩ : Fin 512) (y 2), ?_⟩
      rw [emb_half]
      funext a
      match a with
      | ⟨0, _⟩ => exact Fin.ext (by show h.val = (y 0).val; omega)
      | ⟨1, _⟩ => exact Fin.ext (by show o + ((y 1).val - o) = (y 1).val; omega)
      | ⟨2, _⟩ => rfl
    refine (View.canon_cons_emb (Val := Elt Ideal) (e := .f32) _ w L x).trans ?_
    rw [emb_half]
    have h1 : (x 1).val < 512 := (x 1).isLt
    have h1' : o + 512 ≤ 1024 := inb 1
    refine (congrArg w (eq_row x)).trans ((hw (x 1) (x 2) (by omega)).trans ?_)
    show _ = f h ⟨o + (x 1).val, _⟩ (x 2) (put N h o n h (o + (x 1).val))
    unfold put
    rw [if_pos ⟨rfl, by omega, by omega⟩]
  · refine (View.canon_cons_of_not_mem (Val := Elt Ideal) (s := S2x1024x128) (e := .f32) ⟨Rect.unit (s := S2x1024x128) ![h.val, o, 0] S1x512x128.size inb, w⟩ L hm).trans ((hL y).trans ?_)
    unfold put
    rw [if_neg]
    rintro ⟨e0, e1, e2⟩
    refine hm (Rect.mem_set_unit.mpr fun a => ?_)
    have h2 : (y 2).val < 128 := (y 2).isLt
    match a with
    | ⟨0, _⟩ => exact ⟨(congrArg Fin.val e0).ge, by show (y 0).val < h.val + 1; rw [e0]; omega⟩
    | ⟨1, _⟩ => exact ⟨e1, e2⟩
    | ⟨2, _⟩ => exact ⟨Nat.zero_le _, by show (y 2).val < 0 + 128; omega⟩

theorem read_half (a : Memref sig .tc .vmem S2x1024x128 .f32) (L : List (View.Piece (Elt Ideal) S2x1024x128 .f32)) (h : Fin 2) (o : ℕ) (inb)
    (r : Fin 512) (d : Fin 128) (hr : o + r.val < 1024) :
    dn (F := Ideal) (a.view.readCov L (Rect.unit (s := S2x1024x128) ![h.val, o, 0] S1x512x128.size inb).toLoadRect) (ix2 r d) = View.canon L (ix3 h ⟨o + r.val, hr⟩ d) := by
  rw [dn_apply, View.readCov_eq_canon']
  exact congrArg (View.canon L) (emb_half h.val o inb (ix3 0 r d))

theorem load_q4 (h : Fin 2) (o : ℕ) (inb) (arg2 : Memref sig .tc .vmem S2x1024x256 .bf16) (X2 : BufTy.Contents (Elt Ideal) arg2.view.ty) (r : Fin 512) (d : Fin 256) (hr : o + r.val < 1024) :
    View.readAt (Elt Ideal) arg2.view (Rect.unit (s := S2x1024x256) ![h.val, o, 0] S1x512x256.size inb).toLoadRect X2 (ix3 (0 : Fin 1) r d)
     = arg2.view.read (Elt Ideal) X2 (ix3 h ⟨o + r.val, hr⟩ d) := by
  rw [View.readAt_apply]
  congr 1
  funext a
  match a with
  | ⟨0, _⟩ => exact Fin.ext (by show h.val + 1 * 0 = h.val; omega)
  | ⟨1, _⟩ => exact Fin.ext (by show o + 1 * r.val = o + r.val; omega)
  | ⟨2, _⟩ => exact Fin.ext (by show 0 + 1 * d.val = d.val; omega)

theorem load_k4 (h : Fin 2) (o : ℕ) (off) (e : off = ![h.val, o, 0]) (inb) (arg3 : Memref sig .tc .vmem S2x8192x256 .bf16) (X3 : BufTy.Contents (Elt Ideal) arg3.view.ty) (c : Fin 512) (d : Fin 256) (hc : o + c.val < 8192) :
    View.readAt (Elt Ideal) arg3.view (Rect.unit (s := S2x8192x256) off S1x512x256.size inb).toLoadRect X3 (ix3 (0 : Fin 1) c d)
     = arg3.view.read (Elt Ideal) X3 (ix3 h ⟨o + c.val, hc⟩ d) := by
  subst e
  rw [View.readAt_apply]
  congr 1
  funext a
  match a with
  | ⟨0, _⟩ => exact Fin.ext (by show h.val + 1 * 0 = h.val; omega)
  | ⟨1, _⟩ => exact Fin.ext (by show o + 1 * c.val = o + c.val; omega)
  | ⟨2, _⟩ => exact Fin.ext (by show 0 + 1 * d.val = d.val; omega)

theorem load_v4 (h : Fin 2) (o : ℕ) (off) (e : off = ![h.val, o, 0]) (inb) (arg4 : Memref sig .tc .vmem S2x8192x128 .bf16) (X4 : BufTy.Contents (Elt Ideal) arg4.view.ty) (c : Fin 512) (d : Fin 128) (hc : o + c.val < 8192) :
    View.readAt (Elt Ideal) arg4.view (Rect.unit (s := S2x8192x128) off S1x512x128.size inb).toLoadRect X4 (ix3 (0 : Fin 1) c d)
     = arg4.view.read (Elt Ideal) X4 (ix3 h ⟨o + c.val, hc⟩ d) := by
  subst e
  rw [View.readAt_apply]
  congr 1
  funext a
  match a with
  | ⟨0, _⟩ => exact Fin.ext (by show h.val + 1 * 0 = h.val; omega)
  | ⟨1, _⟩ => exact Fin.ext (by show o + 1 * c.val = o + c.val; omega)
  | ⟨2, _⟩ => exact Fin.ext (by show 0 + 1 * d.val = d.val; omega)

section
variable (c : Dev nD) (i : grid0.Coords) (arg2 : Memref sig .tc .vmem S2x1024x256 .bf16) (harg2 : arg2.IsWhole) (arg3 : Memref sig .tc .vmem S2x8192x256 .bf16) (harg3 : arg3.IsWhole) (arg4 : Memref sig .tc .vmem S2x8192x128 .bf16) (harg4 : arg4.IsWhole) (arg5 : Memref sig .tc .vmem S1024x256 .bf16) (harg5 : arg5.IsWhole) (arg6 : Memref sig .tc .vmem S2x1024x128 .f32) (harg6 : arg6.IsWhole) (arg7 : Memref sig .tc .vmem S2x1024x128 .f32) (harg7 : arg7.IsWhole) (arg8 : Memref sig .tc .vmem S2x1024x128 .f32) (harg8 : arg8.IsWhole) (x0 : Vec Ideal S2x1024x256 .bf16) (x1 : Vec Ideal S2x8192x256 .bf16) (x2 : Vec Ideal S2x8192x128 .bf16)

/-- The first column of the diagonal block. -/
def n0 (i : grid0.Coords) : ℕ := 1024 * (i 1).val

def f6 (h : Fin 2) (r : Fin 1024) (_ : Fin 128) (n : ℕ) : EReal := Soft.M (sco (n0 i) x0 x1 h r) n
def f7 (h : Fin 2) (r : Fin 1024) (d : Fin 128) (n : ℕ) : EReal := Soft.A (sco (n0 i) x0 x1 h r) (ind d.val) n
def f8 (h : Fin 2) (r : Fin 1024) (d : Fin 128) (n : ℕ) : EReal := Soft.A (sco (n0 i) x0 x1 h r) (vcol x2 h d) n

def N0 : Fin 2 → ℕ → ℕ := fun _ _ => n0 i
def N1 : Fin 2 → ℕ → ℕ := put (N0 i) 0 0 (n0 i + 512)
def N2 : Fin 2 → ℕ → ℕ := put (N1 i) 0 512 (n0 i + 1024)
def N3 : Fin 2 → ℕ → ℕ := put (N2 i) 1 0 (n0 i + 512)
def N4 : Fin 2 → ℕ → ℕ := put (N3 i) 1 512 (n0 i + 1024)

theorem n0_le (i : grid0.Coords) : n0 i + 1024 ≤ 8192 := by
  have := coord_lt i
  unfold n0; omega
theorem n0_dvd (i : grid0.Coords) : 128 ∣ n0 i := Dvd.intro (8 * (i 1).val) (by unfold n0; ring)

/-! ### Masked scores and values of the four parts -/

theorem ms00 (r : Fin 512) (c : Fin 512) (hr : 0 + r.val < 1024) :
    k0_pay103 (kernelRun0_A.sl.r (F := Ideal) i arg2 harg2 arg3 harg3 x0 x1) (ix2 r c) = sco (n0 i) x0 x1 0 ⟨0 + r.val, hr⟩ (n0 i + c.val) := by
  have hb := n0_le i
  have hc := c.isLt
  have h8 : n0 i + c.val < 8192 := by omega
  skip
  rw [mask4_apply]
  unfold sco raw
  have e : kernelRun0_A.sl.r (F := Ideal) i arg2 harg2 arg3 harg3 x0 x1 (ix2 r c) = ∑ d : Fin 256, x0 (ix3 0 ⟨0 + r.val, hr⟩ d) * x1 (ix3 0 ⟨n0 i + c.val, h8⟩ d) := by
    unfold kernelRun0_A.sl.r
    rw [dot4_apply]
    refine Finset.sum_congr rfl fun d _ => ?_
    rw [load_k4 0 (n0 i) _ (k0_off9_eq i) _ arg3 _ c d h8, harg3.read_unread]
    refine congrArg (· * _) ((load_q4 0 0 _ arg2 _ r d hr).trans ?_)
    rw [harg2.read_unread]
  rw [e, dif_pos h8]
  by_cases hcr : c.val ≤ 0 + r.val
  · rw [if_pos (by omega), if_pos (by show n0 i + c.val ≤ n0 i + (0 + r.val); omega)]
  · rw [if_neg (by omega), if_neg (by show ¬ n0 i + c.val ≤ n0 i + (0 + r.val); omega)]

theorem mv00 (c : Fin 512) (d : Fin 128) :
    vn4 (F := Ideal) (View.readAt (Elt Ideal) arg4.view (Rect.unit (s := S2x8192x128) (k0_off13 i) S1x512x128.size (k0_off13_inb i)).toLoadRect (harg4.unread x2)) (ix2 c d) = vcol x2 0 d (n0 i + c.val) := by
  have hb := n0_le i
  have hc := c.isLt
  have h8 : n0 i + c.val < 8192 := by omega
  unfold vcol
  rw [vn4_apply, dif_pos h8, load_v4 0 (n0 i) _ (k0_off13_eq i) _ arg4 _ c d h8, harg4.read_unread]

theorem ms01 (r : Fin 512) (c : Fin 1024) (hr : 512 + r.val < 1024) :
    k0_pay114 (kernelRun0_A.sl.r_1 (F := Ideal) i arg2 harg2 arg3 harg3 x0 x1) (ix2 r c) = sco (n0 i) x0 x1 0 ⟨512 + r.val, hr⟩ (n0 i + c.val) := by
  have hb := n0_le i
  have hc := c.isLt
  have h8 : n0 i + c.val < 8192 := by omega
  skip
  rw [mask8_apply]
  unfold sco raw
  have e : kernelRun0_A.sl.r_1 (F := Ideal) i arg2 harg2 arg3 harg3 x0 x1 (ix2 r c) = ∑ d : Fin 256, x0 (ix3 0 ⟨512 + r.val, hr⟩ d) * x1 (ix3 0 ⟨n0 i + c.val, h8⟩ d) := by
    unfold kernelRun0_A.sl.r_1
    rw [dot8_apply]
    refine Finset.sum_congr rfl fun d _ => ?_
    rw [load_k 0 (n0 i) _ (k0_off10_eq i) _ arg3 _ c d h8, harg3.read_unread]
    refine congrArg (· * _) ((load_q4 0 512 _ arg2 _ r d hr).trans ?_)
    rw [harg2.read_unread]
  rw [e, dif_pos h8]
  by_cases hcr : c.val ≤ 512 + r.val
  · rw [if_pos (by omega), if_pos (by show n0 i + c.val ≤ n0 i + (512 + r.val); omega)]
  · rw [if_neg (by omega), if_neg (by show ¬ n0 i + c.val ≤ n0 i + (512 + r.val); omega)]

theorem mv01 (c : Fin 1024) (d : Fin 128) :
    vn8 (F := Ideal) (View.readAt (Elt Ideal) arg4.view (Rect.unit (s := S2x8192x128) (k0_off14 i) S1x1024x128.size (k0_off14_inb i)).toLoadRect (harg4.unread x2)) (ix2 c d) = vcol x2 0 d (n0 i + c.val) := by
  have hb := n0_le i
  have hc := c.isLt
  have h8 : n0 i + c.val < 8192 := by omega
  unfold vcol
  rw [vn8_apply, dif_pos h8, load_v 0 (n0 i) _ (k0_off14_eq i) _ arg4 _ c d h8, harg4.read_unread]

theorem ms10 (r : Fin 512) (c : Fin 512) (hr : 0 + r.val < 1024) :
    k0_pay126 (kernelRun0_A.sl.r_2 (F := Ideal) i arg2 harg2 arg3 harg3 x0 x1) (ix2 r c) = sco (n0 i) x0 x1 1 ⟨0 + r.val, hr⟩ (n0 i + c.val) := by
  have hb := n0_le i
  have hc := c.isLt
  have h8 : n0 i + c.val < 8192 := by omega
  rw [pay126]
  rw [mask4_apply]
  unfold sco raw
  have e : kernelRun0_A.sl.r_2 (F := Ideal) i arg2 harg2 arg3 harg3 x0 x1 (ix2 r c) = ∑ d : Fin 256, x0 (ix3 1 ⟨0 + r.val, hr⟩ d) * x1 (ix3 1 ⟨n0 i + c.val, h8⟩ d) := by
    unfold kernelRun0_A.sl.r_2
    rw [dot4'_apply]
    refine Finset.sum_congr rfl fun d _ => ?_
    rw [load_k4 1 (n0 i) _ (k0_off11_eq i) _ arg3 _ c d h8, harg3.read_unread]
    refine congrArg (· * _) ((load_q4 1 0 _ arg2 _ r d hr).trans ?_)
    rw [harg2.read_unread]
  rw [e, dif_pos h8]
  by_cases hcr : c.val ≤ 0 + r.val
  · rw [if_pos (by omega), if_pos (by show n0 i + c.val ≤ n0 i + (0 + r.val); omega)]
  · rw [if_neg (by omega), if_neg (by show ¬ n0 i + c.val ≤ n0 i + (0 + r.val); omega)]

theorem mv10 (c : Fin 512) (d : Fin 128) :
    vn4 (F := Ideal) (View.readAt (Elt Ideal) arg4.view (Rect.unit (s := S2x8192x128) (k0_off15 i) S1x512x128.size (k0_off15_inb i)).toLoadRect (harg4.unread x2)) (ix2 c d) = vcol x2 1 d (n0 i + c.val) := by
  have hb := n0_le i
  have hc := c.isLt
  have h8 : n0 i + c.val < 8192 := by omega
  unfold vcol
  rw [vn4_apply, dif_pos h8, load_v4 1 (n0 i) _ (k0_off15_eq i) _ arg4 _ c d h8, harg4.read_unread]

theorem ms11 (r : Fin 512) (c : Fin 1024) (hr : 512 + r.val < 1024) :
    k0_pay135 (kernelRun0_A.sl.r_3 (F := Ideal) i arg2 harg2 arg3 harg3 x0 x1) (ix2 r c) = sco (n0 i) x0 x1 1 ⟨512 + r.val, hr⟩ (n0 i + c.val) := by
  have hb := n0_le i
  have hc := c.isLt
  have h8 : n0 i + c.val < 8192 := by omega
  rw [pay135]
  rw [mask8_apply]
  unfold sco raw
  have e : kernelRun0_A.sl.r_3 (F := Ideal) i arg2 harg2 arg3 harg3 x0 x1 (ix2 r c) = ∑ d : Fin 256, x0 (ix3 1 ⟨512 + r.val, hr⟩ d) * x1 (ix3 1 ⟨n0 i + c.val, h8⟩ d) := by
    unfold kernelRun0_A.sl.r_3
    rw [dot8'_apply]
    refine Finset.sum_congr rfl fun d _ => ?_
    rw [load_k 1 (n0 i) _ (k0_off12_eq i) _ arg3 _ c d h8, harg3.read_unread]
    refine congrArg (· * _) ((load_q4 1 512 _ arg2 _ r d hr).trans ?_)
    rw [harg2.read_unread]
  rw [e, dif_pos h8]
  by_cases hcr : c.val ≤ 512 + r.val
  · rw [if_pos (by omega), if_pos (by show n0 i + c.val ≤ n0 i + (512 + r.val); omega)]
  · rw [if_neg (by omega), if_neg (by show ¬ n0 i + c.val ≤ n0 i + (512 + r.val); omega)]

theorem mv11 (c : Fin 1024) (d : Fin 128) :
    vn8 (F := Ideal) (View.readAt (Elt Ideal) arg4.view (Rect.unit (s := S2x8192x128) (k0_off16 i) S1x1024x128.size (k0_off16_inb i)).toLoadRect (harg4.unread x2)) (ix2 c d) = vcol x2 1 d (n0 i + c.val) := by
  have hb := n0_le i
  have hc := c.isLt
  have h8 : n0 i + c.val < 8192 := by omega
  unfold vcol
  rw [vn8_apply, dif_pos h8, load_v 1 (n0 i) _ (k0_off16_eq i) _ arg4 _ c d h8, harg4.read_unread]

/-! ### What the loop leaves -/

/-- The stores made before the diagonal blocks, last first. -/
def B6 : List (View.Piece (Elt Ideal) S2x1024x128 .f32) := (pb_k0_t1 (F := Ideal) Variants.none c none i arg2 harg2 arg3 harg3 arg4 harg4 arg5 harg5 arg6 harg6 arg7 harg7 arg8 harg8 (harg2.unread x0) (harg3.unread x1) (harg4.unread x2) (arg6.view.writes (Elt Ideal) arg6.view.junk kernelRun0_A.sl.HS0_1) (arg7.view.writes (Elt Ideal) arg7.view.junk kernelRun0_A.sl.HS1_1) (arg8.view.writes (Elt Ideal) arg8.view.junk kernelRun0_A.sl.HS2_1) (Scf.trips (k0_t1_loop i).lb (k0_t1_loop i).ub (k0_t1_loop i).st)).1 ++ kernelRun0_A.sl.HS0_1
def B7 : List (View.Piece (Elt Ideal) S2x1024x128 .f32) := (pb_k0_t1 (F := Ideal) Variants.none c none i arg2 harg2 arg3 harg3 arg4 harg4 arg5 harg5 arg6 harg6 arg7 harg7 arg8 harg8 (harg2.unread x0) (harg3.unread x1) (harg4.unread x2) (arg6.view.writes (Elt Ideal) arg6.view.junk kernelRun0_A.sl.HS0_1) (arg7.view.writes (Elt Ideal) arg7.view.junk kernelRun0_A.sl.HS1_1) (arg8.view.writes (Elt Ideal) arg8.view.junk kernelRun0_A.sl.HS2_1) (Scf.trips (k0_t1_loop i).lb (k0_t1_loop i).ub (k0_t1_loop i).st)).2.1 ++ kernelRun0_A.sl.HS1_1
def B8 : List (View.Piece (Elt Ideal) S2x1024x128 .f32) := (pb_k0_t1 (F := Ideal) Variants.none c none i arg2 harg2 arg3 harg3 arg4 harg4 arg5 harg5 arg6 harg6 arg7 harg7 arg8 harg8 (harg2.unread x0) (harg3.unread x1) (harg4.unread x2) (arg6.view.writes (Elt Ideal) arg6.view.junk kernelRun0_A.sl.HS0_1) (arg7.view.writes (Elt Ideal) arg7.view.junk kernelRun0_A.sl.HS1_1) (arg8.view.writes (Elt Ideal) arg8.view.junk kernelRun0_A.sl.HS2_1) (Scf.trips (k0_t1_loop i).lb (k0_t1_loop i).ub (k0_t1_loop i).st)).2.2 ++ kernelRun0_A.sl.HS2_1

theorem fill_off : (![0, 0, 0] : Fin S2x1024x128.rank → ℕ) = fun _ => 0 := by
  funext a
  match a with
  | ⟨0, _⟩ => rfl
  | ⟨1, _⟩ => rfl
  | ⟨2, _⟩ => rfl

theorem start6 : View.canon (kernelRun0_A.sl.HS0_1 (F := Ideal)) = G6 (n0 i) x0 x1 0 := by
  unfold kernelRun0_A.sl.HS0_1
  rw [View.canon_unit_zero fill_off]
  funext y
  show Ideal.ofBits FTy.f32 4286578688#32 = _
  unfold G6 Soft.M
  rw [Finset.range_zero, Finset.sup_empty]
  simp [Ideal.ofBits]; decide

theorem start7 : View.canon (kernelRun0_A.sl.HS1_1 (F := Ideal)) = G7 (n0 i) x0 x1 0 := by
  unfold kernelRun0_A.sl.HS1_1
  rw [View.canon_unit_zero fill_off]
  funext y
  show Ideal.ofBits FTy.f32 0#32 = _
  unfold G7 Soft.A
  rw [Finset.range_zero, Finset.sum_empty]
  exact Ideal.ofBits_zero .f32

theorem start8 : View.canon (kernelRun0_A.sl.HS2_1 (F := Ideal)) = G8 (n0 i) x0 x1 x2 0 := by
  unfold kernelRun0_A.sl.HS2_1
  rw [View.canon_unit_zero fill_off]
  funext y
  show Ideal.ofBits FTy.f32 0#32 = _
  unfold G8 Soft.A
  rw [Finset.range_zero, Finset.sum_empty]
  exact Ideal.ofBits_zero .f32

theorem base_state (hr : ∀ h r c, raw x0 x1 h r c ≠ ⊤) :
    View.canon (B6 c i arg2 harg2 arg3 harg3 arg4 harg4 arg5 harg5 arg6 harg6 arg7 harg7 arg8 harg8 x0 x1 x2) = G6 (n0 i) x0 x1 (n0 i) ∧ View.canon (B7 c i arg2 harg2 arg3 harg3 arg4 harg4 arg5 harg5 arg6 harg6 arg7 harg7 arg8 harg8 x0 x1 x2) = G7 (n0 i) x0 x1 (n0 i) ∧ View.canon (B8 c i arg2 harg2 arg3 harg3 arg4 harg4 arg5 harg5 arg6 harg6 arg7 harg7 arg8 harg8 x0 x1 x2) = G8 (n0 i) x0 x1 x2 (n0 i) := by
  have h := loop_state i Variants.none c none arg2 harg2 arg3 harg3 arg4 harg4 arg5 harg5 arg6 harg6 arg7 harg7 arg8 harg8 (harg2.unread x0) (harg3.unread x1) (harg4.unread x2)
    (by rw [harg2.read_unread, harg3.read_unread]; exact hr) kernelRun0_A.sl.HS0_1 kernelRun0_A.sl.HS1_1 kernelRun0_A.sl.HS2_1
    (by rw [harg2.read_unread, harg3.read_unread]; exact start6 i x0 x1)
    (by rw [harg2.read_unread, harg3.read_unread]; exact start7 i x0 x1)
    (by rw [harg2.read_unread, harg3.read_unread, harg4.read_unread]; exact start8 i x0 x1 x2)
    _ (le_refl _)
  rw [harg2.read_unread, harg3.read_unread, harg4.read_unread, show 1024 * (k0_t1_loop i).trips = n0 i by rw [trips_eq]; rfl] at h
  exact h

theorem no_trip (i : grid0.Coords) : (k0_t2_loop i).trips = 0 := Nat.le_zero.mp (k0_t2_abs i).2.1

theorem pb2_nil (𝒱 : Variants) (c : Dev nD) (bd : Option 𝒱.V) (i : grid0.Coords) (arg2 : Memref sig .tc .vmem S2x1024x256 .bf16) (harg2 : arg2.IsWhole) (arg3 : Memref sig .tc .vmem S2x8192x256 .bf16) (harg3 : arg3.IsWhole) (arg4 : Memref sig .tc .vmem S2x8192x128 .bf16) (harg4 : arg4.IsWhole) (arg5 : Memref sig .tc .vmem S1024x256 .bf16) (harg5 : arg5.IsWhole) (arg6 : Memref sig .tc .vmem S2x1024x128 .f32) (harg6 : arg6.IsWhole) (arg7 : Memref sig .tc .vmem S2x1024x128 .f32) (harg7 : arg7.IsWhole) (arg8 : Memref sig .tc .vmem S2x1024x128 .f32) (harg8 : arg8.IsWhole) (v16 : BitVec 32) X2 X3 X4 Y6 Y7 Y8 :
    pb_k0_t2 (F := Ideal) 𝒱 c bd i arg2 harg2 arg3 harg3 arg4 harg4 arg5 harg5 arg6 harg6 arg7 harg7 arg8 harg8 v16 X2 X3 X4 Y6 Y7 Y8 (Scf.trips (k0_t2_loop i).lb (k0_t2_loop i).ub (k0_t2_loop i).st) = ([], [], []) := by
  rw [show Scf.trips (k0_t2_loop i).lb (k0_t2_loop i).ub (k0_t2_loop i).st = 0 from no_trip i]
  rfl

theorem v56_eq : kernelRun0_A.sl.v56 (F := Ideal) c i arg2 harg2 arg3 harg3 arg4 harg4 arg5 harg5 arg6 harg6 arg7 harg7 arg8 harg8 x0 x1 x2 = arg6.view.readCov (B6 c i arg2 harg2 arg3 harg3 arg4 harg4 arg5 harg5 arg6 harg6 arg7 harg7 arg8 harg8 x0 x1 x2) (Rect.unit (s := S2x1024x128) ![0, 0, 0] S1x512x128.size inb_S2x1024x128_S1x512x128_0_0_0).toLoadRect := by
  unfold kernelRun0_A.sl.v56
  rw [pb2_nil]
  rfl

theorem v74_eq : kernelRun0_A.sl.v74 (F := Ideal) c i arg2 harg2 arg3 harg3 arg4 harg4 arg5 harg5 arg6 harg6 arg7 harg7 arg8 harg8 x0 x1 x2 = arg7.view.readCov (B7 c i arg2 harg2 arg3 harg3 arg4 harg4 arg5 harg5 arg6 harg6 arg7 harg7 arg8 harg8 x0 x1 x2) (Rect.unit (s := S2x1024x128) ![0, 0, 0] S1x512x128.size inb_S2x1024x128_S1x512x128_0_0_0).toLoadRect := by
  unfold kernelRun0_A.sl.v74
  rw [pb2_nil]
  rfl

theorem v91_eq : kernelRun0_A.sl.v91 (F := Ideal) c i arg2 harg2 arg3 harg3 arg4 harg4 arg5 harg5 arg6 harg6 arg7 harg7 arg8 harg8 x0 x1 x2 = arg8.view.readCov (B8 c i arg2 harg2 arg3 harg3 arg4 harg4 arg5 harg5 arg6 harg6 arg7 harg7 arg8 harg8 x0 x1 x2) (Rect.unit (s := S2x1024x128) ![0, 0, 0] S1x512x128.size inb_S2x1024x128_S1x512x128_0_0_0).toLoadRect := by
  unfold kernelRun0_A.sl.v91
  rw [pb2_nil]
  rfl

/-! ### The four parts' stores, as steps -/

theorem put6_00 : (kernelRun0_A.sl.HS0_1_1 (F := Ideal) c i arg2 harg2 arg3 harg3 arg4 harg4 arg5 harg5 arg6 harg6 arg7 harg7 arg8 harg8 x0 x1 x2) = ⟨Rect.unit (s := S2x1024x128) ![0, 0, 0] S1x512x128.size inb_S2x1024x128_S1x512x128_0_0_0, up (mx4 (k0_pay103 (kernelRun0_A.sl.r (F := Ideal) i arg2 harg2 arg3 harg3 x0 x1)) (dn (kernelRun0_A.sl.v56 (F := Ideal) c i arg2 harg2 arg3 harg3 arg4 harg4 arg5 harg5 arg6 harg6 arg7 harg7 arg8 harg8 x0 x1 x2)))⟩ :: (B6 c i arg2 harg2 arg3 harg3 arg4 harg4 arg5 harg5 arg6 harg6 arg7 harg7 arg8 harg8 x0 x1 x2) := by
  unfold kernelRun0_A.sl.HS0_1_1
  rw [pb2_nil]
  unfold kernelRun0_A.sl.r_9 kernelRun0_A.sl.r_5 kernelRun0_A.sl.r_6 kernelRun0_A.sl.r_7 kernelRun0_A.sl.r_8
  rfl

theorem put7_00 : (kernelRun0_A.sl.HS1_1_1 (F := Ideal) c i arg2 harg2 arg3 harg3 arg4 harg4 arg5 harg5 arg6 harg6 arg7 harg7 arg8 harg8 x0 x1 x2) = ⟨Rect.unit (s := S2x1024x128) ![0, 0, 0] S1x512x128.size inb_S2x1024x128_S1x512x128_0_0_0, up (ls4 (k0_pay103 (kernelRun0_A.sl.r (F := Ideal) i arg2 harg2 arg3 harg3 x0 x1)) (dn (kernelRun0_A.sl.v56 (F := Ideal) c i arg2 harg2 arg3 harg3 arg4 harg4 arg5 harg5 arg6 harg6 arg7 harg7 arg8 harg8 x0 x1 x2)) (dn (kernelRun0_A.sl.v74 (F := Ideal) c i arg2 harg2 arg3 harg3 arg4 harg4 arg5 harg5 arg6 harg6 arg7 harg7 arg8 harg8 x0 x1 x2)))⟩ :: (B7 c i arg2 harg2 arg3 harg3 arg4 harg4 arg5 harg5 arg6 harg6 arg7 harg7 arg8 harg8 x0 x1 x2) := by
  unfold kernelRun0_A.sl.HS1_1_1
  rw [pb2_nil]
  unfold kernelRun0_A.sl.r_4 kernelRun0_A.sl.r_5 kernelRun0_A.sl.r_6 kernelRun0_A.sl.r_7 kernelRun0_A.sl.r_8
  rfl

theorem put8_00 : (kernelRun0_A.sl.HS2_1_1 (F := Ideal) c i arg2 harg2 arg3 harg3 arg4 harg4 arg5 harg5 arg6 harg6 arg7 harg7 arg8 harg8 x0 x1 x2) = ⟨Rect.unit (s := S2x1024x128) ![0, 0, 0] S1x512x128.size inb_S2x1024x128_S1x512x128_0_0_0, up (ac4 (k0_pay103 (kernelRun0_A.sl.r (F := Ideal) i arg2 harg2 arg3 harg3 x0 x1)) (dn (kernelRun0_A.sl.v56 (F := Ideal) c i arg2 harg2 arg3 harg3 arg4 harg4 arg5 harg5 arg6 harg6 arg7 harg7 arg8 harg8 x0 x1 x2)) (vn4 (View.readAt (Elt Ideal) arg4.view (Rect.unit (s := S2x8192x128) (k0_off13 i) S1x512x128.size (k0_off13_inb i)).toLoadRect (harg4.unread x2))) (dn (kernelRun0_A.sl.v91 (F := Ideal) c i arg2 harg2 arg3 harg3 arg4 harg4 arg5 harg5 arg6 harg6 arg7 harg7 arg8 harg8 x0 x1 x2)))⟩ :: (B8 c i arg2 harg2 arg3 harg3 arg4 harg4 arg5 harg5 arg6 harg6 arg7 harg7 arg8 harg8 x0 x1 x2) := by
  unfold kernelRun0_A.sl.HS2_1_1
  rw [pb2_nil]
  unfold kernelRun0_A.sl.r_4 kernelRun0_A.sl.r_5 kernelRun0_A.sl.r_6 kernelRun0_A.sl.r_7 kernelRun0_A.sl.r_8
  rfl

theorem put6_01 : (kernelRun0_A.sl.HS0_2 (F := Ideal) c i arg2 harg2 arg3 harg3 arg4 harg4 arg5 harg5 arg6 harg6 arg7 harg7 arg8 harg8 x0 x1 x2) = ⟨Rect.unit (s := S2x1024x128) ![0, 512, 0] S1x512x128.size inb_S2x1024x128_S1x512x128_0_512_0, up (mx8 (k0_pay114 (kernelRun0_A.sl.r_1 (F := Ideal) i arg2 harg2 arg3 harg3 x0 x1)) (dn (kernelRun0_A.sl.v110 (F := Ideal) c i arg2 harg2 arg3 harg3 arg4 harg4 arg5 harg5 arg6 harg6 arg7 harg7 arg8 harg8 x0 x1 x2)))⟩ :: (kernelRun0_A.sl.HS0_1_1 (F := Ideal) c i arg2 harg2 arg3 harg3 arg4 harg4 arg5 harg5 arg6 harg6 arg7 harg7 arg8 harg8 x0 x1 x2) := by
  unfold kernelRun0_A.sl.HS0_2 kernelRun0_A.sl.r_10
  rfl

theorem put7_01 : (kernelRun0_A.sl.HS1_2 (F := Ideal) c i arg2 harg2 arg3 harg3 arg4 harg4 arg5 harg5 arg6 harg6 arg7 harg7 arg8 harg8 x0 x1 x2) = ⟨Rect.unit (s := S2x1024x128) ![0, 512, 0] S1x512x128.size inb_S2x1024x128_S1x512x128_0_512_0, up (ls8 (k0_pay114 (kernelRun0_A.sl.r_1 (F := Ideal) i arg2 harg2 arg3 harg3 x0 x1)) (dn (kernelRun0_A.sl.v110 (F := Ideal) c i arg2 harg2 arg3 harg3 arg4 harg4 arg5 harg5 arg6 harg6 arg7 harg7 arg8 harg8 x0 x1 x2)) (dn (kernelRun0_A.sl.v136 (F := Ideal) c i arg2 harg2 arg3 harg3 arg4 harg4 arg5 harg5 arg6 harg6 arg7 harg7 arg8 harg8 x0 x1 x2)))⟩ :: (kernelRun0_A.sl.HS1_1_1 (F := Ideal) c i arg2 harg2 arg3 harg3 arg4 harg4 arg5 harg5 arg6 harg6 arg7 harg7 arg8 harg8 x0 x1 x2) := by
  unfold kernelRun0_A.sl.HS1_2 kernelRun0_A.sl.r_13 kernelRun0_A.sl.r_14 kernelRun0_A.sl.r_15 kernelRun0_A.sl.r_16
  rfl

theorem put8_01 : (kernelRun0_A.sl.HS2_2 (F := Ideal) c i arg2 harg2 arg3 harg3 arg4 harg4 arg5 harg5 arg6 harg6 arg7 harg7 arg8 harg8 x0 x1 x2) = ⟨Rect.unit (s := S2x1024x128) ![0, 512, 0] S1x512x128.size inb_S2x1024x128_S1x512x128_0_512_0, up (ac8 (k0_pay114 (kernelRun0_A.sl.r_1 (F := Ideal) i arg2 harg2 arg3 harg3 x0 x1)) (dn (kernelRun0_A.sl.v110 (F := Ideal) c i arg2 harg2 arg3 harg3 arg4 harg4 arg5 harg5 arg6 harg6 arg7 harg7 arg8 harg8 x0 x1 x2)) (vn8 (View.readAt (Elt Ideal) arg4.view (Rect.unit (s := S2x8192x128) (k0_off14 i) S1x1024x128.size (k0_off14_inb i)).toLoadRect (harg4.unread x2))) (dn (kernelRun0_A.sl.v161 (F := Ideal) c i arg2 harg2 arg3 harg3 arg4 harg4 arg5 harg5 arg6 harg6 arg7 harg7 arg8 harg8 x0 x1 x2)))⟩ :: (kernelRun0_A.sl.HS2_1_1 (F := Ideal) c i arg2 harg2 arg3 harg3 arg4 harg4 arg5 harg5 arg6 harg6 arg7 harg7 arg8 harg8 x0 x1 x2) := by
  unfold kernelRun0_A.sl.HS2_2 kernelRun0_A.sl.r_11 kernelRun0_A.sl.r_12
  rfl

theorem put6_10 : (kernelRun0_A.sl.HS0_3 (F := Ideal) c i arg2 harg2 arg3 harg3 arg4 harg4 arg5 harg5 arg6 harg6 arg7 harg7 arg8 harg8 x0 x1 x2) = ⟨Rect.unit (s := S2x1024x128) ![1, 0, 0] S1x512x128.size inb_S2x1024x128_S1x512x128_1_0_0, up (mx4 (k0_pay126 (kernelRun0_A.sl.r_2 (F := Ideal) i arg2 harg2 arg3 harg3 x0 x1)) (dn (kernelRun0_A.sl.v180 (F := Ideal) c i arg2 harg2 arg3 harg3 arg4 harg4 arg5 harg5 arg6 harg6 arg7 harg7 arg8 harg8 x0 x1 x2)))⟩ :: (kernelRun0_A.sl.HS0_2 (F := Ideal) c i arg2 harg2 arg3 harg3 arg4 harg4 arg5 harg5 arg6 harg6 arg7 harg7 arg8 harg8 x0 x1 x2) := by
  unfold kernelRun0_A.sl.HS0_3 kernelRun0_A.sl.r_18 kernelRun0_A.sl.r_19
  rfl

theorem put7_10 : (kernelRun0_A.sl.HS1_3 (F := Ideal) c i arg2 harg2 arg3 harg3 arg4 harg4 arg5 harg5 arg6 harg6 arg7 harg7 arg8 harg8 x0 x1 x2) = ⟨Rect.unit (s := S2x1024x128) ![1, 0, 0] S1x512x128.size inb_S2x1024x128_S1x512x128_1_0_0, up (ls4 (k0_pay126 (kernelRun0_A.sl.r_2 (F := Ideal) i arg2 harg2 arg3 harg3 x0 x1)) (dn (kernelRun0_A.sl.v180 (F := Ideal) c i arg2 harg2 arg3 harg3 arg4 harg4 arg5 harg5 arg6 harg6 arg7 harg7 arg8 harg8 x0 x1 x2)) (dn (kernelRun0_A.sl.v198 (F := Ideal) c i arg2 harg2 arg3 harg3 arg4 harg4 arg5 harg5 arg6 harg6 arg7 harg7 arg8 harg8 x0 x1 x2)))⟩ :: (kernelRun0_A.sl.HS1_2 (F := Ideal) c i arg2 harg2 arg3 harg3 arg4 harg4 arg5 harg5 arg6 harg6 arg7 harg7 arg8 harg8 x0 x1 x2) := by
  unfold kernelRun0_A.sl.HS1_3 kernelRun0_A.sl.r_17 kernelRun0_A.sl.r_18 kernelRun0_A.sl.r_19
  rfl

theorem put8_10 : (kernelRun0_A.sl.HS2_3 (F := Ideal) c i arg2 harg2 arg3 harg3 arg4 harg4 arg5 harg5 arg6 harg6 arg7 harg7 arg8 harg8 x0 x1 x2) = ⟨Rect.unit (s := S2x1024x128) ![1, 0, 0] S1x512x128.size inb_S2x1024x128_S1x512x128_1_0_0, up (ac4 (k0_pay126 (kernelRun0_A.sl.r_2 (F := Ideal) i arg2 harg2 arg3 harg3 x0 x1)) (dn (kernelRun0_A.sl.v180 (F := Ideal) c i arg2 harg2 arg3 harg3 arg4 harg4 arg5 harg5 arg6 harg6 arg7 harg7 arg8 harg8 x0 x1 x2)) (vn4 (View.readAt (Elt Ideal) arg4.view (Rect.unit (s := S2x8192x128) (k0_off15 i) S1x512x128.size (k0_off15_inb i)).toLoadRect (harg4.unread x2))) (dn (kernelRun0_A.sl.v215 (F := Ideal) c i arg2 harg2 arg3 harg3 arg4 harg4 arg5 harg5 arg6 harg6 arg7 harg7 arg8 harg8 x0 x1 x2)))⟩ :: (kernelRun0_A.sl.HS2_2 (F := Ideal) c i arg2 harg2 arg3 harg3 arg4 harg4 arg5 harg5 arg6 harg6 arg7 harg7 arg8 harg8 x0 x1 x2) := by
  unfold kernelRun0_A.sl.HS2_3 kernelRun0_A.sl.r_17 kernelRun0_A.sl.r_18 kernelRun0_A.sl.r_19
  rfl

theorem put7_11 : (kernelRun0_A.sl.HS1_4 (F := Ideal) c i arg2 harg2 arg3 harg3 arg4 harg4 arg5 harg5 arg6 harg6 arg7 harg7 arg8 harg8 x0 x1 x2) = ⟨Rect.unit (s := S2x1024x128) ![1, 512, 0] S1x512x128.size inb_S2x1024x128_S1x512x128_1_512_0, up (ls8 (k0_pay135 (kernelRun0_A.sl.r_3 (F := Ideal) i arg2 harg2 arg3 harg3 x0 x1)) (dn (kernelRun0_A.sl.v234 (F := Ideal) c i arg2 harg2 arg3 harg3 arg4 harg4 arg5 harg5 arg6 harg6 arg7 harg7 arg8 harg8 x0 x1 x2)) (dn (kernelRun0_A.sl.v260 (F := Ideal) c i arg2 harg2 arg3 harg3 arg4 harg4 arg5 harg5 arg6 harg6 arg7 harg7 arg8 harg8 x0 x1 x2)))⟩ :: (kernelRun0_A.sl.HS1_3 (F := Ideal) c i arg2 harg2 arg3 harg3 arg4 harg4 arg5 harg5 arg6 harg6 arg7 harg7 arg8 harg8 x0 x1 x2) := by
  unfold kernelRun0_A.sl.HS1_4 kernelRun0_A.sl.r_23 kernelRun0_A.sl.r_24
  rfl

theorem put8_11 : (kernelRun0_A.sl.HS2_4 (F := Ideal) c i arg2 harg2 arg3 harg3 arg4 harg4 arg5 harg5 arg6 harg6 arg7 harg7 arg8 harg8 x0 x1 x2) = ⟨Rect.unit (s := S2x1024x128) ![1, 512, 0] S1x512x128.size inb_S2x1024x128_S1x512x128_1_512_0, up (ac8 (k0_pay135 (kernelRun0_A.sl.r_3 (F := Ideal) i arg2 harg2 arg3 harg3 x0 x1)) (dn (kernelRun0_A.sl.v234 (F := Ideal) c i arg2 harg2 arg3 harg3 arg4 harg4 arg5 harg5 arg6 harg6 arg7 harg7 arg8 harg8 x0 x1 x2)) (vn8 (View.readAt (Elt Ideal) arg4.view (Rect.unit (s := S2x8192x128) (k0_off16 i) S1x1024x128.size (k0_off16_inb i)).toLoadRect (harg4.unread x2))) (dn (kernelRun0_A.sl.v285 (F := Ideal) c i arg2 harg2 arg3 harg3 arg4 harg4 arg5 harg5 arg6 harg6 arg7 harg7 arg8 harg8 x0 x1 x2)))⟩ :: (kernelRun0_A.sl.HS2_3 (F := Ideal) c i arg2 harg2 arg3 harg3 arg4 harg4 arg5 harg5 arg6 harg6 arg7 harg7 arg8 harg8 x0 x1 x2) := by
  unfold kernelRun0_A.sl.HS2_4 kernelRun0_A.sl.r_21 kernelRun0_A.sl.r_22
  rfl

/-! ### The running buffers after each part -/
variable (hr : ∀ h r c, raw x0 x1 h r c ≠ ⊤)
include hr

theorem st6_0 (y : S2x1024x128.Idx) : View.canon (B6 c i arg2 harg2 arg3 harg3 arg4 harg4 arg5 harg5 arg6 harg6 arg7 harg7 arg8 harg8 x0 x1 x2) y = f6 i x0 x1 (y 0) (y 1) (y 2) (N0 i (y 0) (y 1).val) :=
  congrFun (base_state c i arg2 harg2 arg3 harg3 arg4 harg4 arg5 harg5 arg6 harg6 arg7 harg7 arg8 harg8 x0 x1 x2 hr).1 y

theorem st7_0 (y : S2x1024x128.Idx) : View.canon (B7 c i arg2 harg2 arg3 harg3 arg4 harg4 arg5 harg5 arg6 harg6 arg7 harg7 arg8 harg8 x0 x1 x2) y = f7 i x0 x1 (y 0) (y 1) (y 2) (N0 i (y 0) (y 1).val) :=
  congrFun (base_state c i arg2 harg2 arg3 harg3 arg4 harg4 arg5 harg5 arg6 harg6 arg7 harg7 arg8 harg8 x0 x1 x2 hr).2.1 y

theorem st8_0 (y : S2x1024x128.Idx) : View.canon (B8 c i arg2 harg2 arg3 harg3 arg4 harg4 arg5 harg5 arg6 harg6 arg7 harg7 arg8 harg8 x0 x1 x2) y = f8 i x0 x1 x2 (y 0) (y 1) (y 2) (N0 i (y 0) (y 1).val) :=
  congrFun (base_state c i arg2 harg2 arg3 harg3 arg4 harg4 arg5 harg5 arg6 harg6 arg7 harg7 arg8 harg8 x0 x1 x2 hr).2.2 y

omit hr in
theorem at_N0 (r : Fin 512) : N0 i 0 (0 + r.val) = n0 i := rfl

theorem rd6_00 (r : Fin 512) (d : Fin 128) (hrr : 0 + r.val < 1024) : dn (F := Ideal) (kernelRun0_A.sl.v56 (F := Ideal) c i arg2 harg2 arg3 harg3 arg4 harg4 arg5 harg5 arg6 harg6 arg7 harg7 arg8 harg8 x0 x1 x2) (ix2 r d) = f6 i x0 x1 0 ⟨0 + r.val, hrr⟩ d (n0 i) := by
  rw [v56_eq]
  refine (read_half arg6 _ 0 0 _ r d hrr).trans ((st6_0 c i arg2 harg2 arg3 harg3 arg4 harg4 arg5 harg5 arg6 harg6 arg7 harg7 arg8 harg8 x0 x1 x2 hr _).trans ?_)
  exact congrArg (f6 i x0 x1 0 ⟨0 + r.val, hrr⟩ d) (at_N0 i r)

theorem rd7_00 (r : Fin 512) (d : Fin 128) (hrr : 0 + r.val < 1024) : dn (F := Ideal) (kernelRun0_A.sl.v74 (F := Ideal) c i arg2 harg2 arg3 harg3 arg4 harg4 arg5 harg5 arg6 harg6 arg7 harg7 arg8 harg8 x0 x1 x2) (ix2 r d) = f7 i x0 x1 0 ⟨0 + r.val, hrr⟩ d (n0 i) := by
  rw [v74_eq]
  refine (read_half arg7 _ 0 0 _ r d hrr).trans ((st7_0 c i arg2 harg2 arg3 harg3 arg4 harg4 arg5 harg5 arg6 harg6 arg7 harg7 arg8 harg8 x0 x1 x2 hr _).trans ?_)
  exact congrArg (f7 i x0 x1 0 ⟨0 + r.val, hrr⟩ d) (at_N0 i r)

theorem rd8_00 (r : Fin 512) (d : Fin 128) (hrr : 0 + r.val < 1024) : dn (F := Ideal) (kernelRun0_A.sl.v91 (F := Ideal) c i arg2 harg2 arg3 harg3 arg4 harg4 arg5 harg5 arg6 harg6 arg7 harg7 arg8 harg8 x0 x1 x2) (ix2 r d) = f8 i x0 x1 x2 0 ⟨0 + r.val, hrr⟩ d (n0 i) := by
  rw [v91_eq]
  refine (read_half arg8 _ 0 0 _ r d hrr).trans ((st8_0 c i arg2 harg2 arg3 harg3 arg4 harg4 arg5 harg5 arg6 harg6 arg7 harg7 arg8 harg8 x0 x1 x2 hr _).trans ?_)
  exact congrArg (f8 i x0 x1 x2 0 ⟨0 + r.val, hrr⟩ d) (at_N0 i r)

theorem st6_1 (y : S2x1024x128.Idx) : View.canon (kernelRun0_A.sl.HS0_1_1 (F := Ideal) c i arg2 harg2 arg3 harg3 arg4 harg4 arg5 harg5 arg6 harg6 arg7 harg7 arg8 harg8 x0 x1 x2) y = f6 i x0 x1 (y 0) (y 1) (y 2) (N1 i (y 0) (y 1).val) := by
  rw [put6_00]
  refine canon_put (f6 i x0 x1 ) _ (N0 i) (st6_0 c i arg2 harg2 arg3 harg3 arg4 harg4 arg5 harg5 arg6 harg6 arg7 harg7 arg8 harg8 x0 x1 x2 hr) 0 0 (n0 i + 512) _ _ (fun r d hrr => ?_) y
  rw [up_apply]
  exact row_m4 (fun c => ms00 i arg2 harg2 arg3 harg3  x0 x1 r c hrr) (fun d => rd6_00 c i arg2 harg2 arg3 harg3 arg4 harg4 arg5 harg5 arg6 harg6 arg7 harg7 arg8 harg8 x0 x1 x2 hr r d hrr) d

theorem st7_1 (y : S2x1024x128.Idx) : View.canon (kernelRun0_A.sl.HS1_1_1 (F := Ideal) c i arg2 harg2 arg3 harg3 arg4 harg4 arg5 harg5 arg6 harg6 arg7 harg7 arg8 harg8 x0 x1 x2) y = f7 i x0 x1 (y 0) (y 1) (y 2) (N1 i (y 0) (y 1).val) := by
  rw [put7_00]
  refine canon_put (f7 i x0 x1 ) _ (N0 i) (st7_0 c i arg2 harg2 arg3 harg3 arg4 harg4 arg5 harg5 arg6 harg6 arg7 harg7 arg8 harg8 x0 x1 x2 hr) 0 0 (n0 i + 512) _ _ (fun r d hrr => ?_) y
  rw [up_apply]
  exact row_l4 (fun c => ms00 i arg2 harg2 arg3 harg3  x0 x1 r c hrr) (fun d => rd6_00 c i arg2 harg2 arg3 harg3 arg4 harg4 arg5 harg5 arg6 harg6 arg7 harg7 arg8 harg8 x0 x1 x2 hr r d hrr) (sco_ne_top (n0 i) x0 x1 hr 0 ⟨0 + r.val, hrr⟩) (n0_dvd i) d (rd7_00 c i arg2 harg2 arg3 harg3 arg4 harg4 arg5 harg5 arg6 harg6 arg7 harg7 arg8 harg8 x0 x1 x2 hr r d hrr)

theorem st8_1 (y : S2x1024x128.Idx) : View.canon (kernelRun0_A.sl.HS2_1_1 (F := Ideal) c i arg2 harg2 arg3 harg3 arg4 harg4 arg5 harg5 arg6 harg6 arg7 harg7 arg8 harg8 x0 x1 x2) y = f8 i x0 x1 x2 (y 0) (y 1) (y 2) (N1 i (y 0) (y 1).val) := by
  rw [put8_00]
  refine canon_put (f8 i x0 x1 x2) _ (N0 i) (st8_0 c i arg2 harg2 arg3 harg3 arg4 harg4 arg5 harg5 arg6 harg6 arg7 harg7 arg8 harg8 x0 x1 x2 hr) 0 0 (n0 i + 512) _ _ (fun r d hrr => ?_) y
  rw [up_apply]
  exact row_a4 (fun c => ms00 i arg2 harg2 arg3 harg3  x0 x1 r c hrr) (fun d => rd6_00 c i arg2 harg2 arg3 harg3 arg4 harg4 arg5 harg5 arg6 harg6 arg7 harg7 arg8 harg8 x0 x1 x2 hr r d hrr) (sco_ne_top (n0 i) x0 x1 hr 0 ⟨0 + r.val, hrr⟩) d (fun c => mv00 i arg4 harg4 x2 c d) (rd8_00 c i arg2 harg2 arg3 harg3 arg4 harg4 arg5 harg5 arg6 harg6 arg7 harg7 arg8 harg8 x0 x1 x2 hr r d hrr)

omit hr in
theorem at_N1 (r : Fin 512) : N1 i 0 (512 + r.val) = n0 i := by
  have := r.isLt
  unfold N1 N0
  simp only [put]
  split_ifs <;> first | rfl | omega | (exfalso; simp_all; done) | (exfalso; simp_all; omega)

theorem rd6_01 (r : Fin 512) (d : Fin 128) (hrr : 512 + r.val < 1024) : dn (F := Ideal) (kernelRun0_A.sl.v110 (F := Ideal) c i arg2 harg2 arg3 harg3 arg4 harg4 arg5 harg5 arg6 harg6 arg7 harg7 arg8 harg8 x0 x1 x2) (ix2 r d) = f6 i x0 x1 0 ⟨512 + r.val, hrr⟩ d (n0 i) := by
  unfold kernelRun0_A.sl.v110
  refine (read_half arg6 _ 0 512 _ r d hrr).trans ((st6_1 c i arg2 harg2 arg3 harg3 arg4 harg4 arg5 harg5 arg6 harg6 arg7 harg7 arg8 harg8 x0 x1 x2 hr _).trans ?_)
  exact congrArg (f6 i x0 x1 0 ⟨512 + r.val, hrr⟩ d) (at_N1 i r)

theorem rd7_01 (r : Fin 512) (d : Fin 128) (hrr : 512 + r.val < 1024) : dn (F := Ideal) (kernelRun0_A.sl.v136 (F := Ideal) c i arg2 harg2 arg3 harg3 arg4 harg4 arg5 harg5 arg6 harg6 arg7 harg7 arg8 harg8 x0 x1 x2) (ix2 r d) = f7 i x0 x1 0 ⟨512 + r.val, hrr⟩ d (n0 i) := by
  unfold kernelRun0_A.sl.v136
  refine (read_half arg7 _ 0 512 _ r d hrr).trans ((st7_1 c i arg2 harg2 arg3 harg3 arg4 harg4 arg5 harg5 arg6 harg6 arg7 harg7 arg8 harg8 x0 x1 x2 hr _).trans ?_)
  exact congrArg (f7 i x0 x1 0 ⟨512 + r.val, hrr⟩ d) (at_N1 i r)

theorem rd8_01 (r : Fin 512) (d : Fin 128) (hrr : 512 + r.val < 1024) : dn (F := Ideal) (kernelRun0_A.sl.v161 (F := Ideal) c i arg2 harg2 arg3 harg3 arg4 harg4 arg5 harg5 arg6 harg6 arg7 harg7 arg8 harg8 x0 x1 x2) (ix2 r d) = f8 i x0 x1 x2 0 ⟨512 + r.val, hrr⟩ d (n0 i) := by
  unfold kernelRun0_A.sl.v161
  refine (read_half arg8 _ 0 512 _ r d hrr).trans ((st8_1 c i arg2 harg2 arg3 harg3 arg4 harg4 arg5 harg5 arg6 harg6 arg7 harg7 arg8 harg8 x0 x1 x2 hr _).trans ?_)
  exact congrArg (f8 i x0 x1 x2 0 ⟨512 + r.val, hrr⟩ d) (at_N1 i r)

theorem st6_2 (y : S2x1024x128.Idx) : View.canon (kernelRun0_A.sl.HS0_2 (F := Ideal) c i arg2 harg2 arg3 harg3 arg4 harg4 arg5 harg5 arg6 harg6 arg7 harg7 arg8 harg8 x0 x1 x2) y = f6 i x0 x1 (y 0) (y 1) (y 2) (N2 i (y 0) (y 1).val) := by
  rw [put6_01]
  refine canon_put (f6 i x0 x1 ) _ (N1 i) (st6_1 c i arg2 harg2 arg3 harg3 arg4 harg4 arg5 harg5 arg6 harg6 arg7 harg7 arg8 harg8 x0 x1 x2 hr) 0 512 (n0 i + 1024) _ _ (fun r d hrr => ?_) y
  rw [up_apply]
  exact row_m8 (fun c => ms01 i arg2 harg2 arg3 harg3  x0 x1 r c hrr) (fun d => rd6_01 c i arg2 harg2 arg3 harg3 arg4 harg4 arg5 harg5 arg6 harg6 arg7 harg7 arg8 harg8 x0 x1 x2 hr r d hrr) d

theorem st7_2 (y : S2x1024x128.Idx) : View.canon (kernelRun0_A.sl.HS1_2 (F := Ideal) c i arg2 harg2 arg3 harg3 arg4 harg4 arg5 harg5 arg6 harg6 arg7 harg7 arg8 harg8 x0 x1 x2) y = f7 i x0 x1 (y 0) (y 1) (y 2) (N2 i (y 0) (y 1).val) := by
  rw [put7_01]
  refine canon_put (f7 i x0 x1 ) _ (N1 i) (st7_1 c i arg2 harg2 arg3 harg3 arg4 harg4 arg5 harg5 arg6 harg6 arg7 harg7 arg8 harg8 x0 x1 x2 hr) 0 512 (n0 i + 1024) _ _ (fun r d hrr => ?_) y
  rw [up_apply]
  exact row_l8 (fun c => ms01 i arg2 harg2 arg3 harg3  x0 x1 r c hrr) (fun d => rd6_01 c i arg2 harg2 arg3 harg3 arg4 harg4 arg5 harg5 arg6 harg6 arg7 harg7 arg8 harg8 x0 x1 x2 hr r d hrr) (sco_ne_top (n0 i) x0 x1 hr 0 ⟨512 + r.val, hrr⟩) (n0_dvd i) d (rd7_01 c i arg2 harg2 arg3 harg3 arg4 harg4 arg5 harg5 arg6 harg6 arg7 harg7 arg8 harg8 x0 x1 x2 hr r d hrr)

theorem st8_2 (y : S2x1024x128.Idx) : View.canon (kernelRun0_A.sl.HS2_2 (F := Ideal) c i arg2 harg2 arg3 harg3 arg4 harg4 arg5 harg5 arg6 harg6 arg7 harg7 arg8 harg8 x0 x1 x2) y = f8 i x0 x1 x2 (y 0) (y 1) (y 2) (N2 i (y 0) (y 1).val) := by
  rw [put8_01]
  refine canon_put (f8 i x0 x1 x2) _ (N1 i) (st8_1 c i arg2 harg2 arg3 harg3 arg4 harg4 arg5 harg5 arg6 harg6 arg7 harg7 arg8 harg8 x0 x1 x2 hr) 0 512 (n0 i + 1024) _ _ (fun r d hrr => ?_) y
  rw [up_apply]
  exact row_a8 (fun c => ms01 i arg2 harg2 arg3 harg3  x0 x1 r c hrr) (fun d => rd6_01 c i arg2 harg2 arg3 harg3 arg4 harg4 arg5 harg5 arg6 harg6 arg7 harg7 arg8 harg8 x0 x1 x2 hr r d hrr) (sco_ne_top (n0 i) x0 x1 hr 0 ⟨512 + r.val, hrr⟩) d (fun c => mv01 i arg4 harg4 x2 c d) (rd8_01 c i arg2 harg2 arg3 harg3 arg4 harg4 arg5 harg5 arg6 harg6 arg7 harg7 arg8 harg8 x0 x1 x2 hr r d hrr)

omit hr in
theorem at_N2 (r : Fin 512) : N2 i 1 (0 + r.val) = n0 i := by
  have := r.isLt
  unfold N2 N1 N0
  simp only [put]
  split_ifs <;> first | rfl | omega | (exfalso; simp_all; done) | (exfalso; simp_all; omega)

theorem rd6_10 (r : Fin 512) (d : Fin 128) (hrr : 0 + r.val < 1024) : dn (F := Ideal) (kernelRun0_A.sl.v180 (F := Ideal) c i arg2 harg2 arg3 harg3 arg4 harg4 arg5 harg5 arg6 harg6 arg7 harg7 arg8 harg8 x0 x1 x2) (ix2 r d) = f6 i x0 x1 1 ⟨0 + r.val, hrr⟩ d (n0 i) := by
  unfold kernelRun0_A.sl.v180
  refine (read_half arg6 _ 1 0 _ r d hrr).trans ((st6_2 c i arg2 harg2 arg3 harg3 arg4 harg4 arg5 harg5 arg6 harg6 arg7 harg7 arg8 harg8 x0 x1 x2 hr _).trans ?_)
  exact congrArg (f6 i x0 x1 1 ⟨0 + r.val, hrr⟩ d) (at_N2 i r)

theorem rd7_10 (r : Fin 512) (d : Fin 128) (hrr : 0 + r.val < 1024) : dn (F := Ideal) (kernelRun0_A.sl.v198 (F := Ideal) c i arg2 harg2 arg3 harg3 arg4 harg4 arg5 harg5 arg6 harg6 arg7 harg7 arg8 harg8 x0 x1 x2) (ix2 r d) = f7 i x0 x1 1 ⟨0 + r.val, hrr⟩ d (n0 i) := by
  unfold kernelRun0_A.sl.v198
  refine (read_half arg7 _ 1 0 _ r d hrr).trans ((st7_2 c i arg2 harg2 arg3 harg3 arg4 harg4 arg5 harg5 arg6 harg6 arg7 harg7 arg8 harg8 x0 x1 x2 hr _).trans ?_)
  exact congrArg (f7 i x0 x1 1 ⟨0 + r.val, hrr⟩ d) (at_N2 i r)

theorem rd8_10 (r : Fin 512) (d : Fin 128) (hrr : 0 + r.val < 1024) : dn (F := Ideal) (kernelRun0_A.sl.v215 (F := Ideal) c i arg2 harg2 arg3 harg3 arg4 harg4 arg5 harg5 arg6 harg6 arg7 harg7 arg8 harg8 x0 x1 x2) (ix2 r d) = f8 i x0 x1 x2 1 ⟨0 + r.val, hrr⟩ d (n0 i) := by
  unfold kernelRun0_A.sl.v215
  refine (read_half arg8 _ 1 0 _ r d hrr).trans ((st8_2 c i arg2 harg2 arg3 harg3 arg4 harg4 arg5 harg5 arg6 harg6 arg7 harg7 arg8 harg8 x0 x1 x2 hr _).trans ?_)
  exact congrArg (f8 i x0 x1 x2 1 ⟨0 + r.val, hrr⟩ d) (at_N2 i r)

theorem st6_3 (y : S2x1024x128.Idx) : View.canon (kernelRun0_A.sl.HS0_3 (F := Ideal) c i arg2 harg2 arg3 harg3 arg4 harg4 arg5 harg5 arg6 harg6 arg7 harg7 arg8 harg8 x0 x1 x2) y = f6 i x0 x1 (y 0) (y 1) (y 2) (N3 i (y 0) (y 1).val) := by
  rw [put6_10]
  refine canon_put (f6 i x0 x1 ) _ (N2 i) (st6_2 c i arg2 harg2 arg3 harg3 arg4 harg4 arg5 harg5 arg6 harg6 arg7 harg7 arg8 harg8 x0 x1 x2 hr) 1 0 (n0 i + 512) _ _ (fun r d hrr => ?_) y
  rw [up_apply]
  exact row_m4 (fun c => ms10 i arg2 harg2 arg3 harg3  x0 x1 r c hrr) (fun d => rd6_10 c i arg2 harg2 arg3 harg3 arg4 harg4 arg5 harg5 arg6 harg6 arg7 harg7 arg8 harg8 x0 x1 x2 hr r d hrr) d

theorem st7_3 (y : S2x1024x128.Idx) : View.canon (kernelRun0_A.sl.HS1_3 (F := Ideal) c i arg2 harg2 arg3 harg3 arg4 harg4 arg5 harg5 arg6 harg6 arg7 harg7 arg8 harg8 x0 x1 x2) y = f7 i x0 x1 (y 0) (y 1) (y 2) (N3 i (y 0) (y 1).val) := by
  rw [put7_10]
  refine canon_put (f7 i x0 x1 ) _ (N2 i) (st7_2 c i arg2 harg2 arg3 harg3 arg4 harg4 arg5 harg5 arg6 harg6 arg7 harg7 arg8 harg8 x0 x1 x2 hr) 1 0 (n0 i + 512) _ _ (fun r d hrr => ?_) y
  rw [up_apply]
  exact row_l4 (fun c => ms10 i arg2 harg2 arg3 harg3  x0 x1 r c hrr) (fun d => rd6_10 c i arg2 harg2 arg3 harg3 arg4 harg4 arg5 harg5 arg6 harg6 arg7 harg7 arg8 harg8 x0 x1 x2 hr r d hrr) (sco_ne_top (n0 i) x0 x1 hr 1 ⟨0 + r.val, hrr⟩) (n0_dvd i) d (rd7_10 c i arg2 harg2 arg3 harg3 arg4 harg4 arg5 harg5 arg6 harg6 arg7 harg7 arg8 harg8 x0 x1 x2 hr r d hrr)

theorem st8_3 (y : S2x1024x128.Idx) : View.canon (kernelRun0_A.sl.HS2_3 (F := Ideal) c i arg2 harg2 arg3 harg3 arg4 harg4 arg5 harg5 arg6 harg6 arg7 harg7 arg8 harg8 x0 x1 x2) y = f8 i x0 x1 x2 (y 0) (y 1) (y 2) (N3 i (y 0) (y 1).val) := by
  rw [put8_10]
  refine canon_put (f8 i x0 x1 x2) _ (N2 i) (st8_2 c i arg2 harg2 arg3 harg3 arg4 harg4 arg5 harg5 arg6 harg6 arg7 harg7 arg8 harg8 x0 x1 x2 hr) 1 0 (n0 i + 512) _ _ (fun r d hrr => ?_) y
  rw [up_apply]
  exact row_a4 (fun c => ms10 i arg2 harg2 arg3 harg3  x0 x1 r c hrr) (fun d => rd6_10 c i arg2 harg2 arg3 harg3 arg4 harg4 arg5 harg5 arg6 harg6 arg7 harg7 arg8 harg8 x0 x1 x2 hr r d hrr) (sco_ne_top (n0 i) x0 x1 hr 1 ⟨0 + r.val, hrr⟩) d (fun c => mv10 i arg4 harg4 x2 c d) (rd8_10 c i arg2 harg2 arg3 harg3 arg4 harg4 arg5 harg5 arg6 harg6 arg7 harg7 arg8 harg8 x0 x1 x2 hr r d hrr)

omit hr in
theorem at_N3 (r : Fin 512) : N3 i 1 (512 + r.val) = n0 i := by
  have := r.isLt
  unfold N3 N2 N1 N0
  simp only [put]
  split_ifs <;> first | rfl | omega | (exfalso; simp_all; done) | (exfalso; simp_all; omega)

theorem rd6_11 (r : Fin 512) (d : Fin 128) (hrr : 512 + r.val < 1024) : dn (F := Ideal) (kernelRun0_A.sl.v234 (F := Ideal) c i arg2 harg2 arg3 harg3 arg4 harg4 arg5 harg5 arg6 harg6 arg7 harg7 arg8 harg8 x0 x1 x2) (ix2 r d) = f6 i x0 x1 1 ⟨512 + r.val, hrr⟩ d (n0 i) := by
  unfold kernelRun0_A.sl.v234
  refine (read_half arg6 _ 1 512 _ r d hrr).trans ((st6_3 c i arg2 harg2 arg3 harg3 arg4 harg4 arg5 harg5 arg6 harg6 arg7 harg7 arg8 harg8 x0 x1 x2 hr _).trans ?_)
  exact congrArg (f6 i x0 x1 1 ⟨512 + r.val, hrr⟩ d) (at_N3 i r)

theorem rd7_11 (r : Fin 512) (d : Fin 128) (hrr : 512 + r.val < 1024) : dn (F := Ideal) (kernelRun0_A.sl.v260 (F := Ideal) c i arg2 harg2 arg3 harg3 arg4 harg4 arg5 harg5 arg6 harg6 arg7 harg7 arg8 harg8 x0 x1 x2) (ix2 r d) = f7 i x0 x1 1 ⟨512 + r.val, hrr⟩ d (n0 i) := by
  unfold kernelRun0_A.sl.v260
  refine (read_half arg7 _ 1 512 _ r d hrr).trans ((st7_3 c i arg2 harg2 arg3 harg3 arg4 harg4 arg5 harg5 arg6 harg6 arg7 harg7 arg8 harg8 x0 x1 x2 hr _).trans ?_)
  exact congrArg (f7 i x0 x1 1 ⟨512 + r.val, hrr⟩ d) (at_N3 i r)

theorem rd8_11 (r : Fin 512) (d : Fin 128) (hrr : 512 + r.val < 1024) : dn (F := Ideal) (kernelRun0_A.sl.v285 (F := Ideal) c i arg2 harg2 arg3 harg3 arg4 harg4 arg5 harg5 arg6 harg6 arg7 harg7 arg8 harg8 x0 x1 x2) (ix2 r d) = f8 i x0 x1 x2 1 ⟨512 + r.val, hrr⟩ d (n0 i) := by
  unfold kernelRun0_A.sl.v285
  refine (read_half arg8 _ 1 512 _ r d hrr).trans ((st8_3 c i arg2 harg2 arg3 harg3 arg4 harg4 arg5 harg5 arg6 harg6 arg7 harg7 arg8 harg8 x0 x1 x2 hr _).trans ?_)
  exact congrArg (f8 i x0 x1 x2 1 ⟨512 + r.val, hrr⟩ d) (at_N3 i r)

theorem st7_4 (y : S2x1024x128.Idx) : View.canon (kernelRun0_A.sl.HS1_4 (F := Ideal) c i arg2 harg2 arg3 harg3 arg4 harg4 arg5 harg5 arg6 harg6 arg7 harg7 arg8 harg8 x0 x1 x2) y = f7 i x0 x1 (y 0) (y 1) (y 2) (N4 i (y 0) (y 1).val) := by
  rw [put7_11]
  refine canon_put (f7 i x0 x1 ) _ (N3 i) (st7_3 c i arg2 harg2 arg3 harg3 arg4 harg4 arg5 harg5 arg6 harg6 arg7 harg7 arg8 harg8 x0 x1 x2 hr) 1 512 (n0 i + 1024) _ _ (fun r d hrr => ?_) y
  rw [up_apply]
  exact row_l8 (fun c => ms11 i arg2 harg2 arg3 harg3  x0 x1 r c hrr) (fun d => rd6_11 c i arg2 harg2 arg3 harg3 arg4 harg4 arg5 harg5 arg6 harg6 arg7 harg7 arg8 harg8 x0 x1 x2 hr r d hrr) (sco_ne_top (n0 i) x0 x1 hr 1 ⟨512 + r.val, hrr⟩) (n0_dvd i) d (rd7_11 c i arg2 harg2 arg3 harg3 arg4 harg4 arg5 harg5 arg6 harg6 arg7 harg7 arg8 harg8 x0 x1 x2 hr r d hrr)

theorem st8_4 (y : S2x1024x128.Idx) : View.canon (kernelRun0_A.sl.HS2_4 (F := Ideal) c i arg2 harg2 arg3 harg3 arg4 harg4 arg5 harg5 arg6 harg6 arg7 harg7 arg8 harg8 x0 x1 x2) y = f8 i x0 x1 x2 (y 0) (y 1) (y 2) (N4 i (y 0) (y 1).val) := by
  rw [put8_11]
  refine canon_put (f8 i x0 x1 x2) _ (N3 i) (st8_3 c i arg2 harg2 arg3 harg3 arg4 harg4 arg5 harg5 arg6 harg6 arg7 harg7 arg8 harg8 x0 x1 x2 hr) 1 512 (n0 i + 1024) _ _ (fun r d hrr => ?_) y
  rw [up_apply]
  exact row_a8 (fun c => ms11 i arg2 harg2 arg3 harg3  x0 x1 r c hrr) (fun d => rd6_11 c i arg2 harg2 arg3 harg3 arg4 harg4 arg5 harg5 arg6 harg6 arg7 harg7 arg8 harg8 x0 x1 x2 hr r d hrr) (sco_ne_top (n0 i) x0 x1 hr 1 ⟨512 + r.val, hrr⟩) d (fun c => mv11 i arg4 harg4 x2 c d) (rd8_11 c i arg2 harg2 arg3 harg3 arg4 harg4 arg5 harg5 arg6 harg6 arg7 harg7 arg8 harg8 x0 x1 x2 hr r d hrr)

end
end Cert.KernelIdeal.Att
-- ==== Proof.Out.lean ====
module

public import proofs.«01_k».proof.Proof.Chain
public import proofs.«01_k».proof.Proof.Gen.KernelIdeal.Value

/-! One grid point's output block: every row of a head is its weighted sum of the values over its sum of the weights. -/

@[expose] public section
noncomputable section
namespace Cert.KernelIdeal.Att
open Cert.KernelIdeal Cert.KernelIdeal.Gen Idealize.ShloMosaic Idealize.ShloMosaic.TcCoe Idealize.SL.Sem

/-- The number of columns row `r` of a block has gone through. -/
def cols (i : grid0.Coords) (r : Fin 1024) : ℕ := n0 i + (if r.val < 512 then 512 else 1024)

theorem N4_eq (i : grid0.Coords) (h : Fin 2) (r : Fin 1024) : N4 i h r.val = cols i r := by
  have := r.isLt
  unfold N4 N3 N2 N1 N0 cols
  simp only [put]
  match h with
  | ⟨0, _⟩ =>
    by_cases hr : r.val < 512
    · simp [hr]
    · simp [hr]
  | ⟨1, _⟩ =>
    by_cases hr : r.val < 512
    · simp [hr]
    · simp [hr]

theorem row_lt_cols (i : grid0.Coords) (r : Fin 1024) : n0 i + r.val < cols i r := by
  have := r.isLt
  unfold cols; split_ifs <;> omega

theorem cols_le (i : grid0.Coords) (r : Fin 1024) : cols i r ≤ 8192 := by
  have := n0_le i
  unfold cols; split_ifs <;> omega

theorem read_row (a : Memref sig .tc .vmem S2x1024x128 .f32) (L : List (View.Piece (Elt Ideal) S2x1024x128 .f32)) (h : Fin 2) (inb)
    (r : Fin 1024) (d : Fin 128) :
    a.view.readCov L (Rect.unit (s := S2x1024x128) ![h.val, 0, 0] S1x1024x128.size inb).toLoadRect (ix3 (0 : Fin 1) r d) = View.canon L (ix3 h r d) := by
  rw [View.readCov_eq_canon']
  refine congrArg (View.canon L) (funext fun a => ?_)
  match a with
  | ⟨0, _⟩ => exact Fin.ext (by show h.val + 1 * 0 = h.val; omega)
  | ⟨1, _⟩ => exact Fin.ext (by show 0 + 1 * r.val = r.val; omega)
  | ⟨2, _⟩ => exact Fin.ext (by show 0 + 1 * d.val = d.val; omega)

theorem out_apply (c : Dev nD) (i : grid0.Coords) (arg2 : Memref sig .tc .vmem S2x1024x256 .bf16) (harg2 : arg2.IsWhole) (arg3 : Memref sig .tc .vmem S2x8192x256 .bf16) (harg3 : arg3.IsWhole) (arg4 : Memref sig .tc .vmem S2x8192x128 .bf16) (harg4 : arg4.IsWhole) (arg5 : Memref sig .tc .vmem S1024x256 .bf16) (harg5 : arg5.IsWhole) (arg6 : Memref sig .tc .vmem S2x1024x128 .f32) (harg6 : arg6.IsWhole) (arg7 : Memref sig .tc .vmem S2x1024x128 .f32) (harg7 : arg7.IsWhole) (arg8 : Memref sig .tc .vmem S2x1024x128 .f32) (harg8 : arg8.IsWhole)
    (x0 : Vec Ideal S2x1024x256 .bf16) (x1 : Vec Ideal S2x8192x256 .bf16) (x2 : Vec Ideal S2x8192x128 .bf16)
    (hr : ∀ h r c, raw x0 x1 h r c ≠ ⊤) (h : Fin 2) (r : Fin 1024) (d : Fin 128) (hd : 128 * h.val + d.val < 256) :
    out0_A_3 c i arg2 harg2 arg3 harg3 arg4 harg4 arg5 harg5 arg6 harg6 arg7 harg7 arg8 harg8 x0 x1 x2 (ix2 r ⟨128 * h.val + d.val, hd⟩)
      = Ideal.div (Soft.A (sco (n0 i) x0 x1 h r) (vcol x2 h d) (cols i r)) (∑ e : Fin 128, Soft.A (sco (n0 i) x0 x1 h r) (ind e.val) (cols i r)) := by
  unfold out0_A_3
  rw [View.read_writes_eq_canon _ _ _ (cover0_A_3 c i _ harg2 _ harg3 _ harg4 _ harg5 _ harg6 _ harg7 _ harg8 _ _ _)]
  unfold kernelRun0_A
  dsimp only
  have hl : ∀ (h : Fin 2) (e : Fin 128), View.canon (kernelRun0_A.sl.HS1_4 (F := Ideal) c i arg2 harg2 arg3 harg3 arg4 harg4 arg5 harg5 arg6 harg6 arg7 harg7 arg8 harg8 x0 x1 x2) (ix3 h r e) = Soft.A (sco (n0 i) x0 x1 h r) (ind e.val) (cols i r) := fun h e =>
    (st7_4 c i arg2 harg2 arg3 harg3 arg4 harg4 arg5 harg5 arg6 harg6 arg7 harg7 arg8 harg8 x0 x1 x2 hr (ix3 h r e)).trans (congrArg (f7 i x0 x1 h r e) (N4_eq i h r))
  have ha : ∀ (h : Fin 2), View.canon (kernelRun0_A.sl.HS2_4 (F := Ideal) c i arg2 harg2 arg3 harg3 arg4 harg4 arg5 harg5 arg6 harg6 arg7 harg7 arg8 harg8 x0 x1 x2) (ix3 h r d) = Soft.A (sco (n0 i) x0 x1 h r) (vcol x2 h d) (cols i r) := fun h =>
    (st8_4 c i arg2 harg2 arg3 harg3 arg4 harg4 arg5 harg5 arg6 harg6 arg7 harg7 arg8 harg8 x0 x1 x2 hr (ix3 h r d)).trans (congrArg (f8 i x0 x1 x2 h r d) (N4_eq i h r))
  have hrl := r.isLt
  have hdl := d.isLt
  match h, hd with
  | ⟨0, _⟩, hd =>
    have e : (ix2 r (⟨128 * 0 + d.val, hd⟩ : Fin 256) : S1024x256.Idx) = (Rect.unit (s := S1024x256) ![0, 0] ![1024, 128] inb_S1024x256_S1024x128_0_0).emb (ix2 r d) := by
      funext a
      match a with
      | ⟨0, _⟩ => exact Fin.ext (by show r.val = 0 + 1 * r.val; omega)
      | ⟨1, _⟩ => exact Fin.ext (by show 128 * 0 + d.val = 0 + 1 * d.val; omega)
    rw [View.canon_cons_of_not_mem]
    · refine (congrArg _ e).trans ((View.canon_cons_emb (Val := Elt Ideal) (e := .bf16) _ _ _ _).trans ?_)
      refine (fin'_apply _ _ r d).trans ?_
      unfold kernelRun0_A.sl.v297 kernelRun0_A.sl.v301
      refine congrArg₂ Ideal.div ((read_row arg8 _ 0 _ r d).trans (ha 0)) (Finset.sum_congr rfl fun e _ => (read_row arg7 _ 0 _ r e).trans (hl 0 e))
    · intro hm
      have h2 : 128 ≤ 128 * 0 + d.val := (Rect.mem_set_unit (s := S1024x256) (off := ![0, 128]) (size := ![1024, 128]) (inb := inb_S1024x256_S1024x128_0_128).mp hm 1).1
      omega
  | ⟨1, _⟩, hd =>
    have e : (ix2 r (⟨128 * 1 + d.val, hd⟩ : Fin 256) : S1024x256.Idx) = (Rect.unit (s := S1024x256) ![0, 128] ![1024, 128] inb_S1024x256_S1024x128_0_128).emb (ix2 r d) := by
      funext a
      match a with
      | ⟨0, _⟩ => exact Fin.ext (by show r.val = 0 + 1 * r.val; omega)
      | ⟨1, _⟩ => exact Fin.ext (by show 128 * 1 + d.val = 128 + 1 * d.val; omega)
    refine (congrArg _ e).trans ((View.canon_cons_emb (Val := Elt Ideal) (e := .bf16) _ _ _ _).trans ?_)
    refine (fin_apply _ _ r d).trans ?_
    unfold kernelRun0_A.sl.v307 kernelRun0_A.sl.v311
    refine congrArg₂ Ideal.div ((read_row arg8 _ 1 _ r d).trans (ha 1)) (Finset.sum_congr rfl fun e _ => (read_row arg7 _ 1 _ r e).trans (hl 1 e))

end Cert.KernelIdeal.Att
-- ==== Proof.Scores.lean ====
module

public import proofs.«01_k».proof.Proof.Soft
public import Idealize.ShloMosaic.Lib.Pointwise

/-! The scores of real queries and keys, and the constants that scale them. -/

@[expose] public section
noncomputable section
namespace Soft
open Idealize.ShloMosaic

/-- Positions, heads and the width of a head's queries and keys. -/
abbrev QK : Shape := ⟨4, ![1, 8192, 16, 192]⟩
/-- Positions, heads and the width of a head's values. -/
abbrev PV : Shape := ⟨4, ![1, 8192, 16, 128]⟩

/-- The score of query `r` against key `c` of head `h`: their product over the root of the width. -/
def tau (q k : QK.Idx → ℝ) (h : Fin 16) (r : Fin 8192) (c : ℕ) : ℝ :=
  if hc : c < 8192 then (∑ d : Fin 192, q (ix4 (0 : Fin 1) r h d) * k (ix4 (0 : Fin 1) (⟨c, hc⟩ : Fin 8192) h d)) / Real.sqrt 192 else 0

/-- One column of a head's values. -/
def col (v : PV.Idx → EReal) (h : Fin 16) (d : Fin 128) (c : ℕ) : EReal :=
  if hc : c < 8192 then v (ix4 (0 : Fin 1) (⟨c, hc⟩ : Fin 8192) h d) else 0

/-- Causal attention at query `r` of head `h`, column `d`: the softmax of the row's scores weights the values. -/
def attend (q k : QK.Idx → ℝ) (v : PV.Idx → EReal) (h : Fin 16) (r : Fin 8192) (d : Fin 128) : EReal :=
  ∑ x ∈ Finset.range 8192, col v h d x * Ideal.div (Ideal.exp (masked (tau q k h r) r.val x - M (masked (tau q k h r) r.val) 8192))
    (∑ c ∈ Finset.range 8192, Ideal.exp (masked (tau q k h r) r.val c - M (masked (tau q k h r) r.val) 8192))

theorem bits_192 : Ideal.ofBits .f32 1128267776#32 = ((192 : ℝ) : EReal) := by
  simp [Ideal.ofBits, Ideal.ieee]
  rw [← EReal.coe_mul]; norm_num
theorem bits_2 : Ideal.ofBits .f32 1073741824#32 = ((2 : ℝ) : EReal) := by
  simp [Ideal.ofBits, Ideal.ieee]
  rw [← EReal.coe_mul]; norm_num

theorem root_192 : Ideal.sqrt (Ideal.ofBits .f32 1128267776#32) = ((Real.sqrt 192 : ℝ) : EReal) := by
  rw [bits_192, Ideal.sqrt_coe, if_neg (by norm_num)]
theorem log_2 : Ideal.log (Ideal.ofBits .f32 1073741824#32) = ((Real.log 2 : ℝ) : EReal) := by
  rw [bits_2, Ideal.log_coe, if_neg (by norm_num)]

theorem root_ne : Real.sqrt 192 ≠ 0 := (Real.sqrt_pos.mpr (by norm_num)).ne'
theorem log_ne : Real.log 2 ≠ 0 := (Real.log_pos (by norm_num)).ne'

theorem sup_fin (f : ℕ → EReal) (n : ℕ) : (Finset.univ.sup fun x : Fin n => f x.val) = (Finset.range n).sup f := by
  apply le_antisymm
  · exact Finset.sup_le fun x _ => Finset.le_sup (f := f) (Finset.mem_range.mpr x.isLt)
  · exact Finset.sup_le fun c hc => Finset.le_sup (f := fun x : Fin n => f x.val) (Finset.mem_univ ⟨c, Finset.mem_range.mp hc⟩)

theorem coe_sum {n : ℕ} (f : Fin n → ℝ) : ((∑ d, f d : ℝ) : EReal) = ∑ d, (f d : EReal) :=
  map_sum (⟨⟨Real.toEReal, EReal.coe_zero⟩, EReal.coe_add⟩ : ℝ →+ EReal) f Finset.univ

end Soft
-- ==== Proof.Host.lean ====
module

public import proofs.«01_k».proof.Proof.Out
public import proofs.«01_k».proof.Proof.Scores
public import Idealize.ShloMosaic.Lib.Claim
public import Idealize.ShloMosaic.Lib.Pipeline.ValueKit
public import Idealize.ShloMosaic.Lib.Pointwise

/-! The kernel's operands: the scaled, padded, head-major queries, the padded keys and the values, and the blocks of them one grid point reads. -/

@[expose] public section
noncomputable section
namespace Cert.KernelIdeal.Att
open Cert.KernelIdeal Cert.KernelIdeal.Gen Idealize.ShloMosaic Idealize.ShloMosaic.TcCoe Idealize.SL.Sem

variable (m : (ℓ : Loc nD τ sig) → Buf (Elt Ideal) ℓ) (c : Dev nD)

theorem q_apply (h : Fin 16) (r : Fin 8192) (d : Fin 256) :
    V m c main_v8 (ix3 h r d) = if hd : d.val < 192 then
      Ideal.div (m ((c.tc : Thread nD τ).loc main_arg0) (ix4 (0 : Fin 1) r h (⟨d.val, hd⟩ : Fin 192))) (Ideal.sqrt (Ideal.ofBits FTy.f32 1128267776#32) * Ideal.log (Ideal.ofBits FTy.f32 1073741824#32)) else (0 : EReal) := by
  entry_read
  pointwise

theorem k_apply (h : Fin 16) (r : Fin 8192) (d : Fin 256) :
    V m c main_v12 (ix3 h r d) = if hd : d.val < 192 then m ((c.tc : Thread nD τ).loc main_arg1) (ix4 (0 : Fin 1) r h (⟨d.val, hd⟩ : Fin 192)) else (0 : EReal) := by
  entry_read
  pointwise

theorem v_apply (h : Fin 16) (r : Fin 8192) (d : Fin 128) :
    V m c main_v15 (ix3 h r d) = m ((c.tc : Thread nD τ).loc main_arg2) (ix4 (0 : Fin 1) r h d) := by
  entry_read
  pointwise

theorem idx (t : Fin cfg0.N) : (win0_0.index t 0 = (grid0.coords t 0).val ∧ win0_0.index t 1 = (grid0.coords t 1).val ∧ win0_0.index t 2 = 0)
   ∧ (win0_1.index t 0 = (grid0.coords t 0).val ∧ win0_1.index t 1 = 0 ∧ win0_1.index t 2 = 0)
   ∧ (win0_2.index t 0 = (grid0.coords t 0).val ∧ win0_2.index t 1 = 0 ∧ win0_2.index t 2 = 0)
   ∧ (win0_3.index t 0 = (grid0.coords t 1).val ∧ win0_3.index t 1 = (grid0.coords t 0).val) := by
  revert t
  decide +kernel
theorem iblk0_apply (t : Fin cfg0.N) (h : Fin 2) (r : Fin 1024) (d : Fin 256) (hh hr) :
    iblk m c 0 t (ix3 h r d) = V m c main_v8 (ix3 (⟨2 * (grid0.coords t 0).val + h.val, hh⟩ : Fin 16) (⟨1024 * (grid0.coords t 1).val + r.val, hr⟩ : Fin 8192) d) := by
  blk_ext! [iblk, idx t]

theorem iblk1_apply (t : Fin cfg0.N) (h : Fin 2) (r : Fin 8192) (d : Fin 256) (hh) :
    iblk m c 1 t (ix3 h r d) = V m c main_v12 (ix3 (⟨2 * (grid0.coords t 0).val + h.val, hh⟩ : Fin 16) r d) := by
  blk_ext! [iblk, idx t]

theorem iblk2_apply (t : Fin cfg0.N) (h : Fin 2) (r : Fin 8192) (d : Fin 128) (hh) :
    iblk m c 2 t (ix3 h r d) = V m c main_v15 (ix3 (⟨2 * (grid0.coords t 0).val + h.val, hh⟩ : Fin 16) r d) := by
  blk_ext! [iblk, idx t]

/-- Queries divided by the unit and both padded with zeros: their product is the score over the logarithm of two. -/
theorem padded_dot (q k : Fin 192 → ℝ) :
    (∑ d : Fin 256, (if hd : d.val < 192 then Ideal.div (q ⟨d.val, hd⟩ : EReal) (Ideal.sqrt (Ideal.ofBits FTy.f32 1128267776#32) * Ideal.log (Ideal.ofBits FTy.f32 1073741824#32)) else (0 : EReal))
        * (if hd : d.val < 192 then (k ⟨d.val, hd⟩ : EReal) else 0))
      = (((∑ d : Fin 192, q d * k d) / Real.sqrt 192 / Real.log 2 : ℝ) : EReal) := by
  rw [Soft.root_192, Soft.log_2, ← EReal.coe_mul]
  have e : ∀ d : Fin 256, (if hd : d.val < 192 then Ideal.div (q ⟨d.val, hd⟩ : EReal) ((Real.sqrt 192 * Real.log 2 : ℝ) : EReal) else (0 : EReal))
        * (if hd : d.val < 192 then (k ⟨d.val, hd⟩ : EReal) else 0) = ((if hd : d.val < 192 then q ⟨d.val, hd⟩ * k ⟨d.val, hd⟩ / Real.sqrt 192 / Real.log 2 else 0 : ℝ) : EReal) := by
    intro d
    by_cases hd : d.val < 192
    · simp only [dif_pos hd]
      rw [Ideal.div_coe (mul_ne_zero Soft.root_ne Soft.log_ne), ← EReal.coe_mul, ← EReal.coe_mul]
      congr 1
      field_simp
    · simp only [dif_neg hd, mul_zero, EReal.coe_zero]
  rw [Finset.sum_congr rfl fun d _ => e d, ← Soft.coe_sum]
  congr 1
  rw [Fin.sum_univ_add (a := 192) (b := 64) (fun d : Fin 256 => if hd : d.val < 192 then q ⟨d.val, hd⟩ * k ⟨d.val, hd⟩ / Real.sqrt 192 / Real.log 2 else 0),
    Finset.sum_eq_zero (s := Finset.univ (α := Fin 64)) (fun d _ => dif_neg (by show ¬ 192 + d.val < 192; omega)), add_zero, Finset.sum_div, Finset.sum_div]
  exact Finset.sum_congr rfl fun d _ => dif_pos (show d.val < 192 from d.isLt)

variable (q' k' : Soft.QK.Idx → ℝ) (hq : ∀ i : Soft.QK.Idx, m ((c.tc : Thread nD τ).loc main_arg0) i = (q' i : EReal)) (hk : ∀ i : Soft.QK.Idx, m ((c.tc : Thread nD τ).loc main_arg1) i = (k' i : EReal))

include hq hk in
theorem raw_eq (t : Fin cfg0.N) (h : Fin 2) (r : Fin 1024) (n : ℕ) (hh hr) :
    raw (iblk m c 0 t) (iblk m c 1 t) h r n
      = ((Soft.tau q' k' (⟨2 * (grid0.coords t 0).val + h.val, hh⟩ : Fin 16) (⟨1024 * (grid0.coords t 1).val + r.val, hr⟩ : Fin 8192) n / Real.log 2 : ℝ) : EReal) := by
  unfold raw Soft.tau
  by_cases hn : n < 8192
  · rw [dif_pos hn, dif_pos hn]
    refine Eq.trans (Finset.sum_congr rfl fun d _ => ?_) (padded_dot (fun d => q' (ix4 (0 : Fin 1) (⟨1024 * (grid0.coords t 1).val + r.val, hr⟩ : Fin 8192) (⟨2 * (grid0.coords t 0).val + h.val, hh⟩ : Fin 16) d)) (fun d => k' (ix4 (0 : Fin 1) (⟨n, hn⟩ : Fin 8192) (⟨2 * (grid0.coords t 0).val + h.val, hh⟩ : Fin 16) d)))
    rw [iblk0_apply m c t h r d hh hr, iblk1_apply m c t h ⟨n, hn⟩ d hh, q_apply, k_apply]
    by_cases hd : d.val < 192
    · simp only [dif_pos hd]
      rw [hq, hk]
    · simp only [dif_neg hd]
  · rw [dif_neg hn, dif_neg hn, zero_div, EReal.coe_zero]

include hq hk in
theorem sco_eq (t : Fin cfg0.N) (h : Fin 2) (r : Fin 1024) (hh hr) :
    sco (n0 (grid0.coords t)) (iblk m c 0 t) (iblk m c 1 t) h r
      = Soft.masked (fun n => Soft.tau q' k' (⟨2 * (grid0.coords t 0).val + h.val, hh⟩ : Fin 16) (⟨1024 * (grid0.coords t 1).val + r.val, hr⟩ : Fin 8192) n / Real.log 2) (1024 * (grid0.coords t 1).val + r.val) := by
  funext n
  unfold sco Soft.masked
  rw [raw_eq m c q' k' hq hk t h r n hh hr]
  rfl

theorem vcol_eq (t : Fin cfg0.N) (h : Fin 2) (d : Fin 128) (hh) :
    vcol (iblk m c 2 t) h d = Soft.col (m ((c.tc : Thread nD τ).loc main_arg2)) (⟨2 * (grid0.coords t 0).val + h.val, hh⟩ : Fin 16) d := by
  funext n
  unfold vcol Soft.col
  by_cases hn : n < 8192
  · rw [dif_pos hn, dif_pos hn, iblk2_apply m c t h ⟨n, hn⟩ d hh, v_apply]
  · rw [dif_neg hn, dif_neg hn]

include hq hk in
/-- One element of a point's output block is the softmax of its row's masked scores, weighting the values. -/
theorem point_apply (t : Fin cfg0.N) (h : Fin 2) (r : Fin 1024) (d : Fin 128) (hd) (hh hr) :
    out0_A_3 c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) (iblk m c 0 t) (iblk m c 1 t) (iblk m c 2 t) (ix2 r ⟨128 * h.val + d.val, hd⟩)
      = Soft.attend q' k' (m ((c.tc : Thread nD τ).loc main_arg2)) (⟨2 * (grid0.coords t 0).val + h.val, hh⟩ : Fin 16) (⟨1024 * (grid0.coords t 1).val + r.val, hr⟩ : Fin 8192) d := by
  rw [out_apply c (grid0.coords t) _ _ _ _ _ _ _ _ _ _ _ _ _ _ _ _ _ (fun h r n => by
    have h0 : (grid0.coords t 0).val < 8 := (grid0.coords t 0).isLt
    have h1 : (grid0.coords t 1).val < 8 := (grid0.coords t 1).isLt
    have := h.isLt
    have := r.isLt
    rw [raw_eq m c q' k' hq hk t h r n (by omega) (by omega)]; exact EReal.coe_ne_top _) h r d hd,
    sco_eq m c q' k' hq hk t h r hh hr, vcol_eq m c t h d hh]
  exact Soft.soft_eq (Soft.tau q' k' (⟨2 * (grid0.coords t 0).val + h.val, hh⟩ : Fin 16) (⟨1024 * (grid0.coords t 1).val + r.val, hr⟩ : Fin 8192)) _ _ _ 8192 (row_lt_cols _ r) (cols_le _ r)

end Cert.KernelIdeal.Att
-- ==== Proof.Array.lean ====
module

public import proofs.«01_k».proof.Proof.Host
public import proofs.«01_k».proof.Proof.Gen.KernelIdeal.Value
public import proofs.«01_k».proof.Pre_finite
public import proofs.«01_k».proof.Proof.Gen.Pre_finite

/-! The kernel's final array, and what the precondition says of one query or key. -/

@[expose] public section
noncomputable section

namespace Cert.Pre_finite
open Idealize.ShloMosaic

theorem real_of_lt (x : EReal) (h : Ideal.cmp .olt (max x (-x)) (Ideal.ofBits .f32 0x7F800000#32) = 1#1) : ∃ r : ℝ, x = (r : EReal) := by
  have e : Ideal.ofBits .f32 0x7F800000#32 = (⊤ : EReal) := by
    simp [Ideal.ofBits]
    decide
  rw [e] at h
  induction x using EReal.rec with
  | bot => simp [Ideal.cmp] at h
  | top => simp [Ideal.cmp] at h
  | coe r => exact ⟨r, rfl⟩

theorem real_of_fn (q k : FVec Ideal S1x8192x16x192 .f32) (v : FVec Ideal S1x8192x16x128 .f32)
    (h1 : (fn (F := Ideal) q k v).1 = fun _ => 1#1) (h2 : (fn (F := Ideal) q k v).2 = fun _ => 1#1) :
    ∃ q' k' : S1x8192x16x192.Idx → ℝ, (∀ i, q i = (q' i : EReal)) ∧ ∀ i, k i = (k' i : EReal) := by
  have a : ∀ i, ∃ r : ℝ, q i = (r : EReal) := fun i => real_of_lt _ (congrFun h1 i)
  have b : ∀ i, ∃ r : ℝ, k i = (r : EReal) := fun i => real_of_lt _ (congrFun h2 i)
  choose q' hq using a
  choose k' hk using b
  exact ⟨q', k', hq, hk⟩

end Cert.Pre_finite

namespace Cert.KernelIdeal.Att
open Cert.KernelIdeal Cert.KernelIdeal.Gen Idealize.ShloMosaic Idealize.ShloMosaic.TcCoe Idealize.SL.Sem

variable (m : (ℓ : Loc nD τ sig) → Buf (Elt Ideal) ℓ) (c : Dev nD)
variable (q' k' : Soft.QK.Idx → ℝ) (hq : ∀ i : Soft.QK.Idx, m ((c.tc : Thread nD τ).loc main_arg0) i = (q' i : EReal)) (hk : ∀ i : Soft.QK.Idx, m ((c.tc : Thread nD τ).loc main_arg1) i = (k' i : EReal))

include hq hk in
theorem arr_eq (G : FVec Ideal ⟨2, ![8192, 2048]⟩ .bf16)
    (hG : ∀ (h : Fin 16) (r : Fin 8192) (d : Fin 128) (hd : 128 * h.val + d.val < 2048), G (ix2 r ⟨128 * h.val + d.val, hd⟩) = Soft.attend q' k' (m ((c.tc : Thread nD τ).loc main_arg2)) h r d) :
    (dats m 0 c).arrAt 3 cfg0.N = G := by
  refine (dats m 0 c).arrAt_eq_of_covers 3 G (by decide +kernel) fun t hf y => ?_
  have h0 : (grid0.coords t 0).val < 8 := (grid0.coords t 0).isLt
  have h1 : (grid0.coords t 1).val < 8 := (grid0.coords t 1).isLt
  obtain ⟨r, x, rfl⟩ : ∃ (r : Fin 1024) (x : Fin 256), y = ix2 r x := ⟨y 0, y 1, by funext a; fin_cases a <;> rfl⟩
  obtain ⟨h, d, hx, rfl⟩ : ∃ (h : Fin 2) (d : Fin 128) (hx : 128 * h.val + d.val < 256), x = ⟨128 * h.val + d.val, hx⟩ :=
    ⟨⟨x.val / 128, by omega⟩, ⟨x.val % 128, by omega⟩, by simp only []; omega, by apply Fin.ext; simp only []; omega⟩
  have hh : 2 * (grid0.coords t 0).val + h.val < 16 := by omega
  have hr : 1024 * (grid0.coords t 1).val + r.val < 8192 := by omega
  have hb : 128 * (2 * (grid0.coords t 0).val + h.val) + d.val < 2048 := by omega
  blk_simp
  rw [after0_3]
  unfold outsAt0
  have e : ((cfg0.win 3).blk t).view.emb (ix2 r (⟨128 * h.val + d.val, hx⟩ : Fin 256)) = ix2 (⟨1024 * (grid0.coords t 1).val + r.val, hr⟩ : Fin 8192) (⟨128 * (2 * (grid0.coords t 0).val + h.val) + d.val, hb⟩ : Fin 2048) := by
    blk_ext [idx t]
  rw [e, hG ⟨_, hh⟩ ⟨_, hr⟩ d hb]
  exact point_apply m c q' k' hq hk t h r d hx hh hr

end Cert.KernelIdeal.Att
end
-- ==== Proof.Ref.lean ====
module

public import proofs.«01_k».proof.Proof.Soft
public import proofs.«01_k».proof.Proof.Gen.ReferenceIdeal.Run
public import Idealize.ShloMosaic.Lib.Pointwise

/-! The reference read at one element: the softmax of a row's masked scores, weighting the values. -/

@[expose] public section
noncomputable section
namespace Cert.ReferenceIdeal.Att
open Cert.ReferenceIdeal Cert.ReferenceIdeal.Gen Cert.ReferenceIdeal.Value Idealize.ShloMosaic Idealize.ShloMosaic.TcCoe Idealize.SL.Sem

/-- The scores of every query and key, over the root of the width. -/
def rawArr (q k : FVec Ideal S1x8192x16x192 .f32) : FVec Ideal S1x16x8192x8192 .f32 :=
  Host.divf (Host.dotGeneral dot_S1x8192x16x192_S1x8192x16x192_S1x16x8192x8192_3_3_1_1_02_02 none q k) (broadcastInDim S1x16x8192x8192 ![] bcast_S_S1x16x8192x8192 (Host.sqrt (constant S_ .f32 0x43400000#32)))

/-- Where a key is not past the query. -/
def seen : IVec S8192x8192 1 :=
  cmpi .sle (broadcastInDim S8192x8192 ![0, 1] bcast_S1x8192_S8192x8192_0_1 (broadcastInDim S1x8192 ![1] bcast_S8192_S1x8192_1 (iotaInDim S8192 32 0))) (broadcastInDim S8192x8192 ![0, 1] bcast_S8192x1_S8192x8192_0_1 (broadcastInDim S8192x1 ![0] bcast_S8192_S8192x1_0 (iotaInDim S8192 32 0)))

def maskArr (b : IVec S8192x8192 1) (s : FVec Ideal S1x16x8192x8192 .f32) : FVec Ideal S1x16x8192x8192 .f32 :=
  select (broadcastInDim S1x16x8192x8192 ![2, 3] bcast_S8192x8192_S1x16x8192x8192_2_3 b) s (broadcastInDim S1x16x8192x8192 ![] bcast_S_S1x16x8192x8192 (id (constant S_ .f32 0xFF800000#32)))

def maxArr (s : FVec Ideal S1x16x8192x8192 .f32) : FVec Ideal S1x16x8192 .f32 :=
  maximumf (broadcastInDim S1x16x8192 ![] bcast_S_S1x16x8192 (constant S_ .f32 0xFF800000#32)) (Host.reduce FloatOps.maximumf s (constant S_ .f32 0xFF800000#32) reducesTo_S1x16x8192x8192_S1x16x8192_d3 h_S_)

def rows (z : FVec Ideal S1x16x8192 .f32) : FVec Ideal S1x16x8192x8192 .f32 :=
  broadcastInDim S1x16x8192x8192 ![0, 1, 2, 3] bcast_S1x16x8192x1_S1x16x8192x8192_0_1_2_3 (broadcastInDim S1x16x8192x1 ![0, 1, 2] bcast_S1x16x8192_S1x16x8192x1_0_1_2 z)

def sumArr (e : FVec Ideal S1x16x8192x8192 .f32) : FVec Ideal S1x16x8192 .f32 :=
  Host.reduceAdd e (constant S_ .f32 0x00000000#32) reducesTo_S1x16x8192x8192_S1x16x8192_d3 h_S_

def outArr (v : FVec Ideal S1x8192x16x128 .f32) (p : FVec Ideal S1x16x8192x8192 .f32) : FVec Ideal S8192x2048 .bf16 :=
  truncf .bf16 (shapeCast S8192x2048 (transpose S1x8192x16x128 [0, 3, 1, 2] (Host.dotGeneral dot_S1x8192x16x128_S1x16x8192x8192_S1x16x128x8192_1_3_3_2_02_01 none v p) transposes_S1x16x128x8192_S1x8192x16x128_0_3_1_2) shapeCasts_S1x8192x16x128_S8192x2048) bitsLt_bf16_f32

def expArr (s : FVec Ideal S1x16x8192x8192 .f32) : FVec Ideal S1x16x8192x8192 .f32 := Host.exp (subf s (rows (maxArr s)))
def scoreArr (q k : FVec Ideal S1x8192x16x192 .f32) := maskArr seen (rawArr q k)

variable (m : (ℓ : Loc nD τ sig) → Buf (Elt Ideal) ℓ) (c : Dev nD)

theorem res_eq : res_main_v25 m c = outArr (m ((c.tc : Thread nD τ).loc main_arg2)) (Host.divf (expArr (scoreArr (m ((c.tc : Thread nD τ).loc main_arg0)) (m ((c.tc : Thread nD τ).loc main_arg1)))) (rows (sumArr (expArr (scoreArr (m ((c.tc : Thread nD τ).loc main_arg0)) (m ((c.tc : Thread nD τ).loc main_arg1))))))) := rfl

variable (h : Fin 16) (r x : Fin 8192)

theorem raw_apply (q k : FVec Ideal S1x8192x16x192 .f32) : rawArr q k (ix4 (0 : Fin 1) h r x)
    = Ideal.div (∑ d : Fin 192, q (ix4 (0 : Fin 1) r h d) * k (ix4 (0 : Fin 1) x h d)) (Ideal.sqrt (Ideal.ofBits FTy.f32 1128267776#32)) := by
  unfold rawArr
  pointwise

theorem seen_apply : seen (ix2 r x) = IntOp.cmpi CmpIPredicate.sle (BitVec.ofNat 32 x.val) (BitVec.ofNat 32 r.val) := by
  unfold seen
  pointwise

theorem mask_apply (b : IVec S8192x8192 1) (s : FVec Ideal S1x16x8192x8192 .f32) : maskArr b s (ix4 (0 : Fin 1) h r x)
    = Scalar.select (b (ix2 r x)) (s (ix4 (0 : Fin 1) h r x)) (Ideal.ofBits .f32 0xFF800000#32) := by
  unfold maskArr
  simp only [id]
  pointwise

/-- A maximum over the last of four axes, at one element. -/
theorem max_last {n0 n1 n2 n3 : ℕ} {u : Shape} (s : FVec Ideal ⟨4, ![n0, n1, n2, n3]⟩ .f32) (b : FVec Ideal u .f32)
    (hs : Shape.ReducesTo ⟨4, ![n0, n1, n2, n3]⟩ [3] ⟨3, ![n0, n1, n2]⟩) (hu : 0 < u.numel) (i : Fin n0) (j : Fin n1) (k : Fin n2) :
    Host.reduce FloatOps.maximumf s b hs hu (ix3 i j k)
      = Finset.univ.fold max (b (Shape.Idx.first hu)) fun x : Fin n3 => s (ix4 i j k x) := by
  simp only [pointwise]

theorem max_pair {s : Shape} (x y : FVec Ideal s .f32) (i : s.Idx) : maximumf x y i = max (x i) (y i) := rfl

theorem max_apply (s : FVec Ideal S1x16x8192x8192 .f32) : maxArr s (ix3 (0 : Fin 1) h r)
    = max (Ideal.ofBits FTy.f32 4286578688#32) (Finset.univ.fold max (Ideal.ofBits FTy.f32 4286578688#32) fun x : Fin 8192 => s (ix4 (0 : Fin 1) h r x)) := by
  unfold maxArr
  have e1 : (broadcastInDim S1x16x8192 ![] bcast_S_S1x16x8192 (constant (F := Ideal) S_ .f32 0xFF800000#32)) (ix3 (0 : Fin 1) h r) = Ideal.ofBits FTy.f32 4286578688#32 := by pointwise
  have e2 : constant (F := Ideal) S_ .f32 0xFF800000#32 (Shape.Idx.first h_S_) = Ideal.ofBits FTy.f32 4286578688#32 := by pointwise
  rw [max_pair, e1, max_last (n0 := 1) (n1 := 16) (n2 := 8192) (n3 := 8192), e2]

theorem rows_apply (z : FVec Ideal S1x16x8192 .f32) : rows z (ix4 (0 : Fin 1) h r x) = z (ix3 (0 : Fin 1) h r) := by
  unfold rows
  pointwise

theorem sum_apply (e : FVec Ideal S1x16x8192x8192 .f32) : sumArr e (ix3 (0 : Fin 1) h r) = ∑ x : Fin 8192, e (ix4 (0 : Fin 1) h r x) := by
  unfold sumArr
  pointwise

end Cert.ReferenceIdeal.Att
-- ==== Proof.RefValue.lean ====
module

public import proofs.«01_k».proof.Proof.Ref
public import proofs.«01_k».proof.Proof.Scores
public import proofs.«01_k».proof.Proof.Vec

/-! The reference at one element, over real queries and keys. -/

@[expose] public section
noncomputable section
namespace Cert.ReferenceIdeal.Att
open Cert.ReferenceIdeal Cert.ReferenceIdeal.Gen Cert.ReferenceIdeal.Value Idealize.ShloMosaic Idealize.ShloMosaic.TcCoe Idealize.SL.Sem

theorem out_apply (v : FVec Ideal S1x8192x16x128 .f32) (p : FVec Ideal S1x16x8192x8192 .f32) (h : Fin 16) (r : Fin 8192) (d : Fin 128) (hd : 128 * h.val + d.val < 2048) :
   outArr v p (ix2 r ⟨128 * h.val + d.val, hd⟩) = ∑ x : Fin 8192, v (ix4 (0 : Fin 1) x h d) * p (ix4 (0 : Fin 1) h r x) := by
  unfold outArr
  pointwise

theorem bot_bits : Ideal.ofBits FTy.f32 4286578688#32 = ⊥ := by simp [Ideal.ofBits]; decide

theorem pick_le {α : Type} (a b : ℕ) (ha : a < 8192) (hb : b < 8192) (x y : α) :
    Scalar.select (IntOp.cmpi .sle (BitVec.ofNat 32 a) (BitVec.ofNat 32 b)) x y = if a ≤ b then x else y := by
  have e : (BitVec.ofNat 32 a).sle (BitVec.ofNat 32 b) = decide (a ≤ b) := by
    have h1 : ∀ k < 8192, (BitVec.ofNat 32 k).toInt = (k : ℤ) := fun k hk => by
      rw [BitVec.toInt_eq_toNat_of_lt] <;> simp only [BitVec.toNat_ofNat] <;> omega
    rw [BitVec.sle, h1 a ha, h1 b hb]
    exact decide_eq_decide.mpr (by omega)
  unfold Scalar.select IntOp.cmpi
  simp only [e]
  by_cases hab : a ≤ b <;> simp [hab]

theorem div_pair {s : Shape} (x y : FVec Ideal s .f32) (i : s.Idx) : Host.divf x y i = Ideal.div (x i) (y i) := rfl

variable (q k : FVec Ideal S1x8192x16x192 .f32) (q' k' : Soft.QK.Idx → ℝ) (hq : ∀ i, q i = (q' i : EReal)) (hk : ∀ i, k i = (k' i : EReal))
variable (h : Fin 16) (r : Fin 8192)

include hq hk in
theorem score_apply (x : Fin 8192) : scoreArr q k (ix4 (0 : Fin 1) h r x) = Soft.masked (Soft.tau q' k' h r) r.val x.val := by
  unfold scoreArr
  rw [mask_apply, seen_apply, pick_le _ _ x.isLt r.isLt, raw_apply, bot_bits, Soft.root_192, Ideal.div_coe Soft.root_ne]
  unfold Soft.masked Soft.tau
  conv_rhs => rw [dif_pos x.isLt, div_eq_mul_one_div, EReal.coe_mul, Soft.coe_sum]
  simp only [hq, hk, EReal.coe_mul]

include hq hk in
theorem exp_apply (x : Fin 8192) : expArr (scoreArr q k) (ix4 (0 : Fin 1) h r x)
    = Ideal.exp (Soft.masked (Soft.tau q' k' h r) r.val x.val - Soft.M (Soft.masked (Soft.tau q' k' h r) r.val) 8192) := by
  have e : maxArr (scoreArr q k) (ix3 (0 : Fin 1) h r) = Soft.M (Soft.masked (Soft.tau q' k' h r) r.val) 8192 := by
    rw [max_apply, Cert.KernelIdeal.Att.fold_max_bot, bot_bits, max_eq_right bot_le]
    simp only [score_apply q k q' k' hq hk h r]
    exact Soft.sup_fin _ 8192
  show Ideal.exp (scoreArr q k (ix4 (0 : Fin 1) h r x) - rows (maxArr (scoreArr q k)) (ix4 (0 : Fin 1) h r x)) = _
  rw [rows_apply, e, score_apply q k q' k' hq hk]

include hq hk in
theorem weight_apply (x : Fin 8192) : Host.divf (expArr (scoreArr q k)) (rows (sumArr (expArr (scoreArr q k)))) (ix4 (0 : Fin 1) h r x)
    = Ideal.div (Ideal.exp (Soft.masked (Soft.tau q' k' h r) r.val x.val - Soft.M (Soft.masked (Soft.tau q' k' h r) r.val) 8192))
        (∑ c ∈ Finset.range 8192, Ideal.exp (Soft.masked (Soft.tau q' k' h r) r.val c - Soft.M (Soft.masked (Soft.tau q' k' h r) r.val) 8192)) := by
  rw [div_pair, rows_apply, sum_apply, Finset.sum_range]
  simp only [exp_apply q k q' k' hq hk h r]

include hq hk in
theorem soft_apply (v : FVec Ideal S1x8192x16x128 .f32) (d : Fin 128) (hd : 128 * h.val + d.val < 2048) :
    outArr v (Host.divf (expArr (scoreArr q k)) (rows (sumArr (expArr (scoreArr q k))))) (ix2 r ⟨128 * h.val + d.val, hd⟩)
      = ∑ x ∈ Finset.range 8192, Soft.col v h d x
          * Ideal.div (Ideal.exp (Soft.masked (Soft.tau q' k' h r) r.val x - Soft.M (Soft.masked (Soft.tau q' k' h r) r.val) 8192))
            (∑ c ∈ Finset.range 8192, Ideal.exp (Soft.masked (Soft.tau q' k' h r) r.val c - Soft.M (Soft.masked (Soft.tau q' k' h r) r.val) 8192)) := by
  rw [out_apply]
  simp only [weight_apply q k q' k' hq hk h r]
  generalize (∑ c ∈ Finset.range 8192, Ideal.exp (Soft.masked (Soft.tau q' k' h r) r.val c - Soft.M (Soft.masked (Soft.tau q' k' h r) r.val) 8192)) = z
  generalize Soft.M (Soft.masked (Soft.tau q' k' h r) r.val) 8192 = t
  rw [Finset.sum_range]
  refine Finset.sum_congr rfl fun x _ => ?_
  unfold Soft.col
  rw [dif_pos x.isLt]

variable (m : (ℓ : Loc nD τ sig) → Buf (Elt Ideal) ℓ) (c : Dev nD)

theorem ref_apply (hq : ∀ i : Soft.QK.Idx, m ((c.tc : Thread nD τ).loc main_arg0) i = (q' i : EReal)) (hk : ∀ i : Soft.QK.Idx, m ((c.tc : Thread nD τ).loc main_arg1) i = (k' i : EReal))
    (d : Fin 128) (hd : 128 * h.val + d.val < 2048) :
    res_main_v25 m c (ix2 r ⟨128 * h.val + d.val, hd⟩) = Soft.attend q' k' (m ((c.tc : Thread nD τ).loc main_arg2)) h r d :=
  (congrFun (res_eq m c) _).trans (soft_apply _ _ q' k' hq hk h r _ d hd)

end Cert.ReferenceIdeal.Att
-- ==== Proof.Blocks.lean ====
module

public import Idealize.ShloMosaic.Lib.Claim
public import Idealize.ShloMosaic.PureOps.Ideal

/-! A sum over `n * b` places, taken `b` places at a time. -/

@[expose] public section
noncomputable section
namespace Blocks

/-- A function on `Fin N` carried on by zero. -/
def ext {N : ℕ} (T : Fin N → EReal) (i : ℕ) : EReal := if h : i < N then T ⟨i, h⟩ else 0

theorem ext_of_lt {N : ℕ} (T : Fin N → EReal) (i : ℕ) (h : i < N) : ext T i = T ⟨i, h⟩ := dif_pos h

theorem sum_range (f : ℕ → EReal) (b : ℕ) : ∀ n : ℕ, ∑ s ∈ Finset.range n, ∑ e : Fin b, f (b * s + e.val) = ∑ i ∈ Finset.range (b * n), f i
  | 0 => by simp
  | n + 1 => by
    rw [Finset.sum_range_succ, sum_range f b n, Nat.mul_succ, Finset.sum_range_add]
    congr 1
    exact Fin.sum_univ_eq_sum_range (fun e => f (b * n + e)) b

/-- The blocks' sums add up to the whole sum. -/
theorem sum_blocks {N : ℕ} (T : Fin N → EReal) (b n : ℕ) (h : b * n = N) :
    ∑ s ∈ Finset.range n, ∑ e : Fin b, ext T (b * s + e.val) = ∑ i : Fin N, T i := by
  rw [sum_range, h, ← Fin.sum_univ_eq_sum_range]
  exact Finset.sum_congr rfl fun i _ => ext_of_lt T i.val i.isLt

end Blocks
end
-- ==== Proof.Ffn.lean ====
module

public import proofs.«01_k».proof.Proof.Blocks
public import proofs.«01_k».proof.Proof.Gen.Kernel2Ideal.Value
public import Idealize.ShloMosaic.Lib.Pipeline.ValueKit
public import Idealize.ShloMosaic.Lib.Pointwise

/-! The feed-forward call: what one grid point leaves in its buffers, from what it reads. -/

@[expose] public section
noncomputable section
namespace Cert.Kernel2Ideal.Ffn
open Cert.Kernel2Ideal Cert.Kernel2Ideal.Gen Idealize.ShloMosaic Idealize.ShloMosaic.TcCoe Idealize.SL.Sem

theorem hz2 : (![0, 0] : Fin 2 → Nat) = fun _ => 0 := funext fun a => by fin_cases a <;> rfl
theorem hz3 : (![0, 0, 0] : Fin 3 → Nat) = fun _ => 0 := funext fun a => by fin_cases a <;> rfl

theorem readCov_ld {Val : EltTy → Type} [∀ e, Nonempty (Val e)] {κ : Kind} {sp : Space} {s : Shape} {e : EltTy} (v : View sig κ sp s e) (L : List (View.Piece Val s e)) (r : Rect s) :
    v.readCov L r.toLoadRect = View.ld (View.canon L) r := by
  rw [View.readCov_eq_canon']

/-- The gated activations of one block of hidden columns: both products of the normalized rows `h`, each through its three taps, and the gate. -/
def act (h : FVec Ideal S1040x2048 .bf16) (wg wu : FVec Ideal S1x2048x512 .bf16) (cg cu : FVec Ideal S1x3x512 .f32) (bg bu : FVec Ideal S1x1x512 .f32) : FVec Ideal S1024x512 .bf16 :=
  k0_pay12 (F := Ideal)
    (k0_pay10 bg (View.ld (Val := Elt Ideal) (e' := .f32) cg (Rect.unit (s := S1x3x512) ![0, 0, 0] S1x1x512.size inb_S1x3x512_S1x1x512_0_0_0)) (View.ld (Val := Elt Ideal) (e' := .f32) (k0_pay8 (F := Ideal) h wg) (Rect.unit (s := S1040x512) ![14, 0] S1024x512.size inb_S1040x512_S1024x512_14_0)))
    (k0_pay11 (View.ld (Val := Elt Ideal) (e' := .f32) cg (Rect.unit (s := S1x3x512) ![0, 1, 0] S1x1x512.size inb_S1x3x512_S1x1x512_0_1_0)))
    (View.ld (Val := Elt Ideal) (e' := .f32) (k0_pay8 (F := Ideal) h wg) (Rect.unit (s := S1040x512) ![15, 0] S1024x512.size inb_S1040x512_S1024x512_15_0))
    (View.ld (Val := Elt Ideal) (e' := .f32) cg (Rect.unit (s := S1x3x512) ![0, 2, 0] S1x1x512.size inb_S1x3x512_S1x1x512_0_2_0))
    (View.ld (Val := Elt Ideal) (e' := .f32) (k0_pay8 (F := Ideal) h wg) (Rect.unit (s := S1040x512) ![16, 0] S1024x512.size inb_S1040x512_S1024x512_16_0))
    bu
    (View.ld (Val := Elt Ideal) (e' := .f32) cu (Rect.unit (s := S1x3x512) ![0, 0, 0] S1x1x512.size inb_S1x3x512_S1x1x512_0_0_0))
    (View.ld (Val := Elt Ideal) (e' := .f32) (k0_pay9 (F := Ideal) h wu) (Rect.unit (s := S1040x512) ![14, 0] S1024x512.size inb_S1040x512_S1024x512_14_0))
    (View.ld (Val := Elt Ideal) (e' := .f32) cu (Rect.unit (s := S1x3x512) ![0, 1, 0] S1x1x512.size inb_S1x3x512_S1x1x512_0_1_0))
    (View.ld (Val := Elt Ideal) (e' := .f32) (k0_pay9 (F := Ideal) h wu) (Rect.unit (s := S1040x512) ![15, 0] S1024x512.size inb_S1040x512_S1024x512_15_0))
    (View.ld (Val := Elt Ideal) (e' := .f32) cu (Rect.unit (s := S1x3x512) ![0, 2, 0] S1x1x512.size inb_S1x3x512_S1x1x512_0_2_0))
    (View.ld (Val := Elt Ideal) (e' := .f32) (k0_pay9 (F := Ideal) h wu) (Rect.unit (s := S1040x512) ![16, 0] S1024x512.size inb_S1040x512_S1024x512_16_0))

section point
variable (c : Dev nD) (i : grid0.Coords) (arg2 : Memref sig .tc .vmem S1024x2048 .f32) (harg2 : arg2.IsWhole) (arg3 : Memref sig .tc .vmem S16x2048 .f32) (harg3 : arg3.IsWhole) (arg4 : Memref sig .tc .vmem S1x1x2048 .f32) (harg4 : arg4.IsWhole) (arg5 : Memref sig .tc .vmem S1x2048x512 .bf16) (harg5 : arg5.IsWhole) (arg6 : Memref sig .tc .vmem S1x2048x512 .bf16) (harg6 : arg6.IsWhole) (arg7 : Memref sig .tc .vmem S1x3x512 .f32) (harg7 : arg7.IsWhole) (arg8 : Memref sig .tc .vmem S1x3x512 .f32) (harg8 : arg8.IsWhole) (arg9 : Memref sig .tc .vmem S1x1x512 .f32) (harg9 : arg9.IsWhole) (arg10 : Memref sig .tc .vmem S1x1x512 .f32) (harg10 : arg10.IsWhole) (arg11 : Memref sig .tc .vmem S1x512x2048 .bf16) (harg11 : arg11.IsWhole) (arg12 : Memref sig .tc .vmem S1x2048 .f32) (harg12 : arg12.IsWhole) (arg13 : Memref sig .tc .vmem S1024x2048 .f32) (harg13 : arg13.IsWhole) (arg14 : Memref sig .tc .vmem S1040x2048 .bf16) (harg14 : arg14.IsWhole) (arg15 : Memref sig .tc .vmem S1040x512 .f32) (harg15 : arg15.IsWhole) (arg16 : Memref sig .tc .vmem S1040x512 .f32) (harg16 : arg16.IsWhole)
  (x0 : Vec Ideal S1024x2048 .f32) (x1 : Vec Ideal S16x2048 .f32) (x2 : Vec Ideal S1x1x2048 .f32) (x3 : Vec Ideal S1x2048x512 .bf16) (x4 : Vec Ideal S1x2048x512 .bf16) (x5 : Vec Ideal S1x3x512 .f32) (x6 : Vec Ideal S1x3x512 .f32) (x7 : Vec Ideal S1x1x512 .f32) (x8 : Vec Ideal S1x1x512 .f32) (x9 : Vec Ideal S1x512x2048 .bf16) (x10 : Vec Ideal S1x2048 .f32) (xo11 : Vec Ideal S1024x2048 .f32) (xs0 : Vec Ideal S1040x2048 .bf16)

theorem out_B (hc0 : ¬cond0_0 i) (hc1 : ¬cond0_1 i) :
    out0_B_11 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 x10 xo11 xs0 = k0_pay1 (F := Ideal) (act xs0 x3 x4 x5 x6 x7 x8) xo11 x9 := by
  unfold out0_B_11
  rw [View.read_writes_junk_eq_canon]
  unfold kernelRun0_B
  dsimp only
  sl_unfold_words
  rw [View.canon_unit_zero hz2]
  simp only [readCov_ld, View.canon_unit_zero (S := S1040x512) hz2, View.readAt_eq_ld, harg5.read_unread, harg6.read_unread, harg7.read_unread, harg8.read_unread, harg9.read_unread, harg10.read_unread, harg11.read_unread, harg13.read_unread, harg14.read_unread, View.ld_unit_zero (S := S1x2048x512) hz3, View.ld_unit_zero (S := S1x512x2048) hz3, View.ld_unit_zero (S := S1x1x512) hz3, View.ld_unit_zero (S := S1024x2048) hz2, View.ld_unit_zero (S := S1040x2048) hz2]
  unfold act
  rfl

theorem out_C (hc0 : ¬cond0_0 i) (hc1 : cond0_1 i) :
    out0_C_11 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 x10 xo11 xs0 = k0_pay2 (F := Ideal) (k0_pay1 (F := Ideal) (act xs0 x3 x4 x5 x6 x7 x8) xo11 x9) x10 := by
  unfold out0_C_11
  rw [View.read_writes_junk_eq_canon]
  unfold kernelRun0_C
  dsimp only
  sl_unfold_words
  rw [View.canon_cons_unit_zero (S := S1024x2048) hz2]
  simp only [readCov_ld, View.canon_unit_zero (S := S1024x2048) hz2, View.canon_unit_zero (S := S1040x512) hz2, View.readAt_eq_ld, harg5.read_unread, harg6.read_unread, harg7.read_unread, harg8.read_unread, harg9.read_unread, harg10.read_unread, harg11.read_unread, harg12.read_unread, harg13.read_unread, harg14.read_unread, View.ld_unit_zero (S := S1x2048) hz2, View.ld_unit_zero (S := S1x2048x512) hz3, View.ld_unit_zero (S := S1x512x2048) hz3, View.ld_unit_zero (S := S1x1x512) hz3, View.ld_unit_zero (S := S1024x2048) hz2, View.ld_unit_zero (S := S1040x2048) hz2]
  unfold act
  rfl

theorem out_A (hc0 : cond0_0 i) (hc1 : ¬cond0_1 i) :
    out0_A_11 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 x10
      = k0_pay1 (F := Ideal) (act (sout0_A_0 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 x10) x3 x4 x5 x6 x7 x8) (k0_pay4 (F := Ideal) x0) x9 := by
  unfold out0_A_11 sout0_A_0
  rw [View.read_writes_junk_eq_canon, View.read_writes_junk_eq_canon]
  unfold kernelRun0_A
  dsimp only
  sl_unfold_words
  rw [View.canon_cons_unit_zero (S := S1024x2048) hz2]
  simp only [readCov_ld, View.canon_unit_zero (S := S1024x2048) hz2, View.canon_unit_zero (S := S1040x512) hz2, View.readAt_eq_ld, harg2.read_unread, harg3.read_unread, harg4.read_unread, harg5.read_unread, harg6.read_unread, harg7.read_unread, harg8.read_unread, harg9.read_unread, harg10.read_unread, harg11.read_unread, View.ld_unit_zero (S := S1x2048x512) hz3, View.ld_unit_zero (S := S1x512x2048) hz3, View.ld_unit_zero (S := S1x1x512) hz3, View.ld_unit_zero (S := S1024x2048) hz2, View.ld_unit_zero (S := S1040x2048) hz2]
  generalize View.canon (Val := Elt Ideal) _ = H
  unfold act
  rfl

/-- The normalized rows the first grid point of a row block keeps: its own rows from row 16 on, -/
theorem sout_rows (hc0 : cond0_0 i) (hc1 : ¬cond0_1 i) (r : Fin 1024) (d : Fin 2048) (hr : 16 + r.val < 1040) :
    sout0_A_0 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 x10 (ix2 ⟨16 + r.val, hr⟩ d)
      = k0_pay5 (F := Ideal) x2 x0 (ix2 r d) := by
  unfold sout0_A_0
  rw [View.read_writes_junk_eq_canon]
  unfold kernelRun0_A
  dsimp only
  sl_unfold_words
  have e : (ix2 (⟨16 + r.val, hr⟩ : Fin 1040) d : S1040x2048.Idx) = (Rect.unit (s := S1040x2048) ![16, 0] S1024x2048.size inb_S1040x2048_S1024x2048_16_0).emb (ix2 r d) := by
    funext a
    match a with
    | ⟨0, _⟩ => exact Fin.ext (by show 16 + r.val = 16 + 1 * r.val; omega)
    | ⟨1, _⟩ => exact Fin.ext (by show d.val = 0 + 1 * d.val; omega)
  rw [View.canon_cons_of_not_mem]
  · refine (congrArg _ e).trans ((View.canon_cons_emb (Val := Elt Ideal) (e := .bf16) _ _ _ _).trans ?_)
    simp only [View.readAt_eq_ld, harg2.read_unread, harg4.read_unread, View.ld_unit_zero (S := S1x1x2048) hz3, View.ld_unit_zero (S := S1024x2048) hz2]
  · intro hm
    have h2 : 16 + r.val < 0 + 16 := (Rect.mem_set_unit (s := S1040x2048) (off := ![0, 0]) (size := S16x2048.size) (inb := inb_S1040x2048_S16x2048_0_0).mp hm 0).2
    omega

/-- and before them the sixteen rows that precede the block. -/
theorem sout_halo (hc0 : cond0_0 i) (hc1 : ¬cond0_1 i) (r : Fin 16) (d : Fin 2048) (hr : r.val < 1040) :
    sout0_A_0 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 x10 (ix2 ⟨r.val, hr⟩ d)
      = k0_pay6 (F := Ideal) (BitVec.ofNat 32 (i 0).val) x2 x1 (ix2 r d) := by
  unfold sout0_A_0
  rw [View.read_writes_junk_eq_canon]
  unfold kernelRun0_A
  dsimp only
  sl_unfold_words
  have e : (ix2 (⟨r.val, hr⟩ : Fin 1040) d : S1040x2048.Idx) = (Rect.unit (s := S1040x2048) ![0, 0] S16x2048.size inb_S1040x2048_S16x2048_0_0).emb (ix2 r d) := by
    funext a
    match a with
    | ⟨0, _⟩ => exact Fin.ext (by show r.val = 0 + 1 * r.val; omega)
    | ⟨1, _⟩ => exact Fin.ext (by show d.val = 0 + 1 * d.val; omega)
  refine (congrArg _ e).trans ((View.canon_cons_emb (Val := Elt Ideal) (e := .bf16) _ _ _ _).trans ?_)
  simp only [View.readAt_eq_ld, harg3.read_unread, harg4.read_unread, View.ld_unit_zero (S := S1x1x2048) hz3, View.ld_unit_zero (S := S16x2048) hz2, k0_pay7, shapeCast_self]

end point

end Cert.Kernel2Ideal.Ffn
-- ==== Proof.FfnRef.lean ====
module

public import Idealize.ShloMosaic.PureOps.Ideal
public import proofs.«01_k».proof.Proof.Gen.Reference2Ideal.Run
public import Idealize.ShloMosaic.Lib.Pointwise

/-! The feed-forward part's reference read at an index: the norm, the product, the three taps, the gate, the product, the final norm. -/

@[expose] public section
noncomputable section
namespace Cert.Reference2Ideal.Ffn
open Cert.Reference2Ideal Cert.Reference2Ideal.Gen Cert.Reference2Ideal.Facts Cert.Reference2Ideal.Value Idealize.ShloMosaic Idealize.ShloMosaic.TcCoe Idealize.SL.Sem

/-- A row over the root of its mean square, scaled. -/
def rms (x g : Fin 2048 → EReal) (d : Fin 2048) : EReal :=
  x d * Ideal.rsqrt (Ideal.div (∑ k : Fin 2048, x k * x k) (Ideal.ofBits .f32 0x45000000#32) + Ideal.ofBits .f32 0x358637BD#32) * g d

def normArr (x g : FVec Ideal S1x8192x2048 .f32) : FVec Ideal S1x8192x2048 .f32 :=
  mulf (mulf x (broadcastInDim S1x8192x2048 ![0, 1, 2] bcast_S1x8192x1_S1x8192x2048_0_1_2 (Host.rsqrt (addf (Host.divf (broadcastInDim S1x8192x1 ![0, 1] bcast_S1x8192_S1x8192x1_0_1 (Host.reduceAdd (mulf x x) (constant S_ .f32 0x00000000#32) reducesTo_S1x8192x2048_S1x8192_d2 h_S_)) (broadcastInDim S1x8192x1 ![] bcast_S_S1x8192x1 (constant S_ .f32 0x45000000#32))) (broadcastInDim S1x8192x1 ![] bcast_S_S1x8192x1 (constant S_ .f32 0x358637BD#32)))))) g

def scale (a1 : FVec Ideal S4x2048 .f32) : FVec Ideal S1x8192x2048 .f32 :=
  broadcastInDim S1x8192x2048 ![0, 1, 2] bcast_S1x1x2048_S1x8192x2048_0_1_2 (broadcastInDim S1x1x2048 ![2] bcast_S2048_S1x1x2048_2 (shapeCast _ (extractStridedSlice S1x2048 ![3, 0] a1 slices_S4x2048_S1x2048_3_0) shapeCasts_S1x2048_S2048))

def lastScale (a6 : FVec Ideal S2048 .f32) : FVec Ideal S1x8192x2048 .f32 :=
  broadcastInDim S1x8192x2048 ![0, 1, 2] bcast_S1x1x2048_S1x8192x2048_0_1_2 (broadcastInDim S1x1x2048 ![2] bcast_S2048_S1x1x2048_2 a6)

def upArr (h : FVec Ideal S1x8192x2048 .f32) (a2 : FVec Ideal S4x2048x11264 .f32) : FVec Ideal S1x8192x11264 .f32 :=
  Host.dotGeneral dot_S1x8192x2048_S2048x11264_S1x8192x11264_2_0_01_1_n_n none h (shapeCast _ (extractStridedSlice S1x2048x11264 ![3, 0, 0] a2 slices_S4x2048x11264_S1x2048x11264_3_0_0) shapeCasts_S1x2048x11264_S2048x11264)

def padded (u : FVec Ideal S1x8192x11264 .f32) : FVec Ideal S1x8194x11264 .f32 :=
  pad S1x8194x11264 ![0, 2, 0] ![0, 0, 0] ![0, 0, 0] u (sitofp .f32 (constantI S_ 32 0#32)) pads_S1x8192x11264_S1x8194x11264_000_200_000 h_S_

def convArr (p : FVec Ideal S1x8194x11264 .f32) (a3 : FVec Ideal S4x3x11264 .f32) (a4 : FVec Ideal S4x11264 .f32) : FVec Ideal S1x8192x11264 .f32 :=
  addf (addf (addf (broadcastInDim S1x8192x11264 ![0, 1, 2] bcast_S1x1x11264_S1x8192x11264_0_1_2 (broadcastInDim S1x1x11264 ![2] bcast_S11264_S1x1x11264_2 (shapeCast _ (extractStridedSlice S1x11264 ![3, 0] a4 slices_S4x11264_S1x11264_3_0) shapeCasts_S1x11264_S11264))) (mulf (broadcastInDim S1x8192x11264 ![0, 1, 2] bcast_S1x1x11264_S1x8192x11264_0_1_2 (broadcastInDim S1x1x11264 ![2] bcast_S11264_S1x1x11264_2 (shapeCast _ (extractStridedSlice S1x11264 ![0, 0] (shapeCast _ (extractStridedSlice S1x3x11264 ![3, 0, 0] a3 slices_S4x3x11264_S1x3x11264_3_0_0) shapeCasts_S1x3x11264_S3x11264) slices_S3x11264_S1x11264_0_0) shapeCasts_S1x11264_S11264))) (extractStridedSlice S1x8192x11264 ![0, 0, 0] p slices_S1x8194x11264_S1x8192x11264_0_0_0))) (mulf (broadcastInDim S1x8192x11264 ![0, 1, 2] bcast_S1x1x11264_S1x8192x11264_0_1_2 (broadcastInDim S1x1x11264 ![2] bcast_S11264_S1x1x11264_2 (shapeCast _ (extractStridedSlice S1x11264 ![1, 0] (shapeCast _ (extractStridedSlice S1x3x11264 ![3, 0, 0] a3 slices_S4x3x11264_S1x3x11264_3_0_0) shapeCasts_S1x3x11264_S3x11264) slices_S3x11264_S1x11264_1_0) shapeCasts_S1x11264_S11264))) (extractStridedSlice S1x8192x11264 ![0, 1, 0] p slices_S1x8194x11264_S1x8192x11264_0_1_0))) (mulf (broadcastInDim S1x8192x11264 ![0, 1, 2] bcast_S1x1x11264_S1x8192x11264_0_1_2 (broadcastInDim S1x1x11264 ![2] bcast_S11264_S1x1x11264_2 (shapeCast _ (extractStridedSlice S1x11264 ![2, 0] (shapeCast _ (extractStridedSlice S1x3x11264 ![3, 0, 0] a3 slices_S4x3x11264_S1x3x11264_3_0_0) shapeCasts_S1x3x11264_S3x11264) slices_S3x11264_S1x11264_2_0) shapeCasts_S1x11264_S11264))) (extractStridedSlice S1x8192x11264 ![0, 2, 0] p slices_S1x8194x11264_S1x8192x11264_0_2_0))

def addArr (a0 : FVec Ideal S1x8192x2048 .f32) (y : FVec Ideal S1x8192x11264 .f32) (a5 : FVec Ideal S4x5632x2048 .f32) : FVec Ideal S1x8192x2048 .f32 :=
  addf a0 (Host.dotGeneral dot_S1x8192x5632_S5632x2048_S1x8192x2048_2_0_01_1_n_n none (mulf (mulf (extractStridedSlice S1x8192x5632 ![0, 0, 0] y slices_S1x8192x11264_S1x8192x5632_0_0_0) (Host.divf (broadcastInDim S1x8192x5632 ![] bcast_S_S1x8192x5632 (constant S_ .f32 0x3F800000#32)) (addf (broadcastInDim S1x8192x5632 ![] bcast_S_S1x8192x5632 (constant S_ .f32 0x3F800000#32)) (Host.exp (Host.negf (extractStridedSlice S1x8192x5632 ![0, 0, 0] y slices_S1x8192x11264_S1x8192x5632_0_0_0)))))) (extractStridedSlice S1x8192x5632 ![0, 0, 5632] y slices_S1x8192x11264_S1x8192x5632_0_0_5632)) (shapeCast _ (extractStridedSlice S1x5632x2048 ![3, 0, 0] a5 slices_S4x5632x2048_S1x5632x2048_3_0_0) shapeCasts_S1x5632x2048_S5632x2048))

def out (a0 : FVec Ideal S1x8192x2048 .f32) (a1 : FVec Ideal S4x2048 .f32) (a2 : FVec Ideal S4x2048x11264 .f32) (a3 : FVec Ideal S4x3x11264 .f32) (a4 : FVec Ideal S4x11264 .f32) (a5 : FVec Ideal S4x5632x2048 .f32) (a6 : FVec Ideal S2048 .f32) : FVec Ideal S8192x2048 .f32 :=
  shapeCast _ (normArr (addArr a0 (convArr (padded (upArr (normArr a0 (scale a1)) a2)) a3 a4) a5) (lastScale a6)) shapeCasts_S1x8192x2048_S8192x2048

theorem res_eq (m : (ℓ : Loc nD τ sig) → Buf (Elt Ideal) ℓ) (c : Dev nD) :
    res_main_v67 m c = out (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) := rfl

theorem norm_apply (x g : FVec Ideal S1x8192x2048 .f32) (t : Fin 8192) (d : Fin 2048) :
    normArr x g (ix3 (0 : Fin 1) t d) = rms (fun d => x (ix3 (0 : Fin 1) t d)) (fun d => g (ix3 (0 : Fin 1) t d)) d := by
  unfold normArr rms
  pointwise

theorem scale_apply (a1 : FVec Ideal S4x2048 .f32) (t : Fin 8192) (d : Fin 2048) : scale a1 (ix3 (0 : Fin 1) t d) = a1 (ix2 (3 : Fin 4) d) := by
  unfold scale
  pointwise

theorem lastScale_apply (a6 : FVec Ideal S2048 .f32) (t : Fin 8192) (d : Fin 2048) : lastScale a6 (ix3 (0 : Fin 1) t d) = a6 (ix1 d) := by
  unfold lastScale
  pointwise

theorem up_apply (h : FVec Ideal S1x8192x2048 .f32) (a2 : FVec Ideal S4x2048x11264 .f32) (t : Fin 8192) (e : Fin 11264) :
    upArr h a2 (ix3 (0 : Fin 1) t e) = ∑ d : Fin 2048, h (ix3 (0 : Fin 1) t d) * a2 (ix3 (3 : Fin 4) d e) := by
  unfold upArr
  pointwise

theorem padded_apply (u : FVec Ideal S1x8192x11264 .f32) (t : Fin 8194) (e : Fin 11264) :
    padded u (ix3 (0 : Fin 1) t e) = if h : 2 ≤ t.val then u (ix3 (0 : Fin 1) (⟨t.val - 2, by omega⟩ : Fin 8192) e) else 0 := by
  unfold padded
  pointwise
  have z : FloatOps.sitofp (F := Ideal) FTy.f32 0#32 = 0 := by
    show ((((0#32 : BitVec 32).toInt : ℝ)) : EReal) = 0
    simp
  by_cases h : 2 ≤ t.val
  · rw [dif_pos ⟨h, by omega⟩, dif_pos h]
  · rw [dif_neg (fun h' => h h'.1), dif_neg h, z]

theorem conv_apply (p : FVec Ideal S1x8194x11264 .f32) (a3 : FVec Ideal S4x3x11264 .f32) (a4 : FVec Ideal S4x11264 .f32) (t : Fin 8192) (e : Fin 11264) (h0 h1 h2) :
    convArr p a3 a4 (ix3 (0 : Fin 1) t e) = a4 (ix2 (3 : Fin 4) e) + a3 (ix3 (3 : Fin 4) (0 : Fin 3) e) * p (ix3 (0 : Fin 1) (⟨t.val, h0⟩ : Fin 8194) e)
      + a3 (ix3 (3 : Fin 4) (1 : Fin 3) e) * p (ix3 (0 : Fin 1) (⟨1 + t.val, h1⟩ : Fin 8194) e) + a3 (ix3 (3 : Fin 4) (2 : Fin 3) e) * p (ix3 (0 : Fin 1) (⟨2 + t.val, h2⟩ : Fin 8194) e) := by
  unfold convArr
  pointwise

theorem add_apply (a0 : FVec Ideal S1x8192x2048 .f32) (y : FVec Ideal S1x8192x11264 .f32) (a5 : FVec Ideal S4x5632x2048 .f32) (t : Fin 8192) (n : Fin 2048) :
    addArr a0 y a5 (ix3 (0 : Fin 1) t n) = a0 (ix3 (0 : Fin 1) t n) + ∑ e : Fin 5632, y (ix3 (0 : Fin 1) t (⟨e.val, by omega⟩ : Fin 11264)) * Ideal.logistic (y (ix3 (0 : Fin 1) t (⟨e.val, by omega⟩ : Fin 11264))) * y (ix3 (0 : Fin 1) t (⟨5632 + e.val, by omega⟩ : Fin 11264)) * a5 (ix3 (3 : Fin 4) e n) := by
  unfold addArr
  pointwise
  rfl

theorem cast_apply (z : FVec Ideal S1x8192x2048 .f32) (t : Fin 8192) (n : Fin 2048) : shapeCast S8192x2048 z shapeCasts_S1x8192x2048_S8192x2048 (ix2 t n) = z (ix3 (0 : Fin 1) t n) := by
  pointwise

section spec
variable (a0 : FVec Ideal S1x8192x2048 .f32) (a1 : FVec Ideal S4x2048 .f32) (a2 : FVec Ideal S4x2048x11264 .f32) (a3 : FVec Ideal S4x3x11264 .f32) (a4 : FVec Ideal S4x11264 .f32) (a5 : FVec Ideal S4x5632x2048 .f32) (a6 : FVec Ideal S2048 .f32)

/-- The normalized row. -/
def hid (t : Fin 8192) : Fin 2048 → EReal := rms (fun d => a0 (ix3 (0 : Fin 1) t d)) (fun d => a1 (ix2 (3 : Fin 4) d))

/-- Its product with column `e` of the up weights. -/
def up (t : Fin 8192) (e : Fin 11264) : EReal := ∑ d : Fin 2048, hid a0 a1 t d * a2 (ix3 (3 : Fin 4) d e)

/-- The product two rows before row `t`; zero before the first row. -/
def back (t : ℕ) (e : Fin 11264) : EReal := if h : 2 ≤ t ∧ t < 8194 then up a0 a1 a2 ⟨t - 2, by omega⟩ e else 0

/-- The three taps. -/
def conv (t : ℕ) (e : Fin 11264) : EReal :=
  a4 (ix2 (3 : Fin 4) e) + a3 (ix3 (3 : Fin 4) (0 : Fin 3) e) * back a0 a1 a2 t e + a3 (ix3 (3 : Fin 4) (1 : Fin 3) e) * back a0 a1 a2 (1 + t) e + a3 (ix3 (3 : Fin 4) (2 : Fin 3) e) * back a0 a1 a2 (2 + t) e

/-- One term of the sum over the hidden columns. -/
def term (t : ℕ) (n : Fin 2048) (e : Fin 5632) : EReal :=
  conv a0 a1 a2 a3 a4 t ⟨e.val, by omega⟩ * Ideal.logistic (conv a0 a1 a2 a3 a4 t ⟨e.val, by omega⟩) * conv a0 a1 a2 a3 a4 t ⟨5632 + e.val, by omega⟩ * a5 (ix3 (3 : Fin 4) e n)

/-- The result. -/
def val (t : Fin 8192) : Fin 2048 → EReal :=
  rms (fun n => a0 (ix3 (0 : Fin 1) t n) + ∑ e : Fin 5632, term a0 a1 a2 a3 a4 a5 t.val n e) (fun n => a6 (ix1 n))

theorem conv_eq (t : Fin 8192) (e : Fin 11264) :
    convArr (padded (upArr (normArr a0 (scale a1)) a2)) a3 a4 (ix3 (0 : Fin 1) t e) = conv a0 a1 a2 a3 a4 t.val e := by
  have hu : ∀ (t : Fin 8192), upArr (normArr a0 (scale a1)) a2 (ix3 (0 : Fin 1) t e) = up a0 a1 a2 t e := fun t => by
    rw [up_apply]
    unfold up hid
    simp only [norm_apply, scale_apply]
  have hp : ∀ (t : ℕ) (h : t < 8194), padded (upArr (normArr a0 (scale a1)) a2) (ix3 (0 : Fin 1) ⟨t, h⟩ e) = back a0 a1 a2 t e := fun t h => by
    rw [padded_apply]
    unfold back
    by_cases h2 : 2 ≤ t
    · rw [dif_pos h2, dif_pos ⟨h2, h⟩, hu]
    · rw [dif_neg h2, dif_neg (fun h' => h2 h'.1)]
  rw [conv_apply _ a3 a4 t e (by omega) (by omega) (by omega), hp, hp, hp]
  rfl

theorem out_apply (t : Fin 8192) (n : Fin 2048) : out a0 a1 a2 a3 a4 a5 a6 (ix2 t n) = val a0 a1 a2 a3 a4 a5 a6 t n := by
  unfold out val
  rw [cast_apply, norm_apply]
  refine congrArg₂ (fun x g => rms x g n) (funext fun n => ?_) (funext fun n => lastScale_apply a6 t n)
  refine (add_apply _ _ _ t n).trans (congrArg (a0 (ix3 (0 : Fin 1) t n) + ·) (Finset.sum_congr rfl fun e _ => ?_))
  unfold term
  rw [conv_eq, conv_eq]

end spec

end Cert.Reference2Ideal.Ffn
-- ==== Proof.FfnVal.lean ====
module

public import proofs.«01_k».proof.Proof.Ffn
public import proofs.«01_k».proof.Proof.FfnRef

/-! The feed-forward call: the values of one grid point's operations at an index, its blocks, and the array after the last point. -/

@[expose] public section
noncomputable section
namespace Cert.Kernel2Ideal.Ffn
open Cert.Kernel2Ideal Cert.Kernel2Ideal.Gen Idealize.ShloMosaic Idealize.ShloMosaic.TcCoe Idealize.SL.Sem
open Cert.Reference2Ideal.Ffn (rms hid up back conv term val)

theorem pay5_apply (g : FVec Ideal S1x1x2048 .f32) (x : FVec Ideal S1024x2048 .f32) (r : Fin 1024) (d : Fin 2048) :
    k0_pay5 (F := Ideal) g x (ix2 r d) = rms (fun d => x (ix2 r d)) (fun d => g (ix3 (0 : Fin 1) (0 : Fin 1) d)) d := by
  unfold rms
  pointwise [k0_pay5, k0_pay4, k0_pay3]

theorem pay6_apply (b : BitVec 32) (g : FVec Ideal S1x1x2048 .f32) (x : FVec Ideal S16x2048 .f32) (r : Fin 16) (d : Fin 2048) :
    k0_pay6 (F := Ideal) b g x (ix2 r d) = Scalar.select (Scalar.cmpi CmpIPredicate.sgt b 0#32) (rms (fun d => x (ix2 r d)) (fun d => g (ix3 (0 : Fin 1) (0 : Fin 1) d)) d) (0 : EReal) := by
  unfold rms
  pointwise [k0_pay6, k0_pay3]

theorem pay2_apply (g : FVec Ideal S1x2048 .f32) (x : FVec Ideal S1024x2048 .f32) (r : Fin 1024) (d : Fin 2048) :
    k0_pay2 (F := Ideal) x g (ix2 r d) = rms (fun d => x (ix2 r d)) (fun d => g (ix2 (0 : Fin 1) d)) d := by
  unfold rms
  pointwise [k0_pay2]

/-- The three taps of the products, at a row and a column of the block. -/
def taps (h : FVec Ideal S1040x2048 .bf16) (w : FVec Ideal S1x2048x512 .bf16) (k : FVec Ideal S1x3x512 .f32) (b : FVec Ideal S1x1x512 .f32) (r : Fin 1024) (e : Fin 512) : EReal :=
  b (ix3 (0 : Fin 1) (0 : Fin 1) e) + k (ix3 (0 : Fin 1) (0 : Fin 3) e) * (∑ d : Fin 2048, h (ix2 (⟨14 + r.val, by omega⟩ : Fin 1040) d) * w (ix3 (0 : Fin 1) d e))
    + k (ix3 (0 : Fin 1) (1 : Fin 3) e) * (∑ d : Fin 2048, h (ix2 (⟨15 + r.val, by omega⟩ : Fin 1040) d) * w (ix3 (0 : Fin 1) d e))
    + k (ix3 (0 : Fin 1) (2 : Fin 3) e) * (∑ d : Fin 2048, h (ix2 (⟨16 + r.val, by omega⟩ : Fin 1040) d) * w (ix3 (0 : Fin 1) d e))

theorem act_apply (h : FVec Ideal S1040x2048 .bf16) (wg wu : FVec Ideal S1x2048x512 .bf16) (cg cu : FVec Ideal S1x3x512 .f32) (bg bu : FVec Ideal S1x1x512 .f32) (r : Fin 1024) (e : Fin 512) :
    act h wg wu cg cu bg bu (ix2 r e) = taps h wg cg bg r e * Ideal.logistic (taps h wg cg bg r e) * taps h wu cu bu r e := by
  unfold taps
  pointwise [act, k0_pay12, k0_pay11, k0_pay10, k0_pay8, k0_pay9]

theorem pay1_apply (a : FVec Ideal S1024x512 .bf16) (acc : FVec Ideal S1024x2048 .f32) (w : FVec Ideal S1x512x2048 .bf16) (r : Fin 1024) (n : Fin 2048) :
    k0_pay1 (F := Ideal) a acc w (ix2 r n) = acc (ix2 r n) + ∑ e : Fin 512, a (ix2 r e) * w (ix3 (0 : Fin 1) e n) := by
  pointwise [k0_pay1]

theorem pay4_eq (x : FVec Ideal S1024x2048 .f32) : k0_pay4 (F := Ideal) x = x := by
  unfold k0_pay4
  simp only [shapeCast_self]

theorem idx (t : Fin cfg0.N) : (win0_0.index t 0 = t.val / 11 ∧ win0_0.index t 1 = 0) ∧ (win0_1.index t 0 = 64 * (t.val / 11) - 1 ∧ win0_1.index t 1 = 0)
    ∧ (win0_2.index t 0 = 3 ∧ win0_2.index t 1 = 0 ∧ win0_2.index t 2 = 0)
    ∧ (win0_3.index t 0 = 3 ∧ win0_3.index t 1 = 0 ∧ win0_3.index t 2 = t.val % 11) ∧ (win0_4.index t 0 = 3 ∧ win0_4.index t 1 = 0 ∧ win0_4.index t 2 = 11 + t.val % 11)
    ∧ (win0_5.index t 0 = 3 ∧ win0_5.index t 1 = 0 ∧ win0_5.index t 2 = t.val % 11) ∧ (win0_6.index t 0 = 3 ∧ win0_6.index t 1 = 0 ∧ win0_6.index t 2 = 11 + t.val % 11)
    ∧ (win0_7.index t 0 = 3 ∧ win0_7.index t 1 = 0 ∧ win0_7.index t 2 = t.val % 11) ∧ (win0_8.index t 0 = 3 ∧ win0_8.index t 1 = 0 ∧ win0_8.index t 2 = 11 + t.val % 11)
    ∧ (win0_9.index t 0 = 3 ∧ win0_9.index t 1 = t.val % 11 ∧ win0_9.index t 2 = 0) ∧ (win0_10.index t 0 = 0 ∧ win0_10.index t 1 = 0)
    ∧ (win0_11.index t 0 = t.val / 11 ∧ win0_11.index t 1 = 0) := by
  revert t
  decide +kernel

theorem coord (t : Fin cfg0.N) : ((grid0.coords t) 0).val = t.val / 11 := by
  revert t
  decide +kernel

theorem sgt (t : Fin cfg0.N) : Scalar.cmpi CmpIPredicate.sgt (BitVec.ofNat 32 ((grid0.coords t) 0).val) 0#32 = if 11 ≤ t.val then 1#1 else 0#1 := by
  revert t
  decide +kernel

variable (m : (ℓ : Loc nD τ sig) → Buf (Elt Ideal) ℓ) (c : Dev nD)

theorem blk0 (t : Fin cfg0.N) (r : Fin 1024) (d : Fin 2048) (h) : iblk m c 0 t (ix2 r d) = m ((c.tc : Thread nD τ).loc main_arg0) (ix3 (0 : Fin 1) (⟨1024 * (t.val / 11) + r.val, h⟩ : Fin 8192) d) := by
  blk_ext! [iblk, idx t]

theorem blk1 (t : Fin cfg0.N) (r : Fin 16) (d : Fin 2048) (h) : iblk m c 1 t (ix2 r d) = m ((c.tc : Thread nD τ).loc main_arg0) (ix3 (0 : Fin 1) (⟨16 * (64 * (t.val / 11) - 1) + r.val, h⟩ : Fin 8192) d) := by
  blk_ext! [iblk, idx t]

theorem blk2 (t : Fin cfg0.N) (d : Fin 2048) : iblk m c 2 t (ix3 (0 : Fin 1) (0 : Fin 1) d) = m ((c.tc : Thread nD τ).loc main_arg1) (ix2 (3 : Fin 4) d) := by
  blk_ext! [iblk, idx t]

theorem blk3 (t : Fin cfg0.N) (d : Fin 2048) (e : Fin 512) (h) : iblk m c 3 t (ix3 (0 : Fin 1) d e) = m ((c.tc : Thread nD τ).loc main_arg2) (ix3 (3 : Fin 4) d (⟨512 * (t.val % 11) + e.val, h⟩ : Fin 11264)) := by
  blk_ext! [iblk, idx t]

theorem blk4 (t : Fin cfg0.N) (d : Fin 2048) (e : Fin 512) (h) : iblk m c 4 t (ix3 (0 : Fin 1) d e) = m ((c.tc : Thread nD τ).loc main_arg2) (ix3 (3 : Fin 4) d (⟨5632 + (512 * (t.val % 11) + e.val), h⟩ : Fin 11264)) := by
  blk_ext! [iblk, idx t]

theorem blk5 (t : Fin cfg0.N) (k : Fin 3) (e : Fin 512) (h) : iblk m c 5 t (ix3 (0 : Fin 1) k e) = m ((c.tc : Thread nD τ).loc main_arg3) (ix3 (3 : Fin 4) k (⟨512 * (t.val % 11) + e.val, h⟩ : Fin 11264)) := by
  blk_ext! [iblk, idx t]

theorem blk6 (t : Fin cfg0.N) (k : Fin 3) (e : Fin 512) (h) : iblk m c 6 t (ix3 (0 : Fin 1) k e) = m ((c.tc : Thread nD τ).loc main_arg3) (ix3 (3 : Fin 4) k (⟨5632 + (512 * (t.val % 11) + e.val), h⟩ : Fin 11264)) := by
  blk_ext! [iblk, idx t]

theorem blk7 (t : Fin cfg0.N) (e : Fin 512) (h) : iblk m c 7 t (ix3 (0 : Fin 1) (0 : Fin 1) e) = m ((c.tc : Thread nD τ).loc main_arg4) (ix2 (3 : Fin 4) (⟨512 * (t.val % 11) + e.val, h⟩ : Fin 11264)) := by
  blk_ext! [iblk, idx t]

theorem blk8 (t : Fin cfg0.N) (e : Fin 512) (h) : iblk m c 8 t (ix3 (0 : Fin 1) (0 : Fin 1) e) = m ((c.tc : Thread nD τ).loc main_arg4) (ix2 (3 : Fin 4) (⟨5632 + (512 * (t.val % 11) + e.val), h⟩ : Fin 11264)) := by
  blk_ext! [iblk, idx t]

theorem blk9 (t : Fin cfg0.N) (e : Fin 512) (n : Fin 2048) (h) : iblk m c 9 t (ix3 (0 : Fin 1) e n) = m ((c.tc : Thread nD τ).loc main_arg5) (ix3 (3 : Fin 4) (⟨512 * (t.val % 11) + e.val, h⟩ : Fin 5632) n) := by
  blk_ext! [iblk, idx t]

theorem blk10 (t : Fin cfg0.N) (n : Fin 2048) : iblk m c 10 t (ix2 (0 : Fin 1) n) = m ((c.tc : Thread nD τ).loc main_arg6) (ix1 n) := by
  blk_ext! [iblk, idx t]

end Cert.Kernel2Ideal.Ffn
-- ==== Proof.FfnArr.lean ====
module

public import proofs.«01_k».proof.Proof.FfnVal

/-! The feed-forward call: what its buffers hold after each grid point, and the output array. -/

@[expose] public section
noncomputable section
namespace Cert.Kernel2Ideal.Ffn
open Cert.Kernel2Ideal Cert.Kernel2Ideal.Gen Idealize.ShloMosaic Idealize.ShloMosaic.TcCoe Idealize.SL.Sem
open Cert.Reference2Ideal.Ffn (rms hid up back conv term val)

section spec
variable (a0 : FVec Ideal S1x8192x2048 .f32) (a1 : FVec Ideal S4x2048 .f32) (a2 : FVec Ideal S4x2048x11264 .f32) (a3 : FVec Ideal S4x3x11264 .f32) (a4 : FVec Ideal S4x11264 .f32)

/-- Row `q` of the normalized rows that row block `b` works from: sixteen rows before the block, then the block's; zero before the first row. -/
def hrow (b q : ℕ) (d : Fin 2048) : EReal := if h : 16 ≤ 1024 * b + q ∧ 1024 * b + q < 8208 then hid a0 a1 ⟨1024 * b + q - 16, by omega⟩ d else 0

theorem sum_hrow (b q t : ℕ) (E : Fin 11264) (h : 1024 * b + q = t + 14) : ∑ d : Fin 2048, hrow a0 a1 b q d * a2 (ix3 (3 : Fin 4) d E) = back a0 a1 a2 t E := by
  unfold hrow back up
  by_cases ht : 2 ≤ t ∧ t < 8194
  · rw [dif_pos ht]
    refine Finset.sum_congr rfl fun d _ => ?_
    rw [dif_pos (by omega)]
    have e : (⟨1024 * b + q - 16, by omega⟩ : Fin 8192) = ⟨t - 2, by omega⟩ := Fin.ext (by show 1024 * b + q - 16 = t - 2; omega)
    rw [e]
  · rw [dif_neg ht]
    refine Finset.sum_eq_zero fun d _ => ?_
    rw [dif_neg (by omega), zero_mul]

theorem taps_eq (b : ℕ) (h : FVec Ideal S1040x2048 .bf16) (w : FVec Ideal S1x2048x512 .bf16) (k : FVec Ideal S1x3x512 .f32) (z : FVec Ideal S1x1x512 .f32) (r : Fin 1024) (e : Fin 512) (E : Fin 11264)
    (hh : ∀ q d, h (ix2 q d) = hrow a0 a1 b q.val d) (hw : ∀ d, w (ix3 (0 : Fin 1) d e) = a2 (ix3 (3 : Fin 4) d E)) (hk : ∀ j, k (ix3 (0 : Fin 1) j e) = a3 (ix3 (3 : Fin 4) j E)) (hz : z (ix3 (0 : Fin 1) (0 : Fin 1) e) = a4 (ix2 (3 : Fin 4) E)) :
    taps h w k z r e = conv a0 a1 a2 a3 a4 (1024 * b + r.val) E := by
  unfold taps conv
  simp only [hh, hw, hk, hz]
  rw [sum_hrow a0 a1 a2 b (14 + r.val) (1024 * b + r.val) E (by omega), sum_hrow a0 a1 a2 b (15 + r.val) (1 + (1024 * b + r.val)) E (by omega), sum_hrow a0 a1 a2 b (16 + r.val) (2 + (1024 * b + r.val)) E (by omega)]

end spec

variable (m : (ℓ : Loc nD τ sig) → Buf (Elt Ideal) ℓ) (c : Dev nD)

abbrev hrowAt := hrow (m ((c.tc : Thread nD τ).loc main_arg0)) (m ((c.tc : Thread nD τ).loc main_arg1))
abbrev convAt := conv (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
abbrev termAt := term (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
abbrev valAt := val (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))

/-- The residual. -/
def resid (t : ℕ) (n : Fin 2048) : EReal := if h : t < 8192 then m ((c.tc : Thread nD τ).loc main_arg0) (ix3 (0 : Fin 1) (⟨t, h⟩ : Fin 8192) n) else 0

/-- A row's sum over the first `k` blocks of hidden columns. -/
def part (t : ℕ) (n : Fin 2048) (k : ℕ) : EReal := resid m c t n + ∑ s ∈ Finset.range k, ∑ e : Fin 512, Blocks.ext (termAt m c t n) (512 * s + e.val)

/-- One grid point adds its block of hidden columns. -/
theorem point_apply (t : Fin cfg0.N) (h : FVec Ideal S1040x2048 .bf16) (hh : ∀ q d, h (ix2 q d) = hrowAt m c (t.val / 11) q.val d) (acc : FVec Ideal S1024x2048 .f32) (r : Fin 1024) (n : Fin 2048)
    (ha : acc (ix2 r n) = part m c (1024 * (t.val / 11) + r.val) n (t.val % 11)) :
    k0_pay1 (F := Ideal) (act h (iblk m c 3 t) (iblk m c 4 t) (iblk m c 5 t) (iblk m c 6 t) (iblk m c 7 t) (iblk m c 8 t)) acc (iblk m c 9 t) (ix2 r n) = part m c (1024 * (t.val / 11) + r.val) n (t.val % 11 + 1) := by
  rw [pay1_apply, ha]
  unfold part
  rw [Finset.sum_range_succ, ← add_assoc]
  congr 1
  refine Finset.sum_congr rfl fun e _ => ?_
  have he : 512 * (t.val % 11) + e.val < 5632 := by omega
  rw [Blocks.ext_of_lt _ _ he, act_apply, blk9 m c t e n he,
    taps_eq _ _ _ _ _ _ h _ _ _ r e ⟨512 * (t.val % 11) + e.val, by omega⟩ hh (fun d => blk3 m c t d e (by omega)) (fun j => blk5 m c t j e (by omega)) (blk7 m c t e (by omega)),
    taps_eq _ _ _ _ _ _ h _ _ _ r e ⟨5632 + (512 * (t.val % 11) + e.val), by omega⟩ hh (fun d => blk4 m c t d e (by omega)) (fun j => blk6 m c t j e (by omega)) (blk8 m c t e (by omega))]
  rfl

/-- The normalized rows the first point of a row block writes. -/
theorem start (t : Fin cfg0.N) (h0 : t.val % 11 = 0) (q : Fin 1040) (d : Fin 2048) : (outsAt0 m c t.val t.isLt).2 (ix2 q d) = hrowAt m c (t.val / 11) q.val d := by
  have hN : t.val < 88 := t.isLt
  rw [outsAt0_A m c t h0 (by omega)]
  dsimp only
  unfold hrowAt hrow
  by_cases hq : 16 ≤ q.val
  · obtain ⟨r, hr, rfl⟩ : ∃ (r : Fin 1024) (h : 16 + r.val < 1040), q = ⟨16 + r.val, h⟩ := ⟨⟨q.val - 16, by omega⟩, by show 16 + (q.val - 16) < 1040; omega, Fin.ext (by show q.val = 16 + (q.val - 16); omega)⟩
    rw [sout_rows, pay5_apply, dif_pos (by show 16 ≤ 1024 * (t.val / 11) + (16 + r.val) ∧ 1024 * (t.val / 11) + (16 + r.val) < 8208; omega)]
    unfold hid
    have e : (⟨1024 * (t.val / 11) + (16 + r.val) - 16, by omega⟩ : Fin 8192) = ⟨1024 * (t.val / 11) + r.val, by omega⟩ := Fin.ext (by show 1024 * (t.val / 11) + (16 + r.val) - 16 = 1024 * (t.val / 11) + r.val; omega)
    simp only [blk0 m c t r _ (by omega), blk2, e]
  · obtain ⟨r, hr, rfl⟩ : ∃ (r : Fin 16) (h : r.val < 1040), q = ⟨r.val, h⟩ := ⟨⟨q.val, by omega⟩, q.isLt, rfl⟩
    rw [sout_halo, pay6_apply, sgt]
    by_cases ht : 11 ≤ t.val
    · have e : (⟨1024 * (t.val / 11) + r.val - 16, by omega⟩ : Fin 8192) = ⟨16 * (64 * (t.val / 11) - 1) + r.val, by omega⟩ := Fin.ext (by show 1024 * (t.val / 11) + r.val - 16 = 16 * (64 * (t.val / 11) - 1) + r.val; omega)
      rw [if_pos ht, dif_pos (by show 16 ≤ 1024 * (t.val / 11) + r.val ∧ 1024 * (t.val / 11) + r.val < 8208; omega)]
      unfold hid
      simp only [blk1 m c t r _ (by omega), blk2, e]
      rfl
    · rw [if_neg ht, dif_neg (by show ¬(16 ≤ 1024 * (t.val / 11) + r.val ∧ 1024 * (t.val / 11) + r.val < 8208); omega)]
      rfl

/-- What the buffers hold after each grid point. -/
theorem state : ∀ (n : ℕ) (hn : n < cfg0.N),
    (∀ q d, (outsAt0 m c n hn).2 (ix2 q d) = hrowAt m c (n / 11) q.val d)
    ∧ (n % 11 ≠ 10 → ∀ r k, (outsAt0 m c n hn).1 (ix2 r k) = part m c (1024 * (n / 11) + r.val) k (n % 11 + 1))
    ∧ (n % 11 = 10 → ∀ r k, (outsAt0 m c n hn).1 (ix2 r k) = rms (fun k => part m c (1024 * (n / 11) + r.val) k 11) (fun k => m ((c.tc : Thread nD τ).loc main_arg6) (ix1 k)) k) := by
  intro n
  induction n with
  | zero =>
    intro hn
    have hs := start m c ⟨0, hn⟩ rfl
    refine ⟨hs, fun _ r k => ?_, fun h => absurd h (by decide)⟩
    have hA := outsAt0_A m c ⟨0, hn⟩ rfl (by show ¬ 0 % 11 = 10; decide)
    have hs' := hs
    rw [show outsAt0 m c 0 hn = _ from hA]
    rw [show outsAt0 m c (⟨0, hn⟩ : Fin cfg0.N).val (⟨0, hn⟩ : Fin cfg0.N).isLt = _ from hA] at hs'
    dsimp only at hs' ⊢
    rw [out_A, pay4_eq]
    refine point_apply m c ⟨0, hn⟩ _ hs' _ r k ?_
    rw [blk0 m c ⟨0, hn⟩ r k (by show 1024 * (0 / 11) + r.val < 8192; omega)]
    unfold part resid
    rw [dif_pos (by show 1024 * (0 / 11) + r.val < 8192; omega)]
    simp
  | succ n ih =>
    intro hn
    have hN : n + 1 < 88 := hn
    obtain ⟨i1, i2, i3⟩ := ih (by omega)
    by_cases h0 : (n + 1) % 11 = 0
    · have hs := start m c ⟨n + 1, hn⟩ h0
      refine ⟨hs, fun _ r k => ?_, fun h => absurd h (by omega)⟩
      have hA := outsAt0_A m c ⟨n + 1, hn⟩ h0 (by show ¬(n + 1) % 11 = 10; omega)
      have hs' := hs
      rw [show outsAt0 m c (n + 1) hn = _ from hA]
      rw [show outsAt0 m c (⟨n + 1, hn⟩ : Fin cfg0.N).val (⟨n + 1, hn⟩ : Fin cfg0.N).isLt = _ from hA] at hs'
      dsimp only at hs' ⊢
      rw [out_A, pay4_eq]
      refine point_apply m c ⟨n + 1, hn⟩ _ hs' _ r k ?_
      rw [blk0 m c ⟨n + 1, hn⟩ r k (by show 1024 * ((n + 1) / 11) + r.val < 8192; omega)]
      unfold part resid
      rw [dif_pos (by show 1024 * ((n + 1) / 11) + r.val < 8192; omega)]
      show _ = _ + ∑ s ∈ Finset.range ((n + 1) % 11), _
      rw [h0]
      simp
    · have d1 : (n + 1) / 11 = n / 11 := by omega
      have d2 : (n + 1) % 11 = n % 11 + 1 := by omega
      have hh : ∀ q d, (outsAt0 m c n (by omega)).2 (ix2 q d) = hrowAt m c ((⟨n + 1, hn⟩ : Fin cfg0.N).val / 11) q.val d := fun q d => by
        show _ = hrowAt m c ((n + 1) / 11) q.val d
        rw [d1]; exact i1 q d
      have ha : ∀ r k, (outsAt0 m c n (by omega)).1 (ix2 r k) = part m c (1024 * ((⟨n + 1, hn⟩ : Fin cfg0.N).val / 11) + r.val) k ((⟨n + 1, hn⟩ : Fin cfg0.N).val % 11) := fun r k => by
        show _ = part m c (1024 * ((n + 1) / 11) + r.val) k ((n + 1) % 11)
        rw [d1, d2]; exact i2 (by omega) r k
      by_cases h1 : (n + 1) % 11 = 10
      · have hC := outsAt0_C m c ⟨n + 1, hn⟩ h0 h1
        rw [show outsAt0 m c (n + 1) hn = _ from hC]
        refine ⟨hh, fun h => absurd h1 h, fun _ r k => ?_⟩
        dsimp only
        rw [out_C, pay2_apply]
        refine congrArg₂ (fun x g => rms x g k) (funext fun k => ?_) (funext fun k => blk10 m c ⟨n + 1, hn⟩ k)
        refine (point_apply m c ⟨n + 1, hn⟩ _ hh _ r k (ha r k)).trans ?_
        show part m c (1024 * ((n + 1) / 11) + r.val) k ((n + 1) % 11 + 1) = _
        rw [h1]
      · have hB := outsAt0_B m c ⟨n + 1, hn⟩ h0 h1
        rw [show outsAt0 m c (n + 1) hn = _ from hB]
        refine ⟨hh, fun _ r k => ?_, fun h => absurd h h1⟩
        dsimp only
        rw [out_B]
        exact point_apply m c ⟨n + 1, hn⟩ _ hh _ r k (ha r k)

theorem part_eq (t : Fin 8192) (k : Fin 2048) : part m c t.val k 11 = (show EReal from m ((c.tc : Thread nD τ).loc main_arg0) (ix3 (0 : Fin 1) t k)) + ∑ e : Fin 5632, termAt m c t.val k e := by
  unfold part resid
  rw [dif_pos t.isLt, Blocks.sum_blocks (termAt m c t.val k) 512 11 rfl]

/-- The output array. -/
theorem arr_eq (G : FVec Ideal S8192x2048 .f32) (hG : ∀ (t : Fin 8192) (n : Fin 2048), G (ix2 t n) = valAt m c t n) :
    (dats m 0 c).arrAt 11 cfg0.N = G := by
  refine (dats m 0 c).arrAt_eq_of_covers 11 G (by decide +kernel) fun t hf y => ?_
  have hN : t.val < 88 := t.isLt
  obtain ⟨i, n, rfl⟩ : ∃ (i : Fin 1024) (n : Fin 2048), y = ix2 i n := ⟨y 0, y 1, by funext a; fin_cases a <;> rfl⟩
  have hi : 1024 * (t.val / 11) + i.val < 8192 := by omega
  blk_simp
  rw [after0_11]
  have e : ((cfg0.win 11).blk t).view.emb (ix2 i n) = ix2 (⟨1024 * (t.val / 11) + i.val, hi⟩ : Fin 8192) n := by
    blk_ext [idx t]
  rw [e, hG]
  refine ((state m c t.val t.isLt).2.2 ((flush0_11 t).mp hf) i n).trans ?_
  unfold valAt val
  exact congrArg (fun x => rms x _ n) (funext fun k => part_eq m c ⟨1024 * (t.val / 11) + i.val, hi⟩ k)

end Cert.Kernel2Ideal.Ffn
-- ==== Proof.Merge.lean ====
module

public import proofs.«01_k».proof.Proof.Blocks
public import proofs.«01_k».proof.Proof.Gen.Kernel3Ideal.Value
public import proofs.«01_k».proof.Proof.Gen.Reference3Ideal.Run
public import Idealize.ShloMosaic.Lib.Pipeline.ValueKit
public import Idealize.ShloMosaic.Lib.Pointwise

/-! The gated merge: the kernel's output array and the reference's result at an index. -/

@[expose] public section
noncomputable section
namespace Cert.Kernel3Ideal.Merge
open Cert.Kernel3Ideal Cert.Kernel3Ideal.Gen Idealize.ShloMosaic Idealize.ShloMosaic.TcCoe Idealize.SL.Sem

/-- One grid point adds to each row of the output its gated columns times the rows of the output weights. -/
theorem pay2_apply (a r : FVec Ideal S512x2048 .bf16) (wa wb : FVec Ideal S1x2048x512 .bf16) (ga gb : FVec Ideal S512x512 .bf16) (acc : FVec Ideal S512x2048 .f32) (wo : FVec Ideal S1x512x2048 .bf16) (i : Fin 512) (n : Fin 2048) :
    k0_pay2 (F := Ideal) a wa r wb ga gb acc wo (ix2 i n) = acc (ix2 i n) + ∑ e : Fin 512, (ga (ix2 i e) * (∑ d : Fin 2048, a (ix2 i d) * wa (ix3 (0 : Fin 1) d e)) + gb (ix2 i e) * (∑ d : Fin 2048, r (ix2 i d) * wb (ix3 (0 : Fin 1) d e))) * wo (ix3 (0 : Fin 1) e n) := by
  pointwise [k0_pay2]

theorem pay1_eq (x : FVec Ideal S512x2048 .f32) : k0_pay1 (F := Ideal) x = x := by
  unfold k0_pay1
  simp only [shapeCast_self]

theorem idx (t : Fin cfg0.N) : (win0_0.index t 0 = t.val / 4 ∧ win0_0.index t 1 = 0) ∧ (win0_1.index t 0 = t.val / 4 ∧ win0_1.index t 1 = 0)
    ∧ (win0_2.index t 0 = t.val / 4 ∧ win0_2.index t 1 = t.val % 4) ∧ (win0_3.index t 0 = t.val / 4 ∧ win0_3.index t 1 = t.val % 4)
    ∧ (win0_4.index t 0 = 3 ∧ win0_4.index t 1 = 0 ∧ win0_4.index t 2 = t.val % 4) ∧ (win0_5.index t 0 = 3 ∧ win0_5.index t 1 = 0 ∧ win0_5.index t 2 = t.val % 4)
    ∧ (win0_6.index t 0 = 3 ∧ win0_6.index t 1 = t.val % 4 ∧ win0_6.index t 2 = 0) ∧ (win0_7.index t 0 = t.val / 4 ∧ win0_7.index t 1 = 0)
    ∧ (win0_8.index t 0 = t.val / 4 ∧ win0_8.index t 1 = 0) := by
  revert t
  decide +kernel

variable (m : (ℓ : Loc nD τ sig) → Buf (Elt Ideal) ℓ) (c : Dev nD)

theorem blk0 (t : Fin cfg0.N) (i : Fin 512) (d : Fin 2048) (hi) : iblk m c 0 t (ix2 i d) = m ((c.tc : Thread nD τ).loc main_arg0) (ix3 (0 : Fin 1) (⟨512 * (t.val / 4) + i.val, hi⟩ : Fin 8192) d) := by
  blk_ext! [iblk, idx t]

theorem blk1 (t : Fin cfg0.N) (i : Fin 512) (d : Fin 2048) (hi) : iblk m c 1 t (ix2 i d) = m ((c.tc : Thread nD τ).loc main_arg1) (ix3 (0 : Fin 1) (⟨512 * (t.val / 4) + i.val, hi⟩ : Fin 8192) d) := by
  blk_ext! [iblk, idx t]

theorem blk2 (t : Fin cfg0.N) (i : Fin 512) (d : Fin 512) (hi hd) : iblk m c 2 t (ix2 i d) = m ((c.tc : Thread nD τ).loc main_arg2) (ix3 (0 : Fin 1) (⟨512 * (t.val / 4) + i.val, hi⟩ : Fin 8192) (⟨512 * (t.val % 4) + d.val, hd⟩ : Fin 2048)) := by
  blk_ext! [iblk, idx t]

theorem blk3 (t : Fin cfg0.N) (i : Fin 512) (d : Fin 512) (hi hd) : iblk m c 3 t (ix2 i d) = m ((c.tc : Thread nD τ).loc main_arg3) (ix3 (0 : Fin 1) (⟨512 * (t.val / 4) + i.val, hi⟩ : Fin 8192) (⟨512 * (t.val % 4) + d.val, hd⟩ : Fin 2048)) := by
  blk_ext! [iblk, idx t]

theorem blk4 (t : Fin cfg0.N) (d : Fin 2048) (e : Fin 512) (he) : iblk m c 4 t (ix3 (0 : Fin 1) d e) = m ((c.tc : Thread nD τ).loc main_arg4) (ix3 (3 : Fin 4) d (⟨512 * (t.val % 4) + e.val, he⟩ : Fin 2048)) := by
  blk_ext! [iblk, idx t]

theorem blk5 (t : Fin cfg0.N) (d : Fin 2048) (e : Fin 512) (he) : iblk m c 5 t (ix3 (0 : Fin 1) d e) = m ((c.tc : Thread nD τ).loc main_arg5) (ix3 (3 : Fin 4) d (⟨512 * (t.val % 4) + e.val, he⟩ : Fin 2048)) := by
  blk_ext! [iblk, idx t]

theorem blk6 (t : Fin cfg0.N) (e : Fin 512) (n : Fin 2048) (he) : iblk m c 6 t (ix3 (0 : Fin 1) e n) = m ((c.tc : Thread nD τ).loc main_arg6) (ix3 (3 : Fin 4) (⟨512 * (t.val % 4) + e.val, he⟩ : Fin 2048) n) := by
  blk_ext! [iblk, idx t]

theorem blk7 (t : Fin cfg0.N) (i : Fin 512) (d : Fin 2048) (hi) : iblk m c 7 t (ix2 i d) = m ((c.tc : Thread nD τ).loc main_arg7) (ix3 (0 : Fin 1) (⟨512 * (t.val / 4) + i.val, hi⟩ : Fin 8192) d) := by
  blk_ext! [iblk, idx t]

/-- The sum over the gated columns that the output weights take to column `n`, one term for each. -/
def term (a0 a1 a2 a3 : FVec Ideal S1x8192x2048 .f32) (a4 a5 a6 : FVec Ideal S4x2048x2048 .f32) (r : Fin 8192) (n e : Fin 2048) : EReal :=
  (a2 (ix3 (0 : Fin 1) r e) * (∑ d : Fin 2048, a0 (ix3 (0 : Fin 1) r d) * a4 (ix3 (3 : Fin 4) d e)) + a3 (ix3 (0 : Fin 1) r e) * (∑ d : Fin 2048, a1 (ix3 (0 : Fin 1) r d) * a5 (ix3 (3 : Fin 4) d e))) * a6 (ix3 (3 : Fin 4) e n)

abbrev termAt := term (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))

/-- What grid point `k` adds at a place of its block. -/
def addend (k : ℕ) (y : S512x2048.Idx) : EReal :=
  if h : 512 * (k / 4) + (y 0).val < 8192 then ∑ e : Fin 512, Blocks.ext (termAt m c ⟨_, h⟩ (y 1)) (512 * (k % 4) + e.val) else 0

theorem point_apply (t : Fin cfg0.N) (acc : FVec Ideal S512x2048 .f32) (y : S512x2048.Idx) :
    k0_pay2 (F := Ideal) (iblk m c 0 t) (iblk m c 4 t) (iblk m c 1 t) (iblk m c 5 t) (iblk m c 2 t) (iblk m c 3 t) acc (iblk m c 6 t) y = acc y + addend m c t.val y := by
  have ht : t.val < 64 := t.isLt
  obtain ⟨i, n, rfl⟩ : ∃ (i : Fin 512) (n : Fin 2048), y = ix2 i n := ⟨y 0, y 1, by funext a; fin_cases a <;> rfl⟩
  have hi : 512 * (t.val / 4) + i.val < 8192 := by omega
  rw [pay2_apply]
  congr 1
  unfold addend
  rw [dif_pos (show 512 * (t.val / 4) + ((ix2 i n : S512x2048.Idx) 0).val < 8192 from hi)]
  refine Finset.sum_congr rfl fun e _ => ?_
  have he : 512 * (t.val % 4) + e.val < 2048 := by omega
  rw [Blocks.ext_of_lt _ _ he, blk2 m c t i e hi he, blk3 m c t i e hi he, blk6 m c t e n he]
  simp only [blk0 m c t i _ hi, blk1 m c t i _ hi, blk4 m c t _ e he, blk5 m c t _ e he]
  rfl

/-- After the last grid point of a row block the buffer holds the residual plus the whole sum. -/
theorem out_apply (t : Fin cfg0.N) (ht : t.val % 4 = 3) (i : Fin 512) (n : Fin 2048) (hi : 512 * (t.val / 4) + i.val < 8192) :
    outsAt0 m c t.val t.isLt (ix2 i n) = (show EReal from m ((c.tc : Thread nD τ).loc main_arg7) (ix3 (0 : Fin 1) (⟨512 * (t.val / 4) + i.val, hi⟩ : Fin 8192) n))
      + ∑ e : Fin 2048, termAt m c ⟨512 * (t.val / 4) + i.val, hi⟩ n e := by
  have hN : t.val < 64 := t.isLt
  have hb : 4 * (t.val / 4) < cfg0.N := by show _ < 64; omega
  rw [Value.outsAt_8_eq]
  rw [Pipeline.accAt_add_apply (Value.reset8 m c) (Value.step8 m c) (iblk m c 7 ⟨4 * (t.val / 4), hb⟩) (addend m c) (4 * (t.val / 4)) 3
    (fun h y => (point_apply m c ⟨_, h⟩ _ y).trans (by rw [pay1_eq])) (fun k h acc y _ _ => point_apply m c ⟨k, h⟩ acc y) (t.val % 4) (by omega) _ (ix2 i n)]
  rw [blk7 m c ⟨4 * (t.val / 4), hb⟩ i n (by show 512 * (4 * (t.val / 4) / 4) + i.val < 8192; omega), ht]
  have e4 : ∀ s, s < 4 → (4 * (t.val / 4) + s) / 4 = t.val / 4 ∧ (4 * (t.val / 4) + s) % 4 = s := fun s hs => by omega
  congr 1
  · congr 2
    apply Fin.ext
    show 512 * (4 * (t.val / 4) / 4) + i.val = 512 * (t.val / 4) + i.val
    omega
  · rw [← Blocks.sum_blocks (termAt m c ⟨512 * (t.val / 4) + i.val, hi⟩ n) 512 4 rfl]
    refine Finset.sum_congr rfl fun s hs => ?_
    have hs := Finset.mem_range.mp hs
    unfold addend
    have h : 512 * ((4 * (t.val / 4) + s) / 4) + i.val < 8192 := by rw [(e4 s hs).1]; exact hi
    refine (dif_pos (show 512 * ((4 * (t.val / 4) + s) / 4) + ((ix2 i n : S512x2048.Idx) 0).val < 8192 from h)).trans ?_
    rw [(e4 s hs).2]
    refine Finset.sum_congr rfl fun e _ => ?_
    congr 2
    apply Fin.ext
    show 512 * ((4 * (t.val / 4) + s) / 4) + i.val = 512 * (t.val / 4) + i.val
    rw [(e4 s hs).1]

/-- The output array. -/
theorem arr_eq (G : FVec Ideal S8192x2048 .f32)
    (hG : ∀ (r : Fin 8192) (n : Fin 2048), G (ix2 r n) = (show EReal from m ((c.tc : Thread nD τ).loc main_arg7) (ix3 (0 : Fin 1) r n)) + ∑ e : Fin 2048, termAt m c r n e) :
    (dats m 0 c).arrAt 8 cfg0.N = G := by
  refine (dats m 0 c).arrAt_eq_of_covers 8 G (by decide +kernel) fun t hf y => ?_
  have hN : t.val < 64 := t.isLt
  obtain ⟨i, n, rfl⟩ : ∃ (i : Fin 512) (n : Fin 2048), y = ix2 i n := ⟨y 0, y 1, by funext a; fin_cases a <;> rfl⟩
  have hi : 512 * (t.val / 4) + i.val < 8192 := by omega
  blk_simp
  rw [after0_8]
  have e : ((cfg0.win 8).blk t).view.emb (ix2 i n) = ix2 (⟨512 * (t.val / 4) + i.val, hi⟩ : Fin 8192) n := by
    blk_ext [idx t]
  rw [e, hG]
  exact out_apply m c t ((flush0_8 t).mp hf) i n hi

end Cert.Kernel3Ideal.Merge

namespace Cert.Reference3Ideal.Merge
open Cert.Reference3Ideal Cert.Reference3Ideal.Gen Cert.Reference3Ideal.Facts Idealize.ShloMosaic Idealize.ShloMosaic.TcCoe Idealize.SL.Sem

/-- The reference's result as one expression in its arguments. -/
def out (a0 a1 a2 a3 : FVec Ideal S1x8192x2048 .f32) (a4 a5 a6 : FVec Ideal S4x2048x2048 .f32) (a7 : FVec Ideal S1x8192x2048 .f32) : FVec Ideal S8192x2048 .f32 :=
  shapeCast _ (addf a7 (Host.dotGeneral dot_S1x8192x2048_S2048x2048_S1x8192x2048_2_0_01_1_n_n none (addf (mulf a2 (Host.dotGeneral dot_S1x8192x2048_S2048x2048_S1x8192x2048_2_0_01_1_n_n none a0 (shapeCast _ (extractStridedSlice S1x2048x2048 ![3, 0, 0] a4 slices_S4x2048x2048_S1x2048x2048_3_0_0) shapeCasts_S1x2048x2048_S2048x2048))) (mulf a3 (Host.dotGeneral dot_S1x8192x2048_S2048x2048_S1x8192x2048_2_0_01_1_n_n none a1 (shapeCast _ (extractStridedSlice S1x2048x2048 ![3, 0, 0] a5 slices_S4x2048x2048_S1x2048x2048_3_0_0) shapeCasts_S1x2048x2048_S2048x2048)))) (shapeCast _ (extractStridedSlice S1x2048x2048 ![3, 0, 0] a6 slices_S4x2048x2048_S1x2048x2048_3_0_0) shapeCasts_S1x2048x2048_S2048x2048))) shapeCasts_S1x8192x2048_S8192x2048

theorem out_apply (a0 a1 a2 a3 : FVec Ideal S1x8192x2048 .f32) (a4 a5 a6 : FVec Ideal S4x2048x2048 .f32) (a7 : FVec Ideal S1x8192x2048 .f32) (r : Fin 8192) (n : Fin 2048) :
    out a0 a1 a2 a3 a4 a5 a6 a7 (ix2 r n) = a7 (ix3 (0 : Fin 1) r n) + ∑ e : Fin 2048, Cert.Kernel3Ideal.Merge.term a0 a1 a2 a3 a4 a5 a6 r n e := by
  unfold out Cert.Kernel3Ideal.Merge.term
  pointwise

end Cert.Reference3Ideal.Merge
end
-- ==== Proof.In2Ref.lean ====
module

public import proofs.«01_k».proof.Proof.Gen.Reference4Ideal.Run
public import proofs.«01_k».proof.Proof.Ref
public import Idealize.ShloMosaic.Lib.Routing.OpsOne
public import Idealize.ShloMosaic.Lib.Pointwise

/-! The reference of the second input projection, written out: what each of its six results holds at a row and a column. -/

@[expose] public section
noncomputable section
namespace Cert.Reference4Ideal.In2
open Cert.Reference4Ideal Cert.Reference4Ideal.Gen Cert.Reference4Ideal.Facts Cert.Reference4Ideal.Value Idealize.ShloMosaic Idealize.ShloMosaic.TcCoe Idealize.SL.Sem

section spec

/-- A column's maximum, taken from minus infinity. -/
def top (x : Fin 4 → EReal) : EReal := Finset.fold max (Ideal.ofBits .f32 0xFF800000#32) x Finset.univ

/-- The softmax of a column of four logits. -/
def soft (x : Fin 4 → EReal) (k : Fin 4) : EReal := Ideal.div (Ideal.exp (x k - top x)) (∑ l, Ideal.exp (x l - top x))

/-- The last layer's lower bound of the forget gate: the softmax summed over the layers, less its first term. -/
def lowb (x : Fin 4 → EReal) : EReal := (∑ k, soft x k) - soft x 0

/-- The forget gate, from the lower bound and the projection. -/
def forget (b x : EReal) : EReal := b + (1 - b) * Ideal.logistic x

/-- `silu`. -/
def silu (x : EReal) : EReal := x * Ideal.logistic x

variable (a0 : FVec Ideal S1x8192x2048 .bf16) (a1 : FVec Ideal S4x2048x13376 .f32)

/-- Row `t`, column `k` of the wide projection, counted from its first column after the low-rank ones. -/
def proj (t : Fin 8192) (k : Fin 12288) : EReal := ∑ d : Fin 2048, a0 (ix3 (0 : Fin 1) t d) * a1 (ix3 (3 : Fin 4) d (⟨1088 + k.val, by omega⟩ : Fin 13376))

end spec

/-- Column `n` of part `s` of the wide projection. -/
def col (s : Fin 6) (n : Fin 2048) : Fin 12288 := ⟨2048 * s.val + n.val, by omega⟩

section stages

def projArr (a0 : FVec Ideal S1x8192x2048 .bf16) (a1 : FVec Ideal S4x2048x13376 .f32) : FVec Ideal S1x8192x12288 .f32 :=
  extractStridedSlice S1x8192x12288 ![0, 0, 1088] (Host.dotGeneral dot_S1x8192x2048_S2048x13376_S1x8192x13376_2_0_01_1_n_n none a0 (shapeCast _ (extractStridedSlice S1x2048x13376 ![3, 0, 0] a1 slices_S4x2048x13376_S1x2048x13376_3_0_0) shapeCasts_S1x2048x13376_S2048x13376)) slices_S1x8192x13376_S1x8192x12288_0_0_1088

theorem proj_apply (a0 : FVec Ideal S1x8192x2048 .bf16) (a1 : FVec Ideal S4x2048x13376 .f32) (t : Fin 8192) (k : Fin 12288) : projArr a0 a1 (ix3 (0 : Fin 1) t k) = proj a0 a1 t k := by
  unfold projArr proj
  pointwise

def expArr (l : FVec Ideal S4x2048 .f32) : FVec Ideal S4x2048 .f32 :=
  Host.exp (subf l (broadcastInDim S4x2048 ![0, 1] bcast_S1x2048_S4x2048_0_1 (broadcastInDim S1x2048 ![1] bcast_S2048_S1x2048_1 (maximumf (broadcastInDim S2048 ![] bcast_S_S2048 (constant S_ .f32 0xFF800000#32)) (Host.reduce FloatOps.maximumf l (constant S_ .f32 0xFF800000#32) reducesTo_S4x2048_S2048_d0 h_S_)))))

theorem exp_apply (l : FVec Ideal S4x2048 .f32) (r : Fin 4) (e : Fin 2048) : expArr l (ix2 r e) = Ideal.exp (l (ix2 r e) - top fun k => l (ix2 k e)) := by
  have h : max (Ideal.ofBits .f32 0xFF800000#32) (top fun k => l (ix2 k e)) = top fun k => l (ix2 k e) := by
    rw [show Ideal.ofBits .f32 0xFF800000#32 = (⊥ : EReal) by simp [Ideal.ofBits]; decide]
    exact max_eq_right bot_le
  refine Eq.trans ?_ (congrArg (fun y => Ideal.exp (l (ix2 r e) - y)) h)
  unfold expArr top
  pointwise

def softArr (x : FVec Ideal S4x2048 .f32) : FVec Ideal S4x2048 .f32 :=
  Host.divf x (broadcastInDim S4x2048 ![0, 1] bcast_S1x2048_S4x2048_0_1 (broadcastInDim S1x2048 ![1] bcast_S2048_S1x2048_1 (Host.reduceAdd x (constant S_ .f32 0x00000000#32) reducesTo_S4x2048_S2048_d0 h_S_)))

theorem soft_apply (l : FVec Ideal S4x2048 .f32) (r : Fin 4) (e : Fin 2048) : softArr (expArr l) (ix2 r e) = soft (fun k => l (ix2 k e)) r := by
  unfold soft
  simp only [← exp_apply]
  generalize expArr l = x
  unfold softArr
  pointwise

def sumArr (x : FVec Ideal S4x2048 .f32) : FVec Ideal S4x2048 .f32 :=
  Host.reduceWindowAdd ![4, 1] ![1, 1] ![3, 0] ![0, 0] x (broadcastInDim S_ ![] bcast_S_S_ (constant S_ .f32 0x00000000#32)) reduceWindows_S4x2048_S4x2048_w4s1p3_0_w1s1p0_0 h_S_

theorem foldl_four (h : Fin 4 → EReal) : ∀ {N : ℕ} (hN : N = 4), List.foldl (fun r n => r + h (Fin.cast hN n)) 0 (List.finRange N) = ∑ k, h k := by
  intro N hN
  subst hN
  rw [Fin.sum_univ_four]
  simp [List.finRange_succ]

/-- The last row of the running sums is the sum of all rows. -/
theorem sum_apply (x : FVec Ideal S4x2048 .f32) (e : Fin 2048) : sumArr x (ix2 (3 : Fin 4) e) = ∑ k, x (ix2 k e) := by
  have hi : broadcastInDim S_ ![] bcast_S_S_ (constant (F := Ideal) S_ .f32 0x00000000#32) (Shape.Idx.first h_S_) = (0 : EReal) := by
    rw [show Shape.Idx.first h_S_ = (ix0 : S_.Idx) from funext fun a => a.elim0]
    pointwise
  show Ideal.hostReduceWindowAdd ![4, 1] ![1, 1] ![3, 0] ![0, 0] reduceWindows_S4x2048_S4x2048_w4s1p3_0_w1s1p0_0 x (broadcastInDim S_ ![] bcast_S_S_ (constant (F := Ideal) S_ .f32 0x00000000#32) (Shape.Idx.first h_S_)) (ix2 (3 : Fin 4) e) = _
  rw [hi]
  unfold Ideal.hostReduceWindowAdd Host.reduceWindow
  dsimp only
  refine Eq.trans ?_ (foldl_four (fun k => x (ix2 k e)) (Routing.numel_col 4))
  refine congrArg (fun f => List.foldl f 0 _) (funext fun r => funext fun n => congrArg (r + ·) ?_)
  have hw0 : ((Routing.shape2 4 1).rowMajor.symm n 0).val = n.val := by rw [Routing.symm_col]; rfl
  have hw1 : ((Routing.shape2 4 1).rowMajor.symm n 1).val = 0 := by rw [Routing.symm_col]; rfl
  have hn : n.val < 4 := (n.cast (Routing.numel_col 4)).isLt
  rw [dif_pos fun a => by
    match a with
    | ⟨0, _⟩ =>
      show 3 ≤ 3 * 1 + ((Routing.shape2 4 1).rowMajor.symm n 0).val ∧ 3 * 1 + ((Routing.shape2 4 1).rowMajor.symm n 0).val - 3 < 4
      rw [hw0]
      omega
    | ⟨1, _⟩ =>
      show 0 ≤ e.val * 1 + ((Routing.shape2 4 1).rowMajor.symm n 1).val ∧ e.val * 1 + ((Routing.shape2 4 1).rowMajor.symm n 1).val - 0 < 2048
      rw [hw1]
      omega]
  refine congrArg x (funext fun a => Fin.ext ?_)
  match a with
  | ⟨0, _⟩ =>
    show 3 * 1 + ((Routing.shape2 4 1).rowMajor.symm n 0).val - 3 = n.val
    rw [hw0]
    omega
  | ⟨1, _⟩ =>
    show e.val * 1 + ((Routing.shape2 4 1).rowMajor.symm n 1).val - 0 = e.val
    rw [hw1]
    omega

def lowbArr (s p : FVec Ideal S4x2048 .f32) : FVec Ideal S2048 .f32 :=
  shapeCast S2048 (extractStridedSlice S1x2048 ![3, 0] (subf s (broadcastInDim S4x2048 ![0, 1] bcast_S1x2048_S4x2048_0_1 (broadcastInDim S1x2048 ![1] bcast_S2048_S1x2048_1 (shapeCast S2048 (extractStridedSlice S1x2048 ![0, 0] p slices_S4x2048_S1x2048_0_0) shapeCasts_S1x2048_S2048)))) slices_S4x2048_S1x2048_3_0) shapeCasts_S1x2048_S2048

theorem lowb_apply (l : FVec Ideal S4x2048 .f32) (e : Fin 2048) : lowbArr (sumArr (softArr (expArr l))) (softArr (expArr l)) (ix1 e) = lowb fun k => l (ix2 k e) := by
  have h : ∀ s p : FVec Ideal S4x2048 .f32, lowbArr s p (ix1 e) = s (ix2 (3 : Fin 4) e) - p (ix2 (0 : Fin 4) e) := fun s p => by
    unfold lowbArr
    pointwise
  rw [h, sum_apply]
  simp only [soft_apply]
  rfl

/-- `1 / (1 + exp (-x))`, as the reference writes it. -/
def sigArr (x : FVec Ideal S1x8192x2048 .f32) : FVec Ideal S1x8192x2048 .f32 :=
  Host.divf (broadcastInDim S1x8192x2048 ![] bcast_S_S1x8192x2048 (constant S_ .f32 0x3F800000#32)) (addf (broadcastInDim S1x8192x2048 ![] bcast_S_S1x8192x2048 (constant S_ .f32 0x3F800000#32)) (Host.exp (Host.negf x)))

theorem sig_apply (x : FVec Ideal S1x8192x2048 .f32) (t : Fin 8192) (n : Fin 2048) : sigArr x (ix3 (0 : Fin 1) t n) = Ideal.logistic (x (ix3 (0 : Fin 1) t n)) := by
  unfold sigArr Ideal.logistic
  pointwise

theorem cast_apply (x : FVec Ideal S1x8192x2048 .f32) (t : Fin 8192) (n : Fin 2048) : (truncf .bf16 (shapeCast S8192x2048 x shapeCasts_S1x8192x2048_S8192x2048) bitsLt_bf16_f32 : FVec Ideal S8192x2048 .bf16) (ix2 t n) = x (ix3 (0 : Fin 1) t n) := by
  pointwise

/-- `silu` of a slice of the projection. -/
def siluArr (x : FVec Ideal S1x8192x2048 .f32) : FVec Ideal S8192x2048 .bf16 :=
  truncf .bf16 (shapeCast S8192x2048 (mulf x (sigArr x)) shapeCasts_S1x8192x2048_S8192x2048) bitsLt_bf16_f32

theorem silu_apply (x : FVec Ideal S1x8192x2048 .f32) (t : Fin 8192) (n : Fin 2048) : siluArr x (ix2 t n) = silu (x (ix3 (0 : Fin 1) t n)) := by
  unfold siluArr
  rw [cast_apply]
  exact congrArg (x (ix3 (0 : Fin 1) t n) * ·) (sig_apply x t n)

/-- The sigmoid of a slice of the projection. -/
def gateArr (x : FVec Ideal S1x8192x2048 .f32) : FVec Ideal S8192x2048 .bf16 :=
  truncf .bf16 (shapeCast S8192x2048 (sigArr x) shapeCasts_S1x8192x2048_S8192x2048) bitsLt_bf16_f32

theorem gate_apply (x : FVec Ideal S1x8192x2048 .f32) (t : Fin 8192) (n : Fin 2048) : gateArr x (ix2 t n) = Ideal.logistic (x (ix3 (0 : Fin 1) t n)) := by
  unfold gateArr
  rw [cast_apply, sig_apply]

def forgetArr (b : FVec Ideal S2048 .f32) (x : FVec Ideal S1x8192x2048 .f32) : FVec Ideal S8192x2048 .f32 :=
  shapeCast S8192x2048 (addf (broadcastInDim S1x8192x2048 ![0, 1, 2] bcast_S1x1x2048_S1x8192x2048_0_1_2 (broadcastInDim S1x1x2048 ![2] bcast_S2048_S1x1x2048_2 b)) (mulf (broadcastInDim S1x8192x2048 ![0, 1, 2] bcast_S1x1x2048_S1x8192x2048_0_1_2 (broadcastInDim S1x1x2048 ![2] bcast_S2048_S1x1x2048_2 (subf (broadcastInDim S2048 ![] bcast_S_S2048 (constant S_ .f32 0x3F800000#32)) b))) (sigArr x))) shapeCasts_S1x8192x2048_S8192x2048

theorem forget_apply (b : FVec Ideal S2048 .f32) (x : FVec Ideal S1x8192x2048 .f32) (t : Fin 8192) (n : Fin 2048) : forgetArr b x (ix2 t n) = forget (b (ix1 n)) (x (ix3 (0 : Fin 1) t n)) := by
  unfold forget
  rw [← sig_apply]
  unfold forgetArr
  generalize sigArr x = y
  pointwise

variable (a0 : FVec Ideal S1x8192x2048 .bf16) (a1 : FVec Ideal S4x2048x13376 .f32)

theorem part_apply (s : Fin 6) (hs : S1x8192x12288.Slices ![0, 0, 2048 * s.val] S1x8192x2048) (t : Fin 8192) (n : Fin 2048) : extractStridedSlice S1x8192x2048 ![0, 0, 2048 * s.val] (projArr a0 a1) hs (ix3 (0 : Fin 1) t n) = proj a0 a1 t (col s n) := by
  rw [← proj_apply]
  generalize projArr a0 a1 = P
  unfold col
  pointwise

end stages

section results
variable (a0 : FVec Ideal S1x8192x2048 .bf16) (a1 : FVec Ideal S4x2048x13376 .f32) (a2 : FVec Ideal S4x2048 .f32)

/-- Part `s` of the wide projection. -/
def sliceArr (s : Fin 6) (hs : S1x8192x12288.Slices ![0, 0, 2048 * s.val] S1x8192x2048) : FVec Ideal S1x8192x2048 .f32 :=
  extractStridedSlice S1x8192x2048 ![0, 0, 2048 * s.val] (projArr a0 a1) hs

/-- The result that takes `silu` of part `s`. -/
theorem silu_part (s : Fin 6) (hs) (t : Fin 8192) (n : Fin 2048) : siluArr (sliceArr a0 a1 s hs) (ix2 t n) = silu (proj a0 a1 t (col s n)) :=
  (silu_apply _ t n).trans (congrArg silu (part_apply a0 a1 s hs t n))

/-- The result that takes the sigmoid of part `s`. -/
theorem gate_part (s : Fin 6) (hs) (t : Fin 8192) (n : Fin 2048) : gateArr (sliceArr a0 a1 s hs) (ix2 t n) = Ideal.logistic (proj a0 a1 t (col s n)) :=
  (gate_apply _ t n).trans (congrArg Ideal.logistic (part_apply a0 a1 s hs t n))

/-- The result that takes part `s` as it is. -/
def plainArr (x : FVec Ideal S1x8192x2048 .f32) : FVec Ideal S8192x2048 .bf16 :=
  truncf .bf16 (shapeCast S8192x2048 x shapeCasts_S1x8192x2048_S8192x2048) bitsLt_bf16_f32

theorem plain_part (s : Fin 6) (hs) (t : Fin 8192) (n : Fin 2048) : plainArr (sliceArr a0 a1 s hs) (ix2 t n) = proj a0 a1 t (col s n) :=
  (cast_apply _ t n).trans (part_apply a0 a1 s hs t n)

/-- The forget gates. -/
def forgets (hs : S1x8192x12288.Slices ![0, 0, 2048 * (1 : Fin 6).val] S1x8192x2048) : FVec Ideal S8192x2048 .f32 :=
  forgetArr (lowbArr (sumArr (softArr (expArr a2))) (softArr (expArr a2))) (sliceArr a0 a1 1 hs)

theorem forget_part (hs) (t : Fin 8192) (n : Fin 2048) : forgets a0 a1 a2 hs (ix2 t n) = forget (lowb fun k => a2 (ix2 k n)) (proj a0 a1 t (col 1 n)) :=
  (forget_apply _ _ t n).trans (congrArg₂ forget (lowb_apply a2 n) (part_apply a0 a1 1 hs t n))

end results

theorem res_eq (m : (ℓ : Loc nD τ sig) → Buf (Elt Ideal) ℓ) (c : Dev nD) : res_main_v46 (F := Ideal) m c = forgets (m ((c.tc : Thread nD τ).loc main_arg0)) (m ((c.tc : Thread nD τ).loc main_arg1)) (m ((c.tc : Thread nD τ).loc main_arg2)) slices_S1x8192x12288_S1x8192x2048_0_0_2048 := rfl

end Cert.Reference4Ideal.In2
-- ==== Proof.In2.lean ====
module

public import proofs.«01_k».proof.Proof.Gen.Kernel4Ideal.Value
public import proofs.«01_k».proof.Proof.In2Ref
public import Idealize.ShloMosaic.Lib.Pipeline.ValueKit
public import Idealize.ShloMosaic.Lib.Pointwise

/-! The second input projection: what one grid point computes. -/

@[expose] public section
noncomputable section
namespace Cert.Kernel4Ideal.In2
open Cert.Kernel4Ideal Cert.Kernel4Ideal.Gen Idealize.ShloMosaic Idealize.ShloMosaic.TcCoe Idealize.SL.Sem
open Cert.Reference4Ideal.In2 (top soft lowb forget silu)

theorem hz2 : (![0, 0] : Fin 2 → Nat) = fun _ => 0 := funext fun a => by fin_cases a <;> rfl
theorem hz3 : (![0, 0, 0] : Fin 3 → Nat) = fun _ => 0 := funext fun a => by fin_cases a <;> rfl

theorem readCov_ld {Val : EltTy → Type} [∀ e, Nonempty (Val e)] {κ : Kind} {sp : Space} {s : Shape} {e : EltTy} (v : View sig κ sp s e) (L : List (View.Piece Val s e)) (r : Rect s) :
    v.readCov L r.toLoadRect = View.ld (View.canon L) r := by
  rw [View.readCov_eq_canon']

/-- Slab 0 of the six kept column blocks. -/
def slab0 (x : Vec Ideal S6x256x2048 .bf16) : FVec Ideal S1x256x2048 .bf16 := View.ld (Val := Elt Ideal) (e' := .bf16) x (Rect.unit (s := S6x256x2048) ![0, 0, 0] S1x256x2048.size inb_S6x256x2048_S1x256x2048_0_0_0)

/-- Slab 1 of the six kept column blocks. -/
def slab1 (x : Vec Ideal S6x256x2048 .bf16) : FVec Ideal S1x256x2048 .bf16 := View.ld (Val := Elt Ideal) (e' := .bf16) x (Rect.unit (s := S6x256x2048) ![1, 0, 0] S1x256x2048.size inb_S6x256x2048_S1x256x2048_1_0_0)

/-- Slab 2 of the six kept column blocks. -/
def slab2 (x : Vec Ideal S6x256x2048 .bf16) : FVec Ideal S1x256x2048 .bf16 := View.ld (Val := Elt Ideal) (e' := .bf16) x (Rect.unit (s := S6x256x2048) ![2, 0, 0] S1x256x2048.size inb_S6x256x2048_S1x256x2048_2_0_0)

/-- Slab 3 of the six kept column blocks. -/
def slab3 (x : Vec Ideal S6x256x2048 .bf16) : FVec Ideal S1x256x2048 .bf16 := View.ld (Val := Elt Ideal) (e' := .bf16) x (Rect.unit (s := S6x256x2048) ![3, 0, 0] S1x256x2048.size inb_S6x256x2048_S1x256x2048_3_0_0)

/-- Slab 4 of the six kept column blocks. -/
def slab4 (x : Vec Ideal S6x256x2048 .bf16) : FVec Ideal S1x256x2048 .bf16 := View.ld (Val := Elt Ideal) (e' := .bf16) x (Rect.unit (s := S6x256x2048) ![4, 0, 0] S1x256x2048.size inb_S6x256x2048_S1x256x2048_4_0_0)

/-- Slab 5 of the six kept column blocks. -/
def slab5 (x : Vec Ideal S6x256x2048 .bf16) : FVec Ideal S1x256x2048 .bf16 := View.ld (Val := Elt Ideal) (e' := .bf16) x (Rect.unit (s := S6x256x2048) ![5, 0, 0] S1x256x2048.size inb_S6x256x2048_S1x256x2048_5_0_0)

/-- The six column blocks as the first grid point of a column block keeps them. -/
def kept (x1 x2 x3 x4 x5 x6 : Vec Ideal S1x256x2048 .f32) : Vec Ideal S6x256x2048 .bf16 :=
  View.canon (Val := Elt Ideal) (e := .bf16) [⟨Rect.unit (s := S6x256x2048) ![5, 0, 0] S1x256x2048.size inb_S6x256x2048_S1x256x2048_5_0_0, k0_pay11 (F := Ideal) x6⟩,
    ⟨Rect.unit (s := S6x256x2048) ![4, 0, 0] S1x256x2048.size inb_S6x256x2048_S1x256x2048_4_0_0, k0_pay10 (F := Ideal) (k0_pay9 (F := Ideal) x5)⟩,
    ⟨Rect.unit (s := S6x256x2048) ![3, 0, 0] S1x256x2048.size inb_S6x256x2048_S1x256x2048_3_0_0, k0_pay8 (F := Ideal) x4⟩,
    ⟨Rect.unit (s := S6x256x2048) ![2, 0, 0] S1x256x2048.size inb_S6x256x2048_S1x256x2048_2_0_0, k0_pay7 (F := Ideal) x3⟩,
    ⟨Rect.unit (s := S6x256x2048) ![1, 0, 0] S1x256x2048.size inb_S6x256x2048_S1x256x2048_1_0_0, k0_pay6 (F := Ideal) x2⟩,
    ⟨Rect.unit (s := S6x256x2048) ![0, 0, 0] S1x256x2048.size inb_S6x256x2048_S1x256x2048_0_0_0, k0_pay5 (F := Ideal) x1⟩]

section point
variable (c : Dev nD) (i : grid0.Coords) (arg2 : Memref sig .tc .vmem S1024x2048 .bf16) (harg2 : arg2.IsWhole) (arg3 : Memref sig .tc .vmem S1x256x2048 .f32) (harg3 : arg3.IsWhole) (arg4 : Memref sig .tc .vmem S1x256x2048 .f32) (harg4 : arg4.IsWhole) (arg5 : Memref sig .tc .vmem S1x256x2048 .f32) (harg5 : arg5.IsWhole) (arg6 : Memref sig .tc .vmem S1x256x2048 .f32) (harg6 : arg6.IsWhole) (arg7 : Memref sig .tc .vmem S1x256x2048 .f32) (harg7 : arg7.IsWhole) (arg8 : Memref sig .tc .vmem S1x256x2048 .f32) (harg8 : arg8.IsWhole) (arg9 : Memref sig .tc .vmem S4x256 .f32) (harg9 : arg9.IsWhole) (arg10 : Memref sig .tc .vmem S1024x256 .bf16) (harg10 : arg10.IsWhole) (arg11 : Memref sig .tc .vmem S1024x256 .f32) (harg11 : arg11.IsWhole) (arg12 : Memref sig .tc .vmem S1024x256 .bf16) (harg12 : arg12.IsWhole) (arg13 : Memref sig .tc .vmem S1024x256 .bf16) (harg13 : arg13.IsWhole) (arg14 : Memref sig .tc .vmem S1024x256 .bf16) (harg14 : arg14.IsWhole) (arg15 : Memref sig .tc .vmem S1024x256 .bf16) (harg15 : arg15.IsWhole) (arg16 : Memref sig .tc .vmem S6x256x2048 .bf16) (harg16 : arg16.IsWhole)
  (x0 : Vec Ideal S1024x2048 .bf16) (x1 : Vec Ideal S1x256x2048 .f32) (x2 : Vec Ideal S1x256x2048 .f32) (x3 : Vec Ideal S1x256x2048 .f32) (x4 : Vec Ideal S1x256x2048 .f32) (x5 : Vec Ideal S1x256x2048 .f32) (x6 : Vec Ideal S1x256x2048 .f32) (x7 : Vec Ideal S4x256 .f32) (xs0 : Vec Ideal S6x256x2048 .bf16)

theorem outs_B (hc0 : ¬cond0_0 i) :
    out0_B_8 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 xs0 = k0_pay13 (F := Ideal) x0 (slab0 xs0)
    ∧ out0_B_9 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 xs0 = k0_pay14 (F := Ideal) x0 (slab1 xs0) x7
    ∧ out0_B_10 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 xs0 = k0_pay1 (F := Ideal) (k0_pay12 x0) (slab2 xs0)
    ∧ out0_B_11 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 xs0 = k0_pay2 (F := Ideal) (k0_pay12 x0) (slab3 xs0)
    ∧ out0_B_12 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 xs0 = k0_pay3 (F := Ideal) (k0_pay12 x0) (slab4 xs0)
    ∧ out0_B_13 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 xs0 = k0_pay4 (F := Ideal) (k0_pay12 x0) (slab5 xs0) := by
  refine ⟨?_, ?_, ?_, ?_, ?_, ?_⟩ <;>
  · first | unfold out0_B_8 | unfold out0_B_9 | unfold out0_B_10 | unfold out0_B_11 | unfold out0_B_12 | unfold out0_B_13
    rw [View.read_writes_junk_eq_canon]
    unfold kernelRun0_B
    dsimp only
    sl_unfold_words
    rw [View.canon_unit_zero hz2]
    simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, View.ld_unit_zero (S := S1024x2048) hz2, View.ld_unit_zero (S := S4x256) hz2]
    rfl

theorem sout_A (hc0 : cond0_0 i) : sout0_A_0 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 = kept x1 x2 x3 x4 x5 x6 := by
  unfold sout0_A_0
  rw [View.read_writes_junk_eq_canon]
  unfold kernelRun0_A
  dsimp only
  sl_unfold_words
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, View.ld_unit_zero (S := S1x256x2048) hz3]
  rfl

theorem outs_A (hc0 : cond0_0 i) :
    out0_A_8 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 = k0_pay13 (F := Ideal) x0 (slab0 (kept x1 x2 x3 x4 x5 x6))
    ∧ out0_A_9 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 = k0_pay14 (F := Ideal) x0 (slab1 (kept x1 x2 x3 x4 x5 x6)) x7
    ∧ out0_A_10 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 = k0_pay1 (F := Ideal) (k0_pay12 x0) (slab2 (kept x1 x2 x3 x4 x5 x6))
    ∧ out0_A_11 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 = k0_pay2 (F := Ideal) (k0_pay12 x0) (slab3 (kept x1 x2 x3 x4 x5 x6))
    ∧ out0_A_12 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 = k0_pay3 (F := Ideal) (k0_pay12 x0) (slab4 (kept x1 x2 x3 x4 x5 x6))
    ∧ out0_A_13 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 = k0_pay4 (F := Ideal) (k0_pay12 x0) (slab5 (kept x1 x2 x3 x4 x5 x6)) := by
  refine ⟨?_, ?_, ?_, ?_, ?_, ?_⟩ <;>
  · first | unfold out0_A_8 | unfold out0_A_9 | unfold out0_A_10 | unfold out0_A_11 | unfold out0_A_12 | unfold out0_A_13
    rw [View.read_writes_junk_eq_canon]
    unfold kernelRun0_A
    dsimp only
    sl_unfold_words
    rw [View.canon_unit_zero hz2]
    simp only [readCov_ld, View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, View.ld_unit_zero (S := S1024x2048) hz2, View.ld_unit_zero (S := S4x256) hz2, View.ld_unit_zero (S := S1x256x2048) hz3]
    unfold kept
    first | unfold slab0 | unfold slab1 | unfold slab2 | unfold slab3 | unfold slab4 | unfold slab5
    with_reducible rfl

end point
end Cert.Kernel4Ideal.In2
-- ==== Proof.In2Arr.lean ====
module

public import proofs.«01_k».proof.Proof.In2

/-! The second input projection: what its buffers hold after each grid point, and the six output arrays. -/

@[expose] public section
noncomputable section
namespace Cert.Kernel4Ideal.In2
open Cert.Kernel4Ideal Cert.Kernel4Ideal.Gen Idealize.ShloMosaic Idealize.ShloMosaic.TcCoe Idealize.SL.Sem
open Cert.Reference4Ideal.In2 (top soft lowb forget silu proj col)

/-- A row of the block of normalized rows against a row of a kept column block. -/
def dotp (h : FVec Ideal S1024x2048 .bf16) (w : FVec Ideal S1x256x2048 .bf16) (r : Fin 1024) (e : Fin 256) : EReal := ∑ d : Fin 2048, h (ix2 r d) * w (ix3 (0 : Fin 1) e d)

section pay
variable (h : FVec Ideal S1024x2048 .bf16) (w : FVec Ideal S1x256x2048 .bf16) (x : FVec Ideal S1x256x2048 .f32) (l : FVec Ideal S4x256 .f32) (r : Fin 1024) (e : Fin 256) (d : Fin 2048)

theorem pay13_apply : k0_pay13 (F := Ideal) h w (ix2 r e) = silu (dotp h w r e) := by
  unfold silu dotp
  pointwise [k0_pay13, k0_pay12]

theorem pay14_apply : k0_pay14 (F := Ideal) h w l (ix2 r e) = forget (lowb fun k => l (ix2 k e)) (dotp h w r e) := by
  unfold forget lowb soft top dotp
  pointwise [k0_pay14, k0_pay12]

theorem pay1_apply : k0_pay1 (F := Ideal) (k0_pay12 h) w (ix2 r e) = dotp h w r e := by
  unfold dotp
  pointwise [k0_pay1, k0_pay12]

theorem pay2_apply : k0_pay2 (F := Ideal) (k0_pay12 h) w (ix2 r e) = silu (dotp h w r e) := by
  unfold silu dotp
  pointwise [k0_pay2, k0_pay12]

theorem pay3_apply : k0_pay3 (F := Ideal) (k0_pay12 h) w (ix2 r e) = Ideal.logistic (dotp h w r e) := by
  unfold dotp
  pointwise [k0_pay3, k0_pay12]

theorem pay4_apply : k0_pay4 (F := Ideal) (k0_pay12 h) w (ix2 r e) = Ideal.logistic (dotp h w r e) := by
  unfold dotp
  pointwise [k0_pay4, k0_pay12]

theorem pay5_apply : k0_pay5 (F := Ideal) x (ix3 (0 : Fin 1) e d) = x (ix3 (0 : Fin 1) e d) := by
  pointwise [k0_pay5]

theorem pay6_apply : k0_pay6 (F := Ideal) x (ix3 (0 : Fin 1) e d) = x (ix3 (0 : Fin 1) e d) := by
  pointwise [k0_pay6]

theorem pay7_apply : k0_pay7 (F := Ideal) x (ix3 (0 : Fin 1) e d) = x (ix3 (0 : Fin 1) e d) := by
  pointwise [k0_pay7]

theorem pay8_apply : k0_pay8 (F := Ideal) x (ix3 (0 : Fin 1) e d) = x (ix3 (0 : Fin 1) e d) := by
  pointwise [k0_pay8]

theorem pay11_apply : k0_pay11 (F := Ideal) x (ix3 (0 : Fin 1) e d) = x (ix3 (0 : Fin 1) e d) := by
  pointwise [k0_pay11]

theorem pay10_apply : k0_pay10 (F := Ideal) (k0_pay9 (F := Ideal) x) (ix3 (0 : Fin 1) e d) = x (ix3 (0 : Fin 1) e d) := by
  pointwise [k0_pay10, k0_pay9]

theorem slab0_apply (y : Vec Ideal S6x256x2048 .bf16) : slab0 y (ix3 (0 : Fin 1) e d) = y (ix3 (0 : Fin 6) e d) := by
  unfold slab0
  pointwise

theorem slab1_apply (y : Vec Ideal S6x256x2048 .bf16) : slab1 y (ix3 (0 : Fin 1) e d) = y (ix3 (1 : Fin 6) e d) := by
  unfold slab1
  pointwise

theorem slab2_apply (y : Vec Ideal S6x256x2048 .bf16) : slab2 y (ix3 (0 : Fin 1) e d) = y (ix3 (2 : Fin 6) e d) := by
  unfold slab2
  pointwise

theorem slab3_apply (y : Vec Ideal S6x256x2048 .bf16) : slab3 y (ix3 (0 : Fin 1) e d) = y (ix3 (3 : Fin 6) e d) := by
  unfold slab3
  pointwise

theorem slab4_apply (y : Vec Ideal S6x256x2048 .bf16) : slab4 y (ix3 (0 : Fin 1) e d) = y (ix3 (4 : Fin 6) e d) := by
  unfold slab4
  pointwise

theorem slab5_apply (y : Vec Ideal S6x256x2048 .bf16) : slab5 y (ix3 (0 : Fin 1) e d) = y (ix3 (5 : Fin 6) e d) := by
  unfold slab5
  pointwise

end pay

/-- A stored slab, read at an index of the six slabs: the slab's own entry, or what was there before. -/
theorem canon_slab (k : ℕ) (inb : ∀ a, (![k, 0, 0] : Fin 3 → ℕ) a + S1x256x2048.size a ≤ S6x256x2048.size a) (v : FVec Ideal S1x256x2048 .bf16) (L : List (View.Piece (Elt Ideal) S6x256x2048 .bf16)) (s : Fin 6) (e : Fin 256) (d : Fin 2048) :
    View.canon (Val := Elt Ideal) (e := .bf16) (⟨Rect.unit (s := S6x256x2048) ![k, 0, 0] S1x256x2048.size inb, v⟩ :: L) (ix3 s e d) = if s.val = k then v (ix3 (0 : Fin 1) e d) else View.canon (Val := Elt Ideal) (e := .bf16) L (ix3 s e d) := by
  by_cases hs : s.val = k
  · rw [if_pos hs]
    have he : (ix3 s e d : S6x256x2048.Idx) = (Rect.unit (s := S6x256x2048) ![k, 0, 0] S1x256x2048.size inb).emb (ix3 (0 : Fin 1) e d) := by
      funext a
      match a with
      | ⟨0, _⟩ => exact Fin.ext (by show s.val = k + 1 * 0; omega)
      | ⟨1, _⟩ => exact Fin.ext (by show e.val = 0 + 1 * e.val; omega)
      | ⟨2, _⟩ => exact Fin.ext (by show d.val = 0 + 1 * d.val; omega)
    exact (congrArg _ he).trans (View.canon_cons_emb (Val := Elt Ideal) (e := .bf16) _ _ _ _)
  · rw [if_neg hs]
    refine View.canon_cons_of_not_mem _ _ fun hm => ?_
    have h0 := Rect.mem_set_unit (s := S6x256x2048) (off := ![k, 0, 0]) (size := S1x256x2048.size) (inb := inb).mp hm 0
    have h1 : k ≤ s.val := h0.1
    have h2 : s.val < k + 1 := h0.2
    omega

theorem kept_apply (x1 x2 x3 x4 x5 x6 : Vec Ideal S1x256x2048 .f32) (s : Fin 6) (e : Fin 256) (d : Fin 2048) :
    kept x1 x2 x3 x4 x5 x6 (ix3 s e d) = (![x1, x2, x3, x4, x5, x6] s : FVec Ideal S1x256x2048 .f32) (ix3 (0 : Fin 1) e d) := by
  unfold kept
  fin_cases s
  · iterate 5 refine (canon_slab _ _ _ _ _ e d).trans ((if_neg (by decide)).trans ?_)
    exact (canon_slab _ _ _ _ _ e d).trans ((if_pos rfl).trans (pay5_apply x1 e d))
  · iterate 4 refine (canon_slab _ _ _ _ _ e d).trans ((if_neg (by decide)).trans ?_)
    exact (canon_slab _ _ _ _ _ e d).trans ((if_pos rfl).trans (pay6_apply x2 e d))
  · iterate 3 refine (canon_slab _ _ _ _ _ e d).trans ((if_neg (by decide)).trans ?_)
    exact (canon_slab _ _ _ _ _ e d).trans ((if_pos rfl).trans (pay7_apply x3 e d))
  · iterate 2 refine (canon_slab _ _ _ _ _ e d).trans ((if_neg (by decide)).trans ?_)
    exact (canon_slab _ _ _ _ _ e d).trans ((if_pos rfl).trans (pay8_apply x4 e d))
  · iterate 1 refine (canon_slab _ _ _ _ _ e d).trans ((if_neg (by decide)).trans ?_)
    exact (canon_slab _ _ _ _ _ e d).trans ((if_pos rfl).trans (pay10_apply x5 e d))
  · iterate 0 refine (canon_slab _ _ _ _ _ e d).trans ((if_neg (by decide)).trans ?_)
    exact (canon_slab _ _ _ _ _ e d).trans ((if_pos rfl).trans (pay11_apply x6 e d))

variable (m : (ℓ : Loc nD τ sig) → Buf (Elt Ideal) ℓ) (c : Dev nD)

theorem idx (t : Fin cfg0.N) : (win0_0.index t 0 = t.val % 8 ∧ win0_0.index t 1 = 0) ∧ (win0_7.index t 0 = 0 ∧ win0_7.index t 1 = t.val / 8)
    ∧ (win0_8.index t 0 = t.val % 8 ∧ win0_8.index t 1 = t.val / 8)
    ∧ (win0_9.index t 0 = t.val % 8 ∧ win0_9.index t 1 = t.val / 8)
    ∧ (win0_10.index t 0 = t.val % 8 ∧ win0_10.index t 1 = t.val / 8)
    ∧ (win0_11.index t 0 = t.val % 8 ∧ win0_11.index t 1 = t.val / 8)
    ∧ (win0_12.index t 0 = t.val % 8 ∧ win0_12.index t 1 = t.val / 8)
    ∧ (win0_13.index t 0 = t.val % 8 ∧ win0_13.index t 1 = t.val / 8) := by
  revert t
  decide +kernel

theorem elem (t : Fin cfg0.N) : (win0_1.index t 0 = 3 ∧ win0_1.index t 1 = 1088 + 256 * (t.val / 8) ∧ win0_1.index t 2 = 0)
    ∧ (win0_2.index t 0 = 3 ∧ win0_2.index t 1 = 3136 + 256 * (t.val / 8) ∧ win0_2.index t 2 = 0)
    ∧ (win0_3.index t 0 = 3 ∧ win0_3.index t 1 = 5184 + 256 * (t.val / 8) ∧ win0_3.index t 2 = 0)
    ∧ (win0_4.index t 0 = 3 ∧ win0_4.index t 1 = 7232 + 256 * (t.val / 8) ∧ win0_4.index t 2 = 0)
    ∧ (win0_5.index t 0 = 3 ∧ win0_5.index t 1 = 9280 + 256 * (t.val / 8) ∧ win0_5.index t 2 = 0)
    ∧ (win0_6.index t 0 = 3 ∧ win0_6.index t 1 = 11328 + 256 * (t.val / 8) ∧ win0_6.index t 2 = 0) := by
  revert t
  decide +kernel

theorem blk0 (t : Fin cfg0.N) (r : Fin 1024) (d : Fin 2048) (h) : iblk m c 0 t (ix2 r d) = m ((c.tc : Thread nD τ).loc main_arg0) (ix3 (0 : Fin 1) (⟨1024 * (t.val % 8) + r.val, h⟩ : Fin 8192) d) := by
  blk_ext! [iblk, idx t]

theorem blk7 (t : Fin cfg0.N) (k : Fin 4) (e : Fin 256) (h) : iblk m c 7 t (ix2 k e) = m ((c.tc : Thread nD τ).loc main_arg2) (ix2 k (⟨256 * (t.val / 8) + e.val, h⟩ : Fin 2048)) := by
  blk_ext! [iblk, idx t]

theorem blk1 (t : Fin cfg0.N) (e : Fin 256) (d : Fin 2048) (h) : iblk m c 1 t (ix3 (0 : Fin 1) e d) = m ((c.tc : Thread nD τ).loc main_arg1) (ix3 (3 : Fin 4) d (⟨1088 + (256 * (t.val / 8) + e.val), h⟩ : Fin 13376)) := by
  obtain ⟨h0, h1, h2⟩ := (elem t).1
  blk_ext! [iblk]
  · show win0_1.index t 0 + 1 * 0 = 3
    omega
  · show win0_1.index t 2 + 1 * d.val = d.val
    omega
  · show win0_1.index t 1 + 1 * e.val = 1088 + (256 * (t.val / 8) + e.val)
    omega

theorem blk2 (t : Fin cfg0.N) (e : Fin 256) (d : Fin 2048) (h) : iblk m c 2 t (ix3 (0 : Fin 1) e d) = m ((c.tc : Thread nD τ).loc main_arg1) (ix3 (3 : Fin 4) d (⟨3136 + (256 * (t.val / 8) + e.val), h⟩ : Fin 13376)) := by
  obtain ⟨h0, h1, h2⟩ := (elem t).2.1
  blk_ext! [iblk]
  · show win0_2.index t 0 + 1 * 0 = 3
    omega
  · show win0_2.index t 2 + 1 * d.val = d.val
    omega
  · show win0_2.index t 1 + 1 * e.val = 3136 + (256 * (t.val / 8) + e.val)
    omega

theorem blk3 (t : Fin cfg0.N) (e : Fin 256) (d : Fin 2048) (h) : iblk m c 3 t (ix3 (0 : Fin 1) e d) = m ((c.tc : Thread nD τ).loc main_arg1) (ix3 (3 : Fin 4) d (⟨5184 + (256 * (t.val / 8) + e.val), h⟩ : Fin 13376)) := by
  obtain ⟨h0, h1, h2⟩ := (elem t).2.2.1
  blk_ext! [iblk]
  · show win0_3.index t 0 + 1 * 0 = 3
    omega
  · show win0_3.index t 2 + 1 * d.val = d.val
    omega
  · show win0_3.index t 1 + 1 * e.val = 5184 + (256 * (t.val / 8) + e.val)
    omega

theorem blk4 (t : Fin cfg0.N) (e : Fin 256) (d : Fin 2048) (h) : iblk m c 4 t (ix3 (0 : Fin 1) e d) = m ((c.tc : Thread nD τ).loc main_arg1) (ix3 (3 : Fin 4) d (⟨7232 + (256 * (t.val / 8) + e.val), h⟩ : Fin 13376)) := by
  obtain ⟨h0, h1, h2⟩ := (elem t).2.2.2.1
  blk_ext! [iblk]
  · show win0_4.index t 0 + 1 * 0 = 3
    omega
  · show win0_4.index t 2 + 1 * d.val = d.val
    omega
  · show win0_4.index t 1 + 1 * e.val = 7232 + (256 * (t.val / 8) + e.val)
    omega

theorem blk5 (t : Fin cfg0.N) (e : Fin 256) (d : Fin 2048) (h) : iblk m c 5 t (ix3 (0 : Fin 1) e d) = m ((c.tc : Thread nD τ).loc main_arg1) (ix3 (3 : Fin 4) d (⟨9280 + (256 * (t.val / 8) + e.val), h⟩ : Fin 13376)) := by
  obtain ⟨h0, h1, h2⟩ := (elem t).2.2.2.2.1
  blk_ext! [iblk]
  · show win0_5.index t 0 + 1 * 0 = 3
    omega
  · show win0_5.index t 2 + 1 * d.val = d.val
    omega
  · show win0_5.index t 1 + 1 * e.val = 9280 + (256 * (t.val / 8) + e.val)
    omega

theorem blk6 (t : Fin cfg0.N) (e : Fin 256) (d : Fin 2048) (h) : iblk m c 6 t (ix3 (0 : Fin 1) e d) = m ((c.tc : Thread nD τ).loc main_arg1) (ix3 (3 : Fin 4) d (⟨11328 + (256 * (t.val / 8) + e.val), h⟩ : Fin 13376)) := by
  obtain ⟨h0, h1, h2⟩ := (elem t).2.2.2.2.2
  blk_ext! [iblk]
  · show win0_6.index t 0 + 1 * 0 = 3
    omega
  · show win0_6.index t 2 + 1 * d.val = d.val
    omega
  · show win0_6.index t 1 + 1 * e.val = 11328 + (256 * (t.val / 8) + e.val)
    omega

/-- Every grid point computes its six blocks from its block of normalized rows and the six column blocks that are kept after it. -/
theorem comps (t : Fin cfg0.N) : (outsAt0 m c t.val t.isLt).1 = k0_pay13 (F := Ideal) (iblk m c 0 t) (slab0 ((outsAt0 m c t.val t.isLt).2.2.2.2.2.2))
    ∧ (outsAt0 m c t.val t.isLt).2.1 = k0_pay14 (F := Ideal) (iblk m c 0 t) (slab1 ((outsAt0 m c t.val t.isLt).2.2.2.2.2.2)) (iblk m c 7 t)
    ∧ (outsAt0 m c t.val t.isLt).2.2.1 = k0_pay1 (F := Ideal) (k0_pay12 (iblk m c 0 t)) (slab2 ((outsAt0 m c t.val t.isLt).2.2.2.2.2.2))
    ∧ (outsAt0 m c t.val t.isLt).2.2.2.1 = k0_pay2 (F := Ideal) (k0_pay12 (iblk m c 0 t)) (slab3 ((outsAt0 m c t.val t.isLt).2.2.2.2.2.2))
    ∧ (outsAt0 m c t.val t.isLt).2.2.2.2.1 = k0_pay3 (F := Ideal) (k0_pay12 (iblk m c 0 t)) (slab4 ((outsAt0 m c t.val t.isLt).2.2.2.2.2.2))
    ∧ (outsAt0 m c t.val t.isLt).2.2.2.2.2.1 = k0_pay4 (F := Ideal) (k0_pay12 (iblk m c 0 t)) (slab5 ((outsAt0 m c t.val t.isLt).2.2.2.2.2.2)) := by
  by_cases h0 : t.val % 8 = 0
  · rw [outsAt0_A m c t h0]
    dsimp only
    rw [sout_A]
    exact outs_A _ _ _ _ _ _ _ _ _ _ _ _ _ _ _ _ _ _ _ _ _ _ _ _ _ _ _ _ _ _ _ _ _ _ _ _ _ _ _ _ _
  · rw [outsAt0_B m c t h0]
    dsimp only
    exact outs_B _ _ _ _ _ _ _ _ _ _ _ _ _ _ _ _ _ _ _ _ _ _ _ _ _ _ _ _ _ _ _ _ _ _ _ _ _ _ _ _ _ _

/-- Entry `d` of weight column `n` of part `s`. -/
def wt (s : Fin 6) (n : Fin 2048) (d : Fin 2048) : EReal := m ((c.tc : Thread nD τ).loc main_arg1) (ix3 (3 : Fin 4) d (⟨1088 + (col s n).val, by have := (col s n).isLt; omega⟩ : Fin 13376))

/-- What the first grid point of a column block keeps. -/
theorem start (t : Fin cfg0.N) (h0 : t.val % 8 = 0) (s : Fin 6) (e : Fin 256) (d : Fin 2048) (h : 256 * (t.val / 8) + e.val < 2048) :
    (outsAt0 m c t.val t.isLt).2.2.2.2.2.2 (ix3 s e d) = wt m c s ⟨256 * (t.val / 8) + e.val, h⟩ d := by
  rw [outsAt0_A m c t h0]
  dsimp only
  rw [sout_A, kept_apply]
  unfold wt
  have hc : ∀ o (ho : o = 1088 + 2048 * s.val) (hb), m ((c.tc : Thread nD τ).loc main_arg1) (ix3 (3 : Fin 4) d (⟨o + (256 * (t.val / 8) + e.val), hb⟩ : Fin 13376))
      = m ((c.tc : Thread nD τ).loc main_arg1) (ix3 (3 : Fin 4) d (⟨1088 + (col s ⟨256 * (t.val / 8) + e.val, h⟩).val, by have := (col s ⟨256 * (t.val / 8) + e.val, h⟩).isLt; omega⟩ : Fin 13376)) := fun o ho hb =>
    congrArg (fun k => m ((c.tc : Thread nD τ).loc main_arg1) (ix3 (3 : Fin 4) d k)) (Fin.ext (by show o + (256 * (t.val / 8) + e.val) = 1088 + (2048 * s.val + (256 * (t.val / 8) + e.val)); omega))
  fin_cases s
  · exact (blk1 m c t e d (by omega)).trans (hc _ rfl _)
  · exact (blk2 m c t e d (by omega)).trans (hc _ rfl _)
  · exact (blk3 m c t e d (by omega)).trans (hc _ rfl _)
  · exact (blk4 m c t e d (by omega)).trans (hc _ rfl _)
  · exact (blk5 m c t e d (by omega)).trans (hc _ rfl _)
  · exact (blk6 m c t e d (by omega)).trans (hc _ rfl _)

/-- What is kept after each grid point: the six blocks of weight columns of its column block. -/
theorem state : ∀ (n : ℕ) (hn : n < cfg0.N) (s : Fin 6) (e : Fin 256) (d : Fin 2048) (h : 256 * (n / 8) + e.val < 2048),
    (outsAt0 m c n hn).2.2.2.2.2.2 (ix3 s e d) = wt m c s ⟨256 * (n / 8) + e.val, h⟩ d := by
  intro n
  induction n with
  | zero => exact fun hn s e d h => start m c ⟨0, hn⟩ rfl s e d h
  | succ n ih =>
    intro hn s e d h
    by_cases h0 : (n + 1) % 8 = 0
    · exact start m c ⟨n + 1, hn⟩ h0 s e d h
    · rw [show outsAt0 m c (n + 1) hn = _ from outsAt0_B m c ⟨n + 1, hn⟩ h0]
      dsimp only
      have hd : (⟨256 * (n / 8) + e.val, by omega⟩ : Fin 2048) = ⟨256 * ((n + 1) / 8) + e.val, h⟩ := Fin.ext (by show 256 * (n / 8) + e.val = 256 * ((n + 1) / 8) + e.val; omega)
      have hi := ih (by omega) s e d (by omega)
      rw [hd] at hi
      exact hi

/-- A row's product with the kept columns is the wide projection's entry. -/
theorem dotp_eq (t : Fin cfg0.N) (s : Fin 6) (w : FVec Ideal S1x256x2048 .bf16) (hw : ∀ e d, w (ix3 (0 : Fin 1) e d) = (outsAt0 m c t.val t.isLt).2.2.2.2.2.2 (ix3 s e d)) (r : Fin 1024) (e : Fin 256) (hr : 1024 * (t.val % 8) + r.val < 8192) (he : 256 * (t.val / 8) + e.val < 2048) :
    dotp (iblk m c 0 t) w r e = proj (m ((c.tc : Thread nD τ).loc main_arg0)) (m ((c.tc : Thread nD τ).loc main_arg1)) ⟨1024 * (t.val % 8) + r.val, hr⟩ (col s ⟨256 * (t.val / 8) + e.val, he⟩) := by
  unfold dotp
  refine Finset.sum_congr rfl fun d _ => ?_
  rw [hw, blk0 m c t r d hr, state m c t.val t.isLt s e d he]
  rfl

theorem arr8_eq (G : FVec Ideal S8192x2048 .bf16) (hG : ∀ (t : Fin 8192) (n : Fin 2048), G (ix2 t n) = silu (proj (m ((c.tc : Thread nD τ).loc main_arg0)) (m ((c.tc : Thread nD τ).loc main_arg1)) t (col 0 n))) :
    (dats m 0 c).arrAt 8 cfg0.N = G := by
  refine (dats m 0 c).arrAt_eq_of_covers 8 G (by decide +kernel) fun t hf y => ?_
  have hN : t.val < 64 := t.isLt
  obtain ⟨i, n, rfl⟩ : ∃ (i : Fin 1024) (n : Fin 256), y = ix2 i n := ⟨y 0, y 1, by funext a; fin_cases a <;> rfl⟩
  have hi : 1024 * (t.val % 8) + i.val < 8192 := by omega
  have hj : 256 * (t.val / 8) + n.val < 2048 := by omega
  blk_simp
  rw [after0_8, (comps m c t).1]
  have e : ((cfg0.win 8).blk t).view.emb (ix2 i n) = ix2 (⟨1024 * (t.val % 8) + i.val, hi⟩ : Fin 8192) (⟨256 * (t.val / 8) + n.val, hj⟩ : Fin 2048) := by
    blk_ext [idx t]
  rw [e, hG]
  exact (pay13_apply _ _ i n).trans (congrArg silu (dotp_eq m c t 0 _ (fun e d => slab0_apply e d _) i n hi hj))

theorem arr9_eq (G : FVec Ideal S8192x2048 .f32) (hG : ∀ (t : Fin 8192) (n : Fin 2048), G (ix2 t n) = forget (lowb fun k => m ((c.tc : Thread nD τ).loc main_arg2) (ix2 k n)) (proj (m ((c.tc : Thread nD τ).loc main_arg0)) (m ((c.tc : Thread nD τ).loc main_arg1)) t (col 1 n))) :
    (dats m 0 c).arrAt 9 cfg0.N = G := by
  refine (dats m 0 c).arrAt_eq_of_covers 9 G (by decide +kernel) fun t hf y => ?_
  have hN : t.val < 64 := t.isLt
  obtain ⟨i, n, rfl⟩ : ∃ (i : Fin 1024) (n : Fin 256), y = ix2 i n := ⟨y 0, y 1, by funext a; fin_cases a <;> rfl⟩
  have hi : 1024 * (t.val % 8) + i.val < 8192 := by omega
  have hj : 256 * (t.val / 8) + n.val < 2048 := by omega
  blk_simp
  rw [after0_9, (comps m c t).2.1]
  have e : ((cfg0.win 9).blk t).view.emb (ix2 i n) = ix2 (⟨1024 * (t.val % 8) + i.val, hi⟩ : Fin 8192) (⟨256 * (t.val / 8) + n.val, hj⟩ : Fin 2048) := by
    blk_ext [idx t]
  rw [e, hG]
  exact (pay14_apply _ _ _ i n).trans (congrArg₂ forget (congrArg lowb (funext fun k => blk7 m c t k n hj)) (dotp_eq m c t 1 _ (fun e d => slab1_apply e d _) i n hi hj))

theorem arr10_eq (G : FVec Ideal S8192x2048 .bf16) (hG : ∀ (t : Fin 8192) (n : Fin 2048), G (ix2 t n) = proj (m ((c.tc : Thread nD τ).loc main_arg0)) (m ((c.tc : Thread nD τ).loc main_arg1)) t (col 2 n)) :
    (dats m 0 c).arrAt 10 cfg0.N = G := by
  refine (dats m 0 c).arrAt_eq_of_covers 10 G (by decide +kernel) fun t hf y => ?_
  have hN : t.val < 64 := t.isLt
  obtain ⟨i, n, rfl⟩ : ∃ (i : Fin 1024) (n : Fin 256), y = ix2 i n := ⟨y 0, y 1, by funext a; fin_cases a <;> rfl⟩
  have hi : 1024 * (t.val % 8) + i.val < 8192 := by omega
  have hj : 256 * (t.val / 8) + n.val < 2048 := by omega
  blk_simp
  rw [after0_10, (comps m c t).2.2.1]
  have e : ((cfg0.win 10).blk t).view.emb (ix2 i n) = ix2 (⟨1024 * (t.val % 8) + i.val, hi⟩ : Fin 8192) (⟨256 * (t.val / 8) + n.val, hj⟩ : Fin 2048) := by
    blk_ext [idx t]
  rw [e, hG]
  exact (pay1_apply _ _ i n).trans (dotp_eq m c t 2 _ (fun e d => slab2_apply e d _) i n hi hj)

theorem arr11_eq (G : FVec Ideal S8192x2048 .bf16) (hG : ∀ (t : Fin 8192) (n : Fin 2048), G (ix2 t n) = silu (proj (m ((c.tc : Thread nD τ).loc main_arg0)) (m ((c.tc : Thread nD τ).loc main_arg1)) t (col 3 n))) :
    (dats m 0 c).arrAt 11 cfg0.N = G := by
  refine (dats m 0 c).arrAt_eq_of_covers 11 G (by decide +kernel) fun t hf y => ?_
  have hN : t.val < 64 := t.isLt
  obtain ⟨i, n, rfl⟩ : ∃ (i : Fin 1024) (n : Fin 256), y = ix2 i n := ⟨y 0, y 1, by funext a; fin_cases a <;> rfl⟩
  have hi : 1024 * (t.val % 8) + i.val < 8192 := by omega
  have hj : 256 * (t.val / 8) + n.val < 2048 := by omega
  blk_simp
  rw [after0_11, (comps m c t).2.2.2.1]
  have e : ((cfg0.win 11).blk t).view.emb (ix2 i n) = ix2 (⟨1024 * (t.val % 8) + i.val, hi⟩ : Fin 8192) (⟨256 * (t.val / 8) + n.val, hj⟩ : Fin 2048) := by
    blk_ext [idx t]
  rw [e, hG]
  exact (pay2_apply _ _ i n).trans (congrArg silu (dotp_eq m c t 3 _ (fun e d => slab3_apply e d _) i n hi hj))

theorem arr12_eq (G : FVec Ideal S8192x2048 .bf16) (hG : ∀ (t : Fin 8192) (n : Fin 2048), G (ix2 t n) = Ideal.logistic (proj (m ((c.tc : Thread nD τ).loc main_arg0)) (m ((c.tc : Thread nD τ).loc main_arg1)) t (col 4 n))) :
    (dats m 0 c).arrAt 12 cfg0.N = G := by
  refine (dats m 0 c).arrAt_eq_of_covers 12 G (by decide +kernel) fun t hf y => ?_
  have hN : t.val < 64 := t.isLt
  obtain ⟨i, n, rfl⟩ : ∃ (i : Fin 1024) (n : Fin 256), y = ix2 i n := ⟨y 0, y 1, by funext a; fin_cases a <;> rfl⟩
  have hi : 1024 * (t.val % 8) + i.val < 8192 := by omega
  have hj : 256 * (t.val / 8) + n.val < 2048 := by omega
  blk_simp
  rw [after0_12, (comps m c t).2.2.2.2.1]
  have e : ((cfg0.win 12).blk t).view.emb (ix2 i n) = ix2 (⟨1024 * (t.val % 8) + i.val, hi⟩ : Fin 8192) (⟨256 * (t.val / 8) + n.val, hj⟩ : Fin 2048) := by
    blk_ext [idx t]
  rw [e, hG]
  exact (pay3_apply _ _ i n).trans (congrArg Ideal.logistic (dotp_eq m c t 4 _ (fun e d => slab4_apply e d _) i n hi hj))

theorem arr13_eq (G : FVec Ideal S8192x2048 .bf16) (hG : ∀ (t : Fin 8192) (n : Fin 2048), G (ix2 t n) = Ideal.logistic (proj (m ((c.tc : Thread nD τ).loc main_arg0)) (m ((c.tc : Thread nD τ).loc main_arg1)) t (col 5 n))) :
    (dats m 0 c).arrAt 13 cfg0.N = G := by
  refine (dats m 0 c).arrAt_eq_of_covers 13 G (by decide +kernel) fun t hf y => ?_
  have hN : t.val < 64 := t.isLt
  obtain ⟨i, n, rfl⟩ : ∃ (i : Fin 1024) (n : Fin 256), y = ix2 i n := ⟨y 0, y 1, by funext a; fin_cases a <;> rfl⟩
  have hi : 1024 * (t.val % 8) + i.val < 8192 := by omega
  have hj : 256 * (t.val / 8) + n.val < 2048 := by omega
  blk_simp
  rw [after0_13, (comps m c t).2.2.2.2.2]
  have e : ((cfg0.win 13).blk t).view.emb (ix2 i n) = ix2 (⟨1024 * (t.val % 8) + i.val, hi⟩ : Fin 8192) (⟨256 * (t.val / 8) + n.val, hj⟩ : Fin 2048) := by
    blk_ext [idx t]
  rw [e, hG]
  exact (pay4_apply _ _ i n).trans (congrArg Ideal.logistic (dotp_eq m c t 5 _ (fun e d => slab5_apply e d _) i n hi hj))

end Cert.Kernel4Ideal.In2
-- ==== Proof.Qkv.lean ====
module

public import proofs.«01_k».proof.Proof.Blocks
public import proofs.«01_k».proof.Proof.Scores
public import proofs.«01_k».proof.Proof.Gen.Kernel6Ideal.Value
public import Idealize.ShloMosaic.Lib.Pipeline.ValueKit
public import Idealize.ShloMosaic.Lib.Pointwise

/-! The projections call: what one grid point leaves in its three buffers, from what it reads. -/

@[expose] public section
noncomputable section
namespace Cert.Kernel6Ideal.Qkv
open Cert.Kernel6Ideal Cert.Kernel6Ideal.Gen Idealize.ShloMosaic Idealize.ShloMosaic.TcCoe Idealize.SL.Sem

/-- The columns of four heads lie within the weights. -/
theorem inbQ (g : Fin 4) : ∀ a, (![0, 0, 1536 * g.val] : Fin 3 → Nat) a + S1x512x1536.size a ≤ S1x512x6144.size a := by
  revert g; decide
theorem inbK (g : Fin 4) : ∀ a, (![0, 0, 1024 * g.val] : Fin 3 → Nat) a + S1x512x1024.size a ≤ S1x512x4096.size a := by
  revert g; decide
theorem inbO (g j : Fin 4) (o : Fin 2) : ∀ a, (![4 * g.val + j.val, 0, 128 * o.val] : Fin 3 → Nat) a + S1x512x128.size a ≤ S16x512x256.size a := by
  revert g j o; decide
theorem inbV (g j : Fin 4) : ∀ a, (![4 * g.val + j.val, 0, 0] : Fin 3 → Nat) a + S1x512x128.size a ≤ S16x512x128.size a := by
  revert g j; decide
theorem slQ (j : Fin 4) : S512x1536.Slices ![0, 384 * j.val] S512x384 := by
  revert j; decide
theorem slK (j : Fin 4) : S512x1024.Slices ![0, 256 * j.val] S512x256 := by
  revert j; decide

/-- A group of four heads' query projections. -/
def yg (x0 : FVec Ideal S512x512 .bf16) (x5 : FVec Ideal S1x512x6144 .bf16) (g : Fin 4) : FVec Ideal S512x1536 .f32 :=
  k0_pay8 (F := Ideal) (View.ld (Val := Elt Ideal) (e' := .bf16) x0 r0_0) (View.ld (Val := Elt Ideal) (e' := .bf16) x5 (Rect.unit (s := S1x512x6144) ![0, 0, 1536 * g.val] S1x512x1536.size (inbQ g)))
/-- A group of four heads' key and value projections. -/
def zg (x1 : FVec Ideal S512x512 .bf16) (x6 : FVec Ideal S1x512x4096 .bf16) (g : Fin 4) : FVec Ideal S512x1024 .f32 :=
  k0_pay9 (F := Ideal) (View.ld (Val := Elt Ideal) (e' := .bf16) x1 r0_0) (View.ld (Val := Elt Ideal) (e' := .bf16) x6 (Rect.unit (s := S1x512x4096) ![0, 0, 1024 * g.val] S1x512x1024.size (inbK g)))
def qs (y : FVec Ideal S512x1536 .f32) (j : Fin 4) : FVec Ideal S512x384 .f32 := extractStridedSlice S512x384 ![0, 384 * j.val] y (slQ j)
def zs (z : FVec Ideal S512x1024 .f32) (j : Fin 4) : FVec Ideal S512x256 .f32 := extractStridedSlice S512x256 ![0, 256 * j.val] z (slK j)
def κs : Ideal .f32 := Named.named κ "scale" 0x3DD53B95#32

/-- A head's query columns that carry no rotation, scaled. -/
def nope (p : FVec Ideal S512x384 .f32) : FVec Ideal S1x512x128 .bf16 :=
  shapeCast S1x512x128 (truncf .bf16 (mulf (extractStridedSlice S512x128 ![0, 0] p slices_S512x384_o0_0_S512x128) (broadcast S512x128 κs)) bitsLt_bf16_f32) shapeCasts_S512x128_S1x512x128
/-- A head's rotated query columns, scaled. -/
def pe (c s : FVec Ideal S512x128 .f32) (p : FVec Ideal S512x384 .f32) : FVec Ideal S1x512x128 .bf16 :=
  shapeCast S1x512x128 (truncf .bf16 (mulf (addf (mulf (extractStridedSlice S512x128 ![0, 128] p slices_S512x384_o0_128_S512x128) c) (mulf (extractStridedSlice S512x128 ![0, 256] p slices_S512x384_o0_256_S512x128) s)) (broadcast S512x128 κs)) bitsLt_bf16_f32) shapeCasts_S512x128_S1x512x128
def kn (p : FVec Ideal S512x256 .f32) : FVec Ideal S1x512x128 .bf16 :=
  shapeCast S1x512x128 (truncf .bf16 (extractStridedSlice S512x128 ![0, 0] p slices_S512x256_o0_0_S512x128) bitsLt_bf16_f32) shapeCasts_S512x128_S1x512x128
def vn (p : FVec Ideal S512x256 .f32) : FVec Ideal S1x512x128 .bf16 :=
  shapeCast S1x512x128 (truncf .bf16 (extractStridedSlice S512x128 ![0, 128] p slices_S512x256_o0_128_S512x128) bitsLt_bf16_f32) shapeCasts_S512x128_S1x512x128

/-- The four groups, or the four heads of a group, last first. -/
def down : List (Fin 4) := [3, 2, 1, 0]

abbrev rO (g j : Fin 4) (o : Fin 2) : Rect S16x512x256 := Rect.unit (s := S16x512x256) ![4 * g.val + j.val, 0, 128 * o.val] S1x512x128.size (inbO g j o)
abbrev rV (g j : Fin 4) : Rect S16x512x128 := Rect.unit (s := S16x512x128) ![4 * g.val + j.val, 0, 0] S1x512x128.size (inbV g j)

def qPieces (x0 : FVec Ideal S512x512 .bf16) (x3 x4 : FVec Ideal S512x128 .f32) (x5 : FVec Ideal S1x512x6144 .bf16) : List (View.Piece (Elt Ideal) S16x512x256 .bf16) :=
  down.flatMap fun g => down.flatMap fun j =>
    [⟨rO g j 1, pe (k0_pay5 (F := Ideal) (View.ld (Val := Elt Ideal) (e' := .f32) x3 r0_1)) (k0_pay6 (F := Ideal) (View.ld (Val := Elt Ideal) (e' := .f32) x4 r0_1)) (qs (yg x0 x5 g) j)⟩, ⟨rO g j 0, nope (qs (yg x0 x5 g) j)⟩]
def kPieces (x1 : FVec Ideal S512x512 .bf16) (x2 : FVec Ideal S512x128 .bf16) (x6 : FVec Ideal S1x512x4096 .bf16) : List (View.Piece (Elt Ideal) S16x512x256 .bf16) :=
  down.flatMap fun g => down.flatMap fun j =>
    [⟨rO g j 1, k0_pay1 (F := Ideal) (k0_pay7 (View.ld (Val := Elt Ideal) (e' := .bf16) x2 r0_1))⟩, ⟨rO g j 0, kn (zs (zg x1 x6 g) j)⟩]
def vPieces (x1 : FVec Ideal S512x512 .bf16) (x6 : FVec Ideal S1x512x4096 .bf16) : List (View.Piece (Elt Ideal) S16x512x128 .bf16) :=
  down.flatMap fun g => down.flatMap fun j => [⟨rV g j, vn (zs (zg x1 x6 g) j)⟩]

variable (x0 x1 : FVec Ideal S512x512 .bf16) (x2 : FVec Ideal S512x128 .bf16) (x3 x4 : FVec Ideal S512x128 .f32) (x5 : FVec Ideal S1x512x6144 .bf16) (x6 : FVec Ideal S1x512x4096 .bf16)

theorem out7_eq : out0_7 (F := Ideal) x0 x1 x2 x3 x4 x5 x6 = View.canon (qPieces x0 x3 x4 x5) := by
  unfold out0_7; rfl
theorem out8_eq : out0_8 (F := Ideal) x0 x1 x2 x3 x4 x5 x6 = View.canon (kPieces x1 x2 x6) := by
  unfold out0_8; rfl
theorem out9_eq : out0_9 (F := Ideal) x0 x1 x2 x3 x4 x5 x6 = View.canon (vPieces x1 x6) := by
  unfold out0_9; rfl

theorem hz2 : (![0, 0] : Fin 2 → Nat) = fun _ => 0 := funext fun a => by fin_cases a <;> rfl

/-- A row against a column of weights. -/
def dot {N : ℕ} (x : FVec Ideal S512x512 .bf16) (w : FVec Ideal ⟨3, ![1, 512, N]⟩ .bf16) (r : Fin 512) (k : Fin N) : EReal :=
  ∑ e : Fin 512, x (ix2 r e) * w (ix3 (0 : Fin 1) e k)

theorem pay8_apply (x : FVec Ideal S512x512 .bf16) (w : FVec Ideal S1x512x1536 .bf16) (r : Fin 512) (k : Fin 1536) : k0_pay8 (F := Ideal) x w (ix2 r k) = dot x w r k := by
  unfold dot
  pointwise [k0_pay8, k0_pay3]
theorem pay9_apply (x : FVec Ideal S512x512 .bf16) (w : FVec Ideal S1x512x1024 .bf16) (r : Fin 512) (k : Fin 1024) : k0_pay9 (F := Ideal) x w (ix2 r k) = dot x w r k := by
  unfold dot
  pointwise [k0_pay9, k0_pay4]

theorem yg_apply (g : Fin 4) (r : Fin 512) (k : Fin 1536) : yg x0 x5 g (ix2 r k) = dot x0 x5 r ⟨1536 * g.val + k.val, by omega⟩ := by
  refine (pay8_apply _ _ r k).trans (Finset.sum_congr rfl fun e _ => congrArg₂ (· * ·) (congrFun (View.ld_unit_zero (S := S512x512) hz2 _ _) _) (congrArg x5 ?_))
  funext a
  match a with
  | ⟨0, _⟩ => exact Fin.ext (by show 0 + 1 * 0 = 0; omega)
  | ⟨1, _⟩ => exact Fin.ext (by show 0 + 1 * e.val = e.val; omega)
  | ⟨2, _⟩ => exact Fin.ext (by show 1536 * g.val + 1 * k.val = 1536 * g.val + k.val; omega)
theorem zg_apply (g : Fin 4) (r : Fin 512) (k : Fin 1024) : zg x1 x6 g (ix2 r k) = dot x1 x6 r ⟨1024 * g.val + k.val, by omega⟩ := by
  refine (pay9_apply _ _ r k).trans (Finset.sum_congr rfl fun e _ => congrArg₂ (· * ·) (congrFun (View.ld_unit_zero (S := S512x512) hz2 _ _) _) (congrArg x6 ?_))
  funext a
  match a with
  | ⟨0, _⟩ => exact Fin.ext (by show 0 + 1 * 0 = 0; omega)
  | ⟨1, _⟩ => exact Fin.ext (by show 0 + 1 * e.val = e.val; omega)
  | ⟨2, _⟩ => exact Fin.ext (by show 1024 * g.val + 1 * k.val = 1024 * g.val + k.val; omega)

/-- What a block of queries holds. -/
def qBlk (h : Fin 16) (r : Fin 512) (n : Fin 256) : EReal :=
  if hn : n.val < 128 then dot x0 x5 r ⟨384 * h.val + n.val, by omega⟩ * κs
  else (dot x0 x5 r ⟨384 * h.val + n.val, by omega⟩ * x3 (ix2 r (⟨n.val - 128, by omega⟩ : Fin 128)) + dot x0 x5 r ⟨384 * h.val + (128 + n.val), by omega⟩ * x4 (ix2 r (⟨n.val - 128, by omega⟩ : Fin 128))) * κs
def kBlk (h : Fin 16) (r : Fin 512) (n : Fin 256) : EReal :=
  if hn : n.val < 128 then dot x1 x6 r ⟨256 * h.val + n.val, by omega⟩ else x2 (ix2 r (⟨n.val - 128, by omega⟩ : Fin 128))
def vBlk (h : Fin 16) (r : Fin 512) (n : Fin 128) : EReal := dot x1 x6 r ⟨256 * h.val + (128 + n.val), by omega⟩

theorem nope_apply (p : FVec Ideal S512x384 .f32) (r : Fin 512) (n : Fin 128) : nope p (ix3 (0 : Fin 1) r n) = p (ix2 r (⟨n.val, by omega⟩ : Fin 384)) * κs := by
  unfold nope
  pointwise
theorem pe_apply (c s : FVec Ideal S512x128 .f32) (p : FVec Ideal S512x384 .f32) (r : Fin 512) (n : Fin 128) :
    pe c s p (ix3 (0 : Fin 1) r n) = (p (ix2 r (⟨128 + n.val, by omega⟩ : Fin 384)) * c (ix2 r n) + p (ix2 r (⟨256 + n.val, by omega⟩ : Fin 384)) * s (ix2 r n)) * κs := by
  unfold pe
  pointwise
theorem kn_apply (p : FVec Ideal S512x256 .f32) (r : Fin 512) (n : Fin 128) : kn p (ix3 (0 : Fin 1) r n) = p (ix2 r (⟨n.val, by omega⟩ : Fin 256)) := by
  unfold kn
  pointwise
theorem vn_apply (p : FVec Ideal S512x256 .f32) (r : Fin 512) (n : Fin 128) : vn p (ix3 (0 : Fin 1) r n) = p (ix2 r (⟨128 + n.val, by omega⟩ : Fin 256)) := by
  unfold vn
  pointwise
theorem kp_apply (r : Fin 512) (n : Fin 128) : k0_pay1 (F := Ideal) (k0_pay7 (View.ld (Val := Elt Ideal) (e' := .bf16) x2 r0_1)) (ix3 (0 : Fin 1) r n) = x2 (ix2 r n) := by
  rw [View.ld_unit_zero (S := S512x128) hz2]
  pointwise [k0_pay1, k0_pay7]
theorem pay5_apply (x : FVec Ideal S512x128 .f32) (r : Fin 512) (n : Fin 128) : k0_pay5 (F := Ideal) (View.ld (Val := Elt Ideal) (e' := .f32) x r0_1) (ix2 r n) = x (ix2 r n) := by
  rw [View.ld_unit_zero (S := S512x128) hz2]
  pointwise [k0_pay5]
theorem pay6_apply (x : FVec Ideal S512x128 .f32) (r : Fin 512) (n : Fin 128) : k0_pay6 (F := Ideal) (View.ld (Val := Elt Ideal) (e' := .f32) x r0_1) (ix2 r n) = x (ix2 r n) := by
  rw [View.ld_unit_zero (S := S512x128) hz2]
  pointwise [k0_pay6]
theorem qs_apply (y : FVec Ideal S512x1536 .f32) (j : Fin 4) (r : Fin 512) (k : Fin 384) : qs y j (ix2 r k) = y (ix2 r (⟨384 * j.val + k.val, by omega⟩ : Fin 1536)) := by
  unfold qs
  pointwise
theorem zs_apply (z : FVec Ideal S512x1024 .f32) (j : Fin 4) (r : Fin 512) (k : Fin 256) : zs z j (ix2 r k) = z (ix2 r (⟨256 * j.val + k.val, by omega⟩ : Fin 1024)) := by
  unfold zs
  pointwise

theorem dot_col {N : ℕ} (x : FVec Ideal S512x512 .bf16) (w : FVec Ideal ⟨3, ![1, 512, N]⟩ .bf16) (r : Fin 512) {i j : ℕ} (hi : i < N) (hj : j < N) (e : i = j) : dot x w r ⟨i, hi⟩ = dot x w r ⟨j, hj⟩ :=
  congrArg (dot x w r) (Fin.ext e)

theorem embO (g j : Fin 4) (o : Fin 2) (r : Fin 512) (n : Fin 128) : (rO g j o).emb (ix3 (0 : Fin 1) r n) = ix3 (⟨4 * g.val + j.val, by omega⟩ : Fin 16) r (⟨128 * o.val + n.val, by omega⟩ : Fin 256) := by
  funext a
  match a with
  | ⟨0, _⟩ => exact Fin.ext (by show 4 * g.val + j.val + 1 * 0 = 4 * g.val + j.val; omega)
  | ⟨1, _⟩ => exact Fin.ext (by show 0 + 1 * r.val = r.val; omega)
  | ⟨2, _⟩ => exact Fin.ext (by show 128 * o.val + 1 * n.val = 128 * o.val + n.val; omega)
theorem embV (g j : Fin 4) (r : Fin 512) (n : Fin 128) : (rV g j).emb (ix3 (0 : Fin 1) r n) = ix3 (⟨4 * g.val + j.val, by omega⟩ : Fin 16) r n := by
  funext a
  match a with
  | ⟨0, _⟩ => exact Fin.ext (by show 4 * g.val + j.val + 1 * 0 = 4 * g.val + j.val; omega)
  | ⟨1, _⟩ => exact Fin.ext (by show 0 + 1 * r.val = r.val; omega)
  | ⟨2, _⟩ => exact Fin.ext (by show 0 + 1 * n.val = n.val; omega)

theorem ix_of (x : S1x512x128.Idx) : ∃ (r : Fin 512) (n : Fin 128), x = ix3 (0 : Fin 1) r n :=
  ⟨x 1, x 2, by funext a; match a with | ⟨0, _⟩ => exact Subsingleton.elim (α := Fin 1) _ _ | ⟨1, _⟩ => rfl | ⟨2, _⟩ => rfl⟩

theorem qPieces_all : ∀ p ∈ qPieces x0 x3 x4 x5, ∀ x : p.1.shape.Idx, p.2 x = (fun y : S16x512x256.Idx => qBlk x0 x3 x4 x5 (y 0) (y 1) (y 2)) (p.1.emb x) := by
  intro p hp
  unfold qPieces at hp
  obtain ⟨g, -, hp⟩ := List.mem_flatMap.mp hp
  obtain ⟨j, -, hp⟩ := List.mem_flatMap.mp hp
  rcases List.mem_cons.mp hp with rfl | hp
  · intro x
    obtain ⟨r, n, rfl⟩ := ix_of x
    rw [embO]
    refine (pe_apply _ _ _ r n).trans ?_
    rw [qs_apply, qs_apply, yg_apply, yg_apply]
    refine Eq.trans ?_ (dif_neg (show ¬128 * 1 + n.val < 128 by omega)).symm
    have en : n = ⟨128 * 1 + n.val - 128, by omega⟩ := Fin.ext (by show n.val = 128 * 1 + n.val - 128; omega)
    refine congrArg (· * κs) (congrArg₂ (· + ·) (congrArg₂ (· * ·) (dot_col _ _ _ _ _ (by show 1536 * g.val + (384 * j.val + (128 + n.val)) = 384 * (4 * g.val + j.val) + (128 * 1 + n.val); omega)) ?_) (congrArg₂ (· * ·) (dot_col _ _ _ _ _ (by show 1536 * g.val + (384 * j.val + (256 + n.val)) = 384 * (4 * g.val + j.val) + (128 + (128 * 1 + n.val)); omega)) ?_))
    · exact (pay5_apply x3 r n).trans (congrArg (fun n => x3 (ix2 r n)) en)
    · exact (pay6_apply x4 r n).trans (congrArg (fun n => x4 (ix2 r n)) en)
  · rcases List.mem_cons.mp hp with rfl | hp
    · intro x
      obtain ⟨r, n, rfl⟩ := ix_of x
      rw [embO]
      refine (nope_apply _ r n).trans ?_
      rw [qs_apply, yg_apply]
      refine Eq.trans ?_ (dif_pos (show 128 * 0 + n.val < 128 by omega)).symm
      exact congrArg (· * κs) (dot_col _ _ _ _ _ (by show 1536 * g.val + (384 * j.val + n.val) = 384 * (4 * g.val + j.val) + (128 * 0 + n.val); omega))
    · exact absurd hp (List.not_mem_nil)

theorem kPieces_all : ∀ p ∈ kPieces x1 x2 x6, ∀ x : p.1.shape.Idx, p.2 x = (fun y : S16x512x256.Idx => kBlk x1 x2 x6 (y 0) (y 1) (y 2)) (p.1.emb x) := by
  intro p hp
  unfold kPieces at hp
  obtain ⟨g, -, hp⟩ := List.mem_flatMap.mp hp
  obtain ⟨j, -, hp⟩ := List.mem_flatMap.mp hp
  rcases List.mem_cons.mp hp with rfl | hp
  · intro x
    obtain ⟨r, n, rfl⟩ := ix_of x
    rw [embO]
    refine (kp_apply x2 r n).trans (Eq.trans ?_ (dif_neg (show ¬128 * 1 + n.val < 128 by omega)).symm)
    exact congrArg (fun n => x2 (ix2 r n)) (Fin.ext (by show n.val = 128 * 1 + n.val - 128; omega))
  · rcases List.mem_cons.mp hp with rfl | hp
    · intro x
      obtain ⟨r, n, rfl⟩ := ix_of x
      rw [embO]
      refine (kn_apply _ r n).trans ?_
      rw [zs_apply, zg_apply]
      refine Eq.trans ?_ (dif_pos (show 128 * 0 + n.val < 128 by omega)).symm
      exact dot_col _ _ _ _ _ (by show 1024 * g.val + (256 * j.val + n.val) = 256 * (4 * g.val + j.val) + (128 * 0 + n.val); omega)
    · exact absurd hp (List.not_mem_nil)

theorem vPieces_all : ∀ p ∈ vPieces x1 x6, ∀ x : p.1.shape.Idx, p.2 x = (fun y : S16x512x128.Idx => vBlk x1 x6 (y 0) (y 1) (y 2)) (p.1.emb x) := by
  intro p hp
  unfold vPieces at hp
  obtain ⟨g, -, hp⟩ := List.mem_flatMap.mp hp
  obtain ⟨j, -, hp⟩ := List.mem_flatMap.mp hp
  rcases List.mem_cons.mp hp with rfl | hp
  · intro x
    obtain ⟨r, n, rfl⟩ := ix_of x
    rw [embV]
    refine (vn_apply _ r n).trans ?_
    rw [zs_apply, zg_apply]
    exact dot_col _ _ _ _ _ (by show 1024 * g.val + (256 * j.val + (128 + n.val)) = 256 * (4 * g.val + j.val) + (128 + n.val); omega)
  · exact absurd hp (List.not_mem_nil)

theorem out7_apply (h : Fin 16) (r : Fin 512) (n : Fin 256) : out0_7 (F := Ideal) x0 x1 x2 x3 x4 x5 x6 (ix3 h r n) = qBlk x0 x3 x4 x5 h r n := by
  rw [out7_eq]
  refine View.canon_apply_of_pieces (fun y : S16x512x256.Idx => qBlk x0 x3 x4 x5 (y 0) (y 1) (y 2)) (qPieces x0 x3 x4 x5) (qPieces_all x0 x3 x4 x5) _ ?_
  exact cover0_7 _ _ _ _ _ _ _ _ _ _ _ _ _ _ _ _ _ _ _ _ _ _ _ _ _ _ _ _ _ _ _ _ _
theorem out8_apply (h : Fin 16) (r : Fin 512) (n : Fin 256) : out0_8 (F := Ideal) x0 x1 x2 x3 x4 x5 x6 (ix3 h r n) = kBlk x1 x2 x6 h r n := by
  rw [out8_eq]
  refine View.canon_apply_of_pieces (fun y : S16x512x256.Idx => kBlk x1 x2 x6 (y 0) (y 1) (y 2)) (kPieces x1 x2 x6) (kPieces_all x1 x2 x6) _ ?_
  exact cover0_8 _ _ _ _ _ _ _ _ _ _ _ _ _ _ _ _ _ _ _ _ _ _ _ _ _ _ _ _ _ _ _ _ _
theorem out9_apply (h : Fin 16) (r : Fin 512) (n : Fin 128) : out0_9 (F := Ideal) x0 x1 x2 x3 x4 x5 x6 (ix3 h r n) = vBlk x1 x6 h r n := by
  rw [out9_eq]
  refine View.canon_apply_of_pieces (fun y : S16x512x128.Idx => vBlk x1 x6 (y 0) (y 1) (y 2)) (vPieces x1 x6) (vPieces_all x1 x6) _ ?_
  exact cover0_9 _ _ _ _ _ _ _ _ _ _ _ _ _ _ _ _ _

end Cert.Kernel6Ideal.Qkv
-- ==== Proof.QkvRef.lean ====
module

public import proofs.«01_k».proof.Proof.Scores
public import proofs.«01_k».proof.Proof.Gen.Reference6Ideal.Run
public import Idealize.ShloMosaic.Lib.Pointwise

/-! The projections call's reference: the entries of its three results. -/

@[expose] public section
noncomputable section
namespace Cert.Reference6Ideal.Qkv
open Cert.Reference6Ideal Cert.Reference6Ideal.Facts₀ Cert.Reference6Ideal.Facts Idealize.ShloMosaic Idealize.ShloMosaic.TcCoe Idealize.SL.Sem

/-- A position's row against a column of the layer's weights. -/
def proj {N : ℕ} (a : FVec Ideal S1x8192x512 .f32) (w : FVec Ideal ⟨3, ![4, 512, N]⟩ .f32) (t : Fin 8192) (k : Fin N) : EReal :=
  ∑ e : Fin 512, a (ix3 (0 : Fin 1) t e) * w (ix3 (3 : Fin 4) e k)

def qh (a : FVec Ideal S1x8192x512 .f32) (w : FVec Ideal S4x512x3072 .f32) : FVec Ideal S1x8192x16x192 .f32 :=
  shapeCast _ (Host.dotGeneral dot_S1x8192x512_S512x3072_S1x8192x3072_2_0_01_1_n_n none a (shapeCast _ (extractStridedSlice S1x512x3072 ![3, 0, 0] w slices_S4x512x3072_S1x512x3072_3_0_0) shapeCasts_S1x512x3072_S512x3072)) shapeCasts_S1x8192x3072_S1x8192x16x192
def kvh (a : FVec Ideal S1x8192x512 .f32) (w : FVec Ideal S4x512x4096 .f32) : FVec Ideal S1x8192x16x256 .f32 :=
  shapeCast _ (Host.dotGeneral dot_S1x8192x512_S512x4096_S1x8192x4096_2_0_01_1_n_n none a (shapeCast _ (extractStridedSlice S1x512x4096 ![3, 0, 0] w slices_S4x512x4096_S1x512x4096_3_0_0) shapeCasts_S1x512x4096_S512x4096)) shapeCasts_S1x8192x4096_S1x8192x16x256

theorem qh_apply (a : FVec Ideal S1x8192x512 .f32) (w : FVec Ideal S4x512x3072 .f32) (t : Fin 8192) (h : Fin 16) (n : Fin 192) : qh a w (ix4 (0 : Fin 1) t h n) = proj a w t ⟨h.val * 192 + n.val, by omega⟩ := by
  unfold qh proj
  pointwise
theorem kvh_apply (a : FVec Ideal S1x8192x512 .f32) (w : FVec Ideal S4x512x4096 .f32) (t : Fin 8192) (h : Fin 16) (n : Fin 256) : kvh a w (ix4 (0 : Fin 1) t h n) = proj a w t ⟨h.val * 256 + n.val, by omega⟩ := by
  unfold kvh proj
  pointwise

/-- The rotation of each head's last 64 query columns. -/
def rotq (q : FVec Ideal S1x8192x16x192 .f32) (c s : FVec Ideal S1x8192x1x32 .f32) : FVec Ideal S1x8192x16x64 .f32 :=
  concatenate S1x8192x16x64 3 [⟨S1x8192x16x32, (subf (mulf (extractStridedSlice S1x8192x16x32 ![0, 0, 0, 0] (extractStridedSlice S1x8192x16x64 ![0, 0, 0, 128] q slices_S1x8192x16x192_S1x8192x16x64_0_0_0_128) slices_S1x8192x16x64_S1x8192x16x32_0_0_0_0) (broadcastInDim S1x8192x16x32 ![0, 1, 2, 3] bcast_S1x8192x1x32_S1x8192x16x32_0_1_2_3 c)) (mulf (extractStridedSlice S1x8192x16x32 ![0, 0, 0, 32] (extractStridedSlice S1x8192x16x64 ![0, 0, 0, 128] q slices_S1x8192x16x192_S1x8192x16x64_0_0_0_128) slices_S1x8192x16x64_S1x8192x16x32_0_0_0_32) (broadcastInDim S1x8192x16x32 ![0, 1, 2, 3] bcast_S1x8192x1x32_S1x8192x16x32_0_1_2_3 s)))⟩, ⟨S1x8192x16x32, (addf (mulf (extractStridedSlice S1x8192x16x32 ![0, 0, 0, 32] (extractStridedSlice S1x8192x16x64 ![0, 0, 0, 128] q slices_S1x8192x16x192_S1x8192x16x64_0_0_0_128) slices_S1x8192x16x64_S1x8192x16x32_0_0_0_32) (broadcastInDim S1x8192x16x32 ![0, 1, 2, 3] bcast_S1x8192x1x32_S1x8192x16x32_0_1_2_3 c)) (mulf (extractStridedSlice S1x8192x16x32 ![0, 0, 0, 0] (extractStridedSlice S1x8192x16x64 ![0, 0, 0, 128] q slices_S1x8192x16x192_S1x8192x16x64_0_0_0_128) slices_S1x8192x16x64_S1x8192x16x32_0_0_0_0) (broadcastInDim S1x8192x16x32 ![0, 1, 2, 3] bcast_S1x8192x1x32_S1x8192x16x32_0_1_2_3 s)))⟩] concatenates_S1x8192x16x32_S1x8192x16x32_S1x8192x16x64_d3

theorem rotq_apply (q : FVec Ideal S1x8192x16x192 .f32) (c s : FVec Ideal S1x8192x1x32 .f32) (t : Fin 8192) (h : Fin 16) (n : Fin 64) : rotq q c s (ix4 (0 : Fin 1) t h n) =
    if hn : n.val < 32 then q (ix4 (0 : Fin 1) t h (⟨128 + n.val, by omega⟩ : Fin 192)) * c (ix4 (0 : Fin 1) t (0 : Fin 1) (⟨n.val, hn⟩ : Fin 32)) - q (ix4 (0 : Fin 1) t h (⟨160 + n.val, by omega⟩ : Fin 192)) * s (ix4 (0 : Fin 1) t (0 : Fin 1) (⟨n.val, hn⟩ : Fin 32))
    else q (ix4 (0 : Fin 1) t h (⟨128 + n.val, by omega⟩ : Fin 192)) * c (ix4 (0 : Fin 1) t (0 : Fin 1) (⟨n.val - 32, by omega⟩ : Fin 32)) + q (ix4 (0 : Fin 1) t h (⟨96 + n.val, by omega⟩ : Fin 192)) * s (ix4 (0 : Fin 1) t (0 : Fin 1) (⟨n.val - 32, by omega⟩ : Fin 32)) := by
  unfold rotq
  pointwise
  have key : ∀ (i j : ℕ) (hi : i < 192) (hj : j < 192), i = j → q (ix4 (0 : Fin 1) t h (⟨i, hi⟩ : Fin 192)) = q (ix4 (0 : Fin 1) t h (⟨j, hj⟩ : Fin 192)) := fun i j hi hj e => congrArg (fun j => q (ix4 (0 : Fin 1) t h j)) (Fin.ext e)
  by_cases hn : n.val < 32
  · rw [dif_pos hn, dif_pos hn, key (128 + (32 + n.val)) (160 + n.val) (by omega) (by omega) (by omega)]
  · rw [dif_neg hn, dif_neg hn, key (128 + (32 + (n.val - 32))) (128 + n.val) (by omega) (by omega) (by omega), key (128 + (n.val - 32)) (96 + n.val) (by omega) (by omega) (by omega)]

/-- The divisor of the queries. -/
def den : EReal := Ideal.sqrt (Ideal.ofBits .f32 0x43400000#32) * Ideal.log (Ideal.ofBits .f32 0x40000000#32)

def qres (q : FVec Ideal S1x8192x16x192 .f32) (c s : FVec Ideal S1x8192x1x32 .f32) : FVec Ideal S16x8192x256 .bf16 :=
  truncf .bf16 (transpose S16x8192x256 [1, 0, 2] (shapeCast _ (pad S1x8192x16x256 ![0, 0, 0, 0] ![0, 0, 0, 64] ![0, 0, 0, 0] (Host.divf (concatenate S1x8192x16x192 3 [⟨S1x8192x16x128, (extractStridedSlice S1x8192x16x128 ![0, 0, 0, 0] q slices_S1x8192x16x192_S1x8192x16x128_0_0_0_0)⟩, ⟨S1x8192x16x64, rotq q c s⟩] concatenates_S1x8192x16x128_S1x8192x16x64_S1x8192x16x192_d3) (broadcastInDim S1x8192x16x192 ![] bcast_S_S1x8192x16x192 (mulf (Host.sqrt (constant (F := Ideal) S_ .f32 0x43400000#32)) (Host.log (constant (F := Ideal) S_ .f32 0x40000000#32))))) (sitofp .f32 (constantI S_ 32 0#32)) pads_S1x8192x16x192_S1x8192x16x256_000_000_000_0640 h_S_) shapeCasts_S1x8192x16x256_S8192x16x256) transposes_S8192x16x256_S16x8192x256_1_0_2) bitsLt_bf16_f32

theorem qres_apply (q : FVec Ideal S1x8192x16x192 .f32) (c s : FVec Ideal S1x8192x1x32 .f32) (h : Fin 16) (t : Fin 8192) (n : Fin 256) : qres q c s (ix3 h t n) =
    if hn : n.val < 128 then Ideal.div (q (ix4 (0 : Fin 1) t h (⟨n.val, by omega⟩ : Fin 192))) den
    else if hn : n.val < 192 then Ideal.div (rotq q c s (ix4 (0 : Fin 1) t h (⟨n.val - 128, by omega⟩ : Fin 64))) den else 0 := by
  unfold qres den
  generalize rotq q c s = r
  pointwise
  have z : FloatOps.sitofp (F := Ideal) FTy.f32 0#32 = 0 := by
    show ((((0#32 : BitVec 32).toInt : ℝ)) : EReal) = 0
    simp
  split_ifs <;> first | omega | rfl | exact z

def kres (k : FVec Ideal S1x8192x16x256 .f32) (p : FVec Ideal S1x8192x64 .f32) : FVec Ideal S16x8192x256 .bf16 :=
  truncf .bf16 (transpose S16x8192x256 [1, 0, 2] (shapeCast _ (pad S1x8192x16x256 ![0, 0, 0, 0] ![0, 0, 0, 64] ![0, 0, 0, 0] (concatenate S1x8192x16x192 3 [⟨S1x8192x16x128, (extractStridedSlice S1x8192x16x128 ![0, 0, 0, 0] k slices_S1x8192x16x256_S1x8192x16x128_0_0_0_0)⟩, ⟨S1x8192x16x64, (broadcastInDim S1x8192x16x64 ![0, 1, 2, 3] bcast_S1x8192x1x64_S1x8192x16x64_0_1_2_3 (broadcastInDim S1x8192x1x64 ![0, 1, 3] bcast_S1x8192x64_S1x8192x1x64_0_1_3 p))⟩] concatenates_S1x8192x16x128_S1x8192x16x64_S1x8192x16x192_d3) (sitofp .f32 (constantI S_ 32 0#32)) pads_S1x8192x16x192_S1x8192x16x256_000_000_000_0640 h_S_) shapeCasts_S1x8192x16x256_S8192x16x256) transposes_S8192x16x256_S16x8192x256_1_0_2) bitsLt_bf16_f32

theorem kres_apply (k : FVec Ideal S1x8192x16x256 .f32) (p : FVec Ideal S1x8192x64 .f32) (h : Fin 16) (t : Fin 8192) (n : Fin 256) : kres k p (ix3 h t n) =
    if hn : n.val < 128 then k (ix4 (0 : Fin 1) t h n)
    else if hn : n.val < 192 then p (ix3 (0 : Fin 1) t (⟨n.val - 128, by omega⟩ : Fin 64)) else 0 := by
  unfold kres
  pointwise
  have z : FloatOps.sitofp (F := Ideal) FTy.f32 0#32 = 0 := by
    show ((((0#32 : BitVec 32).toInt : ℝ)) : EReal) = 0
    simp
  split_ifs <;> first | omega | rfl | exact z

def vres (k : FVec Ideal S1x8192x16x256 .f32) : FVec Ideal S16x8192x128 .bf16 :=
  truncf .bf16 (transpose S16x8192x128 [1, 0, 2] (shapeCast _ (extractStridedSlice S1x8192x16x128 ![0, 0, 0, 128] k slices_S1x8192x16x256_S1x8192x16x128_0_0_0_128) shapeCasts_S1x8192x16x128_S8192x16x128) transposes_S8192x16x128_S16x8192x128_1_0_2) bitsLt_bf16_f32

theorem vres_apply (k : FVec Ideal S1x8192x16x256 .f32) (h : Fin 16) (t : Fin 8192) (n : Fin 128) : vres k (ix3 h t n) = k (ix4 (0 : Fin 1) t h (⟨128 + n.val, by omega⟩ : Fin 256)) := by
  unfold vres
  pointwise

end Cert.Reference6Ideal.Qkv
-- ==== Proof.QkvHost.lean ====
module

public import proofs.«01_k».proof.Proof.Qkv
public import proofs.«01_k».proof.Proof.QkvRef

/-! The projections call: the tables, the key and the weights its caller builds. -/

@[expose] public section
noncomputable section
namespace Cert.Kernel6Ideal.Qkv
open Cert.Kernel6Ideal Cert.Kernel6Ideal.Gen Idealize.ShloMosaic Idealize.ShloMosaic.TcCoe Idealize.SL.Sem

/-- Two 32-column arrays side by side, followed by zeros. -/
def table (a b : FVec Ideal S8192x32 .f32) : FVec Ideal S8192x128 .f32 :=
  concatenate S8192x128 1 [⟨S8192x32, a⟩, ⟨S8192x32, b⟩, ⟨S8192x64, broadcastInDim S8192x64 ![] bcast_S_S8192x64 (constant (F := Ideal) S_ .f32 0x00000000#32)⟩] concatenates_S8192x32_S8192x32_S8192x64_S8192x128_d1

theorem table_apply (a b : FVec Ideal S8192x32 .f32) (t : Fin 8192) (n : Fin 128) : table a b (ix2 t n) = if h : n.val < 32 then a (ix2 t (⟨n.val, h⟩ : Fin 32))
    else if h : n.val < 64 then b (ix2 t (⟨n.val - 32, by omega⟩ : Fin 32)) else 0 := by
  unfold table
  pointwise
  split_ifs <;> first | omega | rfl | (rw [dif_pos (by omega)]) | (rw [dif_neg (by omega)]; exact Ideal.ofBits_zero_f32)

def flat (a : FVec Ideal S1x8192x1x32 .f32) : FVec Ideal S8192x32 .f32 := shapeCast S8192x32 a shapeCasts_S1x8192x1x32_S8192x32

theorem flat_apply (a : FVec Ideal S1x8192x1x32 .f32) (t : Fin 8192) (n : Fin 32) : flat a (ix2 t n) = a (ix4 (0 : Fin 1) t (0 : Fin 1) n) := by
  unfold flat
  pointwise

/-- The rotated key followed by zeros. -/
def kpad (a : FVec Ideal S1x8192x64 .f32) : FVec Ideal S8192x128 .bf16 :=
  truncf .bf16 (concatenate S8192x128 1 [⟨S8192x64, shapeCast S8192x64 a shapeCasts_S1x8192x64_S8192x64⟩, ⟨S8192x64, broadcastInDim S8192x64 ![] bcast_S_S8192x64 (constant (F := Ideal) S_ .f32 0x00000000#32)⟩] concatenates_S8192x64_S8192x64_S8192x128_d1) bitsLt_bf16_f32

theorem kpad_apply (a : FVec Ideal S1x8192x64 .f32) (t : Fin 8192) (n : Fin 128) : kpad a (ix2 t n) = if h : n.val < 64 then a (ix3 (0 : Fin 1) t (⟨n.val, h⟩ : Fin 64)) else 0 := by
  unfold kpad
  pointwise

def rows (a : FVec Ideal S1x8192x512 .f32) : FVec Ideal S8192x512 .bf16 := truncf .bf16 (shapeCast S8192x512 a shapeCasts_S1x8192x512_S8192x512) bitsLt_bf16_f32

theorem rows_apply (a : FVec Ideal S1x8192x512 .f32) (t : Fin 8192) (e : Fin 512) : rows a (ix2 t e) = a (ix3 (0 : Fin 1) t e) := by
  unfold rows
  pointwise

def pair (a b : FVec Ideal S4x512x16x32 .f32) : FVec Ideal S4x512x16x128 .f32 :=
  concatenate S4x512x16x128 3 [⟨S4x512x16x32, a⟩, ⟨S4x512x16x32, b⟩, ⟨S4x512x16x64, broadcastInDim S4x512x16x64 ![] bcast_S_S4x512x16x64 (constant (F := Ideal) S_ .f32 0x00000000#32)⟩] concatenates_S4x512x16x32_S4x512x16x32_S4x512x16x64_S4x512x16x128_d3

theorem pair_apply (a b : FVec Ideal S4x512x16x32 .f32) (l : Fin 4) (e : Fin 512) (h : Fin 16) (n : Fin 128) : pair a b (ix4 l e h n) = if hn : n.val < 32 then a (ix4 l e h (⟨n.val, hn⟩ : Fin 32))
    else if hn : n.val < 64 then b (ix4 l e h (⟨n.val - 32, by omega⟩ : Fin 32)) else 0 := by
  unfold pair
  pointwise
  split_ifs <;> first | omega | rfl | (rw [dif_pos (by omega)]) | (rw [dif_neg (by omega)]; exact Ideal.ofBits_zero_f32)

def perHead (w : FVec Ideal S4x512x3072 .f32) : FVec Ideal S4x512x16x192 .f32 := shapeCast S4x512x16x192 w shapeCasts_S4x512x3072_S4x512x16x192
theorem perHead_apply (w : FVec Ideal S4x512x3072 .f32) (l : Fin 4) (e : Fin 512) (h : Fin 16) (n : Fin 192) : perHead w (ix4 l e h n) = w (ix3 l e (⟨h.val * 192 + n.val, by omega⟩ : Fin 3072)) := by
  unfold perHead
  pointwise

def firstHalf (p : FVec Ideal S4x512x16x192 .f32) : FVec Ideal S4x512x16x32 .f32 :=
  extractStridedSlice S4x512x16x32 ![0, 0, 0, 0] (extractStridedSlice S4x512x16x64 ![0, 0, 0, 128] p slices_S4x512x16x192_S4x512x16x64_0_0_0_128) slices_S4x512x16x64_S4x512x16x32_0_0_0_0
def secondHalf (p : FVec Ideal S4x512x16x192 .f32) : FVec Ideal S4x512x16x32 .f32 :=
  extractStridedSlice S4x512x16x32 ![0, 0, 0, 32] (extractStridedSlice S4x512x16x64 ![0, 0, 0, 128] p slices_S4x512x16x192_S4x512x16x64_0_0_0_128) slices_S4x512x16x64_S4x512x16x32_0_0_0_32
theorem firstHalf_apply (p : FVec Ideal S4x512x16x192 .f32) (l : Fin 4) (e : Fin 512) (h : Fin 16) (n : Fin 32) : firstHalf p (ix4 l e h n) = p (ix4 l e h (⟨128 + n.val, by omega⟩ : Fin 192)) := by
  unfold firstHalf
  pointwise
theorem secondHalf_apply (p : FVec Ideal S4x512x16x192 .f32) (l : Fin 4) (e : Fin 512) (h : Fin 16) (n : Fin 32) : secondHalf p (ix4 l e h n) = p (ix4 l e h (⟨128 + (32 + n.val), by omega⟩ : Fin 192)) := by
  unfold secondHalf
  pointwise

/-- Each head's 384 columns: those without rotation, then its two rotary halves, then the halves exchanged. -/
def wide (p : FVec Ideal S4x512x16x192 .f32) : FVec Ideal S4x512x16x384 .f32 :=
  concatenate S4x512x16x384 3 [⟨S4x512x16x128, extractStridedSlice S4x512x16x128 ![0, 0, 0, 0] p slices_S4x512x16x192_S4x512x16x128_0_0_0_0⟩, ⟨S4x512x16x128, pair (firstHalf p) (secondHalf p)⟩, ⟨S4x512x16x128, pair (secondHalf p) (firstHalf p)⟩] concatenates_S4x512x16x128_S4x512x16x128_S4x512x16x128_S4x512x16x384_d3

theorem wide_cases (p : FVec Ideal S4x512x16x192 .f32) (l : Fin 4) (e : Fin 512) (h : Fin 16) (n : Fin 384) : wide p (ix4 l e h n) = if hn : n.val < 128 then p (ix4 l e h (⟨n.val, by omega⟩ : Fin 192))
    else if hn : n.val < 256 then pair (firstHalf p) (secondHalf p) (ix4 l e h (⟨n.val - 128, by omega⟩ : Fin 128)) else pair (secondHalf p) (firstHalf p) (ix4 l e h (⟨n.val - 256, by omega⟩ : Fin 128)) := by
  unfold wide
  generalize pair (firstHalf p) (secondHalf p) = a
  generalize pair (secondHalf p) (firstHalf p) = b
  pointwise
  have key : ∀ (i j : ℕ) (hi : i < 128) (hj : j < 128), i = j → b (ix4 l e h (⟨i, hi⟩ : Fin 128)) = b (ix4 l e h (⟨j, hj⟩ : Fin 128)) := fun i j hi hj q => congrArg (fun j => b (ix4 l e h j)) (Fin.ext q)
  split_ifs <;> first | omega | rfl | (rw [dif_pos (by omega)]; done) | (rw [dif_neg (by omega)]; exact key _ _ _ _ (by omega))

def wq (w : FVec Ideal S4x512x3072 .f32) : FVec Ideal S4x512x6144 .bf16 := truncf .bf16 (shapeCast S4x512x6144 (wide (perHead w)) shapeCasts_S4x512x16x384_S4x512x6144) bitsLt_bf16_f32

theorem merge (p : FVec Ideal S4x512x16x384 .f32) (l : Fin 4) (e : Fin 512) (k : Fin 6144) : truncf .bf16 (shapeCast S4x512x6144 p shapeCasts_S4x512x16x384_S4x512x6144) bitsLt_bf16_f32 (ix3 l e k) = p (ix4 l e (⟨k.val / 384, by omega⟩ : Fin 16) (⟨k.val % 384, by omega⟩ : Fin 384)) := by
  pointwise

theorem wq_wide (w : FVec Ideal S4x512x3072 .f32) (l : Fin 4) (e : Fin 512) (h : Fin 16) (n : Fin 384) (k : Fin 6144) (hk : k.val = 384 * h.val + n.val) : wq w (ix3 l e k) = wide (perHead w) (ix4 l e h n) := by
  have eh : k.val / 384 = h.val := by omega
  have en : k.val % 384 = n.val := by omega
  exact (merge (wide (perHead w)) l e k).trans (congrArg₂ (fun h n => wide (perHead w) (ix4 l e h n)) (Fin.ext eh) (Fin.ext en))

/-- The first 192 columns of a head are the head's own … -/
theorem wq_own (w : FVec Ideal S4x512x3072 .f32) (e : Fin 512) (h : Fin 16) (n : ℕ) (hn : n < 192) (k : Fin 6144) (hk : k.val = 384 * h.val + n) (k' : Fin 3072) (hk' : k'.val = h.val * 192 + n) :
    wq w (ix3 (3 : Fin 4) e k) = w (ix3 (3 : Fin 4) e k') := by
  rw [wq_wide w 3 e h ⟨n, by omega⟩ k hk, wide_cases]
  have fin : ∀ j : Fin 192, j.val = n → perHead w (ix4 (3 : Fin 4) e h j) = w (ix3 (3 : Fin 4) e k') := fun j hj =>
    (perHead_apply w 3 e h j).trans (congrArg (fun k => w (ix3 (3 : Fin 4) e k)) (Fin.ext (by show h.val * 192 + j.val = k'.val; omega)))
  by_cases h1 : n < 128
  · exact (dif_pos h1).trans (fin _ rfl)
  · refine (dif_neg h1).trans ((dif_pos (show n < 256 by omega)).trans ((pair_apply _ _ _ _ _ _).trans ?_))
    by_cases h2 : n - 128 < 32
    · exact (dif_pos h2).trans ((firstHalf_apply _ _ _ _ _).trans (fin _ (by show 128 + (n - 128) = n; omega)))
    · exact (dif_neg h2).trans ((dif_pos (show n - 128 < 64 by omega)).trans ((secondHalf_apply _ _ _ _ _).trans (fin _ (by show 128 + (32 + (n - 128 - 32)) = n; omega))))

/-- … and from column 256 on the rotary ones follow with their halves exchanged. -/
theorem wq_swap (w : FVec Ideal S4x512x3072 .f32) (e : Fin 512) (h : Fin 16) (n : ℕ) (hn : n < 64) (k : Fin 6144) (hk : k.val = 384 * h.val + (256 + n)) (k' : Fin 3072) (hk' : k'.val = h.val * 192 + (128 + (n + 32) % 64)) :
    wq w (ix3 (3 : Fin 4) e k) = w (ix3 (3 : Fin 4) e k') := by
  rw [wq_wide w 3 e h ⟨256 + n, by omega⟩ k hk, wide_cases]
  have fin : ∀ j : Fin 192, j.val = 128 + (n + 32) % 64 → perHead w (ix4 (3 : Fin 4) e h j) = w (ix3 (3 : Fin 4) e k') := fun j hj =>
    (perHead_apply w 3 e h j).trans (congrArg (fun k => w (ix3 (3 : Fin 4) e k)) (Fin.ext (by show h.val * 192 + j.val = k'.val; omega)))
  refine (dif_neg (show ¬256 + n < 128 by omega)).trans ((dif_neg (show ¬256 + n < 256 by omega)).trans ((pair_apply _ _ _ _ _ _).trans ?_))
  by_cases h2 : 256 + n - 256 < 32
  · exact (dif_pos h2).trans ((secondHalf_apply _ _ _ _ _).trans (fin _ (by show 128 + (32 + (256 + n - 256)) = 128 + (n + 32) % 64; omega)))
  · exact (dif_neg h2).trans ((dif_pos (show 256 + n - 256 < 64 by omega)).trans ((firstHalf_apply _ _ _ _ _).trans (fin _ (by show 128 + (256 + n - 256 - 32) = 128 + (n + 32) % 64; omega))))

def wkv (w : FVec Ideal S4x512x4096 .f32) : FVec Ideal S4x512x4096 .bf16 := truncf .bf16 w bitsLt_bf16_f32
theorem wkv_apply (w : FVec Ideal S4x512x4096 .f32) (x : S4x512x4096.Idx) : wkv w x = w x := rfl

variable (m : (ℓ : Loc nD τ sig) → Buf (Elt Ideal) ℓ) (c : Dev nD)

theorem V5_eq : V m c main_v5 = kpad (m ((c.tc : Thread nD τ).loc main_arg2)) := by
  unfold kpad
  show StableHlo.after hostOps0 _ _ = _
  after_results
  rfl
theorem V16_eq : V m c main_v16 = wq (m ((c.tc : Thread nD τ).loc main_arg5)) := by
  unfold wq wide pair firstHalf secondHalf perHead
  show StableHlo.after hostOps0 _ _ = _
  after_results
  rfl
theorem V18_eq : V m c main_v18 = rows (m ((c.tc : Thread nD τ).loc main_arg0)) := by
  unfold rows
  show StableHlo.after hostOps0 _ _ = _
  after_results
  rfl
theorem V20_eq : V m c main_v20 = rows (m ((c.tc : Thread nD τ).loc main_arg1)) := by
  unfold rows
  show StableHlo.after hostOps0 _ _ = _
  after_results
  rfl
theorem V21_eq : V m c main_v21 = table (flat (m ((c.tc : Thread nD τ).loc main_arg3))) (flat (m ((c.tc : Thread nD τ).loc main_arg3))) := by
  unfold table flat
  show StableHlo.after hostOps0 _ _ = _
  after_results
  rfl
theorem V23_eq : V m c main_v23 = table (Host.negf (flat (m ((c.tc : Thread nD τ).loc main_arg4)))) (flat (m ((c.tc : Thread nD τ).loc main_arg4))) := by
  unfold table flat
  show StableHlo.after hostOps0 _ _ = _
  after_results
  rfl
theorem V24_eq : V m c main_v24 = wkv (m ((c.tc : Thread nD τ).loc main_arg6)) := by
  unfold wkv
  show StableHlo.after hostOps0 _ _ = _
  after_results

end Cert.Kernel6Ideal.Qkv
-- ==== Proof.QkvArr.lean ====
module

public import proofs.«01_k».proof.Proof.QkvHost

/-! The projections call: its three output arrays. -/

@[expose] public section
noncomputable section
namespace Cert.Kernel6Ideal.Qkv
open Cert.Kernel6Ideal Cert.Kernel6Ideal.Gen Idealize.ShloMosaic Idealize.ShloMosaic.TcCoe Idealize.SL.Sem
open Cert.Reference6Ideal.Qkv (proj qh qh_apply kvh kvh_apply rotq rotq_apply den qres qres_apply kres kres_apply vres vres_apply)

variable (m : (ℓ : Loc nD τ sig) → Buf (Elt Ideal) ℓ) (c : Dev nD)

theorem idx (t : Fin cfg0.N) : (win0_0.index t 0 = t.val ∧ win0_0.index t 1 = 0) ∧ (win0_1.index t 0 = t.val ∧ win0_1.index t 1 = 0)
    ∧ (win0_2.index t 0 = t.val ∧ win0_2.index t 1 = 0) ∧ (win0_3.index t 0 = t.val ∧ win0_3.index t 1 = 0) ∧ (win0_4.index t 0 = t.val ∧ win0_4.index t 1 = 0)
    ∧ (win0_5.index t 0 = 3 ∧ win0_5.index t 1 = 0 ∧ win0_5.index t 2 = 0) ∧ (win0_6.index t 0 = 3 ∧ win0_6.index t 1 = 0 ∧ win0_6.index t 2 = 0)
    ∧ (win0_7.index t 0 = 0 ∧ win0_7.index t 1 = t.val ∧ win0_7.index t 2 = 0) ∧ (win0_8.index t 0 = 0 ∧ win0_8.index t 1 = t.val ∧ win0_8.index t 2 = 0)
    ∧ (win0_9.index t 0 = 0 ∧ win0_9.index t 1 = t.val ∧ win0_9.index t 2 = 0) := by
  revert t
  decide +kernel

theorem blk0 (t : Fin cfg0.N) (r : Fin 512) (e : Fin 512) (h) : iblk m c 0 t (ix2 r e) = V m c main_v18 (ix2 (⟨512 * t.val + r.val, h⟩ : Fin 8192) e) := by
  blk_ext! [iblk, idx t]
theorem blk1 (t : Fin cfg0.N) (r : Fin 512) (e : Fin 512) (h) : iblk m c 1 t (ix2 r e) = V m c main_v20 (ix2 (⟨512 * t.val + r.val, h⟩ : Fin 8192) e) := by
  blk_ext! [iblk, idx t]
theorem blk2 (t : Fin cfg0.N) (r : Fin 512) (n : Fin 128) (h) : iblk m c 2 t (ix2 r n) = V m c main_v5 (ix2 (⟨512 * t.val + r.val, h⟩ : Fin 8192) n) := by
  blk_ext! [iblk, idx t]
theorem blk3 (t : Fin cfg0.N) (r : Fin 512) (n : Fin 128) (h) : iblk m c 3 t (ix2 r n) = V m c main_v21 (ix2 (⟨512 * t.val + r.val, h⟩ : Fin 8192) n) := by
  blk_ext! [iblk, idx t]
theorem blk4 (t : Fin cfg0.N) (r : Fin 512) (n : Fin 128) (h) : iblk m c 4 t (ix2 r n) = V m c main_v23 (ix2 (⟨512 * t.val + r.val, h⟩ : Fin 8192) n) := by
  blk_ext! [iblk, idx t]
theorem read5 (t : Fin cfg0.N) (X : (Pipeline.arrRef spec0 5).ty.Contents (Elt Ideal)) (x : ((cfg0.win 5).xblock (cfg0.grid.coords t)).Idx) : ((cfg0.win 5).blk t).view.read (Elt Ideal) X x = X (((cfg0.win 5).blk t).view.emb x) := rfl
theorem emb5 (t : Fin cfg0.N) (e : Fin 512) (k : Fin 6144) : (win0_5.blk t).view.emb (ix3 (0 : Fin 1) e k) = ix3 (3 : Fin 4) e k := by
  blk_ext [idx t]
theorem blk5 (t : Fin cfg0.N) (e : Fin 512) (k : Fin 6144) : iblk m c 5 t (ix3 (0 : Fin 1) e k) = V m c main_v16 (ix3 (3 : Fin 4) e k) := by
  unfold iblk
  exact (read5 t (V m c (Pipeline.arrRef spec0 5)) (ix3 (0 : Fin 1) e k)).trans (congrArg (V m c main_v16) (emb5 t e k))
theorem blk6 (t : Fin cfg0.N) (e : Fin 512) (k : Fin 4096) : iblk m c 6 t (ix3 (0 : Fin 1) e k) = V m c main_v24 (ix3 (3 : Fin 4) e k) := by
  blk_ext! [iblk, idx t]

/-- A block row against a column of the rearranged weights is the projection's entry at the column it holds. -/
theorem dot_q (t : Fin cfg0.N) (r : Fin 512) (hr : 512 * t.val + r.val < 8192) (k : Fin 6144) (k' : Fin 3072) (hW : ∀ e, wq (m ((c.tc : Thread nD τ).loc main_arg5)) (ix3 (3 : Fin 4) e k) = m ((c.tc : Thread nD τ).loc main_arg5) (ix3 (3 : Fin 4) e k')) :
    dot (iblk m c 0 t) (iblk m c 5 t) r k = proj (m ((c.tc : Thread nD τ).loc main_arg0)) (m ((c.tc : Thread nD τ).loc main_arg5)) ⟨512 * t.val + r.val, hr⟩ k' :=
  Finset.sum_congr rfl fun e _ => congrArg₂ (· * ·)
    ((blk0 m c t r e hr).trans ((congrFun (V18_eq m c) _).trans (rows_apply _ _ e)))
    ((blk5 m c t e k).trans ((congrFun (V16_eq m c) _).trans (hW e)))
theorem dot_kv (t : Fin cfg0.N) (r : Fin 512) (hr : 512 * t.val + r.val < 8192) (k k' : Fin 4096) (hk : k.val = k'.val) :
    dot (iblk m c 1 t) (iblk m c 6 t) r k = proj (m ((c.tc : Thread nD τ).loc main_arg1)) (m ((c.tc : Thread nD τ).loc main_arg6)) ⟨512 * t.val + r.val, hr⟩ k' := by
  rw [show k = k' from Fin.ext hk]
  exact Finset.sum_congr rfl fun e _ => congrArg₂ (· * ·)
    ((blk1 m c t r e hr).trans ((congrFun (V20_eq m c) _).trans (rows_apply _ _ e)))
    ((blk6 m c t e k').trans (congrFun (V24_eq m c) _))

/-- Multiplying by the named constant is dividing by the reference's divisor. -/
theorem scaled (x : EReal) : x * κs = Ideal.div x den := by
  unfold den
  rw [Soft.root_192, Soft.log_2, ← EReal.coe_mul, Ideal.div_coe (mul_ne_zero Soft.root_ne Soft.log_ne), one_div]
  rfl

theorem cosTab (t : Fin cfg0.N) (r : Fin 512) (hr : 512 * t.val + r.val < 8192) (n : Fin 128) : iblk m c 3 t (ix2 r n) = table (flat (m ((c.tc : Thread nD τ).loc main_arg3))) (flat (m ((c.tc : Thread nD τ).loc main_arg3))) (ix2 (⟨512 * t.val + r.val, hr⟩ : Fin 8192) n) :=
  (blk3 m c t r n hr).trans (congrFun (V21_eq m c) _)
theorem sinTab (t : Fin cfg0.N) (r : Fin 512) (hr : 512 * t.val + r.val < 8192) (n : Fin 128) : iblk m c 4 t (ix2 r n) = table (Host.negf (flat (m ((c.tc : Thread nD τ).loc main_arg4)))) (flat (m ((c.tc : Thread nD τ).loc main_arg4))) (ix2 (⟨512 * t.val + r.val, hr⟩ : Fin 8192) n) :=
  (blk4 m c t r n hr).trans (congrFun (V23_eq m c) _)

theorem q_eq (t : Fin cfg0.N) (h : Fin 16) (r : Fin 512) (hr : 512 * t.val + r.val < 8192) (n : Fin 256) :
    qBlk (iblk m c 0 t) (iblk m c 3 t) (iblk m c 4 t) (iblk m c 5 t) h r n
      = qres (qh (m ((c.tc : Thread nD τ).loc main_arg0)) (m ((c.tc : Thread nD τ).loc main_arg5))) (m ((c.tc : Thread nD τ).loc main_arg3)) (m ((c.tc : Thread nD τ).loc main_arg4)) (ix3 h (⟨512 * t.val + r.val, hr⟩ : Fin 8192) n) := by
  have own : ∀ (n : ℕ) (hn : n < 192) (k : Fin 6144) (hk : k.val = 384 * h.val + n) (j : Fin 192) (hj : j.val = n), dot (iblk m c 0 t) (iblk m c 5 t) r k = qh (m ((c.tc : Thread nD τ).loc main_arg0)) (m ((c.tc : Thread nD τ).loc main_arg5)) (ix4 (0 : Fin 1) (⟨512 * t.val + r.val, hr⟩ : Fin 8192) h j) := fun n hn k hk j hj =>
    (dot_q m c t r hr k _ fun e => wq_own _ e h n hn k hk _ (by show h.val * 192 + j.val = h.val * 192 + n; omega)).trans (qh_apply _ _ _ h j).symm
  have swap : ∀ (n : ℕ) (hn : n < 64) (k : Fin 6144) (hk : k.val = 384 * h.val + (256 + n)) (j : Fin 192) (hj : j.val = 128 + (n + 32) % 64), dot (iblk m c 0 t) (iblk m c 5 t) r k = qh (m ((c.tc : Thread nD τ).loc main_arg0)) (m ((c.tc : Thread nD τ).loc main_arg5)) (ix4 (0 : Fin 1) (⟨512 * t.val + r.val, hr⟩ : Fin 8192) h j) := fun n hn k hk j hj =>
    (dot_q m c t r hr k _ fun e => wq_swap _ e h n hn k hk _ (by show h.val * 192 + j.val = h.val * 192 + (128 + (n + 32) % 64); omega)).trans (qh_apply _ _ _ h j).symm
  refine Eq.trans ?_ (qres_apply _ _ _ h _ n).symm
  unfold qBlk
  by_cases h1 : n.val < 128
  · rw [dif_pos h1, dif_pos h1, scaled]
    exact congrArg (Ideal.div · den) (own n.val (by omega) _ rfl _ rfl)
  · rw [dif_neg h1, dif_neg h1, scaled, cosTab m c t r hr, sinTab m c t r hr, table_apply, table_apply]
    by_cases h2 : n.val < 192
    · rw [dif_pos h2, rotq_apply]
      refine congrArg (Ideal.div · den) ?_
      by_cases h3 : n.val - 128 < 32
      · simp only [dif_pos h3]
        rw [flat_apply, show ∀ i, Host.negf (flat (m ((c.tc : Thread nD τ).loc main_arg4))) i = -(flat (m ((c.tc : Thread nD τ).loc main_arg4)) i : EReal) from fun i => rfl, flat_apply, mul_neg, ← sub_eq_add_neg]
        exact congrArg₂ (· - ·) (congrArg (· * _) (own n.val h2 _ rfl _ (by show 128 + (n.val - 128) = n.val; omega))) (congrArg (· * _) (swap (n.val - 128) (by omega) _ (by show 384 * h.val + (128 + n.val) = 384 * h.val + (256 + (n.val - 128)); omega) _ (by show 160 + (n.val - 128) = 128 + (n.val - 128 + 32) % 64; omega)))
      · simp only [dif_neg h3, dif_pos (show n.val - 128 < 64 by omega)]
        rw [flat_apply, flat_apply]
        exact congrArg₂ (· + ·) (congrArg (· * _) (own n.val h2 _ rfl _ (by show 128 + (n.val - 128) = n.val; omega))) (congrArg (· * _) (swap (n.val - 128) (by omega) _ (by show 384 * h.val + (128 + n.val) = 384 * h.val + (256 + (n.val - 128)); omega) _ (by show 96 + (n.val - 128) = 128 + (n.val - 128 + 32) % 64; omega)))
    · rw [dif_neg h2]
      simp only [dif_neg (show ¬n.val - 128 < 32 by omega), dif_neg (show ¬n.val - 128 < 64 by omega), mul_zero, add_zero]
      rw [← scaled, zero_mul]

theorem k_eq (t : Fin cfg0.N) (h : Fin 16) (r : Fin 512) (hr : 512 * t.val + r.val < 8192) (n : Fin 256) :
    kBlk (iblk m c 1 t) (iblk m c 2 t) (iblk m c 6 t) h r n
      = kres (kvh (m ((c.tc : Thread nD τ).loc main_arg1)) (m ((c.tc : Thread nD τ).loc main_arg6))) (m ((c.tc : Thread nD τ).loc main_arg2)) (ix3 h (⟨512 * t.val + r.val, hr⟩ : Fin 8192) n) := by
  refine Eq.trans ?_ (kres_apply _ _ h _ n).symm
  unfold kBlk
  by_cases h1 : n.val < 128
  · rw [dif_pos h1, dif_pos h1]
    exact (dot_kv m c t r hr _ _ (by show 256 * h.val + n.val = h.val * 256 + n.val; omega)).trans (kvh_apply _ _ _ h n).symm
  · rw [dif_neg h1, dif_neg h1]
    refine (blk2 m c t r _ hr).trans ((congrFun (V5_eq m c) _).trans ((kpad_apply _ _ _).trans ?_))
    by_cases h2 : n.val < 192
    · rw [dif_pos h2, dif_pos (show n.val - 128 < 64 by omega)]
    · rw [dif_neg h2, dif_neg (show ¬n.val - 128 < 64 by omega)]

theorem v_eq (t : Fin cfg0.N) (h : Fin 16) (r : Fin 512) (hr : 512 * t.val + r.val < 8192) (n : Fin 128) :
    vBlk (iblk m c 1 t) (iblk m c 6 t) h r n
      = vres (kvh (m ((c.tc : Thread nD τ).loc main_arg1)) (m ((c.tc : Thread nD τ).loc main_arg6))) (ix3 h (⟨512 * t.val + r.val, hr⟩ : Fin 8192) n) := by
  refine Eq.trans ?_ ((vres_apply _ h _ n).trans (kvh_apply _ _ _ h _)).symm
  exact dot_kv m c t r hr _ _ (by show 256 * h.val + (128 + n.val) = h.val * 256 + (128 + n.val); omega)

theorem arr7_eq (G : FVec Ideal S16x8192x256 .bf16) (hG : G = qres (qh (m ((c.tc : Thread nD τ).loc main_arg0)) (m ((c.tc : Thread nD τ).loc main_arg5))) (m ((c.tc : Thread nD τ).loc main_arg3)) (m ((c.tc : Thread nD τ).loc main_arg4))) :
    (dats m 0 c).arrAt 7 cfg0.N = G := by
  refine (dats m 0 c).arrAt_eq_of_covers 7 G (by decide +kernel) fun t hf y => ?_
  have hN : t.val < 16 := t.isLt
  obtain ⟨h, i, n, rfl⟩ : ∃ (h : Fin 16) (i : Fin 512) (n : Fin 256), y = ix3 h i n := ⟨y 0, y 1, y 2, by funext a; fin_cases a <;> rfl⟩
  have hi : 512 * t.val + i.val < 8192 := by omega
  blk_simp
  rw [after0_7]
  have e : ((cfg0.win 7).blk t).view.emb (ix3 h i n) = ix3 h (⟨512 * t.val + i.val, hi⟩ : Fin 8192) n := by
    blk_ext [idx t]
  rw [e, hG]
  exact (out7_apply _ _ _ _ _ _ _ h i n).trans (q_eq m c t h i hi n)

theorem arr8_eq (G : FVec Ideal S16x8192x256 .bf16) (hG : G = kres (kvh (m ((c.tc : Thread nD τ).loc main_arg1)) (m ((c.tc : Thread nD τ).loc main_arg6))) (m ((c.tc : Thread nD τ).loc main_arg2))) :
    (dats m 0 c).arrAt 8 cfg0.N = G := by
  refine (dats m 0 c).arrAt_eq_of_covers 8 G (by decide +kernel) fun t hf y => ?_
  have hN : t.val < 16 := t.isLt
  obtain ⟨h, i, n, rfl⟩ : ∃ (h : Fin 16) (i : Fin 512) (n : Fin 256), y = ix3 h i n := ⟨y 0, y 1, y 2, by funext a; fin_cases a <;> rfl⟩
  have hi : 512 * t.val + i.val < 8192 := by omega
  blk_simp
  rw [after0_8]
  have e : ((cfg0.win 8).blk t).view.emb (ix3 h i n) = ix3 h (⟨512 * t.val + i.val, hi⟩ : Fin 8192) n := by
    blk_ext [idx t]
  rw [e, hG]
  exact (out8_apply _ _ _ _ _ _ _ h i n).trans (k_eq m c t h i hi n)

theorem arr9_eq (G : FVec Ideal S16x8192x128 .bf16) (hG : G = vres (kvh (m ((c.tc : Thread nD τ).loc main_arg1)) (m ((c.tc : Thread nD τ).loc main_arg6)))) :
    (dats m 0 c).arrAt 9 cfg0.N = G := by
  refine (dats m 0 c).arrAt_eq_of_covers 9 G (by decide +kernel) fun t hf y => ?_
  have hN : t.val < 16 := t.isLt
  obtain ⟨h, i, n, rfl⟩ : ∃ (h : Fin 16) (i : Fin 512) (n : Fin 128), y = ix3 h i n := ⟨y 0, y 1, y 2, by funext a; fin_cases a <;> rfl⟩
  have hi : 512 * t.val + i.val < 8192 := by omega
  blk_simp
  rw [after0_9]
  have e : ((cfg0.win 9).blk t).view.emb (ix3 h i n) = ix3 h (⟨512 * t.val + i.val, hi⟩ : Fin 8192) n := by
    blk_ext [idx t]
  rw [e, hG]
  exact (out9_apply _ _ _ _ _ _ _ h i n).trans (v_eq m c t h i hi n)

end Cert.Kernel6Ideal.Qkv
-- ==== Proof.RopeRef.lean ====
module

public import Idealize.ShloMosaic.PureOps.Ideal
public import proofs.«01_k».proof.Proof.Gen.Reference7Ideal.Run
public import Idealize.ShloMosaic.Lib.IdealHost
public import Idealize.ShloMosaic.Lib.Pointwise

/-! The rotary tables' reference: the entries of its two results. -/

@[expose] public section
noncomputable section
namespace Cert.Reference7Ideal.Rope
open Cert.Reference7Ideal Cert.Reference7Ideal.Facts₀ Cert.Reference7Ideal.Facts Idealize.ShloMosaic Idealize.ShloMosaic.TcCoe Idealize.SL.Sem

/-- The 32 frequencies. -/
def freq : FVec Ideal S32 .f32 :=
  Host.powf (broadcastInDim S32 ![] bcast_S_S32 (constant (F := Ideal) S_ .f32 0x461C4000#32)) (Host.divf (Host.negf (addf (broadcastInDim S32 ![] bcast_S_S32 (constant (F := Ideal) S_ .f32 0x00000000#32)) (mulf (broadcastInDim S32 ![] bcast_S_S32 (constant (F := Ideal) S_ .f32 0x40000000#32)) (sitofp .f32 (iotaInDim S32 32 0))))) (broadcastInDim S32 ![] bcast_S_S32 (constant (F := Ideal) S_ .f32 0x42800000#32)))

/-- A position times a frequency. -/
def angle (p : IVec S1x8192 32) (f : FVec Ideal S32 .f32) : FVec Ideal S1x8192x32 .f32 :=
  mulf (broadcastInDim S1x8192x32 ![0, 1, 2] bcast_S1x8192x1_S1x8192x32_0_1_2 (broadcastInDim S1x8192x1 ![0, 1] bcast_S1x8192_S1x8192x1_0_1 (sitofp .f32 p))) (broadcastInDim S1x8192x32 ![0, 1, 2] bcast_S1x1x32_S1x8192x32_0_1_2 (broadcastInDim S1x1x32 ![2] bcast_S32_S1x1x32_2 f))

def ang (p : IVec S1x8192 32) (f : FVec Ideal S32 .f32) (t : Fin 8192) (n : Fin 32) : EReal := FloatOps.sitofp (F := Ideal) .f32 (p (ix2 (0 : Fin 1) t)) * f (ix1 n)

theorem angle_apply (p : IVec S1x8192 32) (f : FVec Ideal S32 .f32) (t : Fin 8192) (n : Fin 32) : angle p f (ix3 (0 : Fin 1) t n) = ang p f t n := by
  unfold angle ang
  pointwise

def padded (a b : FVec Ideal S1x8192x32 .f32) : FVec Ideal S8192x128 .f32 :=
  shapeCast _ (pad S1x8192x128 ![0, 0, 0] ![0, 0, 64] ![0, 0, 0] (concatenate S1x8192x64 2 [⟨S1x8192x32, a⟩, ⟨S1x8192x32, b⟩] concatenates_S1x8192x32_S1x8192x32_S1x8192x64_d2) (sitofp .f32 (constantI S_ 32 0#32)) pads_S1x8192x64_S1x8192x128_000_000_0640 h_S_) shapeCasts_S1x8192x128_S8192x128

theorem padded_apply (a b : FVec Ideal S1x8192x32 .f32) (t : Fin 8192) (n : Fin 128) : padded a b (ix2 t n) =
    if h : n.val < 32 then a (ix3 (0 : Fin 1) t (⟨n.val, h⟩ : Fin 32)) else if h : n.val < 64 then b (ix3 (0 : Fin 1) t (⟨n.val - 32, by omega⟩ : Fin 32)) else 0 := by
  unfold padded
  pointwise
  have z : FloatOps.sitofp (F := Ideal) FTy.f32 0#32 = 0 := by
    show ((((0#32 : BitVec 32).toInt : ℝ)) : EReal) = 0
    simp
  split_ifs <;> first | omega | rfl | exact z

def cosRes (p : IVec S1x8192 32) (f : FVec Ideal S32 .f32) : FVec Ideal S8192x128 .f32 := padded (Host.cos (angle p f)) (Host.cos (angle p f))
def sinRes (p : IVec S1x8192 32) (f : FVec Ideal S32 .f32) : FVec Ideal S8192x128 .f32 := padded (Host.negf (Host.sin (angle p f))) (Host.sin (angle p f))

theorem cosRes_apply (p : IVec S1x8192 32) (f : FVec Ideal S32 .f32) (t : Fin 8192) (n : Fin 128) : cosRes p f (ix2 t n) =
    if h : n.val < 32 then Ideal.cos (ang p f t ⟨n.val, h⟩) else if h : n.val < 64 then Ideal.cos (ang p f t ⟨n.val - 32, by omega⟩) else 0 := by
  unfold cosRes
  simp only [padded_apply, ← angle_apply]
  rfl
theorem sinRes_apply (p : IVec S1x8192 32) (f : FVec Ideal S32 .f32) (t : Fin 8192) (n : Fin 128) : sinRes p f (ix2 t n) =
    if h : n.val < 32 then -Ideal.sin (ang p f t ⟨n.val, h⟩) else if h : n.val < 64 then Ideal.sin (ang p f t ⟨n.val - 32, by omega⟩) else 0 := by
  unfold sinRes
  simp only [padded_apply, ← angle_apply]
  rfl

end Cert.Reference7Ideal.Rope
-- ==== Proof.Rope.lean ====
module

public import proofs.«01_k».proof.Proof.Gen.Kernel7Ideal.Frame
public import Idealize.ShloMosaic.Lib.Pipeline.Value
public import Idealize.ShloMosaic.Lib.Pipeline.ValueKit
public import proofs.«01_k».proof.Proof.RopeRef
public import Idealize.ShloMosaic.Lib.Pointwise

/-! The rotary tables' call: its operands as host values and its two output arrays. -/

@[expose] public section
noncomputable section
namespace Cert.Kernel7Ideal.Rope
open Cert.Kernel7Ideal Cert.Kernel7Ideal.Gen Idealize.ShloMosaic Idealize.ShloMosaic.TcCoe Idealize.SL.Sem
open Cert.Reference7Ideal.Rope (freq ang cosRes cosRes_apply sinRes sinRes_apply)

/-- Two 32-entry rows then 64 zeros, as one row of 128. -/
def row (a b : FVec Ideal S32 .f32) : FVec Ideal S1x128 .f32 :=
  shapeCast S1x128 (concatenate S128 0 [⟨S32, a⟩, ⟨S32, b⟩, ⟨S64, broadcastInDim S64 ![] bcast_S_S64 (constant (F := Ideal) S_ .f32 0x00000000#32)⟩] concatenates_S32_S32_S64_S128_d0) shapeCasts_S128_S1x128

theorem row_apply (a b : FVec Ideal S32 .f32) (n : Fin 128) : row a b (ix2 (0 : Fin 1) n) =
    if h : n.val < 32 then a (ix1 (⟨n.val, h⟩ : Fin 32)) else if h : n.val < 64 then b (ix1 (⟨n.val - 32, by omega⟩ : Fin 32)) else 0 := by
  unfold row
  pointwise
  split_ifs <;> first | omega | rfl | (rw [dif_pos (by omega)]) | exact Ideal.ofBits_zero_f32

def ones : FVec Ideal S32 .f32 := broadcastInDim S32 ![] bcast_S_S32 (constant (F := Ideal) S_ .f32 0x3F800000#32)
theorem ones_apply (x : S32.Idx) : ones x = 1 := Ideal.ofBits_one_f32
theorem neg_le : (-1 : EReal) ≤ 1 := by
  rw [← EReal.coe_one, ← EReal.coe_neg]
  exact EReal.coe_le_coe_iff.2 (by norm_num)
theorem negOnes_apply (x : S32.Idx) : Host.negf ones x = (-1 : EReal) := congrArg (- · : EReal → EReal) (ones_apply x)

def column (p : IVec S1x8192 32) : IVec S8192x1 32 := shapeCast S8192x1 p shapeCasts_S1x8192_S8192x1
theorem column_apply (p : IVec S1x8192 32) (t : Fin 8192) : column p (ix2 t (0 : Fin 1)) = p (ix2 (0 : Fin 1) t) := by
  unfold column
  pointwise

variable (m : (ℓ : Loc nD τ sig) → Buf (Elt Ideal) ℓ) (c : Dev nD)

theorem V12_eq : V m c main_v12 = row freq freq := by
  unfold row freq
  show StableHlo.after hostOps0 _ _ = _
  after_results
  rfl
theorem V16_eq : V m c main_v16 = row (Host.negf ones) ones := by
  unfold row ones
  show StableHlo.after hostOps0 _ _ = _
  after_results
  rfl
theorem V17_eq : V m c main_v17 = column (m ((c.tc : Thread nD τ).loc main_arg0)) := by
  unfold column
  show StableHlo.after hostOps0 _ _ = _
  after_results
  rfl

theorem idx (t : Fin cfg0.N) : (win0_0.index t 0 = t.val ∧ win0_0.index t 1 = 0) ∧ (win0_1.index t 0 = 0 ∧ win0_1.index t 1 = 0)
    ∧ (win0_2.index t 0 = 0 ∧ win0_2.index t 1 = 0) ∧ (win0_3.index t 0 = t.val ∧ win0_3.index t 1 = 0) ∧ (win0_4.index t 0 = t.val ∧ win0_4.index t 1 = 0) := by
  revert t
  decide +kernel

theorem blk0 (t : Fin cfg0.N) (r : Fin 1024) (h) : iblk m c 0 t (ix2 r (0 : Fin 1)) = V m c main_v17 (ix2 (⟨1024 * t.val + r.val, h⟩ : Fin 8192) (0 : Fin 1)) := by
  blk_ext! [iblk, idx t]
theorem blk1 (t : Fin cfg0.N) (n : Fin 128) : iblk m c 1 t (ix2 (0 : Fin 1) n) = V m c main_v12 (ix2 (0 : Fin 1) n) := by
  blk_ext! [iblk, idx t]
theorem blk2 (t : Fin cfg0.N) (n : Fin 128) : iblk m c 2 t (ix2 (0 : Fin 1) n) = V m c main_v16 (ix2 (0 : Fin 1) n) := by
  blk_ext! [iblk, idx t]

theorem pay3_apply (x0 : IVec S1024x1 32) (x1 x2 : FVec Ideal S1x128 .f32) (r : Fin 1024) (n : Fin 128) :
    k0_pay3 (F := Ideal) x0 x1 x2 (ix2 r n) = Ideal.cos (FloatOps.sitofp (F := Ideal) .f32 (x0 (ix2 r (0 : Fin 1))) * x1 (ix2 (0 : Fin 1) n)) * max (x2 (ix2 (0 : Fin 1) n)) (-(x2 (ix2 (0 : Fin 1) n))) := by
  pointwise [k0_pay3, k0_pay1, k0_pay2]
  rfl
theorem pay4_apply (x0 : IVec S1024x1 32) (x1 x2 : FVec Ideal S1x128 .f32) (r : Fin 1024) (n : Fin 128) :
    k0_pay4 (F := Ideal) x0 x1 x2 (ix2 r n) = Ideal.sin (FloatOps.sitofp (F := Ideal) .f32 (x0 (ix2 r (0 : Fin 1))) * x1 (ix2 (0 : Fin 1) n)) * x2 (ix2 (0 : Fin 1) n) := by
  pointwise [k0_pay4, k0_pay1, k0_pay2]

theorem zeros : (![0, 0] : Fin 2 → Nat) = fun _ => 0 := by
  funext a
  fin_cases a <;> rfl
theorem out3_eq (x0 : Vec Ideal S1024x1 .i32) (x1 x2 : FVec Ideal S1x128 .f32) : out0_3 (F := Ideal) x0 x1 x2 = k0_pay3 (F := Ideal) x0 x1 x2 := by
  unfold out0_3
  rw [View.canon_unit_zero zeros, View.ld_unit_zero zeros, View.ld_unit_zero zeros, View.ld_unit_zero zeros]
theorem out4_eq (x0 : Vec Ideal S1024x1 .i32) (x1 x2 : FVec Ideal S1x128 .f32) : out0_4 (F := Ideal) x0 x1 x2 = k0_pay4 (F := Ideal) x0 x1 x2 := by
  unfold out0_4
  rw [View.canon_unit_zero zeros, View.ld_unit_zero zeros, View.ld_unit_zero zeros, View.ld_unit_zero zeros]

theorem cos_eq (t : Fin cfg0.N) (r : Fin 1024) (hr : 1024 * t.val + r.val < 8192) (n : Fin 128) :
    k0_pay3 (F := Ideal) (iblk m c 0 t) (iblk m c 1 t) (iblk m c 2 t) (ix2 r n) = cosRes (m ((c.tc : Thread nD τ).loc main_arg0)) freq (ix2 (⟨1024 * t.val + r.val, hr⟩ : Fin 8192) n) := by
  refine (pay3_apply _ _ _ r n).trans ?_
  rw [blk0 m c t r hr, blk1 m c t n, blk2 m c t n, V12_eq, V16_eq, V17_eq, row_apply, row_apply, column_apply, cosRes_apply]
  unfold ang
  by_cases h1 : n.val < 32
  · simp only [dif_pos h1, negOnes_apply]
    rw [neg_neg, max_eq_right neg_le, mul_one]
  · by_cases h2 : n.val < 64
    · simp only [dif_neg h1, dif_pos h2, ones_apply]
      rw [max_eq_left neg_le, mul_one]
    · simp only [dif_neg h1, dif_neg h2]
      rw [neg_zero, max_self, mul_zero]

theorem sin_eq (t : Fin cfg0.N) (r : Fin 1024) (hr : 1024 * t.val + r.val < 8192) (n : Fin 128) :
    k0_pay4 (F := Ideal) (iblk m c 0 t) (iblk m c 1 t) (iblk m c 2 t) (ix2 r n) = sinRes (m ((c.tc : Thread nD τ).loc main_arg0)) freq (ix2 (⟨1024 * t.val + r.val, hr⟩ : Fin 8192) n) := by
  refine (pay4_apply _ _ _ r n).trans ?_
  rw [blk0 m c t r hr, blk1 m c t n, blk2 m c t n, V12_eq, V16_eq, V17_eq, row_apply, row_apply, column_apply, sinRes_apply]
  unfold ang
  by_cases h1 : n.val < 32
  · simp only [dif_pos h1, negOnes_apply]
    rw [mul_neg, mul_one]
  · by_cases h2 : n.val < 64
    · simp only [dif_neg h1, dif_pos h2, ones_apply]
      rw [mul_one]
    · simp only [dif_neg h1, dif_neg h2]
      rw [mul_zero]

theorem arr3_eq : (dats m 0 c).arrAt 3 cfg0.N = cosRes (m ((c.tc : Thread nD τ).loc main_arg0)) freq := by
  refine (dats m 0 c).arrAt_eq_of_covers 3 (cosRes (m ((c.tc : Thread nD τ).loc main_arg0)) freq) (by decide +kernel) fun t hf y => ?_
  have hN : t.val < 8 := t.isLt
  obtain ⟨r, n, rfl⟩ : ∃ (r : Fin 1024) (n : Fin 128), y = ix2 r n := ⟨y 0, y 1, by funext a; fin_cases a <;> rfl⟩
  have hr : 1024 * t.val + r.val < 8192 := by omega
  blk_simp
  rw [after0_3]
  have e : ((cfg0.win 3).blk t).view.emb (ix2 r n) = ix2 (⟨1024 * t.val + r.val, hr⟩ : Fin 8192) n := by
    blk_ext [idx t]
  rw [e]
  exact (congrFun (out3_eq _ _ _) _).trans (cos_eq m c t r hr n)

theorem arr4_eq : (dats m 0 c).arrAt 4 cfg0.N = sinRes (m ((c.tc : Thread nD τ).loc main_arg0)) freq := by
  refine (dats m 0 c).arrAt_eq_of_covers 4 (sinRes (m ((c.tc : Thread nD τ).loc main_arg0)) freq) (by decide +kernel) fun t hf y => ?_
  have hN : t.val < 8 := t.isLt
  obtain ⟨r, n, rfl⟩ : ∃ (r : Fin 1024) (n : Fin 128), y = ix2 r n := ⟨y 0, y 1, by funext a; fin_cases a <;> rfl⟩
  have hr : 1024 * t.val + r.val < 8192 := by omega
  blk_simp
  rw [after0_4]
  have e : ((cfg0.win 4).blk t).view.emb (ix2 r n) = ix2 (⟨1024 * t.val + r.val, hr⟩ : Fin 8192) n := by
    blk_ext [idx t]
  rw [e]
  exact (congrFun (out4_eq _ _ _) _).trans (sin_eq m c t r hr n)

/-- The call runs, its two results are these arrays, and its argument is unchanged. -/
theorem run_blocks (ρ : Dev nD → PrngReg) : θ_run (defs (F := Ideal)) (onTc (τ := τ) (main (F := Ideal))) ⟨m, fun _ => 0, ρ⟩ fun r => ∀ c : Dev nD,
      r.2.mem ((c.tc : Thread nD τ).loc main_v18_0) = (dats m 0 c).arrAt 3 cfg0.N
      ∧ r.2.mem ((c.tc : Thread nD τ).loc main_v18_1) = (dats m 0 c).arrAt 4 cfg0.N
      ∧ r.2.mem ((c.tc : Thread nD τ).loc main_arg0) = m ((c.tc : Thread nD τ).loc main_arg0) :=
  (θ_run defs _ _).mono (fun _ h c => ⟨(h c).1 3, (h c).1 4,
      ((h c).2 main_arg0 (Pipeline.mem_restRefs_of main_arg0 (by decide) (by decide))).trans (V_main_arg0 m c)⟩)
    (run_main m ρ)

end Cert.Kernel7Ideal.Rope
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.Pre_finite
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.Gen.Kernel7
public import proofs.«01_k».proof.Proof.Gen.Kernel7.Skeleton
public import proofs.«01_k».proof.Proof.Gen.Kernel7.Launch
public import proofs.«01_k».proof.Proof.Gen.Kernel7.Points
public import proofs.«01_k».proof.Proof.Gen.Kernel7.Frame
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Reference7Ideal
public import proofs.«01_k».proof.Proof.Gen.Reference7Ideal.Run
public import proofs.«01_k».proof.Proof.In1Arr
public import proofs.«01_k».proof.Proof.Array
public import proofs.«01_k».proof.Proof.RefValue
public import proofs.«01_k».proof.Proof.FfnArr
public import proofs.«01_k».proof.Proof.Merge
public import proofs.«01_k».proof.Proof.In2Arr
public import proofs.«01_k».proof.Proof.QkvArr
public import proofs.«01_k».proof.Proof.Rope
public import Idealize.ShloMosaic.Adequacy
public import Idealize.ShloMosaic.Init

@[expose] public section

noncomputable section

namespace Cert.Proof

open Idealize.ShloMosaic Idealize.SL.Sem Cert.Kernel

theorem ref_quiet (m g) : θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0) :=
  (θ_run Cert.ReferenceIdeal.defs _ _).mono (fun r h => ⟨fun c => (h c).2, Idealize.ShloMosaic.sem_eq_zero_of_no_sems (by decide) r.2⟩)
    (Cert.ReferenceIdeal.Value.run (F := Ideal) m g)

theorem value : Cert.algebraic_KernelIdeal_ReferenceIdeal_pre_finite := by
  intro m g m' g' hp ha
  refine ⟨fun c => (Cert.KernelIdeal.Gen.dats m 0 c).arrAt 3 Cert.KernelIdeal.cfg0.N, Cert.KernelIdeal.Value.run_blocks m g,
    (θ_run Cert.ReferenceIdeal.defs _ _).mono (fun r h c => ⟨(h c).1.trans ?_, (h c).2⟩) (Cert.ReferenceIdeal.Value.run (F := Ideal) m' g')⟩
  obtain ⟨a0, a1, a2⟩ := ha c
  obtain ⟨q', k', hq, hk⟩ := Cert.Pre_finite.real_of_fn _ _ _ (hp c).1 (hp c).2
  refine (Cert.KernelIdeal.Att.arr_eq m c q' k' hq hk _ fun h r d hd => ?_).symm
  rw [← a2]
  exact Cert.ReferenceIdeal.Att.ref_apply q' k' h r m' c (fun i => (congrFun a0 i).trans (hq i)) (fun i => (congrFun a1 i).trans (hk i)) d hd

theorem ref2_quiet (m g) : θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6))
      ∧ r.2.sem = fun _ => 0) :=
  (θ_run Cert.Reference2Ideal.defs _ _).mono (fun r h => ⟨fun c => (h c).2, Idealize.ShloMosaic.sem_eq_zero_of_no_sems (by decide) r.2⟩)
    (Cert.Reference2Ideal.Value.run (F := Ideal) m g)

theorem ref3_quiet (m g) : θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7))
      ∧ r.2.sem = fun _ => 0) :=
  (θ_run Cert.Reference3Ideal.defs _ _).mono (fun r h => ⟨fun c => (h c).2, Idealize.ShloMosaic.sem_eq_zero_of_no_sems (by decide) r.2⟩)
    (Cert.Reference3Ideal.Value.run (F := Ideal) m g)

theorem ref4_quiet (m g) : θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0) :=
  (θ_run Cert.Reference4Ideal.defs _ _).mono (fun r h => ⟨fun c => (h c).2.2.2.2.2.2, Idealize.ShloMosaic.sem_eq_zero_of_no_sems (by decide) r.2⟩)
    (Cert.Reference4Ideal.Value.run (F := Ideal) m g)

theorem ref5_quiet (m g) : θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6))
      ∧ r.2.sem = fun _ => 0) :=
  (θ_run Cert.Reference5Ideal.defs _ _).mono (fun r h => ⟨fun c => (h c).2.2.2.2, Idealize.ShloMosaic.sem_eq_zero_of_no_sems (by decide) r.2⟩)
    (Cert.Reference5Ideal.Value.run (F := Ideal) m g)

theorem ref6_quiet (m g) : θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5)
      ∧ r.2.mem ((c.tc : Thread Cert.Reference6Ideal.nD Cert.Reference6Ideal.τ).loc Cert.Reference6Ideal.main_arg6) = m ((c.tc : Thread Cert.Reference6Ideal.nD Cert.Reference6Ideal.τ).loc Cert.Reference6Ideal.main_arg6))
      ∧ r.2.sem = fun _ => 0) :=
  (θ_run Cert.Reference6Ideal.defs _ _).mono (fun r h => ⟨fun c => (h c).2.2.2, Idealize.ShloMosaic.sem_eq_zero_of_no_sems (by decide) r.2⟩)
    (Cert.Reference6Ideal.Value.run (F := Ideal) m g)

theorem ref7_quiet (m g) : θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0))
      ∧ r.2.sem = fun _ => 0) :=
  (θ_run Cert.Reference7Ideal.defs _ _).mono (fun r h => ⟨fun c => (h c).2.2, Idealize.ShloMosaic.sem_eq_zero_of_no_sems (by decide) r.2⟩)
    (Cert.Reference7Ideal.Value.run (F := Ideal) m g)

theorem value2 : Cert.algebraic_Kernel2Ideal_Reference2Ideal := by
  intro m g m' g' hp ha
  refine ⟨fun c => (Cert.Kernel2Ideal.Gen.dats m 0 c).arrAt 11 Cert.Kernel2Ideal.cfg0.N, Cert.Kernel2Ideal.Value.run_blocks m g,
    (θ_run Cert.Reference2Ideal.defs _ _).mono (fun r h c => ⟨(h c).1.trans ?_, (h c).2⟩) (Cert.Reference2Ideal.Value.run (F := Ideal) m' g')⟩
  obtain ⟨h0, h1, h2, h3, h4, h5, h6⟩ := ha c
  rw [Cert.Reference2Ideal.Ffn.res_eq, h0, h1, h2, h3, h4, h5, h6]
  exact (Cert.Kernel2Ideal.Ffn.arr_eq m c _ fun t n => Cert.Reference2Ideal.Ffn.out_apply _ _ _ _ _ _ _ t n).symm

theorem value3 : Cert.algebraic_Kernel3Ideal_Reference3Ideal := by
  intro m g m' g' hp ha
  refine ⟨fun c => (Cert.Kernel3Ideal.Gen.dats m 0 c).arrAt 8 Cert.Kernel3Ideal.cfg0.N, Cert.Kernel3Ideal.Value.run_blocks m g,
    (θ_run Cert.Reference3Ideal.defs _ _).mono (fun r h c => ⟨(h c).1.trans ?_, (h c).2⟩) (Cert.Reference3Ideal.Value.run (F := Ideal) m' g')⟩
  obtain ⟨h0, h1, h2, h3, h4, h5, h6, h7⟩ := ha c
  rw [h0, h1, h2, h3, h4, h5, h6, h7]
  exact (Cert.Kernel3Ideal.Merge.arr_eq m c (Cert.Reference3Ideal.Merge.out _ _ _ _ _ _ _ _) fun r n => Cert.Reference3Ideal.Merge.out_apply _ _ _ _ _ _ _ _ r n).symm

/-- The six results agree array by array. -/
theorem value4 : Cert.algebraic_Kernel4Ideal_Reference4Ideal := by
  intro m g m' g' hp ha
  refine ⟨fun c => (Cert.Kernel4Ideal.Gen.dats m 0 c).arrAt 8 Cert.Kernel4Ideal.cfg0.N, fun c => (Cert.Kernel4Ideal.Gen.dats m 0 c).arrAt 9 Cert.Kernel4Ideal.cfg0.N, fun c => (Cert.Kernel4Ideal.Gen.dats m 0 c).arrAt 10 Cert.Kernel4Ideal.cfg0.N, fun c => (Cert.Kernel4Ideal.Gen.dats m 0 c).arrAt 11 Cert.Kernel4Ideal.cfg0.N, fun c => (Cert.Kernel4Ideal.Gen.dats m 0 c).arrAt 12 Cert.Kernel4Ideal.cfg0.N, fun c => (Cert.Kernel4Ideal.Gen.dats m 0 c).arrAt 13 Cert.Kernel4Ideal.cfg0.N, Cert.Kernel4Ideal.Value.run_blocks m g,
    (θ_run Cert.Reference4Ideal.defs _ _).mono (fun r h c => ⟨(h c).1.trans ?_, (h c).2.1.trans ?_, (h c).2.2.1.trans ?_, (h c).2.2.2.1.trans ?_, (h c).2.2.2.2.1.trans ?_, (h c).2.2.2.2.2.1.trans ?_, (h c).2.2.2.2.2.2⟩) (Cert.Reference4Ideal.Value.run (F := Ideal) m' g')⟩
  all_goals obtain ⟨h0, h1, h2⟩ := ha c
  · rw [h0, h1]
    exact (Cert.Kernel4Ideal.In2.arr8_eq m c (Cert.Reference4Ideal.In2.siluArr (Cert.Reference4Ideal.In2.sliceArr _ _ 0 Cert.Reference4Ideal.Facts₀.slices_S1x8192x12288_S1x8192x2048_0_0_0)) fun t n => Cert.Reference4Ideal.In2.silu_part _ _ 0 _ t n).symm
  · rw [Cert.Reference4Ideal.In2.res_eq, h0, h1, h2]
    exact (Cert.Kernel4Ideal.In2.arr9_eq m c _ fun t n => Cert.Reference4Ideal.In2.forget_part _ _ _ _ t n).symm
  · rw [h0, h1]
    exact (Cert.Kernel4Ideal.In2.arr10_eq m c (Cert.Reference4Ideal.In2.plainArr (Cert.Reference4Ideal.In2.sliceArr _ _ 2 Cert.Reference4Ideal.Facts₀.slices_S1x8192x12288_S1x8192x2048_0_0_4096)) fun t n => Cert.Reference4Ideal.In2.plain_part _ _ 2 _ t n).symm
  · rw [h0, h1]
    exact (Cert.Kernel4Ideal.In2.arr11_eq m c (Cert.Reference4Ideal.In2.siluArr (Cert.Reference4Ideal.In2.sliceArr _ _ 3 Cert.Reference4Ideal.Facts₀.slices_S1x8192x12288_S1x8192x2048_0_0_6144)) fun t n => Cert.Reference4Ideal.In2.silu_part _ _ 3 _ t n).symm
  · rw [h0, h1]
    exact (Cert.Kernel4Ideal.In2.arr12_eq m c (Cert.Reference4Ideal.In2.gateArr (Cert.Reference4Ideal.In2.sliceArr _ _ 4 Cert.Reference4Ideal.Facts₀.slices_S1x8192x12288_S1x8192x2048_0_0_8192)) fun t n => Cert.Reference4Ideal.In2.gate_part _ _ 4 _ t n).symm
  · rw [h0, h1]
    exact (Cert.Kernel4Ideal.In2.arr13_eq m c (Cert.Reference4Ideal.In2.gateArr (Cert.Reference4Ideal.In2.sliceArr _ _ 5 Cert.Reference4Ideal.Facts₀.slices_S1x8192x12288_S1x8192x2048_0_0_10240)) fun t n => Cert.Reference4Ideal.In2.gate_part _ _ 5 _ t n).symm

theorem value5 : Cert.algebraic_Kernel5Ideal_Reference5Ideal := by
  intro m g m' g' hp ha
  refine ⟨fun c => (Cert.Kernel5Ideal.Gen.dats m 0 c).arrAt 8 Cert.Kernel5Ideal.cfg0.N, fun c => (Cert.Kernel5Ideal.Gen.dats m 0 c).arrAt 9 Cert.Kernel5Ideal.cfg0.N, fun c => (Cert.Kernel5Ideal.Gen.dats m 0 c).arrAt 10 Cert.Kernel5Ideal.cfg0.N, fun c => (Cert.Kernel5Ideal.Gen.dats m 0 c).arrAt 11 Cert.Kernel5Ideal.cfg0.N, Cert.Kernel5Ideal.Value.run_blocks m g,
    (θ_run Cert.Reference5Ideal.defs _ _).mono (fun r h c => ⟨(h c).1.trans ?_, (h c).2.1.trans ?_, (h c).2.2.1.trans ?_, (h c).2.2.2.1.trans ?_, (h c).2.2.2.2⟩) (Cert.Reference5Ideal.Value.run (F := Ideal) m' g')⟩
  all_goals obtain ⟨h0, h1, h2, h3, h4, h5, h6⟩ := ha c
  · rw [Cert.Reference5Ideal.In1.res0_eq, h0, h1, h2, h3]
    exact (Cert.Kernel5Ideal.In1.arr8_eq m c _ fun t n => Cert.Reference5Ideal.In1.low_apply _ _ _ _ 0 _ t n).symm
  · rw [Cert.Reference5Ideal.In1.res1_eq, h0, h1, h2, h4]
    exact (Cert.Kernel5Ideal.In1.arr9_eq m c _ fun t n => Cert.Reference5Ideal.In1.low_apply _ _ _ _ 1 _ t n).symm
  · rw [Cert.Reference5Ideal.In1.res2_eq, h0, h1, h2, h5, h6]
    exact (Cert.Kernel5Ideal.In1.arr10_eq m c _ fun t n => Cert.Reference5Ideal.In1.rot_apply _ _ _ _ _ t n).symm
  · rw [h0, h1]
    exact (Cert.Kernel5Ideal.In1.arr11_eq m c _ fun t d => Cert.Reference5Ideal.In1.hid_apply _ _ t d).symm

theorem value6 : Cert.algebraic_Kernel6Ideal_Reference6Ideal := by
  intro m g m' g' hp ha
  refine ⟨fun c => (Cert.Kernel6Ideal.Gen.dats m 0 c).arrAt 7 Cert.Kernel6Ideal.cfg0.N, fun c => (Cert.Kernel6Ideal.Gen.dats m 0 c).arrAt 8 Cert.Kernel6Ideal.cfg0.N, fun c => (Cert.Kernel6Ideal.Gen.dats m 0 c).arrAt 9 Cert.Kernel6Ideal.cfg0.N, Cert.Kernel6Ideal.Value.run_blocks m g,
    (θ_run Cert.Reference6Ideal.defs _ _).mono (fun r h c => ⟨(h c).1.trans ?_, (h c).2.1.trans ?_, (h c).2.2.1.trans ?_, (h c).2.2.2⟩) (Cert.Reference6Ideal.Value.run (F := Ideal) m' g')⟩
  all_goals obtain ⟨h0, h1, h2, h3, h4, h5, h6⟩ := ha c
  · rw [h0, h3, h4, h5]
    exact (Cert.Kernel6Ideal.Qkv.arr7_eq m c _ rfl).symm
  · rw [h1, h2, h6]
    exact (Cert.Kernel6Ideal.Qkv.arr8_eq m c _ rfl).symm
  · rw [h1, h6]
    exact (Cert.Kernel6Ideal.Qkv.arr9_eq m c _ rfl).symm

theorem value7 : Cert.algebraic_Kernel7Ideal_Reference7Ideal := by
  intro m g m' g' hp ha
  refine ⟨fun c => (Cert.Kernel7Ideal.Gen.dats m 0 c).arrAt 3 Cert.Kernel7Ideal.cfg0.N, fun c => (Cert.Kernel7Ideal.Gen.dats m 0 c).arrAt 4 Cert.Kernel7Ideal.cfg0.N, Cert.Kernel7Ideal.Rope.run_blocks m g,
    (θ_run Cert.Reference7Ideal.defs _ _).mono (fun r h c => ⟨(h c).1.trans ?_, (h c).2.1.trans ?_, (h c).2.2⟩) (Cert.Reference7Ideal.Value.run (F := Ideal) m' g')⟩
  · rw [ha c]
    exact (Cert.Kernel7Ideal.Rope.arr3_eq m c).symm
  · rw [ha c]
    exact (Cert.Kernel7Ideal.Rope.arr4_eq m c).symm

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts, Cert.Pre_finite.Gen.facts,
  fun m g _ => Cert.Kernel.Gen.frame m g,
  fun m g _ => Cert.KernelIdeal.Gen.frame m g,
  fun m g _ => Cert.KernelIdeal.Gen.frame m g,
  fun m g _ => ref_quiet m g,
  fun m g _ => ref_quiet m g,
  fun m g _ => Cert.Kernel2.Gen.frame m g,
  fun m g _ => Cert.Kernel2Ideal.Gen.frame m g,
  fun m g _ => ref2_quiet m g,
  fun m g _ => Cert.Kernel3.Gen.frame m g,
  fun m g _ => Cert.Kernel3Ideal.Gen.frame m g,
  fun m g _ => ref3_quiet m g,
  fun m g _ => Cert.Kernel4.Gen.frame m g,
  fun m g _ => Cert.Kernel4Ideal.Gen.frame m g,
  fun m g _ => ref4_quiet m g,
  fun m g _ => Cert.Kernel5.Gen.frame m g,
  fun m g _ => Cert.Kernel5Ideal.Gen.frame m g,
  fun m g _ => ref5_quiet m g,
  fun m g _ => Cert.Kernel6.Gen.frame m g,
  fun m g _ => Cert.Kernel6Ideal.Gen.frame m g,
  fun m g _ => ref6_quiet m g,
  fun m g _ => Cert.Kernel7.Gen.frame m g,
  fun m g _ => Cert.Kernel7Ideal.Gen.frame m g,
  fun m g _ => ref7_quiet m g,
  IdealRules.named_const.statement Cert.KernelIdeal.κ "mask" .f32 0xF149F2CA#32 ⊥ rfl,
  value,
  trivial,
  value2,
  trivial,
  value3,
  trivial,
  value4,
  trivial,
  value5,
  IdealRules.named_const.statement Cert.Kernel6Ideal.κ "scale" .f32 0x3DD53B95#32 ((((Real.sqrt 192) * (Real.log 2))⁻¹ : ℝ) : EReal) rfl,
  value6,
  trivial,
  value7⟩

end Cert.Proof

end
